-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_gate [hPre_finite_gate : Cert.Pre_finite_gate.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_gate.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_gate [hPre_finite_gate : Cert.Pre_finite_gate.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_gate.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_gate [hKernel2Ideal : Cert.Kernel2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_gate m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_gate [hReference2Ideal : Cert.Reference2Ideal.Facts] [hPre_finite_gate : Cert.Pre_finite_gate.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_gate m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v459) = v0 c
          ∧ r.2.mem ((c.tc : Thread Cert.ReferenceIdeal.nD Cert.ReferenceIdeal.τ).loc Cert.ReferenceIdeal.main_v461) = v1 c
          ∧ r.2.mem ((c.tc : Thread Cert.ReferenceIdeal.nD Cert.ReferenceIdeal.τ).loc Cert.ReferenceIdeal.main_v462) = v2 c
          ∧ r.2.mem ((c.tc : Thread Cert.ReferenceIdeal.nD Cert.ReferenceIdeal.τ).loc Cert.ReferenceIdeal.main_v463) = v3 c
          ∧ r.2.mem ((c.tc : Thread Cert.ReferenceIdeal.nD Cert.ReferenceIdeal.τ).loc Cert.ReferenceIdeal.main_v465) = v4 c
          ∧ r.2.mem ((c.tc : Thread Cert.ReferenceIdeal.nD Cert.ReferenceIdeal.τ).loc Cert.ReferenceIdeal.main_v468) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  True

def algebraic_Kernel2Ideal_Reference2Ideal_pre_finite_gate [hKernel2Ideal : Cert.Kernel2Ideal.Facts] [hReference2Ideal : Cert.Reference2Ideal.Facts] [hPre_finite_gate : Cert.Pre_finite_gate.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_gate m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v48_0)) (v1 : (c : Dev Cert.Kernel4Ideal.nD) → Buf (Elt Ideal) ((c.tc : Thread Cert.Kernel4Ideal.nD Cert.Kernel4Ideal.τ).loc Cert.Kernel4Ideal.main_v48_1)) (v2 : (c : Dev Cert.Kernel4Ideal.nD) → Buf (Elt Ideal) ((c.tc : Thread Cert.Kernel4Ideal.nD Cert.Kernel4Ideal.τ).loc Cert.Kernel4Ideal.main_v48_2)) (v3 : (c : Dev Cert.Kernel4Ideal.nD) → Buf (Elt Ideal) ((c.tc : Thread Cert.Kernel4Ideal.nD Cert.Kernel4Ideal.τ).loc Cert.Kernel4Ideal.main_v48_3)) (v4 : (c : Dev Cert.Kernel4Ideal.nD) → Buf (Elt Ideal) ((c.tc : Thread Cert.Kernel4Ideal.nD Cert.Kernel4Ideal.τ).loc Cert.Kernel4Ideal.main_v48_4)) (v5 : (c : Dev Cert.Kernel4Ideal.nD) → Buf (Elt Ideal) ((c.tc : Thread Cert.Kernel4Ideal.nD Cert.Kernel4Ideal.τ).loc Cert.Kernel4Ideal.main_v48_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v48_0) = v0 c
          ∧ r.2.mem ((c.tc : Thread Cert.Kernel4Ideal.nD Cert.Kernel4Ideal.τ).loc Cert.Kernel4Ideal.main_v48_1) = v1 c
          ∧ r.2.mem ((c.tc : Thread Cert.Kernel4Ideal.nD Cert.Kernel4Ideal.τ).loc Cert.Kernel4Ideal.main_v48_2) = v2 c
          ∧ r.2.mem ((c.tc : Thread Cert.Kernel4Ideal.nD Cert.Kernel4Ideal.τ).loc Cert.Kernel4Ideal.main_v48_3) = v3 c
          ∧ r.2.mem ((c.tc : Thread Cert.Kernel4Ideal.nD Cert.Kernel4Ideal.τ).loc Cert.Kernel4Ideal.main_v48_4) = v4 c
          ∧ r.2.mem ((c.tc : Thread Cert.Kernel4Ideal.nD Cert.Kernel4Ideal.τ).loc Cert.Kernel4Ideal.main_v48_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v159) = v0 c
          ∧ r.2.mem ((c.tc : Thread Cert.Reference4Ideal.nD Cert.Reference4Ideal.τ).loc Cert.Reference4Ideal.main_v163) = v1 c
          ∧ r.2.mem ((c.tc : Thread Cert.Reference4Ideal.nD Cert.Reference4Ideal.τ).loc Cert.Reference4Ideal.main_v165) = v2 c
          ∧ r.2.mem ((c.tc : Thread Cert.Reference4Ideal.nD Cert.Reference4Ideal.τ).loc Cert.Reference4Ideal.main_v166) = v3 c
          ∧ r.2.mem ((c.tc : Thread Cert.Reference4Ideal.nD Cert.Reference4Ideal.τ).loc Cert.Reference4Ideal.main_v168) = v4 c
          ∧ r.2.mem ((c.tc : Thread Cert.Reference4Ideal.nD Cert.Reference4Ideal.τ).loc Cert.Reference4Ideal.main_v177) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v41_0)) (v1 : (c : Dev Cert.Kernel5Ideal.nD) → Buf (Elt Ideal) ((c.tc : Thread Cert.Kernel5Ideal.nD Cert.Kernel5Ideal.τ).loc Cert.Kernel5Ideal.main_v41_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v41_0) = v0 c
          ∧ r.2.mem ((c.tc : Thread Cert.Kernel5Ideal.nD Cert.Kernel5Ideal.τ).loc Cert.Kernel5Ideal.main_v41_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_gate : Cert.Pre_finite_gate.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_gate (hKernel2Ideal := hKernel2Ideal) (hPre_finite_gate := hPre_finite_gate)
    ∧ quiescent_Reference2Ideal (hReference2Ideal := hReference2Ideal)
    ∧ quiescent_Reference2Ideal_pre_finite_gate (hReference2Ideal := hReference2Ideal) (hPre_finite_gate := hPre_finite_gate)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_gate (hKernel2Ideal := hKernel2Ideal) (hReference2Ideal := hReference2Ideal) (hPre_finite_gate := hPre_finite_gate)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S32x256x1024 : Shape := ⟨3, ![32, 256, 1024]⟩
abbrev S8x6144 : Shape := ⟨2, ![8, 6144]⟩
abbrev S1x1024x5664 : Shape := ⟨3, ![1, 1024, 5664]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S1x512x1024 : Shape := ⟨3, ![1, 512, 1024]⟩
abbrev S2x2x512 : Shape := ⟨3, ![2, 2, 512]⟩
abbrev S1x128 : Shape := ⟨2, ![1, 128]⟩
abbrev S1x1024x1024 : Shape := ⟨3, ![1, 1024, 1024]⟩
abbrev S1x1024 : Shape := ⟨2, ![1, 1024]⟩
abbrev S1x1024x16 : Shape := ⟨3, ![1, 1024, 16]⟩
abbrev S1x2048 : Shape := ⟨2, ![1, 2048]⟩
abbrev S1x1024x3104 : Shape := ⟨3, ![1, 1024, 3104]⟩
abbrev S256x8x128 : Shape := ⟨3, ![256, 8, 128]⟩
abbrev S256x8x64 : Shape := ⟨3, ![256, 8, 64]⟩
abbrev S_ : Shape := ⟨0, ![]⟩

class Facts : Prop where
  slices_S8x6144_S1x2048_0_0 : S8x6144.Slices ![0, 0] S1x2048
  slices_S1x1024x5664_S1x1024x3104_0_0_0 : S1x1024x5664.Slices ![0, 0, 0] S1x1024x3104
  shapeCasts_S1x256x1024_S256x8x128 : S1x256x1024.ShapeCasts S256x8x128
  slices_S256x8x128_S256x8x64_0_0_0 : S256x8x128.Slices ![0, 0, 0] S256x8x64
  bcast_S_S32x256x1024 : S_.BroadcastsInDim S32x256x1024 (![] : Fin 0 → Fin S32x256x1024.rank)
  bcast_S_S1x2048 : S_.BroadcastsInDim S1x2048 (![] : Fin 0 → Fin S1x2048.rank)
  bcast_S_S1x1024x3104 : S_.BroadcastsInDim S1x1024x3104 (![] : Fin 0 → Fin S1x1024x3104.rank)
  bcast_S_S1x768 : S_.BroadcastsInDim S1x768 (![] : Fin 0 → Fin S1x768.rank)
  bcast_S_S1x768x768 : S_.BroadcastsInDim S1x768x768 (![] : Fin 0 → Fin S1x768x768.rank)
  bcast_S_S1x256 : S_.BroadcastsInDim S1x256 (![] : Fin 0 → Fin S1x256.rank)
  bcast_S_S256x8x64 : S_.BroadcastsInDim S256x8x64 (![] : Fin 0 → Fin S256x8x64.rank)
  bcast_S_S2x2x512 : S_.BroadcastsInDim S2x2x512 (![] : Fin 0 → Fin S2x2x512.rank)

variable [Facts]

def fn_part1 {F : FTy → Type} [FloatOps F] (main_arg5 : FVec F S1x256 .f32) (main_arg8 : FVec F S2x2x512 .f32) (main_v3 : FVec F S256x8x64 .f32) (main_v6 : IVec S32x256x1024 1) (main_v9 : IVec S1x2048 1) (main_v12 : IVec S1x1024x3104 1) (main_v15 : IVec S1x768 1) (main_v18 : IVec S1x768x768 1) : IVec S32x256x1024 1 × IVec S1x2048 1 × IVec S1x1024x3104 1 × IVec S1x768 1 × IVec S1x768x768 1 × IVec S1x256 1 × IVec S256x8x64 1 × IVec S2x2x512 1 :=
  let main_v19 : FVec F S1x256 .f32 := Host.absf main_arg5
  let main_cst_4 : FVec F S_ .f32 := constant S_ .f32 0x7F800000#32
  let main_v20 : FVec F S1x256 .f32 := broadcastInDim S1x256 ![] bcast_S_S1x256 main_cst_4
  let main_v21 : IVec S1x256 1 := cmpf .olt main_v19 main_v20
  let main_v22 : FVec F S256x8x64 .f32 := Host.absf main_v3
  let main_cst_5 : FVec F S_ .f32 := constant S_ .f32 0x7F800000#32
  let main_v23 : FVec F S256x8x64 .f32 := broadcastInDim S256x8x64 ![] bcast_S_S256x8x64 main_cst_5
  let main_v24 : IVec S256x8x64 1 := cmpf .olt main_v22 main_v23
  let main_v25 : FVec F S2x2x512 .f32 := Host.absf main_arg8
  let main_cst_6 : FVec F S_ .f32 := constant S_ .f32 0x7F800000#32
  let main_v26 : FVec F S2x2x512 .f32 := broadcastInDim S2x2x512 ![] bcast_S_S2x2x512 main_cst_6
  let main_v27 : IVec S2x2x512 1 := cmpf .olt main_v25 main_v26
  (main_v6, main_v9, main_v12, main_v15, main_v18, main_v21, main_v24, main_v27)

def fn {F : FTy → Type} [FloatOps F] (main_arg0 : FVec F S32x256x1024 .f32) (main_arg1 : FVec F S8x6144 .f32) (main_arg2 : FVec F S1x1024x5664 .f32) (main_arg3 : FVec F S1x768 .f32) (main_arg4 : FVec F S1x768x768 .f32) (main_arg5 : FVec F S1x256 .f32) (main_arg6 : FVec F S1x256x1024 .f32) (main_arg7 : FVec F S1x512x1024 .f32) (main_arg8 : FVec F S2x2x512 .f32) (main_arg9 : FVec F S1x128 .f32) (main_arg10 : FVec F S1x512x1024 .f32) (main_arg11 : FVec F S1x1024x1024 .f32) (main_arg12 : FVec F S1x1024 .f32) (main_arg13 : FVec F S1x1024 .f32) (main_arg14 : FVec F S1x1024x16 .f32) : IVec S32x256x1024 1 × IVec S1x2048 1 × IVec S1x1024x3104 1 × IVec S1x768 1 × IVec S1x768x768 1 × IVec S1x256 1 × IVec S256x8x64 1 × IVec S2x2x512 1 :=
  let main_v0 : FVec F S1x2048 .f32 := (extractStridedSlice S1x2048 ![0, 0] · slices_S8x6144_S1x2048_0_0) main_arg1
  let main_v1 : FVec F S1x1024x3104 .f32 := (extractStridedSlice S1x1024x3104 ![0, 0, 0] · slices_S1x1024x5664_S1x1024x3104_0_0_0) main_arg2
  let main_v2 : FVec F S256x8x128 .f32 := shapeCast S256x8x128 main_arg6 shapeCasts_S1x256x1024_S256x8x128
  let main_v3 : FVec F S256x8x64 .f32 := (extractStridedSlice S256x8x64 ![0, 0, 0] · slices_S256x8x128_S256x8x64_0_0_0) main_v2
  let main_v4 : FVec F S32x256x1024 .f32 := Host.absf main_arg0
  let main_cst : FVec F S_ .f32 := constant S_ .f32 0x7F800000#32
  let main_v5 : FVec F S32x256x1024 .f32 := broadcastInDim S32x256x1024 ![] bcast_S_S32x256x1024 main_cst
  let main_v6 : IVec S32x256x1024 1 := cmpf .olt main_v4 main_v5
  let main_v7 : FVec F S1x2048 .f32 := Host.absf main_v0
  let main_cst_0 : FVec F S_ .f32 := constant S_ .f32 0x7F800000#32
  let main_v8 : FVec F S1x2048 .f32 := broadcastInDim S1x2048 ![] bcast_S_S1x2048 main_cst_0
  let main_v9 : IVec S1x2048 1 := cmpf .olt main_v7 main_v8
  let main_v10 : FVec F S1x1024x3104 .f32 := Host.absf main_v1
  let main_cst_1 : FVec F S_ .f32 := constant S_ .f32 0x7F800000#32
  let main_v11 : FVec F S1x1024x3104 .f32 := broadcastInDim S1x1024x3104 ![] bcast_S_S1x1024x3104 main_cst_1
  let main_v12 : IVec S1x1024x3104 1 := cmpf .olt main_v10 main_v11
  let main_v13 : FVec F S1x768 .f32 := Host.absf main_arg3
  let main_cst_2 : FVec F S_ .f32 := constant S_ .f32 0x7F800000#32
  let main_v14 : FVec F S1x768 .f32 := broadcastInDim S1x768 ![] bcast_S_S1x768 main_cst_2
  let main_v15 : IVec S1x768 1 := cmpf .olt main_v13 main_v14
  let main_v16 : FVec F S1x768x768 .f32 := Host.absf main_arg4
  let main_cst_3 : FVec F S_ .f32 := constant S_ .f32 0x7F800000#32
  let main_v17 : FVec F S1x768x768 .f32 := broadcastInDim S1x768x768 ![] bcast_S_S1x768x768 main_cst_3
  let main_v18 : IVec S1x768x768 1 := cmpf .olt main_v16 main_v17
  fn_part1 (F := F) main_arg5 main_arg8 main_v3 main_v6 main_v9 main_v12 main_v15 main_v18
-- ==== Pre_finite_gate.lean ====
abbrev S16x1280x1024 : Shape := ⟨3, ![16, 1280, 1024]⟩
abbrev S16x1280 : Shape := ⟨2, ![16, 1280]⟩
abbrev S1x16x1024x1024 : Shape := ⟨4, ![1, 16, 1024, 1024]⟩
abbrev S_ : Shape := ⟨0, ![]⟩

class Facts : Prop where
  bcast_S_S16x1280 : S_.BroadcastsInDim S16x1280 (![] : Fin 0 → Fin S16x1280.rank)

variable [Facts]

def fn {F : FTy → Type} [FloatOps F] (main_arg0 : FVec F S16x1280x1024 .f32) (main_arg1 : FVec F S16x1280 .f32) (main_arg2 : FVec F S1x16x1024x1024 .f32) (main_arg3 : FVec F S1x16x1024x1024 .f32) (main_arg4 : FVec F S1x16x1024x1024 .f32) : IVec S16x1280 1 :=
  let main_v0 : FVec F S16x1280 .f32 := Host.absf main_arg1
  let main_cst : FVec F S_ .f32 := constant S_ .f32 0x7F800000#32
  let main_v1 : FVec F S16x1280 .f32 := broadcastInDim S16x1280 ![] bcast_S_S16x1280 main_cst
  let main_v2 : IVec S16x1280 1 := cmpf .olt main_v0 main_v1
  main_v2
-- ==== Kernel.lean ====
abbrev S32x256x1024 : Shape := ⟨3, ![32, 256, 1024]⟩
abbrev S8x6144 : Shape := ⟨2, ![8, 6144]⟩
abbrev S1x1024x5664 : Shape := ⟨3, ![1, 1024, 5664]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S1x512x1024 : Shape := ⟨3, ![1, 512, 1024]⟩
abbrev S2x2x512 : Shape := ⟨3, ![2, 2, 512]⟩
abbrev S1x128 : Shape := ⟨2, ![1, 128]⟩
abbrev S1x1024x1024 : Shape := ⟨3, ![1, 1024, 1024]⟩
abbrev S1x1024 : Shape := ⟨2, ![1, 1024]⟩
abbrev S1x1024x16 : Shape := ⟨3, ![1, 1024, 16]⟩
abbrev S1024x5664 : Shape := ⟨2, ![1024, 5664]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S512x1024 : Shape := ⟨2, ![512, 1024]⟩
abbrev S128 : Shape := ⟨1, ![128]⟩
abbrev S1024x1024 : Shape := ⟨2, ![1024, 1024]⟩
abbrev S1024 : Shape := ⟨1, ![1024]⟩
abbrev S1024x16 : Shape := ⟨2, ![1024, 16]⟩
abbrev S5664x1024 : Shape := ⟨2, ![5664, 1024]⟩
abbrev S768x8x96 : Shape := ⟨3, ![768, 8, 96]⟩
abbrev S_ : Shape := ⟨0, ![]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S256x512 : Shape := ⟨2, ![256, 512]⟩
abbrev S16x1024 : Shape := ⟨2, ![16, 1024]⟩
abbrev S8192x1024 : Shape := ⟨2, ![8192, 1024]⟩
abbrev S32x16x256 : Shape := ⟨3, ![32, 16, 256]⟩
abbrev S8192x256 : Shape := ⟨2, ![8192, 256]⟩
abbrev S8192x128 : Shape := ⟨2, ![8192, 128]⟩
abbrev S32x2x4x128x128 : Shape := ⟨5, ![32, 2, 4, 128, 128]⟩
abbrev S2x16x256 : Shape := ⟨3, ![2, 16, 256]⟩
abbrev S512x256 : Shape := ⟨2, ![512, 256]⟩
abbrev S512x128 : Shape := ⟨2, ![512, 128]⟩
abbrev S2x2x4x128x128 : Shape := ⟨5, ![2, 2, 4, 128, 128]⟩
abbrev S512x512 : Shape := ⟨2, ![512, 512]⟩
abbrev S512x3584 : Shape := ⟨2, ![512, 3584]⟩
abbrev S1x6144 : Shape := ⟨2, ![1, 6144]⟩
abbrev S512x768 : Shape := ⟨2, ![512, 768]⟩
abbrev S512 : Shape := ⟨1, ![512]⟩
abbrev S512x1 : Shape := ⟨2, ![512, 1]⟩
abbrev S32x1024 : Shape := ⟨2, ![32, 1024]⟩
abbrev S512x32 : Shape := ⟨2, ![512, 32]⟩
abbrev S512x96 : Shape := ⟨2, ![512, 96]⟩
abbrev S2560x1024 : Shape := ⟨2, ![2560, 1024]⟩
abbrev S512x2560 : Shape := ⟨2, ![512, 2560]⟩
abbrev S1x1x512 : Shape := ⟨3, ![1, 1, 512]⟩
abbrev S1x512 : Shape := ⟨2, ![1, 512]⟩
abbrev S256x128 : Shape := ⟨2, ![256, 128]⟩
abbrev S256x256 : Shape := ⟨2, ![256, 256]⟩
abbrev S256x1 : Shape := ⟨2, ![256, 1]⟩
abbrev S8x32x512 : Shape := ⟨3, ![8, 32, 512]⟩
abbrev S8x1x512 : Shape := ⟨3, ![8, 1, 512]⟩
abbrev S128x256 : Shape := ⟨2, ![128, 256]⟩
abbrev S128x512 : Shape := ⟨2, ![128, 512]⟩
abbrev S128x128 : Shape := ⟨2, ![128, 128]⟩
abbrev S1x2x4x128x128 : Shape := ⟨5, ![1, 2, 4, 128, 128]⟩
abbrev S1x1x1x128x128 : Shape := ⟨5, ![1, 1, 1, 128, 128]⟩
abbrev S2048x1024 : Shape := ⟨2, ![2048, 1024]⟩
abbrev S512x2048 : Shape := ⟨2, ![512, 2048]⟩
abbrev S16x512 : Shape := ⟨2, ![16, 512]⟩
abbrev S16x256 : Shape := ⟨2, ![16, 256]⟩
abbrev S1x16x256 : Shape := ⟨3, ![1, 16, 256]⟩

abbrev nBuf : Space → Nat
  | .hbm => 62
  | .vmem => 36
  | .smem => 0
  | _ => 0

abbrev bufTy : (tb : Table) → Fin (tcTables nBuf tb) → BufTy
  | .hbm, ⟨0, _⟩ => ⟨S32x256x1024, .f32⟩
  | .hbm, ⟨1, _⟩ => ⟨S8x6144, .f32⟩
  | .hbm, ⟨2, _⟩ => ⟨S1x1024x5664, .f32⟩
  | .hbm, ⟨3, _⟩ => ⟨S1x768, .f32⟩
  | .hbm, ⟨4, _⟩ => ⟨S1x768x768, .f32⟩
  | .hbm, ⟨5, _⟩ => ⟨S1x256, .f32⟩
  | .hbm, ⟨6, _⟩ => ⟨S1x256x1024, .f32⟩
  | .hbm, ⟨7, _⟩ => ⟨S1x512x1024, .f32⟩
  | .hbm, ⟨8, _⟩ => ⟨S2x2x512, .f32⟩
  | .hbm, ⟨9, _⟩ => ⟨S1x128, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024, .f32⟩
  | .hbm, ⟨14, _⟩ => ⟨S1x1024x16, .f32⟩
  | .hbm, ⟨15, _⟩ => ⟨S1024x5664, .f32⟩
  | .hbm, ⟨16, _⟩ => ⟨S768, .f32⟩
  | .hbm, ⟨17, _⟩ => ⟨S768x768, .f32⟩
  | .hbm, ⟨18, _⟩ => ⟨S256, .f32⟩
  | .hbm, ⟨19, _⟩ => ⟨S256x1024, .f32⟩
  | .hbm, ⟨20, _⟩ => ⟨S512x1024, .f32⟩
  | .hbm, ⟨21, _⟩ => ⟨S128, .f32⟩
  | .hbm, ⟨22, _⟩ => ⟨S512x1024, .f32⟩
  | .hbm, ⟨23, _⟩ => ⟨S1024x1024, .f32⟩
  | .hbm, ⟨24, _⟩ => ⟨S1024, .f32⟩
  | .hbm, ⟨25, _⟩ => ⟨S1024, .f32⟩
  | .hbm, ⟨26, _⟩ => ⟨S1024x16, .f32⟩
  | .hbm, ⟨27, _⟩ => ⟨S5664x1024, .f32⟩
  | .hbm, ⟨28, _⟩ => ⟨S5664x1024, .bf16⟩
  | .hbm, ⟨29, _⟩ => ⟨S768x8x96, .f32⟩
  | .hbm, ⟨30, _⟩ => ⟨S_, .i32⟩
  | .hbm, ⟨31, _⟩ => ⟨S_, .f32⟩
  | .hbm, ⟨32, _⟩ => ⟨S768x8x128, .f32⟩
  | .hbm, ⟨33, _⟩ => ⟨S768x1024, .f32⟩
  | .hbm, ⟨34, _⟩ => ⟨S256x8x128, .f32⟩
  | .hbm, ⟨35, _⟩ => ⟨S256x8x64, .f32⟩
  | .hbm, ⟨36, _⟩ => ⟨S_, .i32⟩
  | .hbm, ⟨37, _⟩ => ⟨S_, .f32⟩
  | .hbm, ⟨38, _⟩ => ⟨S256x8x128, .f32⟩
  | .hbm, ⟨39, _⟩ => ⟨S256x1024, .f32⟩
  | .hbm, ⟨40, _⟩ => ⟨S256x8x64, .f32⟩
  | .hbm, ⟨41, _⟩ => ⟨S256x512, .f32⟩
  | .hbm, ⟨42, _⟩ => ⟨S1x768, .f32⟩
  | .hbm, ⟨43, _⟩ => ⟨S768x1024, .bf16⟩
  | .hbm, ⟨44, _⟩ => ⟨S1x256, .f32⟩
  | .hbm, ⟨45, _⟩ => ⟨S256x1024, .bf16⟩
  | .hbm, ⟨46, _⟩ => ⟨S256x512, .bf16⟩
  | .hbm, ⟨47, _⟩ => ⟨S1x128, .f32⟩
  | .hbm, ⟨48, _⟩ => ⟨S512x1024, .bf16⟩
  | .hbm, ⟨49, _⟩ => ⟨S512x1024, .bf16⟩
  | .hbm, ⟨50, _⟩ => ⟨S1024x1024, .bf16⟩
  | .hbm, ⟨51, _⟩ => ⟨S1x1024, .f32⟩
  | .hbm, ⟨52, _⟩ => ⟨S1x1024, .f32⟩
  | .hbm, ⟨53, _⟩ => ⟨S16x1024, .f32⟩
  | .hbm, ⟨54, _⟩ => ⟨S16x1024, .bf16⟩
  | .hbm, ⟨55, _⟩ => ⟨S8192x1024, .f32⟩
  | .hbm, ⟨56, _⟩ => ⟨S8192x1024, .f32⟩
  | .hbm, ⟨57, _⟩ => ⟨S8192x1024, .bf16⟩
  | .hbm, ⟨58, _⟩ => ⟨S32x16x256, .f32⟩
  | .hbm, ⟨59, _⟩ => ⟨S8192x256, .f32⟩
  | .hbm, ⟨60, _⟩ => ⟨S8192x128, .f32⟩
  | .hbm, ⟨61, _⟩ => ⟨S32x2x4x128x128, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S2x2x512, .f32⟩
  | .local _ .vmem, ⟨4, _⟩ => ⟨S5664x1024, .bf16⟩
  | .local _ .vmem, ⟨5, _⟩ => ⟨S1x768, .f32⟩
  | .local _ .vmem, ⟨6, _⟩ => ⟨S768x1024, .bf16⟩
  | .local _ .vmem, ⟨7, _⟩ => ⟨S1x256, .f32⟩
  | .local _ .vmem, ⟨8, _⟩ => ⟨S256x1024, .bf16⟩
  | .local _ .vmem, ⟨9, _⟩ => ⟨S256x512, .bf16⟩
  | .local _ .vmem, ⟨10, _⟩ => ⟨S1x128, .f32⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S16x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S512x1024, .bf16⟩
  | .local _ .vmem, ⟨21, _⟩ => ⟨S2x16x256, .f32⟩
  | .local _ .vmem, ⟨22, _⟩ => ⟨S2x16x256, .f32⟩
  | .local _ .vmem, ⟨23, _⟩ => ⟨S512x256, .f32⟩
  | .local _ .vmem, ⟨24, _⟩ => ⟨S512x256, .f32⟩
  | .local _ .vmem, ⟨25, _⟩ => ⟨S512x128, .f32⟩
  | .local _ .vmem, ⟨26, _⟩ => ⟨S512x128, .f32⟩
  | .local _ .vmem, ⟨27, _⟩ => ⟨S2x2x4x128x128, .f32⟩
  | .local _ .vmem, ⟨28, _⟩ => ⟨S2x2x4x128x128, .f32⟩
  | .local _ .vmem, ⟨29, _⟩ => ⟨S512x1024, .bf16⟩
  | .local _ .vmem, ⟨30, _⟩ => ⟨S512x1024, .bf16⟩
  | .local _ .vmem, ⟨31, _⟩ => ⟨S512x512, .bf16⟩
  | .local _ .vmem, ⟨32, _⟩ => ⟨S512x3584, .f32⟩
  | .local _ .vmem, ⟨33, _⟩ => ⟨S512x512, .bf16⟩
  | .local _ .vmem, ⟨34, _⟩ => ⟨S512x512, .f32⟩
  | .local _ .vmem, ⟨35, _⟩ => ⟨S512x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_call0_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_0 : Ref sig .tc := ⟨.hbm, 36, rfl⟩
abbrev main_call1_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37_0 : Ref sig .tc := ⟨.hbm, 56, rfl⟩
abbrev main_v37_1 : Ref sig .tc := ⟨.hbm, 57, rfl⟩
abbrev main_v37_2 : Ref sig .tc := ⟨.hbm, 58, rfl⟩
abbrev main_v37_3 : Ref sig .tc := ⟨.hbm, 59, rfl⟩
abbrev main_v37_4 : Ref sig .tc := ⟨.hbm, 60, rfl⟩
abbrev main_v37_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5664x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x16x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x2x4x128x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== KernelIdeal.lean ====
variable {F : FTy → Type} [FloatOps F] [Named F]
def κ : String → Option EReal := fun
  | "scale_log2e" => some (((Real.sqrt 96)⁻¹ * (Real.log 2)⁻¹ : ℝ) : EReal)
  | _ => none
-- ==== ReferenceIdeal.lean ====
abbrev S32x256x1024 : Shape := ⟨3, ![32, 256, 1024]⟩
abbrev S8x6144 : Shape := ⟨2, ![8, 6144]⟩
abbrev S1x1024x5664 : Shape := ⟨3, ![1, 1024, 5664]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S1x512x1024 : Shape := ⟨3, ![1, 512, 1024]⟩
abbrev S2x2x512 : Shape := ⟨3, ![2, 2, 512]⟩
abbrev S1x128 : Shape := ⟨2, ![1, 128]⟩
abbrev S1x1024x1024 : Shape := ⟨3, ![1, 1024, 1024]⟩
abbrev S1x1024 : Shape := ⟨2, ![1, 1024]⟩
abbrev S1x1024x16 : Shape := ⟨3, ![1, 1024, 16]⟩
abbrev S1x6144 : Shape := ⟨2, ![1, 6144]⟩
abbrev S1x1x1024 : Shape := ⟨3, ![1, 1, 1024]⟩
abbrev S_ : Shape := ⟨0, ![]⟩
abbrev S2x512 : Shape := ⟨2, ![2, 512]⟩
abbrev S2x1x512 : Shape := ⟨3, ![2, 1, 512]⟩
abbrev S1024x5664 : Shape := ⟨2, ![1024, 5664]⟩
abbrev S32x256x5664 : Shape := ⟨3, ![32, 256, 5664]⟩
abbrev S32x256x768 : Shape := ⟨3, ![32, 256, 768]⟩
abbrev S32x256x256 : Shape := ⟨3, ![32, 256, 256]⟩
abbrev S32x256x32 : Shape := ⟨3, ![32, 256, 32]⟩
abbrev S32x256x512 : Shape := ⟨3, ![32, 256, 512]⟩
abbrev S768 : Shape := ⟨1, ![768]⟩
abbrev S32x256 : Shape := ⟨2, ![32, 256]⟩
abbrev S32x256x1 : Shape := ⟨3, ![32, 256, 1]⟩
abbrev S1x1x768 : Shape := ⟨3, ![1, 1, 768]⟩
abbrev S768x768 : Shape := ⟨2, ![768, 768]⟩
abbrev S32x256x8x96 : Shape := ⟨4, ![32, 256, 8, 96]⟩
abbrev S32x256x8x64 : Shape := ⟨4, ![32, 256, 8, 64]⟩
abbrev S32x256x8x32 : Shape := ⟨4, ![32, 256, 8, 32]⟩
abbrev S256 : Shape := ⟨1, ![256]⟩
abbrev S1x1x256 : Shape := ⟨3, ![1, 1, 256]⟩
abbrev S256x1024 : Shape := ⟨2, ![256, 1024]⟩
abbrev S32x256x8x128 : Shape := ⟨4, ![32, 256, 8, 128]⟩
abbrev S32x8x256x256 : Shape := ⟨4, ![32, 8, 256, 256]⟩
abbrev S32x256x256x8 : Shape := ⟨4, ![32, 256, 256, 8]⟩
abbrev S32x8x256 : Shape := ⟨3, ![32, 8, 256]⟩
abbrev S32x8x256x1 : Shape := ⟨4, ![32, 8, 256, 1]⟩
abbrev S32x8x64x256 : Shape := ⟨4, ![32, 8, 64, 256]⟩
abbrev S32x256x4x128 : Shape := ⟨4, ![32, 256, 4, 128]⟩
abbrev S1x512 : Shape := ⟨2, ![1, 512]⟩
abbrev S512 : Shape := ⟨1, ![512]⟩
abbrev S1x1x512 : Shape := ⟨3, ![1, 1, 512]⟩
abbrev S32x4x128x128 : Shape := ⟨4, ![32, 4, 128, 128]⟩
abbrev S32x8x32x4x128 : Shape := ⟨5, ![32, 8, 32, 4, 128]⟩
abbrev S32x8x1x4x128 : Shape := ⟨5, ![32, 8, 1, 4, 128]⟩
abbrev S32x8x4x128 : Shape := ⟨4, ![32, 8, 4, 128]⟩
abbrev S32x32 : Shape := ⟨2, ![32, 32]⟩
abbrev S32x8x4x32x32 : Shape := ⟨5, ![32, 8, 4, 32, 32]⟩
abbrev S32x8x4x128x32 : Shape := ⟨5, ![32, 8, 4, 128, 32]⟩
abbrev S32x8x4x128x128 : Shape := ⟨5, ![32, 8, 4, 128, 128]⟩
abbrev S32x1x4x128 : Shape := ⟨4, ![32, 1, 4, 128]⟩
abbrev S32x4x128 : Shape := ⟨3, ![32, 4, 128]⟩
abbrev S32x4x128x1 : Shape := ⟨4, ![32, 4, 128, 1]⟩
abbrev S32x1x4x128x128 : Shape := ⟨5, ![32, 1, 4, 128, 128]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩
abbrev S512x1024 : Shape := ⟨2, ![512, 1024]⟩
abbrev S1024x1024 : Shape := ⟨2, ![1024, 1024]⟩
abbrev S1024 : Shape := ⟨1, ![1024]⟩
abbrev S1024x16 : Shape := ⟨2, ![1024, 16]⟩
abbrev S32x256x16 : Shape := ⟨3, ![32, 256, 16]⟩
abbrev S8192x1024 : Shape := ⟨2, ![8192, 1024]⟩
abbrev S32x16x256 : Shape := ⟨3, ![32, 16, 256]⟩
abbrev S8192x256 : Shape := ⟨2, ![8192, 256]⟩
abbrev S32x256x128 : Shape := ⟨3, ![32, 256, 128]⟩
abbrev S8192x128 : Shape := ⟨2, ![8192, 128]⟩
abbrev S32x2x4x128x128 : Shape := ⟨5, ![32, 2, 4, 128, 128]⟩

abbrev nBuf : Space → Nat
  | .hbm => 574
  | .vmem => 0
  | .smem => 0
  | _ => 0

abbrev hbmTy0_0 (i : Nat) : BufTy := match i % 128 with
  | 0 => ⟨S32x256x1024, .f32⟩
  | 1 => ⟨S8x6144, .f32⟩
  | 2 => ⟨S1x1024x5664, .f32⟩
  | 3 => ⟨S1x768, .f32⟩
  | 4 => ⟨S1x768x768, .f32⟩
  | 5 => ⟨S1x256, .f32⟩
  | 6 => ⟨S1x256x1024, .f32⟩
  | 7 => ⟨S1x512x1024, .f32⟩
  | 8 => ⟨S2x2x512, .f32⟩
  | 9 => ⟨S1x128, .f32⟩
  | 10 => ⟨S1x512x1024, .f32⟩
  | 11 => ⟨S1x1024x1024, .f32⟩
  | 12 => ⟨S1x1024, .f32⟩
  | 13 => ⟨S1x1024, .f32⟩
  | 14 => ⟨S1x1024x16, .f32⟩
  | 15 => ⟨S1x6144, .f32⟩
  | 16 => ⟨S1x1024, .f32⟩
  | 17 => ⟨S1x1024, .f32⟩
  | 18 => ⟨S1x1024, .f32⟩
  | 19 => ⟨S1x1024, .f32⟩
  | 20 => ⟨S1x1024, .f32⟩
  | 21 => ⟨S1x1024, .f32⟩
  | 22 => ⟨S1x1x1024, .f32⟩
  | 23 => ⟨S1x1x1024, .f32⟩
  | 24 => ⟨S1x1x1024, .f32⟩
  | 25 => ⟨S1x1x1024, .f32⟩
  | 26 => ⟨S1x1x1024, .f32⟩
  | 27 => ⟨S1x1x1024, .f32⟩
  | 28 => ⟨S_, .f32⟩
  | 29 => ⟨S2x512, .f32⟩
  | 30 => ⟨S_, .f32⟩
  | 31 => ⟨S2x512, .f32⟩
  | 32 => ⟨S2x512, .f32⟩
  | 33 => ⟨S2x1x512, .f32⟩
  | 34 => ⟨S2x2x512, .f32⟩
  | 35 => ⟨S2x2x512, .f32⟩
  | 36 => ⟨S2x2x512, .f32⟩
  | 37 => ⟨S_, .f32⟩
  | 38 => ⟨S2x512, .f32⟩
  | 39 => ⟨S2x1x512, .f32⟩
  | 40 => ⟨S2x2x512, .f32⟩
  | 41 => ⟨S2x2x512, .f32⟩
  | 42 => ⟨S_, .f32⟩
  | 43 => ⟨S_, .f32⟩
  | 44 => ⟨S2x2x512, .f32⟩
  | 45 => ⟨S2x1x512, .f32⟩
  | 46 => ⟨S2x512, .f32⟩
  | 47 => ⟨S_, .f32⟩
  | 48 => ⟨S1x1x1024, .f32⟩
  | 49 => ⟨S1x1x1024, .f32⟩
  | 50 => ⟨S32x256x1024, .f32⟩
  | 51 => ⟨S32x256x1024, .f32⟩
  | 52 => ⟨S32x256x1024, .f32⟩
  | 53 => ⟨S32x256x1024, .f32⟩
  | 54 => ⟨S1024x5664, .f32⟩
  | 55 => ⟨S32x256x5664, .f32⟩
  | 56 => ⟨S32x256x768, .f32⟩
  | 57 => ⟨S32x256x256, .f32⟩
  | 58 => ⟨S32x256x32, .f32⟩
  | 59 => ⟨S32x256x512, .f32⟩
  | 60 => ⟨S32x256x512, .f32⟩
  | 61 => ⟨S32x256x512, .f32⟩
  | 62 => ⟨S32x256x512, .f32⟩
  | 63 => ⟨S32x256x512, .f32⟩
  | 64 => ⟨S32x256x1024, .f32⟩
  | 65 => ⟨S32x256x1024, .f32⟩
  | 66 => ⟨S768, .f32⟩
  | 67 => ⟨S32x256x768, .f32⟩
  | 68 => ⟨S_, .f32⟩
  | 69 => ⟨S32x256, .f32⟩
  | 70 => ⟨S32x256x1, .f32⟩
  | 71 => ⟨S_, .f32⟩
  | 72 => ⟨S32x256x1, .f32⟩
  | 73 => ⟨S32x256x1, .f32⟩
  | 74 => ⟨S_, .f32⟩
  | 75 => ⟨S32x256x1, .f32⟩
  | 76 => ⟨S32x256x1, .f32⟩
  | 77 => ⟨S32x256x1, .f32⟩
  | 78 => ⟨S32x256x768, .f32⟩
  | 79 => ⟨S32x256x768, .f32⟩
  | 80 => ⟨S1x1x768, .f32⟩
  | 81 => ⟨S32x256x768, .f32⟩
  | 82 => ⟨S32x256x768, .f32⟩
  | 83 => ⟨S768x768, .f32⟩
  | 84 => ⟨S32x256x768, .f32⟩
  | 85 => ⟨S32x256x8x96, .f32⟩
  | 86 => ⟨S32x256x8x64, .f32⟩
  | 87 => ⟨S32x256x8x32, .f32⟩
  | 88 => ⟨S256, .f32⟩
  | 89 => ⟨S32x256x256, .f32⟩
  | 90 => ⟨S_, .f32⟩
  | 91 => ⟨S32x256, .f32⟩
  | 92 => ⟨S32x256x1, .f32⟩
  | 93 => ⟨S_, .f32⟩
  | 94 => ⟨S32x256x1, .f32⟩
  | 95 => ⟨S32x256x1, .f32⟩
  | 96 => ⟨S_, .f32⟩
  | 97 => ⟨S32x256x1, .f32⟩
  | 98 => ⟨S32x256x1, .f32⟩
  | 99 => ⟨S32x256x1, .f32⟩
  | 100 => ⟨S32x256x256, .f32⟩
  | 101 => ⟨S32x256x256, .f32⟩
  | 102 => ⟨S1x1x256, .f32⟩
  | 103 => ⟨S32x256x256, .f32⟩
  | 104 => ⟨S32x256x256, .f32⟩
  | 105 => ⟨S256x1024, .f32⟩
  | 106 => ⟨S32x256x1024, .f32⟩
  | 107 => ⟨S32x256x8x128, .f32⟩
  | 108 => ⟨S32x256x8x64, .f32⟩
  | 109 => ⟨S32x256x8x64, .f32⟩
  | 110 => ⟨S_, .f32⟩
  | 111 => ⟨S_, .f32⟩
  | 112 => ⟨S32x8x256x256, .f32⟩
  | 113 => ⟨S32x256x256x8, .f32⟩
  | 114 => ⟨S32x8x256x256, .f32⟩
  | 115 => ⟨S32x8x256x256, .f32⟩
  | 116 => ⟨S32x8x256x256, .f32⟩
  | 117 => ⟨S32x8x256x256, .f32⟩
  | 118 => ⟨S_, .f32⟩
  | 119 => ⟨S32x8x256, .f32⟩
  | 120 => ⟨S_, .f32⟩
  | 121 => ⟨S32x8x256, .f32⟩
  | 122 => ⟨S32x8x256, .f32⟩
  | 123 => ⟨S32x8x256x1, .f32⟩
  | 124 => ⟨S32x8x256x256, .f32⟩
  | 125 => ⟨S32x8x256x256, .f32⟩
  | 126 => ⟨S32x8x256x256, .f32⟩
  | 127 => ⟨S_, .f32⟩
  | _ => ⟨S32x256x1024, .f32⟩

abbrev hbmTy0_1 (i : Nat) : BufTy := match i % 128 with
  | 0 => ⟨S32x8x256, .f32⟩
  | 1 => ⟨S32x8x256x1, .f32⟩
  | 2 => ⟨S32x8x256x256, .f32⟩
  | 3 => ⟨S32x8x256x256, .f32⟩
  | 4 => ⟨S32x8x64x256, .f32⟩
  | 5 => ⟨S32x256x8x64, .f32⟩
  | 6 => ⟨S32x256x512, .f32⟩
  | 7 => ⟨S32x256x512, .f32⟩
  | 8 => ⟨S32x256x512, .f32⟩
  | 9 => ⟨S_, .f32⟩
  | 10 => ⟨S32x256x512, .f32⟩
  | 11 => ⟨S32x256x512, .f32⟩
  | 12 => ⟨S_, .f32⟩
  | 13 => ⟨S32x256x512, .f32⟩
  | 14 => ⟨S32x256x512, .f32⟩
  | 15 => ⟨S32x256x512, .f32⟩
  | 16 => ⟨S32x256x4x128, .f32⟩
  | 17 => ⟨S32x256x4x128, .f32⟩
  | 18 => ⟨S1x512, .f32⟩
  | 19 => ⟨S512, .f32⟩
  | 20 => ⟨S_, .f32⟩
  | 21 => ⟨S512, .f32⟩
  | 22 => ⟨S512, .f32⟩
  | 23 => ⟨S32x256x512, .f32⟩
  | 24 => ⟨S32x256x512, .f32⟩
  | 25 => ⟨S_, .f32⟩
  | 26 => ⟨S32x256x512, .f32⟩
  | 27 => ⟨S32x256x512, .f32⟩
  | 28 => ⟨S_, .f32⟩
  | 29 => ⟨S32x256x512, .f32⟩
  | 30 => ⟨S32x256x512, .f32⟩
  | 31 => ⟨S1x1x512, .f32⟩
  | 32 => ⟨S32x256x512, .f32⟩
  | 33 => ⟨S32x256x512, .f32⟩
  | 34 => ⟨S1x1x512, .f32⟩
  | 35 => ⟨S32x256x512, .f32⟩
  | 36 => ⟨S32x256x512, .f32⟩
  | 37 => ⟨S32x256x4x128, .f32⟩
  | 38 => ⟨S32x256x4x128, .f32⟩
  | 39 => ⟨S_, .f32⟩
  | 40 => ⟨S32x256x4x128, .f32⟩
  | 41 => ⟨S32x256x4x128, .f32⟩
  | 42 => ⟨S1x512, .f32⟩
  | 43 => ⟨S512, .f32⟩
  | 44 => ⟨S_, .f32⟩
  | 45 => ⟨S512, .f32⟩
  | 46 => ⟨S512, .f32⟩
  | 47 => ⟨S32x256x512, .f32⟩
  | 48 => ⟨S32x256x512, .f32⟩
  | 49 => ⟨S_, .f32⟩
  | 50 => ⟨S32x256x512, .f32⟩
  | 51 => ⟨S32x256x512, .f32⟩
  | 52 => ⟨S_, .f32⟩
  | 53 => ⟨S32x256x512, .f32⟩
  | 54 => ⟨S32x256x512, .f32⟩
  | 55 => ⟨S1x1x512, .f32⟩
  | 56 => ⟨S32x256x512, .f32⟩
  | 57 => ⟨S32x256x512, .f32⟩
  | 58 => ⟨S1x1x512, .f32⟩
  | 59 => ⟨S32x256x512, .f32⟩
  | 60 => ⟨S32x256x512, .f32⟩
  | 61 => ⟨S32x256x4x128, .f32⟩
  | 62 => ⟨S32x256x4x128, .f32⟩
  | 63 => ⟨S_, .f32⟩
  | 64 => ⟨S32x256x4x128, .f32⟩
  | 65 => ⟨S32x256x4x128, .f32⟩
  | 66 => ⟨S_, .f32⟩
  | 67 => ⟨S32x4x128x128, .f32⟩
  | 68 => ⟨S32x8x32x4x128, .f32⟩
  | 69 => ⟨S32x8x32x4x128, .f32⟩
  | 70 => ⟨S32x8x32x4x128, .f32⟩
  | 71 => ⟨S32x8x32x4x128, .f32⟩
  | 72 => ⟨S_, .f32⟩
  | 73 => ⟨S_, .f32⟩
  | 74 => ⟨S32x8x32x4x128, .f32⟩
  | 75 => ⟨S32x8x1x4x128, .f32⟩
  | 76 => ⟨S32x8x4x128, .f32⟩
  | 77 => ⟨S32x8x32x4x128, .f32⟩
  | 78 => ⟨S32x8x32x4x128, .f32⟩
  | 79 => ⟨S32x8x32x4x128, .f32⟩
  | 80 => ⟨S32x8x32x4x128, .f32⟩
  | 81 => ⟨S32x8x32x4x128, .f32⟩
  | 82 => ⟨S_, .i1⟩
  | 83 => ⟨S32x32, .i1⟩
  | 84 => ⟨S32x32, .i32⟩
  | 85 => ⟨S_, .i32⟩
  | 86 => ⟨S32x32, .i32⟩
  | 87 => ⟨S32x32, .i32⟩
  | 88 => ⟨S32x32, .i32⟩
  | 89 => ⟨S32x32, .i1⟩
  | 90 => ⟨S_, .i1⟩
  | 91 => ⟨S32x32, .i1⟩
  | 92 => ⟨S32x32, .i1⟩
  | 93 => ⟨S32x8x4x32x32, .f32⟩
  | 94 => ⟨S_, .f32⟩
  | 95 => ⟨S_, .f32⟩
  | 96 => ⟨S32x8x4x32x32, .i1⟩
  | 97 => ⟨S32x8x4x32x32, .f32⟩
  | 98 => ⟨S32x8x4x32x32, .f32⟩
  | 99 => ⟨S32x8x4x128x32, .f32⟩
  | 100 => ⟨S32x8x32x4x128, .f32⟩
  | 101 => ⟨S32x8x1x4x128, .f32⟩
  | 102 => ⟨S32x8x32x4x128, .f32⟩
  | 103 => ⟨S32x8x32x4x128, .f32⟩
  | 104 => ⟨S32x8x32x4x128, .f32⟩
  | 105 => ⟨S32x8x32x4x128, .f32⟩
  | 106 => ⟨S32x8x4x128x128, .f32⟩
  | 107 => ⟨S32x1x4x128, .f32⟩
  | 108 => ⟨S32x4x128, .f32⟩
  | 109 => ⟨S32x4x128, .f32⟩
  | 110 => ⟨S32x4x128x1, .f32⟩
  | 111 => ⟨S32x4x128x128, .f32⟩
  | 112 => ⟨S32x4x128x128, .f32⟩
  | 113 => ⟨S32x1x4x128x128, .f32⟩
  | 114 => ⟨S32x4x128x128, .f32⟩
  | 115 => ⟨S32x4x128x128, .f32⟩
  | 116 => ⟨S32x1x4x128, .f32⟩
  | 117 => ⟨S32x4x128, .f32⟩
  | 118 => ⟨S32x4x128, .f32⟩
  | 119 => ⟨S32x4x128x1, .f32⟩
  | 120 => ⟨S32x4x128x128, .f32⟩
  | 121 => ⟨S32x4x128x128, .f32⟩
  | 122 => ⟨S32x1x4x128x128, .f32⟩
  | 123 => ⟨S32x4x128x128, .f32⟩
  | 124 => ⟨S32x4x128x128, .f32⟩
  | 125 => ⟨S32x1x4x128, .f32⟩
  | 126 => ⟨S32x4x128, .f32⟩
  | 127 => ⟨S32x4x128, .f32⟩
  | _ => ⟨S32x256x1024, .f32⟩

abbrev hbmTy0_2 (i : Nat) : BufTy := match i % 128 with
  | 0 => ⟨S32x4x128x1, .f32⟩
  | 1 => ⟨S32x4x128x128, .f32⟩
  | 2 => ⟨S32x4x128x128, .f32⟩
  | 3 => ⟨S32x1x4x128x128, .f32⟩
  | 4 => ⟨S32x4x128x128, .f32⟩
  | 5 => ⟨S32x4x128x128, .f32⟩
  | 6 => ⟨S32x1x4x128, .f32⟩
  | 7 => ⟨S32x4x128, .f32⟩
  | 8 => ⟨S32x4x128, .f32⟩
  | 9 => ⟨S32x4x128x1, .f32⟩
  | 10 => ⟨S32x4x128x128, .f32⟩
  | 11 => ⟨S32x4x128x128, .f32⟩
  | 12 => ⟨S32x1x4x128x128, .f32⟩
  | 13 => ⟨S32x4x128x128, .f32⟩
  | 14 => ⟨S32x4x128x128, .f32⟩
  | 15 => ⟨S32x1x4x128, .f32⟩
  | 16 => ⟨S32x4x128, .f32⟩
  | 17 => ⟨S32x4x128, .f32⟩
  | 18 => ⟨S32x4x128x1, .f32⟩
  | 19 => ⟨S32x4x128x128, .f32⟩
  | 20 => ⟨S32x4x128x128, .f32⟩
  | 21 => ⟨S32x1x4x128x128, .f32⟩
  | 22 => ⟨S32x4x128x128, .f32⟩
  | 23 => ⟨S32x4x128x128, .f32⟩
  | 24 => ⟨S32x1x4x128, .f32⟩
  | 25 => ⟨S32x4x128, .f32⟩
  | 26 => ⟨S32x4x128, .f32⟩
  | 27 => ⟨S32x4x128x1, .f32⟩
  | 28 => ⟨S32x4x128x128, .f32⟩
  | 29 => ⟨S32x4x128x128, .f32⟩
  | 30 => ⟨S32x1x4x128x128, .f32⟩
  | 31 => ⟨S32x4x128x128, .f32⟩
  | 32 => ⟨S32x4x128x128, .f32⟩
  | 33 => ⟨S32x1x4x128, .f32⟩
  | 34 => ⟨S32x4x128, .f32⟩
  | 35 => ⟨S32x4x128, .f32⟩
  | 36 => ⟨S32x4x128x1, .f32⟩
  | 37 => ⟨S32x4x128x128, .f32⟩
  | 38 => ⟨S32x4x128x128, .f32⟩
  | 39 => ⟨S32x1x4x128x128, .f32⟩
  | 40 => ⟨S32x4x128x128, .f32⟩
  | 41 => ⟨S32x4x128x128, .f32⟩
  | 42 => ⟨S32x1x4x128, .f32⟩
  | 43 => ⟨S32x4x128, .f32⟩
  | 44 => ⟨S32x4x128, .f32⟩
  | 45 => ⟨S32x4x128x1, .f32⟩
  | 46 => ⟨S32x4x128x128, .f32⟩
  | 47 => ⟨S32x4x128x128, .f32⟩
  | 48 => ⟨S32x1x4x128x128, .f32⟩
  | 49 => ⟨S32x4x128x128, .f32⟩
  | 50 => ⟨S32x4x128x128, .f32⟩
  | 51 => ⟨S32x1x4x128x128, .f32⟩
  | 52 => ⟨S32x1x4x128x128, .f32⟩
  | 53 => ⟨S32x1x4x128x128, .f32⟩
  | 54 => ⟨S32x1x4x128x128, .f32⟩
  | 55 => ⟨S32x1x4x128x128, .f32⟩
  | 56 => ⟨S32x1x4x128x128, .f32⟩
  | 57 => ⟨S32x1x4x128x128, .f32⟩
  | 58 => ⟨S32x1x4x128x128, .f32⟩
  | 59 => ⟨S32x8x4x128x128, .f32⟩
  | 60 => ⟨S32x8x4x128x32, .f32⟩
  | 61 => ⟨S32x8x32x4x128, .f32⟩
  | 62 => ⟨S32x8x32x4x128, .f32⟩
  | 63 => ⟨S32x256x4x128, .f32⟩
  | 64 => ⟨S32x256x4x128, .f32⟩
  | 65 => ⟨S32x256x4x128, .f32⟩
  | 66 => ⟨S32x256x4x128, .f32⟩
  | 67 => ⟨S32x256x4x128, .f32⟩
  | 68 => ⟨S32x8x32x4x128, .f32⟩
  | 69 => ⟨S32x8x32x4x128, .f32⟩
  | 70 => ⟨S32x8x32x4x128, .f32⟩
  | 71 => ⟨S32x8x32x4x128, .f32⟩
  | 72 => ⟨S_, .f32⟩
  | 73 => ⟨S_, .f32⟩
  | 74 => ⟨S32x8x32x4x128, .f32⟩
  | 75 => ⟨S32x8x1x4x128, .f32⟩
  | 76 => ⟨S32x8x4x128, .f32⟩
  | 77 => ⟨S32x8x32x4x128, .f32⟩
  | 78 => ⟨S32x8x32x4x128, .f32⟩
  | 79 => ⟨S32x8x32x4x128, .f32⟩
  | 80 => ⟨S32x8x32x4x128, .f32⟩
  | 81 => ⟨S32x8x32x4x128, .f32⟩
  | 82 => ⟨S_, .i1⟩
  | 83 => ⟨S32x32, .i1⟩
  | 84 => ⟨S32x32, .i32⟩
  | 85 => ⟨S_, .i32⟩
  | 86 => ⟨S32x32, .i32⟩
  | 87 => ⟨S32x32, .i32⟩
  | 88 => ⟨S32x32, .i32⟩
  | 89 => ⟨S32x32, .i1⟩
  | 90 => ⟨S_, .i1⟩
  | 91 => ⟨S32x32, .i1⟩
  | 92 => ⟨S32x32, .i1⟩
  | 93 => ⟨S32x8x4x32x32, .f32⟩
  | 94 => ⟨S_, .f32⟩
  | 95 => ⟨S_, .f32⟩
  | 96 => ⟨S32x8x4x32x32, .i1⟩
  | 97 => ⟨S32x8x4x32x32, .f32⟩
  | 98 => ⟨S32x8x4x32x32, .f32⟩
  | 99 => ⟨S32x8x4x128x32, .f32⟩
  | 100 => ⟨S32x8x32x4x128, .f32⟩
  | 101 => ⟨S32x8x1x4x128, .f32⟩
  | 102 => ⟨S32x8x32x4x128, .f32⟩
  | 103 => ⟨S32x8x32x4x128, .f32⟩
  | 104 => ⟨S32x8x32x4x128, .f32⟩
  | 105 => ⟨S32x8x32x4x128, .f32⟩
  | 106 => ⟨S32x8x4x128x128, .f32⟩
  | 107 => ⟨S32x1x4x128, .f32⟩
  | 108 => ⟨S32x4x128, .f32⟩
  | 109 => ⟨S32x4x128, .f32⟩
  | 110 => ⟨S32x4x128x1, .f32⟩
  | 111 => ⟨S32x4x128x128, .f32⟩
  | 112 => ⟨S32x4x128x128, .f32⟩
  | 113 => ⟨S32x1x4x128x128, .f32⟩
  | 114 => ⟨S32x4x128x128, .f32⟩
  | 115 => ⟨S32x4x128x128, .f32⟩
  | 116 => ⟨S32x1x4x128, .f32⟩
  | 117 => ⟨S32x4x128, .f32⟩
  | 118 => ⟨S32x4x128, .f32⟩
  | 119 => ⟨S32x4x128x1, .f32⟩
  | 120 => ⟨S32x4x128x128, .f32⟩
  | 121 => ⟨S32x4x128x128, .f32⟩
  | 122 => ⟨S32x1x4x128x128, .f32⟩
  | 123 => ⟨S32x4x128x128, .f32⟩
  | 124 => ⟨S32x4x128x128, .f32⟩
  | 125 => ⟨S32x1x4x128, .f32⟩
  | 126 => ⟨S32x4x128, .f32⟩
  | 127 => ⟨S32x4x128, .f32⟩
  | _ => ⟨S32x256x1024, .f32⟩

abbrev hbmTy0_3 (i : Nat) : BufTy := match i % 128 with
  | 0 => ⟨S32x4x128x1, .f32⟩
  | 1 => ⟨S32x4x128x128, .f32⟩
  | 2 => ⟨S32x4x128x128, .f32⟩
  | 3 => ⟨S32x1x4x128x128, .f32⟩
  | 4 => ⟨S32x4x128x128, .f32⟩
  | 5 => ⟨S32x4x128x128, .f32⟩
  | 6 => ⟨S32x1x4x128, .f32⟩
  | 7 => ⟨S32x4x128, .f32⟩
  | 8 => ⟨S32x4x128, .f32⟩
  | 9 => ⟨S32x4x128x1, .f32⟩
  | 10 => ⟨S32x4x128x128, .f32⟩
  | 11 => ⟨S32x4x128x128, .f32⟩
  | 12 => ⟨S32x1x4x128x128, .f32⟩
  | 13 => ⟨S32x4x128x128, .f32⟩
  | 14 => ⟨S32x4x128x128, .f32⟩
  | 15 => ⟨S32x1x4x128, .f32⟩
  | 16 => ⟨S32x4x128, .f32⟩
  | 17 => ⟨S32x4x128, .f32⟩
  | 18 => ⟨S32x4x128x1, .f32⟩
  | 19 => ⟨S32x4x128x128, .f32⟩
  | 20 => ⟨S32x4x128x128, .f32⟩
  | 21 => ⟨S32x1x4x128x128, .f32⟩
  | 22 => ⟨S32x4x128x128, .f32⟩
  | 23 => ⟨S32x4x128x128, .f32⟩
  | 24 => ⟨S32x1x4x128, .f32⟩
  | 25 => ⟨S32x4x128, .f32⟩
  | 26 => ⟨S32x4x128, .f32⟩
  | 27 => ⟨S32x4x128x1, .f32⟩
  | 28 => ⟨S32x4x128x128, .f32⟩
  | 29 => ⟨S32x4x128x128, .f32⟩
  | 30 => ⟨S32x1x4x128x128, .f32⟩
  | 31 => ⟨S32x4x128x128, .f32⟩
  | 32 => ⟨S32x4x128x128, .f32⟩
  | 33 => ⟨S32x1x4x128, .f32⟩
  | 34 => ⟨S32x4x128, .f32⟩
  | 35 => ⟨S32x4x128, .f32⟩
  | 36 => ⟨S32x4x128x1, .f32⟩
  | 37 => ⟨S32x4x128x128, .f32⟩
  | 38 => ⟨S32x4x128x128, .f32⟩
  | 39 => ⟨S32x1x4x128x128, .f32⟩
  | 40 => ⟨S32x4x128x128, .f32⟩
  | 41 => ⟨S32x4x128x128, .f32⟩
  | 42 => ⟨S32x1x4x128, .f32⟩
  | 43 => ⟨S32x4x128, .f32⟩
  | 44 => ⟨S32x4x128, .f32⟩
  | 45 => ⟨S32x4x128x1, .f32⟩
  | 46 => ⟨S32x4x128x128, .f32⟩
  | 47 => ⟨S32x4x128x128, .f32⟩
  | 48 => ⟨S32x1x4x128x128, .f32⟩
  | 49 => ⟨S32x4x128x128, .f32⟩
  | 50 => ⟨S32x4x128x128, .f32⟩
  | 51 => ⟨S32x1x4x128x128, .f32⟩
  | 52 => ⟨S32x1x4x128x128, .f32⟩
  | 53 => ⟨S32x1x4x128x128, .f32⟩
  | 54 => ⟨S32x1x4x128x128, .f32⟩
  | 55 => ⟨S32x1x4x128x128, .f32⟩
  | 56 => ⟨S32x1x4x128x128, .f32⟩
  | 57 => ⟨S32x1x4x128x128, .f32⟩
  | 58 => ⟨S32x1x4x128x128, .f32⟩
  | 59 => ⟨S32x8x4x128x128, .f32⟩
  | 60 => ⟨S32x8x4x128x32, .f32⟩
  | 61 => ⟨S32x8x32x4x128, .f32⟩
  | 62 => ⟨S32x8x32x4x128, .f32⟩
  | 63 => ⟨S32x256x4x128, .f32⟩
  | 64 => ⟨S32x256x4x128, .f32⟩
  | 65 => ⟨S32x256x4x128, .f32⟩
  | 66 => ⟨S128, .f32⟩
  | 67 => ⟨S32x256x4x128, .f32⟩
  | 68 => ⟨S_, .f32⟩
  | 69 => ⟨S32x256x4, .f32⟩
  | 70 => ⟨S32x256x4x1, .f32⟩
  | 71 => ⟨S_, .f32⟩
  | 72 => ⟨S32x256x4x1, .f32⟩
  | 73 => ⟨S32x256x4x1, .f32⟩
  | 74 => ⟨S_, .f32⟩
  | 75 => ⟨S32x256x4x1, .f32⟩
  | 76 => ⟨S32x256x4x1, .f32⟩
  | 77 => ⟨S32x256x4x1, .f32⟩
  | 78 => ⟨S32x256x4x128, .f32⟩
  | 79 => ⟨S32x256x4x128, .f32⟩
  | 80 => ⟨S1x1x1x128, .f32⟩
  | 81 => ⟨S32x256x4x128, .f32⟩
  | 82 => ⟨S32x256x4x128, .f32⟩
  | 83 => ⟨S32x256x4x128, .f32⟩
  | 84 => ⟨S32x256x4x128, .f32⟩
  | 85 => ⟨S32x256x4x128, .f32⟩
  | 86 => ⟨S_, .f32⟩
  | 87 => ⟨S32x256x4x128, .f32⟩
  | 88 => ⟨S32x256x4x128, .f32⟩
  | 89 => ⟨S_, .f32⟩
  | 90 => ⟨S32x256x4x128, .f32⟩
  | 91 => ⟨S32x256x4x128, .f32⟩
  | 92 => ⟨S32x256x4x128, .f32⟩
  | 93 => ⟨S32x256x4x128, .f32⟩
  | 94 => ⟨S32x256x1024, .f32⟩
  | 95 => ⟨S32x256x1024, .f32⟩
  | 96 => ⟨S_, .f32⟩
  | 97 => ⟨S32x256x1024, .f32⟩
  | 98 => ⟨S32x256x1024, .f32⟩
  | 99 => ⟨S_, .f32⟩
  | 100 => ⟨S32x256x1024, .f32⟩
  | 101 => ⟨S32x256x1024, .f32⟩
  | 102 => ⟨S512x1024, .f32⟩
  | 103 => ⟨S32x256x1024, .f32⟩
  | 104 => ⟨S32x256x1024, .f32⟩
  | 105 => ⟨S32x256x1024, .f32⟩
  | 106 => ⟨S32x256x1024, .f32⟩
  | 107 => ⟨S_, .f32⟩
  | 108 => ⟨S32x256x1024, .f32⟩
  | 109 => ⟨S32x256x1024, .f32⟩
  | 110 => ⟨S_, .f32⟩
  | 111 => ⟨S32x256x1024, .f32⟩
  | 112 => ⟨S32x256x1024, .f32⟩
  | 113 => ⟨S32x256x512, .f32⟩
  | 114 => ⟨S512x1024, .f32⟩
  | 115 => ⟨S32x256x1024, .f32⟩
  | 116 => ⟨S32x256x1024, .f32⟩
  | 117 => ⟨S32x256x1024, .f32⟩
  | 118 => ⟨S_, .f32⟩
  | 119 => ⟨S32x256x1024, .f32⟩
  | 120 => ⟨S32x256x1024, .f32⟩
  | 121 => ⟨S1024x1024, .f32⟩
  | 122 => ⟨S32x256x1024, .f32⟩
  | 123 => ⟨S32x256x1024, .f32⟩
  | 124 => ⟨S32x256x1024, .f32⟩
  | 125 => ⟨S32x256x1024, .f32⟩
  | 126 => ⟨S1024, .f32⟩
  | 127 => ⟨S1024, .f32⟩
  | _ => ⟨S32x256x1024, .f32⟩

abbrev hbmTy0_4 (i : Nat) : BufTy := match i % 128 with
  | 0 => ⟨S_, .f32⟩
  | 1 => ⟨S32x256, .f32⟩
  | 2 => ⟨S32x256x1, .f32⟩
  | 3 => ⟨S_, .f32⟩
  | 4 => ⟨S32x256x1, .f32⟩
  | 5 => ⟨S32x256x1, .f32⟩
  | 6 => ⟨S32x256x1024, .f32⟩
  | 7 => ⟨S32x256x1024, .f32⟩
  | 8 => ⟨S32x256x1024, .f32⟩
  | 9 => ⟨S_, .f32⟩
  | 10 => ⟨S32x256, .f32⟩
  | 11 => ⟨S32x256x1, .f32⟩
  | 12 => ⟨S_, .f32⟩
  | 13 => ⟨S32x256x1, .f32⟩
  | 14 => ⟨S32x256x1, .f32⟩
  | 15 => ⟨S_, .f32⟩
  | 16 => ⟨S32x256x1, .f32⟩
  | 17 => ⟨S32x256x1, .f32⟩
  | 18 => ⟨S32x256x1, .f32⟩
  | 19 => ⟨S32x256x1024, .f32⟩
  | 20 => ⟨S32x256x1024, .f32⟩
  | 21 => ⟨S1x1x1024, .f32⟩
  | 22 => ⟨S32x256x1024, .f32⟩
  | 23 => ⟨S32x256x1024, .f32⟩
  | 24 => ⟨S1x1x1024, .f32⟩
  | 25 => ⟨S32x256x1024, .f32⟩
  | 26 => ⟨S32x256x1024, .f32⟩
  | 27 => ⟨S_, .f32⟩
  | 28 => ⟨S1x1x1024, .f32⟩
  | 29 => ⟨S1x1x1024, .f32⟩
  | 30 => ⟨S32x256x1024, .f32⟩
  | 31 => ⟨S32x256x1024, .f32⟩
  | 32 => ⟨S32x256x1024, .f32⟩
  | 33 => ⟨S32x256x1024, .f32⟩
  | 34 => ⟨S1024x16, .f32⟩
  | 35 => ⟨S32x256x16, .f32⟩
  | 36 => ⟨S_, .f32⟩
  | 37 => ⟨S32x256, .f32⟩
  | 38 => ⟨S_, .f32⟩
  | 39 => ⟨S32x256, .f32⟩
  | 40 => ⟨S32x256, .f32⟩
  | 41 => ⟨S32x256x1, .f32⟩
  | 42 => ⟨S32x256x16, .f32⟩
  | 43 => ⟨S32x256x16, .f32⟩
  | 44 => ⟨S32x256x16, .f32⟩
  | 45 => ⟨S_, .f32⟩
  | 46 => ⟨S32x256, .f32⟩
  | 47 => ⟨S32x256x1, .f32⟩
  | 48 => ⟨S32x256x16, .f32⟩
  | 49 => ⟨S32x256x16, .f32⟩
  | 50 => ⟨S8192x1024, .f32⟩
  | 51 => ⟨S8192x1024, .f32⟩
  | 52 => ⟨S8192x1024, .bf16⟩
  | 53 => ⟨S32x16x256, .f32⟩
  | 54 => ⟨S8192x256, .f32⟩
  | 55 => ⟨S_, .i32⟩
  | 56 => ⟨S_, .f32⟩
  | 57 => ⟨S32x256x128, .f32⟩
  | 58 => ⟨S8192x128, .f32⟩
  | 59 => ⟨S32x1x4x128x128, .f32⟩
  | 60 => ⟨S32x1x4x128x128, .f32⟩
  | 61 => ⟨S32x2x4x128x128, .f32⟩
  | _ => ⟨S32x256x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_call0_cst : Ref sig .tc := ⟨.hbm, 42, rfl⟩
abbrev main_call0_call0_v0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_2 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_3 : Ref sig .tc := ⟨.hbm, 68, rfl⟩
abbrev main_v47 : Ref sig .tc := ⟨.hbm, 69, rfl⟩
abbrev main_v48 : Ref sig .tc := ⟨.hbm, 70, rfl⟩
abbrev main_cst_4 : Ref sig .tc := ⟨.hbm, 71, rfl⟩
abbrev main_v49 : Ref sig .tc := ⟨.hbm, 72, rfl⟩
abbrev main_v50 : Ref sig .tc := ⟨.hbm, 73, rfl⟩
abbrev main_cst_5 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_6 : Ref sig .tc := ⟨.hbm, 90, rfl⟩
abbrev main_v66 : Ref sig .tc := ⟨.hbm, 91, rfl⟩
abbrev main_v67 : Ref sig .tc := ⟨.hbm, 92, rfl⟩
abbrev main_cst_7 : Ref sig .tc := ⟨.hbm, 93, rfl⟩
abbrev main_v68 : Ref sig .tc := ⟨.hbm, 94, rfl⟩
abbrev main_v69 : Ref sig .tc := ⟨.hbm, 95, rfl⟩
abbrev main_cst_8 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_9 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_10 : Ref sig .tc := ⟨.hbm, 118, rfl⟩
abbrev main_v90 : Ref sig .tc := ⟨.hbm, 119, rfl⟩
abbrev main_cst_11 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_12 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_13 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_14 : Ref sig .tc := ⟨.hbm, 153, rfl⟩
abbrev main_v113 : Ref sig .tc := ⟨.hbm, 154, rfl⟩
abbrev main_v114 : Ref sig .tc := ⟨.hbm, 155, rfl⟩
abbrev main_cst_15 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_16 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_17 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_cst_18 : Ref sig .tc := ⟨.hbm, 177, rfl⟩
abbrev main_v133 : Ref sig .tc := ⟨.hbm, 178, rfl⟩
abbrev main_v134 : Ref sig .tc := ⟨.hbm, 179, rfl⟩
abbrev main_cst_19 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_20 : Ref sig .tc := ⟨.hbm, 191, rfl⟩
abbrev main_v145 : Ref sig .tc := ⟨.hbm, 192, rfl⟩
abbrev main_v146 : Ref sig .tc := ⟨.hbm, 193, rfl⟩
abbrev main_cst_21 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_call2_call0_cst : Ref sig .tc := ⟨.hbm, 200, rfl⟩
abbrev main_call2_call0_v0 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_c : Ref sig .tc := ⟨.hbm, 210, rfl⟩
abbrev main_v160 : Ref sig .tc := ⟨.hbm, 211, rfl⟩
abbrev main_call3_v0 : Ref sig .tc := ⟨.hbm, 212, rfl⟩
abbrev main_call3_c : Ref sig .tc := ⟨.hbm, 213, rfl⟩
abbrev main_call3_v1 : Ref sig .tc := ⟨.hbm, 214, rfl⟩
abbrev main_call3_v2 : Ref sig .tc := ⟨.hbm, 215, rfl⟩
abbrev main_call3_v3 : Ref sig .tc := ⟨.hbm, 216, rfl⟩
abbrev main_call3_v4 : Ref sig .tc := ⟨.hbm, 217, rfl⟩
abbrev main_call3_c_0 : Ref sig .tc := ⟨.hbm, 218, rfl⟩
abbrev main_call3_v5 : Ref sig .tc := ⟨.hbm, 219, rfl⟩
abbrev main_v161 : Ref sig .tc := ⟨.hbm, 220, rfl⟩
abbrev main_v162 : Ref sig .tc := ⟨.hbm, 221, rfl⟩
abbrev main_cst_22 : Ref sig .tc := ⟨.hbm, 222, rfl⟩
abbrev main_call4_v0 : Ref sig .tc := ⟨.hbm, 223, rfl⟩
abbrev main_call4_v1 : Ref sig .tc := ⟨.hbm, 224, rfl⟩
abbrev main_call4_v2 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_v174 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩
abbrev main_v212 : Ref sig .tc := ⟨.hbm, 275, rfl⟩
abbrev main_v213 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_call9_call0_cst : Ref sig .tc := ⟨.hbm, 328, rfl⟩
abbrev main_call9_call0_v0 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_c_23 : Ref sig .tc := ⟨.hbm, 338, rfl⟩
abbrev main_v273 : Ref sig .tc := ⟨.hbm, 339, rfl⟩
abbrev main_call10_v0 : Ref sig .tc := ⟨.hbm, 340, rfl⟩
abbrev main_call10_c : Ref sig .tc := ⟨.hbm, 341, rfl⟩
abbrev main_call10_v1 : Ref sig .tc := ⟨.hbm, 342, rfl⟩
abbrev main_call10_v2 : Ref sig .tc := ⟨.hbm, 343, rfl⟩
abbrev main_call10_v3 : Ref sig .tc := ⟨.hbm, 344, rfl⟩
abbrev main_call10_v4 : Ref sig .tc := ⟨.hbm, 345, rfl⟩
abbrev main_call10_c_0 : Ref sig .tc := ⟨.hbm, 346, rfl⟩
abbrev main_call10_v5 : Ref sig .tc := ⟨.hbm, 347, rfl⟩
abbrev main_v274 : Ref sig .tc := ⟨.hbm, 348, rfl⟩
abbrev main_v275 : Ref sig .tc := ⟨.hbm, 349, rfl⟩
abbrev main_cst_24 : Ref sig .tc := ⟨.hbm, 350, rfl⟩
abbrev main_call11_v0 : Ref sig .tc := ⟨.hbm, 351, rfl⟩
abbrev main_call11_v1 : Ref sig .tc := ⟨.hbm, 352, rfl⟩
abbrev main_call11_v2 : Ref sig .tc := ⟨.hbm, 353, rfl⟩
abbrev main_v276 : Ref sig .tc := ⟨.hbm, 354, rfl⟩
abbrev main_v277 : Ref sig .tc := ⟨.hbm, 355, rfl⟩
abbrev main_v278 : Ref sig .tc := ⟨.hbm, 356, rfl⟩
abbrev main_v279 : Ref sig .tc := ⟨.hbm, 357, rfl⟩
abbrev main_v280 : Ref sig .tc := ⟨.hbm, 358, rfl⟩
abbrev main_v281 : Ref sig .tc := ⟨.hbm, 359, rfl⟩
abbrev main_v282 : Ref sig .tc := ⟨.hbm, 360, rfl⟩
abbrev main_v283 : Ref sig .tc := ⟨.hbm, 361, rfl⟩
abbrev main_v284 : Ref sig .tc := ⟨.hbm, 362, rfl⟩
abbrev main_v285 : Ref sig .tc := ⟨.hbm, 363, rfl⟩
abbrev main_v286 : Ref sig .tc := ⟨.hbm, 364, rfl⟩
abbrev main_v287 : Ref sig .tc := ⟨.hbm, 365, rfl⟩
abbrev main_v288 : Ref sig .tc := ⟨.hbm, 366, rfl⟩
abbrev main_v289 : Ref sig .tc := ⟨.hbm, 367, rfl⟩
abbrev main_v290 : Ref sig .tc := ⟨.hbm, 368, rfl⟩
abbrev main_v291 : Ref sig .tc := ⟨.hbm, 369, rfl⟩
abbrev main_v292 : Ref sig .tc := ⟨.hbm, 370, rfl⟩
abbrev main_v293 : Ref sig .tc := ⟨.hbm, 371, rfl⟩
abbrev main_v294 : Ref sig .tc := ⟨.hbm, 372, rfl⟩
abbrev main_v295 : Ref sig .tc := ⟨.hbm, 373, rfl⟩
abbrev main_v296 : Ref sig .tc := ⟨.hbm, 374, rfl⟩
abbrev main_v297 : Ref sig .tc := ⟨.hbm, 375, rfl⟩
abbrev main_v298 : Ref sig .tc := ⟨.hbm, 376, rfl⟩
abbrev main_v299 : Ref sig .tc := ⟨.hbm, 377, rfl⟩
abbrev main_v300 : Ref sig .tc := ⟨.hbm, 378, rfl⟩
abbrev main_v301 : Ref sig .tc := ⟨.hbm, 379, rfl⟩
abbrev main_v302 : Ref sig .tc := ⟨.hbm, 380, rfl⟩
abbrev main_v303 : Ref sig .tc := ⟨.hbm, 381, rfl⟩
abbrev main_v304 : Ref sig .tc := ⟨.hbm, 382, rfl⟩
abbrev main_v305 : Ref sig .tc := ⟨.hbm, 383, rfl⟩
abbrev main_v306 : Ref sig .tc := ⟨.hbm, 384, rfl⟩
abbrev main_v307 : Ref sig .tc := ⟨.hbm, 385, rfl⟩
abbrev main_v308 : Ref sig .tc := ⟨.hbm, 386, rfl⟩
abbrev main_v309 : Ref sig .tc := ⟨.hbm, 387, rfl⟩
abbrev main_v310 : Ref sig .tc := ⟨.hbm, 388, rfl⟩
abbrev main_v311 : Ref sig .tc := ⟨.hbm, 389, rfl⟩
abbrev main_v312 : Ref sig .tc := ⟨.hbm, 390, rfl⟩
abbrev main_v313 : Ref sig .tc := ⟨.hbm, 391, rfl⟩
abbrev main_v314 : Ref sig .tc := ⟨.hbm, 392, rfl⟩
abbrev main_v315 : Ref sig .tc := ⟨.hbm, 393, rfl⟩
abbrev main_v316 : Ref sig .tc := ⟨.hbm, 394, rfl⟩
abbrev main_v317 : Ref sig .tc := ⟨.hbm, 395, rfl⟩
abbrev main_v318 : Ref sig .tc := ⟨.hbm, 396, rfl⟩
abbrev main_v319 : Ref sig .tc := ⟨.hbm, 397, rfl⟩
abbrev main_v320 : Ref sig .tc := ⟨.hbm, 398, rfl⟩
abbrev main_v321 : Ref sig .tc := ⟨.hbm, 399, rfl⟩
abbrev main_v322 : Ref sig .tc := ⟨.hbm, 400, rfl⟩
abbrev main_v323 : Ref sig .tc := ⟨.hbm, 401, rfl⟩
abbrev main_v324 : Ref sig .tc := ⟨.hbm, 402, rfl⟩
abbrev main_v325 : Ref sig .tc := ⟨.hbm, 403, rfl⟩
abbrev main_v326 : Ref sig .tc := ⟨.hbm, 404, rfl⟩
abbrev main_v327 : Ref sig .tc := ⟨.hbm, 405, rfl⟩
abbrev main_v328 : Ref sig .tc := ⟨.hbm, 406, rfl⟩
abbrev main_v329 : Ref sig .tc := ⟨.hbm, 407, rfl⟩
abbrev main_v330 : Ref sig .tc := ⟨.hbm, 408, rfl⟩
abbrev main_v331 : Ref sig .tc := ⟨.hbm, 409, rfl⟩
abbrev main_v332 : Ref sig .tc := ⟨.hbm, 410, rfl⟩
abbrev main_v333 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_v341 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_v371 : Ref sig .tc := ⟨.hbm, 449, rfl⟩
abbrev main_v372 : Ref sig .tc := ⟨.hbm, 450, rfl⟩
abbrev main_v373 : Ref sig .tc := ⟨.hbm, 451, rfl⟩
abbrev main_cst_25 : Ref sig .tc := ⟨.hbm, 452, rfl⟩
abbrev main_v374 : Ref sig .tc := ⟨.hbm, 453, rfl⟩
abbrev main_v375 : Ref sig .tc := ⟨.hbm, 454, rfl⟩
abbrev main_cst_26 : Ref sig .tc := ⟨.hbm, 455, rfl⟩
abbrev main_v376 : Ref sig .tc := ⟨.hbm, 456, rfl⟩
abbrev main_v377 : Ref sig .tc := ⟨.hbm, 457, rfl⟩
abbrev main_cst_27 : Ref sig .tc := ⟨.hbm, 458, rfl⟩
abbrev main_v378 : Ref sig .tc := ⟨.hbm, 459, rfl⟩
abbrev main_v379 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_call13_v0 : Ref sig .tc := ⟨.hbm, 468, rfl⟩
abbrev main_call13_v1 : Ref sig .tc := ⟨.hbm, 469, rfl⟩
abbrev main_call13_cst : Ref sig .tc := ⟨.hbm, 470, rfl⟩
abbrev main_call13_v2 : Ref sig .tc := ⟨.hbm, 471, rfl⟩
abbrev main_call13_v3 : Ref sig .tc := ⟨.hbm, 472, rfl⟩
abbrev main_call13_cst_0 : Ref sig .tc := ⟨.hbm, 473, rfl⟩
abbrev main_call13_v4 : Ref sig .tc := ⟨.hbm, 474, rfl⟩
abbrev main_call13_v5 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_cst_28 : Ref sig .tc := ⟨.hbm, 480, rfl⟩
abbrev main_v391 : Ref sig .tc := ⟨.hbm, 481, rfl⟩
abbrev main_v392 : Ref sig .tc := ⟨.hbm, 482, rfl⟩
abbrev main_cst_29 : Ref sig .tc := ⟨.hbm, 483, rfl⟩
abbrev main_v393 : Ref sig .tc := ⟨.hbm, 484, rfl⟩
abbrev main_v394 : Ref sig .tc := ⟨.hbm, 485, rfl⟩
abbrev main_v395 : Ref sig .tc := ⟨.hbm, 486, rfl⟩
abbrev main_v396 : Ref sig .tc := ⟨.hbm, 487, rfl⟩
abbrev main_v397 : Ref sig .tc := ⟨.hbm, 488, rfl⟩
abbrev main_v398 : Ref sig .tc := ⟨.hbm, 489, rfl⟩
abbrev main_v399 : Ref sig .tc := ⟨.hbm, 490, rfl⟩
abbrev main_cst_30 : Ref sig .tc := ⟨.hbm, 491, rfl⟩
abbrev main_v400 : Ref sig .tc := ⟨.hbm, 492, rfl⟩
abbrev main_v401 : Ref sig .tc := ⟨.hbm, 493, rfl⟩
abbrev main_cst_31 : Ref sig .tc := ⟨.hbm, 494, rfl⟩
abbrev main_v402 : Ref sig .tc := ⟨.hbm, 495, rfl⟩
abbrev main_v403 : Ref sig .tc := ⟨.hbm, 496, rfl⟩
abbrev main_v404 : Ref sig .tc := ⟨.hbm, 497, rfl⟩
abbrev main_v405 : Ref sig .tc := ⟨.hbm, 498, rfl⟩
abbrev main_v406 : Ref sig .tc := ⟨.hbm, 499, rfl⟩
abbrev main_v407 : Ref sig .tc := ⟨.hbm, 500, rfl⟩
abbrev main_v408 : Ref sig .tc := ⟨.hbm, 501, rfl⟩
abbrev main_cst_32 : Ref sig .tc := ⟨.hbm, 502, rfl⟩
abbrev main_v409 : Ref sig .tc := ⟨.hbm, 503, rfl⟩
abbrev main_v410 : Ref sig .tc := ⟨.hbm, 504, rfl⟩
abbrev main_v411 : Ref sig .tc := ⟨.hbm, 505, rfl⟩
abbrev main_v412 : Ref sig .tc := ⟨.hbm, 506, rfl⟩
abbrev main_v413 : Ref sig .tc := ⟨.hbm, 507, rfl⟩
abbrev main_v414 : Ref sig .tc := ⟨.hbm, 508, rfl⟩
abbrev main_v415 : Ref sig .tc := ⟨.hbm, 509, rfl⟩
abbrev main_v416 : Ref sig .tc := ⟨.hbm, 510, rfl⟩
abbrev main_v417 : Ref sig .tc := ⟨.hbm, 511, rfl⟩
abbrev main_cst_33 : Ref sig .tc := ⟨.hbm, 512, rfl⟩
abbrev main_v418 : Ref sig .tc := ⟨.hbm, 513, rfl⟩
abbrev main_v419 : Ref sig .tc := ⟨.hbm, 514, rfl⟩
abbrev main_cst_34 : Ref sig .tc := ⟨.hbm, 515, rfl⟩
abbrev main_v420 : Ref sig .tc := ⟨.hbm, 516, rfl⟩
abbrev main_v421 : Ref sig .tc := ⟨.hbm, 517, rfl⟩
abbrev main_v422 : Ref sig .tc := ⟨.hbm, 518, rfl⟩
abbrev main_v423 : Ref sig .tc := ⟨.hbm, 519, rfl⟩
abbrev main_v424 : Ref sig .tc := ⟨.hbm, 520, rfl⟩
abbrev main_cst_35 : Ref sig .tc := ⟨.hbm, 521, rfl⟩
abbrev main_v425 : Ref sig .tc := ⟨.hbm, 522, rfl⟩
abbrev main_v426 : Ref sig .tc := ⟨.hbm, 523, rfl⟩
abbrev main_cst_36 : Ref sig .tc := ⟨.hbm, 524, rfl⟩
abbrev main_v427 : Ref sig .tc := ⟨.hbm, 525, rfl⟩
abbrev main_v428 : Ref sig .tc := ⟨.hbm, 526, rfl⟩
abbrev main_cst_37 : Ref sig .tc := ⟨.hbm, 527, rfl⟩
abbrev main_v429 : Ref sig .tc := ⟨.hbm, 528, rfl⟩
abbrev main_v430 : Ref sig .tc := ⟨.hbm, 529, rfl⟩
abbrev main_v431 : Ref sig .tc := ⟨.hbm, 530, rfl⟩
abbrev main_v432 : Ref sig .tc := ⟨.hbm, 531, rfl⟩
abbrev main_v433 : Ref sig .tc := ⟨.hbm, 532, rfl⟩
abbrev main_v434 : Ref sig .tc := ⟨.hbm, 533, rfl⟩
abbrev main_v435 : Ref sig .tc := ⟨.hbm, 534, rfl⟩
abbrev main_v436 : Ref sig .tc := ⟨.hbm, 535, rfl⟩
abbrev main_v437 : Ref sig .tc := ⟨.hbm, 536, rfl⟩
abbrev main_v438 : Ref sig .tc := ⟨.hbm, 537, rfl⟩
abbrev main_v439 : Ref sig .tc := ⟨.hbm, 538, rfl⟩
abbrev main_cst_38 : Ref sig .tc := ⟨.hbm, 539, rfl⟩
abbrev main_v440 : Ref sig .tc := ⟨.hbm, 540, rfl⟩
abbrev main_v441 : Ref sig .tc := ⟨.hbm, 541, rfl⟩
abbrev main_v442 : Ref sig .tc := ⟨.hbm, 542, rfl⟩
abbrev main_v443 : Ref sig .tc := ⟨.hbm, 543, rfl⟩
abbrev main_v444 : Ref sig .tc := ⟨.hbm, 544, rfl⟩
abbrev main_v445 : Ref sig .tc := ⟨.hbm, 545, rfl⟩
abbrev main_v446 : Ref sig .tc := ⟨.hbm, 546, rfl⟩
abbrev main_v447 : Ref sig .tc := ⟨.hbm, 547, rfl⟩
abbrev main_cst_39 : Ref sig .tc := ⟨.hbm, 548, rfl⟩
abbrev main_v448 : Ref sig .tc := ⟨.hbm, 549, rfl⟩
abbrev main_cst_40 : Ref sig .tc := ⟨.hbm, 550, rfl⟩
abbrev main_v449 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_cst_41 : Ref sig .tc := ⟨.hbm, 557, rfl⟩
abbrev main_v455 : Ref sig .tc := ⟨.hbm, 558, rfl⟩
abbrev main_v456 : Ref sig .tc := ⟨.hbm, 559, rfl⟩
abbrev main_v457 : Ref sig .tc := ⟨.hbm, 560, rfl⟩
abbrev main_v458 : Ref sig .tc := ⟨.hbm, 561, rfl⟩
abbrev main_v459 : Ref sig .tc := ⟨.hbm, 562, rfl⟩
abbrev main_v460 : Ref sig .tc := ⟨.hbm, 563, rfl⟩
abbrev main_v461 : Ref sig .tc := ⟨.hbm, 564, rfl⟩
abbrev main_v462 : Ref sig .tc := ⟨.hbm, 565, rfl⟩
abbrev main_v463 : Ref sig .tc := ⟨.hbm, 566, rfl⟩
abbrev main_c_42 : Ref sig .tc := ⟨.hbm, 567, rfl⟩
abbrev main_call14_v0 : Ref sig .tc := ⟨.hbm, 568, rfl⟩
abbrev main_v464 : Ref sig .tc := ⟨.hbm, 569, rfl⟩
abbrev main_v465 : Ref sig .tc := ⟨.hbm, 570, rfl⟩
abbrev main_v466 : Ref sig .tc := ⟨.hbm, 571, rfl⟩
abbrev main_v467 : Ref sig .tc := ⟨.hbm, 572, rfl⟩
abbrev main_v468 : Ref sig .tc := ⟨.hbm, 573, rfl⟩

abbrev nD : Nat := 1
abbrev τ : Topo := Topo.v7x

variable {F : FTy → Type} [FloatOps F]
-- ==== Kernel2.lean ====
abbrev S16x1280x1024 : Shape := ⟨3, ![16, 1280, 1024]⟩
abbrev S16x1280 : Shape := ⟨2, ![16, 1280]⟩
abbrev S1x16x1024x1024 : Shape := ⟨4, ![1, 16, 1024, 1024]⟩
abbrev S16x1280x1 : Shape := ⟨3, ![16, 1280, 1]⟩
abbrev S16x1280x128 : Shape := ⟨3, ![16, 1280, 128]⟩
abbrev S_ : Shape := ⟨0, ![]⟩
abbrev S16x1280x1152 : Shape := ⟨3, ![16, 1280, 1152]⟩
abbrev S16x64x1152 : Shape := ⟨3, ![16, 64, 1152]⟩
abbrev S16x1344x1152 : Shape := ⟨3, ![16, 1344, 1152]⟩
abbrev S16x1024x1024 : Shape := ⟨3, ![16, 1024, 1024]⟩
abbrev S1x1280x1152 : Shape := ⟨3, ![1, 1280, 1152]⟩
abbrev S1x1024x1024 : Shape := ⟨3, ![1, 1024, 1024]⟩
abbrev S1x1280x1024 : Shape := ⟨3, ![1, 1280, 1024]⟩
abbrev S1280x1024 : Shape := ⟨2, ![1280, 1024]⟩
abbrev S1x1280x128 : Shape := ⟨3, ![1, 1280, 128]⟩
abbrev S1280x128 : Shape := ⟨2, ![1280, 128]⟩
abbrev S1280x1 : Shape := ⟨2, ![1280, 1]⟩
abbrev S1024x1024 : Shape := ⟨2, ![1024, 1024]⟩

abbrev nBuf : Space → Nat
  | .hbm => 42
  | .vmem => 10
  | .smem => 0
  | _ => 0

abbrev bufTy : (tb : Table) → Fin (tcTables nBuf tb) → BufTy
  | .hbm, ⟨0, _⟩ => ⟨S16x1280x1024, .f32⟩
  | .hbm, ⟨1, _⟩ => ⟨S16x1280, .f32⟩
  | .hbm, ⟨2, _⟩ => ⟨S1x16x1024x1024, .f32⟩
  | .hbm, ⟨3, _⟩ => ⟨S1x16x1024x1024, .f32⟩
  | .hbm, ⟨4, _⟩ => ⟨S1x16x1024x1024, .f32⟩
  | .hbm, ⟨5, _⟩ => ⟨S16x1280x1, .f32⟩
  | .hbm, ⟨6, _⟩ => ⟨S16x1280x128, .f32⟩
  | .hbm, ⟨7, _⟩ => ⟨S16x1280x128, .bf16⟩
  | .hbm, ⟨8, _⟩ => ⟨S16x1280x128, .f32⟩
  | .hbm, ⟨9, _⟩ => ⟨S16x1280x128, .f32⟩
  | .hbm, ⟨10, _⟩ => ⟨S16x1280x128, .bf16⟩
  | .hbm, ⟨11, _⟩ => ⟨S16x1280x128, .f32⟩
  | .hbm, ⟨12, _⟩ => ⟨S16x1280x128, .f32⟩
  | .hbm, ⟨13, _⟩ => ⟨S16x1280x128, .f32⟩
  | .hbm, ⟨14, _⟩ => ⟨S16x1280x128, .bf16⟩
  | .hbm, ⟨15, _⟩ => ⟨S16x1280x128, .f32⟩
  | .hbm, ⟨16, _⟩ => ⟨S16x1280x128, .i32⟩
  | .hbm, ⟨17, _⟩ => ⟨S_, .i32⟩
  | .hbm, ⟨18, _⟩ => ⟨S16x1280x128, .i32⟩
  | .hbm, ⟨19, _⟩ => ⟨S16x1280x128, .i1⟩
  | .hbm, ⟨20, _⟩ => ⟨S_, .i32⟩
  | .hbm, ⟨21, _⟩ => ⟨S16x1280x128, .i32⟩
  | .hbm, ⟨22, _⟩ => ⟨S16x1280x128, .i1⟩
  | .hbm, ⟨23, _⟩ => ⟨S_, .i32⟩
  | .hbm, ⟨24, _⟩ => ⟨S16x1280x128, .i32⟩
  | .hbm, ⟨25, _⟩ => ⟨S16x1280x128, .i1⟩
  | .hbm, ⟨26, _⟩ => ⟨S_, .f32⟩
  | .hbm, ⟨27, _⟩ => ⟨S_, .f32⟩
  | .hbm, ⟨28, _⟩ => ⟨S16x1280x128, .f32⟩
  | .hbm, ⟨29, _⟩ => ⟨S16x1280x128, .f32⟩
  | .hbm, ⟨30, _⟩ => ⟨S16x1280x128, .f32⟩
  | .hbm, ⟨31, _⟩ => ⟨S16x1280x128, .f32⟩
  | .hbm, ⟨32, _⟩ => ⟨S16x1280x1024, .bf16⟩
  | .hbm, ⟨33, _⟩ => ⟨S16x1280x128, .bf16⟩
  | .hbm, ⟨34, _⟩ => ⟨S16x1280x1152, .bf16⟩
  | .hbm, ⟨35, _⟩ => ⟨S_, .bf16⟩
  | .hbm, ⟨36, _⟩ => ⟨S16x64x1152, .bf16⟩
  | .hbm, ⟨37, _⟩ => ⟨S16x1344x1152, .bf16⟩
  | .hbm, ⟨38, _⟩ => ⟨S16x1024x1024, .f32⟩
  | .hbm, ⟨39, _⟩ => ⟨S16x1024x1024, .f32⟩
  | .hbm, ⟨40, _⟩ => ⟨S16x1024x1024, .f32⟩
  | .hbm, ⟨41, _⟩ => ⟨S16x1280x1024, .bf16⟩
  | .local _ .vmem, ⟨0, _⟩ => ⟨S1x1280x1152, .bf16⟩
  | .local _ .vmem, ⟨1, _⟩ => ⟨S1x1280x1152, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1280x1024, .bf16⟩
  | .local _ .vmem, ⟨9, _⟩ => ⟨S1x1280x1024, .bf16⟩
  | _, _ => ⟨S16x1280x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_c_1 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1280x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference2Ideal.lean ====
abbrev S16x1280x1024 : Shape := ⟨3, ![16, 1280, 1024]⟩
abbrev S16x1280 : Shape := ⟨2, ![16, 1280]⟩
abbrev S1x16x1024x1024 : Shape := ⟨4, ![1, 16, 1024, 1024]⟩
abbrev S16x1024x1024 : Shape := ⟨3, ![16, 1024, 1024]⟩
abbrev S_ : Shape := ⟨0, ![]⟩
abbrev S16x1280x1 : Shape := ⟨3, ![16, 1280, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x1280x1024, .f32⟩
  | .hbm, ⟨1, _⟩ => ⟨S16x1280, .f32⟩
  | .hbm, ⟨2, _⟩ => ⟨S1x16x1024x1024, .f32⟩
  | .hbm, ⟨3, _⟩ => ⟨S1x16x1024x1024, .f32⟩
  | .hbm, ⟨4, _⟩ => ⟨S1x16x1024x1024, .f32⟩
  | .hbm, ⟨5, _⟩ => ⟨S16x1024x1024, .f32⟩
  | .hbm, ⟨6, _⟩ => ⟨S16x1024x1024, .f32⟩
  | .hbm, ⟨7, _⟩ => ⟨S16x1024x1024, .f32⟩
  | .hbm, ⟨8, _⟩ => ⟨S16x1280x1024, .f32⟩
  | .hbm, ⟨9, _⟩ => ⟨S16x1280x1024, .f32⟩
  | .hbm, ⟨10, _⟩ => ⟨S16x1280x1024, .f32⟩
  | .hbm, ⟨11, _⟩ => ⟨S_, .f32⟩
  | .hbm, ⟨12, _⟩ => ⟨S16x1280x1024, .f32⟩
  | .hbm, ⟨13, _⟩ => ⟨S16x1280x1024, .f32⟩
  | .hbm, ⟨14, _⟩ => ⟨S_, .f32⟩
  | .hbm, ⟨15, _⟩ => ⟨S16x1280x1024, .f32⟩
  | .hbm, ⟨16, _⟩ => ⟨S16x1280x1024, .f32⟩
  | .hbm, ⟨17, _⟩ => ⟨S16x1280x1024, .f32⟩
  | .hbm, ⟨18, _⟩ => ⟨S16x1280x1024, .f32⟩
  | .hbm, ⟨19, _⟩ => ⟨S16x1280x1024, .f32⟩
  | .hbm, ⟨20, _⟩ => ⟨S16x1280x1024, .f32⟩
  | .hbm, ⟨21, _⟩ => ⟨S16x1280x1, .f32⟩
  | .hbm, ⟨22, _⟩ => ⟨S16x1280x1024, .f32⟩
  | .hbm, ⟨23, _⟩ => ⟨S16x1280x1024, .f32⟩
  | .hbm, ⟨24, _⟩ => ⟨S16x1280x1024, .bf16⟩
  | _, _ => ⟨S16x1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩

abbrev nD : Nat := 1
abbrev τ : Topo := Topo.v7x

variable {F : FTy → Type} [FloatOps F]
-- ==== Kernel3.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩

abbrev nBuf : Space → Nat
  | .hbm => 12
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1024x6144, .f32⟩
  | .hbm, ⟨9, _⟩ => ⟨S6144, .f32⟩
  | .hbm, ⟨10, _⟩ => ⟨S1x6144, .f32⟩
  | .hbm, ⟨11, _⟩ => ⟨S8x6144, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x1024 : Shape := ⟨2, ![2, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1024x6144 : Shape := ⟨2, ![1024, 6144]⟩
abbrev S8x6144 : Shape := ⟨2, ![8, 6144]⟩
abbrev S6144 : Shape := ⟨1, ![6144]⟩

abbrev nBuf : Space → Nat
  | .hbm => 23
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1x1024x6144, .f32⟩
  | .hbm, ⟨3, _⟩ => ⟨S1x6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024x6144, .f32⟩
  | .hbm, ⟨18, _⟩ => ⟨S8x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]
-- ==== Kernel4.lean ====
abbrev S2x1024x1024 : Shape := ⟨3, ![2, 1024, 1024]⟩
abbrev S8x6144 : Shape := ⟨2, ![8, 6144]⟩
abbrev S1024x16 : Shape := ⟨2, ![1024, 16]⟩
abbrev S1x1024x5664 : Shape := ⟨3, ![1, 1024, 5664]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S2x2x512 : Shape := ⟨3, ![2, 2, 512]⟩
abbrev S1024x5664 : Shape := ⟨2, ![1024, 5664]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S_ : Shape := ⟨0, ![]⟩
abbrev S512x1024 : Shape := ⟨2, ![512, 1024]⟩
abbrev S128 : Shape := ⟨1, ![128]⟩
abbrev S1024x1024 : Shape := ⟨2, ![1024, 1024]⟩
abbrev S1024 : Shape := ⟨1, ![1024]⟩
abbrev S5664x1024 : Shape := ⟨2, ![5664, 1024]⟩
abbrev S768x8x96 : Shape := ⟨3, ![768, 8, 96]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S256x512 : Shape := ⟨2, ![256, 512]⟩
abbrev S1x128 : Shape := ⟨2, ![1, 128]⟩
abbrev S1x1024 : Shape := ⟨2, ![1, 1024]⟩
abbrev S16x1024 : Shape := ⟨2, ![16, 1024]⟩
abbrev S2048x1024 : Shape := ⟨2, ![2048, 1024]⟩
abbrev S1024x16x2 : Shape := ⟨3, ![1024, 16, 2]⟩
abbrev S1024x32 : Shape := ⟨2, ![1024, 32]⟩
abbrev S1024x16x1 : Shape := ⟨3, ![1024, 16, 1]⟩
abbrev S1024x128 : Shape := ⟨2, ![1024, 128]⟩
abbrev S2048x512 : Shape := ⟨2, ![2048, 512]⟩
abbrev S2048x256 : Shape := ⟨2, ![2048, 256]⟩
abbrev S2048x128 : Shape := ⟨2, ![2048, 128]⟩
abbrev S2048x3584 : Shape := ⟨2, ![2048, 3584]⟩
abbrev S512x128 : Shape := ⟨2, ![512, 128]⟩
abbrev S512x512 : Shape := ⟨2, ![512, 512]⟩
abbrev S512x256 : Shape := ⟨2, ![512, 256]⟩
abbrev S512x3584 : Shape := ⟨2, ![512, 3584]⟩
abbrev S1x6144 : Shape := ⟨2, ![1, 6144]⟩
abbrev S512x768 : Shape := ⟨2, ![512, 768]⟩
abbrev S512 : Shape := ⟨1, ![512]⟩
abbrev S512x1 : Shape := ⟨2, ![512, 1]⟩
abbrev S32x1024 : Shape := ⟨2, ![32, 1024]⟩
abbrev S512x32 : Shape := ⟨2, ![512, 32]⟩
abbrev S512x96 : Shape := ⟨2, ![512, 96]⟩
abbrev S2560x1024 : Shape := ⟨2, ![2560, 1024]⟩
abbrev S512x2560 : Shape := ⟨2, ![512, 2560]⟩
abbrev S1x1x512 : Shape := ⟨3, ![1, 1, 512]⟩
abbrev S1x512 : Shape := ⟨2, ![1, 512]⟩

abbrev nBuf : Space → Nat
  | .hbm => 83
  | .vmem => 30
  | .smem => 0
  | _ => 0

abbrev bufTy : (tb : Table) → Fin (tcTables nBuf tb) → BufTy
  | .hbm, ⟨0, _⟩ => ⟨S2x1024x1024, .f32⟩
  | .hbm, ⟨1, _⟩ => ⟨S8x6144, .f32⟩
  | .hbm, ⟨2, _⟩ => ⟨S1024x16, .f32⟩
  | .hbm, ⟨3, _⟩ => ⟨S1024x16, .f32⟩
  | .hbm, ⟨4, _⟩ => ⟨S1x1024x5664, .f32⟩
  | .hbm, ⟨5, _⟩ => ⟨S1x768, .f32⟩
  | .hbm, ⟨6, _⟩ => ⟨S1x768x768, .f32⟩
  | .hbm, ⟨7, _⟩ => ⟨S1x256, .f32⟩
  | .hbm, ⟨8, _⟩ => ⟨S1x256x1024, .f32⟩
  | .hbm, ⟨9, _⟩ => ⟨S2x2x512, .f32⟩
  | .hbm, ⟨10, _⟩ => ⟨S1024x5664, .f32⟩
  | .hbm, ⟨11, _⟩ => ⟨S768, .f32⟩
  | .hbm, ⟨12, _⟩ => ⟨S768x768, .f32⟩
  | .hbm, ⟨13, _⟩ => ⟨S256, .f32⟩
  | .hbm, ⟨14, _⟩ => ⟨S256x1024, .f32⟩
  | .hbm, ⟨15, _⟩ => ⟨S_, .f32⟩
  | .hbm, ⟨16, _⟩ => ⟨S512x1024, .f32⟩
  | .hbm, ⟨17, _⟩ => ⟨S_, .f32⟩
  | .hbm, ⟨18, _⟩ => ⟨S128, .f32⟩
  | .hbm, ⟨19, _⟩ => ⟨S_, .f32⟩
  | .hbm, ⟨20, _⟩ => ⟨S512x1024, .f32⟩
  | .hbm, ⟨21, _⟩ => ⟨S_, .f32⟩
  | .hbm, ⟨22, _⟩ => ⟨S1024x1024, .f32⟩
  | .hbm, ⟨23, _⟩ => ⟨S_, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S_, .f32⟩
  | .hbm, ⟨28, _⟩ => ⟨S1024x16, .f32⟩
  | .hbm, ⟨29, _⟩ => ⟨S5664x1024, .f32⟩
  | .hbm, ⟨30, _⟩ => ⟨S5664x1024, .bf16⟩
  | .hbm, ⟨31, _⟩ => ⟨S768x8x96, .f32⟩
  | .hbm, ⟨32, _⟩ => ⟨S_, .i32⟩
  | .hbm, ⟨33, _⟩ => ⟨S_, .f32⟩
  | .hbm, ⟨34, _⟩ => ⟨S768x8x128, .f32⟩
  | .hbm, ⟨35, _⟩ => ⟨S768x1024, .f32⟩
  | .hbm, ⟨36, _⟩ => ⟨S256x8x128, .f32⟩
  | .hbm, ⟨37, _⟩ => ⟨S256x8x64, .f32⟩
  | .hbm, ⟨38, _⟩ => ⟨S_, .i32⟩
  | .hbm, ⟨39, _⟩ => ⟨S_, .f32⟩
  | .hbm, ⟨40, _⟩ => ⟨S256x8x128, .f32⟩
  | .hbm, ⟨41, _⟩ => ⟨S256x1024, .f32⟩
  | .hbm, ⟨42, _⟩ => ⟨S256x8x64, .f32⟩
  | .hbm, ⟨43, _⟩ => ⟨S256x512, .f32⟩
  | .hbm, ⟨44, _⟩ => ⟨S1x768, .f32⟩
  | .hbm, ⟨45, _⟩ => ⟨S768x1024, .bf16⟩
  | .hbm, ⟨46, _⟩ => ⟨S1x256, .f32⟩
  | .hbm, ⟨47, _⟩ => ⟨S256x1024, .bf16⟩
  | .hbm, ⟨48, _⟩ => ⟨S256x512, .bf16⟩
  | .hbm, ⟨49, _⟩ => ⟨S1x128, .f32⟩
  | .hbm, ⟨50, _⟩ => ⟨S512x1024, .bf16⟩
  | .hbm, ⟨51, _⟩ => ⟨S512x1024, .bf16⟩
  | .hbm, ⟨52, _⟩ => ⟨S1024x1024, .bf16⟩
  | .hbm, ⟨53, _⟩ => ⟨S1x1024, .f32⟩
  | .hbm, ⟨54, _⟩ => ⟨S1x1024, .f32⟩
  | .hbm, ⟨55, _⟩ => ⟨S16x1024, .f32⟩
  | .hbm, ⟨56, _⟩ => ⟨S16x1024, .bf16⟩
  | .hbm, ⟨57, _⟩ => ⟨S2048x1024, .f32⟩
  | .hbm, ⟨58, _⟩ => ⟨S1024x16x2, .f32⟩
  | .hbm, ⟨59, _⟩ => ⟨S1024x32, .f32⟩
  | .hbm, ⟨60, _⟩ => ⟨S1024x16, .f32⟩
  | .hbm, ⟨61, _⟩ => ⟨S1024x16x1, .f32⟩
  | .hbm, ⟨62, _⟩ => ⟨S1024x16x1, .f32⟩
  | .hbm, ⟨63, _⟩ => ⟨S1024x16x2, .f32⟩
  | .hbm, ⟨64, _⟩ => ⟨S1024x32, .f32⟩
  | .hbm, ⟨65, _⟩ => ⟨S_, .f32⟩
  | .hbm, ⟨66, _⟩ => ⟨S_, .f32⟩
  | .hbm, ⟨67, _⟩ => ⟨S1024x128, .f32⟩
  | .hbm, ⟨68, _⟩ => ⟨S_, .i32⟩
  | .hbm, ⟨69, _⟩ => ⟨S_, .f32⟩
  | .hbm, ⟨70, _⟩ => ⟨S1024x128, .f32⟩
  | .hbm, ⟨71, _⟩ => ⟨S_, .f32⟩
  | .hbm, ⟨72, _⟩ => ⟨S_, .f32⟩
  | .hbm, ⟨73, _⟩ => ⟨S1024x128, .f32⟩
  | .hbm, ⟨74, _⟩ => ⟨S_, .i32⟩
  | .hbm, ⟨75, _⟩ => ⟨S_, .f32⟩
  | .hbm, ⟨76, _⟩ => ⟨S1024x128, .f32⟩
  | .hbm, ⟨77, _⟩ => ⟨S2048x1024, .bf16⟩
  | .hbm, ⟨78, _⟩ => ⟨S2048x1024, .bf16⟩
  | .hbm, ⟨79, _⟩ => ⟨S2048x512, .bf16⟩
  | .hbm, ⟨80, _⟩ => ⟨S2048x256, .f32⟩
  | .hbm, ⟨81, _⟩ => ⟨S2048x128, .f32⟩
  | .hbm, ⟨82, _⟩ => ⟨S2048x3584, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S2x2x512, .f32⟩
  | .local _ .vmem, ⟨4, _⟩ => ⟨S5664x1024, .bf16⟩
  | .local _ .vmem, ⟨5, _⟩ => ⟨S1x768, .f32⟩
  | .local _ .vmem, ⟨6, _⟩ => ⟨S768x1024, .bf16⟩
  | .local _ .vmem, ⟨7, _⟩ => ⟨S1x256, .f32⟩
  | .local _ .vmem, ⟨8, _⟩ => ⟨S256x1024, .bf16⟩
  | .local _ .vmem, ⟨9, _⟩ => ⟨S256x512, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x512, .bf16⟩
  | .local _ .vmem, ⟨23, _⟩ => ⟨S512x512, .bf16⟩
  | .local _ .vmem, ⟨24, _⟩ => ⟨S512x256, .f32⟩
  | .local _ .vmem, ⟨25, _⟩ => ⟨S512x256, .f32⟩
  | .local _ .vmem, ⟨26, _⟩ => ⟨S512x128, .f32⟩
  | .local _ .vmem, ⟨27, _⟩ => ⟨S512x128, .f32⟩
  | .local _ .vmem, ⟨28, _⟩ => ⟨S512x3584, .f32⟩
  | .local _ .vmem, ⟨29, _⟩ => ⟨S512x3584, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_cst_4 : Ref sig .tc := ⟨.hbm, 25, rfl⟩
abbrev main_v10 : Ref sig .tc := ⟨.hbm, 26, rfl⟩
abbrev main_cst_5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_call0_v0 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_call1_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_call2_v0 : Ref sig .tc := ⟨.hbm, 66, rfl⟩
abbrev main_v44 : Ref sig .tc := ⟨.hbm, 67, rfl⟩
abbrev main_c_8 : Ref sig .tc := ⟨.hbm, 68, rfl⟩
abbrev main_call3_v0 : Ref sig .tc := ⟨.hbm, 69, rfl⟩
abbrev main_v45 : Ref sig .tc := ⟨.hbm, 70, rfl⟩
abbrev main_cst_9 : Ref sig .tc := ⟨.hbm, 71, rfl⟩
abbrev main_call4_v0 : Ref sig .tc := ⟨.hbm, 72, rfl⟩
abbrev main_v46 : Ref sig .tc := ⟨.hbm, 73, rfl⟩
abbrev main_c_10 : Ref sig .tc := ⟨.hbm, 74, rfl⟩
abbrev main_call5_v0 : Ref sig .tc := ⟨.hbm, 75, rfl⟩
abbrev main_v47 : Ref sig .tc := ⟨.hbm, 76, rfl⟩
abbrev main_v48_0 : Ref sig .tc := ⟨.hbm, 77, rfl⟩
abbrev main_v48_1 : Ref sig .tc := ⟨.hbm, 78, rfl⟩
abbrev main_v48_2 : Ref sig .tc := ⟨.hbm, 79, rfl⟩
abbrev main_v48_3 : Ref sig .tc := ⟨.hbm, 80, rfl⟩
abbrev main_v48_4 : Ref sig .tc := ⟨.hbm, 81, rfl⟩
abbrev main_v48_5 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨2, ![2, 2], ![false, false]⟩

def k0_off1 (i : grid0.Coords) : Fin 2 → Nat :=
  let c1_i32 : BitVec 32 := 1#32
  let arg0 : BitVec 32 := BitVec.ofNat 32 (i 0).val
  let v0 : BitVec 32 := Scalar.addi c1_i32 arg0
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S5664x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x3584 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference4Ideal.lean ====
abbrev S2x1024x1024 : Shape := ⟨3, ![2, 1024, 1024]⟩
abbrev S8x6144 : Shape := ⟨2, ![8, 6144]⟩
abbrev S1024x16 : Shape := ⟨2, ![1024, 16]⟩
abbrev S1x1024x5664 : Shape := ⟨3, ![1, 1024, 5664]⟩
abbrev S1x768 : Shape := ⟨2, ![1, 768]⟩
abbrev S1x768x768 : Shape := ⟨3, ![1, 768, 768]⟩
abbrev S1x256 : Shape := ⟨2, ![1, 256]⟩
abbrev S1x256x1024 : Shape := ⟨3, ![1, 256, 1024]⟩
abbrev S2x2x512 : Shape := ⟨3, ![2, 2, 512]⟩
abbrev S2x1024 : Shape := ⟨2, ![2, 1024]⟩
abbrev S2x1x1024 : Shape := ⟨3, ![2, 1, 1024]⟩
abbrev S_ : Shape := ⟨0, ![]⟩
abbrev S2x512 : Shape := ⟨2, ![2, 512]⟩
abbrev S2x1x512 : Shape := ⟨3, ![2, 1, 512]⟩
abbrev S1024x5664 : Shape := ⟨2, ![1024, 5664]⟩
abbrev S2x1024x5664 : Shape := ⟨3, ![2, 1024, 5664]⟩
abbrev S2x1024x768 : Shape := ⟨3, ![2, 1024, 768]⟩
abbrev S2x1024x256 : Shape := ⟨3, ![2, 1024, 256]⟩
abbrev S2x1024x32 : Shape := ⟨3, ![2, 1024, 32]⟩
abbrev S2x1024x512 : Shape := ⟨3, ![2, 1024, 512]⟩
abbrev S2x1024x2048 : Shape := ⟨3, ![2, 1024, 2048]⟩
abbrev S768 : Shape := ⟨1, ![768]⟩
abbrev S2x1024x1 : Shape := ⟨3, ![2, 1024, 1]⟩
abbrev S1x1x768 : Shape := ⟨3, ![1, 1, 768]⟩
abbrev S768x768 : Shape := ⟨2, ![768, 768]⟩
abbrev S2x1024x8x96 : Shape := ⟨4, ![2, 1024, 8, 96]⟩
abbrev S2x1024x8x64 : Shape := ⟨4, ![2, 1024, 8, 64]⟩
abbrev S2x1024x8x32 : Shape := ⟨4, ![2, 1024, 8, 32]⟩
abbrev S2x1024x8x16x2 : Shape := ⟨5, ![2, 1024, 8, 16, 2]⟩
abbrev S2x1024x8x16x1 : Shape := ⟨5, ![2, 1024, 8, 16, 1]⟩
abbrev S2x1024x8x16 : Shape := ⟨4, ![2, 1024, 8, 16]⟩
abbrev S1x1024x1x16 : Shape := ⟨4, ![1, 1024, 1, 16]⟩
abbrev S256 : Shape := ⟨1, ![256]⟩
abbrev S1x1x256 : Shape := ⟨3, ![1, 1, 256]⟩
abbrev S256x1024 : Shape := ⟨2, ![256, 1024]⟩
abbrev S2x1024x8x128 : Shape := ⟨4, ![2, 1024, 8, 128]⟩
abbrev S2x1024x1x32 : Shape := ⟨4, ![2, 1024, 1, 32]⟩
abbrev S2x1024x1x16x2 : Shape := ⟨5, ![2, 1024, 1, 16, 2]⟩
abbrev S2x1024x1x16x1 : Shape := ⟨5, ![2, 1024, 1, 16, 1]⟩
abbrev S2x1024x1x16 : Shape := ⟨4, ![2, 1024, 1, 16]⟩
abbrev S1x512 : Shape := ⟨2, ![1, 512]⟩
abbrev S512 : Shape := ⟨1, ![512]⟩
abbrev S1x1x512 : Shape := ⟨3, ![1, 1, 512]⟩
abbrev S2x1024x4x128 : Shape := ⟨4, ![2, 1024, 4, 128]⟩
abbrev S2048x1024 : Shape := ⟨2, ![2048, 1024]⟩
abbrev S2048x512 : Shape := ⟨2, ![2048, 512]⟩
abbrev S2048x256 : Shape := ⟨2, ![2048, 256]⟩
abbrev S2048x32 : Shape := ⟨2, ![2048, 32]⟩
abbrev S2048x128 : Shape := ⟨2, ![2048, 128]⟩
abbrev S2048x3584 : Shape := ⟨2, ![2048, 3584]⟩

abbrev nBuf : Space → Nat
  | .hbm => 219
  | .vmem => 0
  | .smem => 0
  | _ => 0

abbrev hbmTy0_0 (i : Nat) : BufTy := match i % 128 with
  | 0 => ⟨S2x1024x1024, .f32⟩
  | 1 => ⟨S8x6144, .f32⟩
  | 2 => ⟨S1024x16, .f32⟩
  | 3 => ⟨S1024x16, .f32⟩
  | 4 => ⟨S1x1024x5664, .f32⟩
  | 5 => ⟨S1x768, .f32⟩
  | 6 => ⟨S1x768x768, .f32⟩
  | 7 => ⟨S1x256, .f32⟩
  | 8 => ⟨S1x256x1024, .f32⟩
  | 9 => ⟨S2x2x512, .f32⟩
  | 10 => ⟨S2x1024, .f32⟩
  | 11 => ⟨S2x1x1024, .f32⟩
  | 12 => ⟨S2x1024, .f32⟩
  | 13 => ⟨S2x1x1024, .f32⟩
  | 14 => ⟨S_, .f32⟩
  | 15 => ⟨S2x512, .f32⟩
  | 16 => ⟨S_, .f32⟩
  | 17 => ⟨S2x512, .f32⟩
  | 18 => ⟨S2x512, .f32⟩
  | 19 => ⟨S2x1x512, .f32⟩
  | 20 => ⟨S2x2x512, .f32⟩
  | 21 => ⟨S2x2x512, .f32⟩
  | 22 => ⟨S2x2x512, .f32⟩
  | 23 => ⟨S_, .f32⟩
  | 24 => ⟨S2x512, .f32⟩
  | 25 => ⟨S2x1x512, .f32⟩
  | 26 => ⟨S2x2x512, .f32⟩
  | 27 => ⟨S2x2x512, .f32⟩
  | 28 => ⟨S_, .f32⟩
  | 29 => ⟨S_, .f32⟩
  | 30 => ⟨S2x2x512, .f32⟩
  | 31 => ⟨S2x1x512, .f32⟩
  | 32 => ⟨S2x512, .f32⟩
  | 33 => ⟨S_, .f32⟩
  | 34 => ⟨S2x1x1024, .f32⟩
  | 35 => ⟨S2x1x1024, .f32⟩
  | 36 => ⟨S2x1024x1024, .f32⟩
  | 37 => ⟨S2x1024x1024, .f32⟩
  | 38 => ⟨S2x1024x1024, .f32⟩
  | 39 => ⟨S2x1024x1024, .f32⟩
  | 40 => ⟨S1024x5664, .f32⟩
  | 41 => ⟨S2x1024x5664, .f32⟩
  | 42 => ⟨S2x1024x768, .f32⟩
  | 43 => ⟨S2x1024x256, .f32⟩
  | 44 => ⟨S2x1024x32, .f32⟩
  | 45 => ⟨S2x1024x512, .f32⟩
  | 46 => ⟨S2x1024x512, .f32⟩
  | 47 => ⟨S2x1024x512, .f32⟩
  | 48 => ⟨S2x1024x512, .f32⟩
  | 49 => ⟨S2x1024x512, .f32⟩
  | 50 => ⟨S2x1024x2048, .f32⟩
  | 51 => ⟨S768, .f32⟩
  | 52 => ⟨S2x1024x768, .f32⟩
  | 53 => ⟨S_, .f32⟩
  | 54 => ⟨S2x1024, .f32⟩
  | 55 => ⟨S2x1024x1, .f32⟩
  | 56 => ⟨S_, .f32⟩
  | 57 => ⟨S2x1024x1, .f32⟩
  | 58 => ⟨S2x1024x1, .f32⟩
  | 59 => ⟨S_, .f32⟩
  | 60 => ⟨S2x1024x1, .f32⟩
  | 61 => ⟨S2x1024x1, .f32⟩
  | 62 => ⟨S2x1024x1, .f32⟩
  | 63 => ⟨S2x1024x768, .f32⟩
  | 64 => ⟨S2x1024x768, .f32⟩
  | 65 => ⟨S1x1x768, .f32⟩
  | 66 => ⟨S2x1024x768, .f32⟩
  | 67 => ⟨S2x1024x768, .f32⟩
  | 68 => ⟨S768x768, .f32⟩
  | 69 => ⟨S2x1024x768, .f32⟩
  | 70 => ⟨S2x1024x8x96, .f32⟩
  | 71 => ⟨S2x1024x8x64, .f32⟩
  | 72 => ⟨S2x1024x8x32, .f32⟩
  | 73 => ⟨S2x1024x8x16x2, .f32⟩
  | 74 => ⟨S2x1024x8x16x1, .f32⟩
  | 75 => ⟨S2x1024x8x16, .f32⟩
  | 76 => ⟨S2x1024x8x16x1, .f32⟩
  | 77 => ⟨S2x1024x8x16, .f32⟩
  | 78 => ⟨S1x1024x1x16, .f32⟩
  | 79 => ⟨S1x1024x1x16, .f32⟩
  | 80 => ⟨S2x1024x8x16, .f32⟩
  | 81 => ⟨S2x1024x8x16, .f32⟩
  | 82 => ⟨S2x1024x8x16, .f32⟩
  | 83 => ⟨S2x1024x8x16, .f32⟩
  | 84 => ⟨S2x1024x8x16, .f32⟩
  | 85 => ⟨S2x1024x8x16, .f32⟩
  | 86 => ⟨S2x1024x8x16, .f32⟩
  | 87 => ⟨S2x1024x8x16, .f32⟩
  | 88 => ⟨S2x1024x8x16, .f32⟩
  | 89 => ⟨S2x1024x8x16, .f32⟩
  | 90 => ⟨S2x1024x8x16x1, .f32⟩
  | 91 => ⟨S2x1024x8x16x1, .f32⟩
  | 92 => ⟨S2x1024x8x16x2, .f32⟩
  | 93 => ⟨S2x1024x8x32, .f32⟩
  | 94 => ⟨S256, .f32⟩
  | 95 => ⟨S2x1024x256, .f32⟩
  | 96 => ⟨S_, .f32⟩
  | 97 => ⟨S2x1024, .f32⟩
  | 98 => ⟨S2x1024x1, .f32⟩
  | 99 => ⟨S_, .f32⟩
  | 100 => ⟨S2x1024x1, .f32⟩
  | 101 => ⟨S2x1024x1, .f32⟩
  | 102 => ⟨S_, .f32⟩
  | 103 => ⟨S2x1024x1, .f32⟩
  | 104 => ⟨S2x1024x1, .f32⟩
  | 105 => ⟨S2x1024x1, .f32⟩
  | 106 => ⟨S2x1024x256, .f32⟩
  | 107 => ⟨S2x1024x256, .f32⟩
  | 108 => ⟨S1x1x256, .f32⟩
  | 109 => ⟨S2x1024x256, .f32⟩
  | 110 => ⟨S2x1024x256, .f32⟩
  | 111 => ⟨S256x1024, .f32⟩
  | 112 => ⟨S2x1024x1024, .f32⟩
  | 113 => ⟨S2x1024x8x128, .f32⟩
  | 114 => ⟨S2x1024x8x64, .f32⟩
  | 115 => ⟨S2x1024x8x64, .f32⟩
  | 116 => ⟨S2x1024x1x32, .f32⟩
  | 117 => ⟨S2x1024x1x16x2, .f32⟩
  | 118 => ⟨S2x1024x1x16x1, .f32⟩
  | 119 => ⟨S2x1024x1x16, .f32⟩
  | 120 => ⟨S2x1024x1x16x1, .f32⟩
  | 121 => ⟨S2x1024x1x16, .f32⟩
  | 122 => ⟨S1x1024x1x16, .f32⟩
  | 123 => ⟨S1x1024x1x16, .f32⟩
  | 124 => ⟨S2x1024x1x16, .f32⟩
  | 125 => ⟨S2x1024x1x16, .f32⟩
  | 126 => ⟨S2x1024x1x16, .f32⟩
  | 127 => ⟨S2x1024x1x16, .f32⟩
  | _ => ⟨S2x1024x1024, .f32⟩

abbrev hbmTy0_1 (i : Nat) : BufTy := match i % 128 with
  | 0 => ⟨S2x1024x1x16, .f32⟩
  | 1 => ⟨S2x1024x1x16, .f32⟩
  | 2 => ⟨S2x1024x1x16, .f32⟩
  | 3 => ⟨S2x1024x1x16, .f32⟩
  | 4 => ⟨S2x1024x1x16, .f32⟩
  | 5 => ⟨S2x1024x1x16, .f32⟩
  | 6 => ⟨S2x1024x1x16x1, .f32⟩
  | 7 => ⟨S2x1024x1x16x1, .f32⟩
  | 8 => ⟨S2x1024x1x16x2, .f32⟩
  | 9 => ⟨S2x1024x1x32, .f32⟩
  | 10 => ⟨S1x512, .f32⟩
  | 11 => ⟨S512, .f32⟩
  | 12 => ⟨S_, .f32⟩
  | 13 => ⟨S512, .f32⟩
  | 14 => ⟨S512, .f32⟩
  | 15 => ⟨S2x1024x512, .f32⟩
  | 16 => ⟨S2x1024x512, .f32⟩
  | 17 => ⟨S_, .f32⟩
  | 18 => ⟨S2x1024x512, .f32⟩
  | 19 => ⟨S2x1024x512, .f32⟩
  | 20 => ⟨S_, .f32⟩
  | 21 => ⟨S2x1024x512, .f32⟩
  | 22 => ⟨S2x1024x512, .f32⟩
  | 23 => ⟨S1x1x512, .f32⟩
  | 24 => ⟨S2x1024x512, .f32⟩
  | 25 => ⟨S2x1024x512, .f32⟩
  | 26 => ⟨S1x1x512, .f32⟩
  | 27 => ⟨S2x1024x512, .f32⟩
  | 28 => ⟨S2x1024x512, .f32⟩
  | 29 => ⟨S2x1024x4x128, .f32⟩
  | 30 => ⟨S2x1024x4x128, .f32⟩
  | 31 => ⟨S_, .f32⟩
  | 32 => ⟨S2x1024x4x128, .f32⟩
  | 33 => ⟨S2x1024x4x128, .f32⟩
  | 34 => ⟨S1x512, .f32⟩
  | 35 => ⟨S512, .f32⟩
  | 36 => ⟨S_, .f32⟩
  | 37 => ⟨S512, .f32⟩
  | 38 => ⟨S512, .f32⟩
  | 39 => ⟨S2x1024x512, .f32⟩
  | 40 => ⟨S2x1024x512, .f32⟩
  | 41 => ⟨S_, .f32⟩
  | 42 => ⟨S2x1024x512, .f32⟩
  | 43 => ⟨S2x1024x512, .f32⟩
  | 44 => ⟨S_, .f32⟩
  | 45 => ⟨S2x1024x512, .f32⟩
  | 46 => ⟨S2x1024x512, .f32⟩
  | 47 => ⟨S1x1x512, .f32⟩
  | 48 => ⟨S2x1024x512, .f32⟩
  | 49 => ⟨S2x1024x512, .f32⟩
  | 50 => ⟨S1x1x512, .f32⟩
  | 51 => ⟨S2x1024x512, .f32⟩
  | 52 => ⟨S2x1024x512, .f32⟩
  | 53 => ⟨S2x1024x4x128, .f32⟩
  | 54 => ⟨S2x1024x4x128, .f32⟩
  | 55 => ⟨S_, .f32⟩
  | 56 => ⟨S2x1024x4x128, .f32⟩
  | 57 => ⟨S2x1024x4x128, .f32⟩
  | 58 => ⟨S_, .f32⟩
  | 59 => ⟨S2x1024x8x32, .f32⟩
  | 60 => ⟨S2x1024x8x128, .f32⟩
  | 61 => ⟨S2048x1024, .f32⟩
  | 62 => ⟨S2048x1024, .bf16⟩
  | 63 => ⟨S2x1024x8x32, .f32⟩
  | 64 => ⟨S2x1024x8x128, .f32⟩
  | 65 => ⟨S2048x1024, .f32⟩
  | 66 => ⟨S2048x1024, .bf16⟩
  | 67 => ⟨S2048x512, .f32⟩
  | 68 => ⟨S2048x512, .bf16⟩
  | 69 => ⟨S2048x256, .f32⟩
  | 70 => ⟨S2048x32, .f32⟩
  | 71 => ⟨S_, .i32⟩
  | 72 => ⟨S_, .f32⟩
  | 73 => ⟨S2048x128, .f32⟩
  | 74 => ⟨S2x1024x512, .f32⟩
  | 75 => ⟨S2x1024x512, .f32⟩
  | 76 => ⟨S_, .f32⟩
  | 77 => ⟨S2x1024x512, .f32⟩
  | 78 => ⟨S2x1024x512, .f32⟩
  | 79 => ⟨S_, .f32⟩
  | 80 => ⟨S2x1024x512, .f32⟩
  | 81 => ⟨S2x1024x512, .f32⟩
  | 82 => ⟨S2x1024x512, .f32⟩
  | 83 => ⟨S2048x512, .f32⟩
  | 84 => ⟨S2048x512, .f32⟩
  | 85 => ⟨S2048x512, .f32⟩
  | 86 => ⟨S2048x512, .f32⟩
  | 87 => ⟨S2048x512, .f32⟩
  | 88 => ⟨S2048x512, .f32⟩
  | 89 => ⟨S2048x512, .f32⟩
  | 90 => ⟨S2048x3584, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_call0_cst : Ref sig .tc := ⟨.hbm, 28, rfl⟩
abbrev main_call0_call0_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_6 : Ref sig .tc := ⟨.hbm, 96, rfl⟩
abbrev main_v77 : Ref sig .tc := ⟨.hbm, 97, rfl⟩
abbrev main_v78 : Ref sig .tc := ⟨.hbm, 98, rfl⟩
abbrev main_cst_7 : Ref sig .tc := ⟨.hbm, 99, rfl⟩
abbrev main_v79 : Ref sig .tc := ⟨.hbm, 100, rfl⟩
abbrev main_v80 : Ref sig .tc := ⟨.hbm, 101, rfl⟩
abbrev main_cst_8 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_cst_9 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_cst_10 : Ref sig .tc := ⟨.hbm, 145, rfl⟩
abbrev main_v122 : Ref sig .tc := ⟨.hbm, 146, rfl⟩
abbrev main_v123 : Ref sig .tc := ⟨.hbm, 147, rfl⟩
abbrev main_cst_11 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_cst_12 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_13 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_14 : Ref sig .tc := ⟨.hbm, 169, rfl⟩
abbrev main_v142 : Ref sig .tc := ⟨.hbm, 170, rfl⟩
abbrev main_v143 : Ref sig .tc := ⟨.hbm, 171, rfl⟩
abbrev main_cst_15 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_cst_16 : Ref sig .tc := ⟨.hbm, 183, rfl⟩
abbrev main_v154 : Ref sig .tc := ⟨.hbm, 184, rfl⟩
abbrev main_v155 : Ref sig .tc := ⟨.hbm, 185, rfl⟩
abbrev main_cst_17 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_c : Ref sig .tc := ⟨.hbm, 199, rfl⟩
abbrev main_call1_v0 : Ref sig .tc := ⟨.hbm, 200, rfl⟩
abbrev main_v168 : Ref sig .tc := ⟨.hbm, 201, rfl⟩
abbrev main_call2_v0 : Ref sig .tc := ⟨.hbm, 202, rfl⟩
abbrev main_call2_v1 : Ref sig .tc := ⟨.hbm, 203, rfl⟩
abbrev main_call2_cst : Ref sig .tc := ⟨.hbm, 204, rfl⟩
abbrev main_call2_v2 : Ref sig .tc := ⟨.hbm, 205, rfl⟩
abbrev main_call2_v3 : Ref sig .tc := ⟨.hbm, 206, rfl⟩
abbrev main_call2_cst_0 : Ref sig .tc := ⟨.hbm, 207, rfl⟩
abbrev main_call2_v4 : Ref sig .tc := ⟨.hbm, 208, rfl⟩
abbrev main_call2_v5 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩

abbrev nD : Nat := 1
abbrev τ : Topo := Topo.v7x

variable {F : FTy → Type} [FloatOps F]
-- ==== Kernel5.lean ====
abbrev S2x1x512x256 : Shape := ⟨4, ![2, 1, 512, 256]⟩
abbrev S2x1x512x32 : Shape := ⟨4, ![2, 1, 512, 32]⟩
abbrev S1x256x1024 : Shape := ⟨3, ![1, 256, 1024]⟩
abbrev S_ : Shape := ⟨0, ![]⟩
abbrev S1024x5664 : Shape := ⟨2, ![1024, 5664]⟩
abbrev S768 : Shape := ⟨1, ![768]⟩
abbrev S768x768 : Shape := ⟨2, ![768, 768]⟩
abbrev S256 : Shape := ⟨1, ![256]⟩
abbrev S256x1024 : Shape := ⟨2, ![256, 1024]⟩
abbrev S512x1024 : Shape := ⟨2, ![512, 1024]⟩
abbrev S128 : Shape := ⟨1, ![128]⟩
abbrev S1024x1024 : Shape := ⟨2, ![1024, 1024]⟩
abbrev S1024 : Shape := ⟨1, ![1024]⟩
abbrev S1024x16 : Shape := ⟨2, ![1024, 16]⟩
abbrev S5664x1024 : Shape := ⟨2, ![5664, 1024]⟩
abbrev S768x8x96 : Shape := ⟨3, ![768, 8, 96]⟩
abbrev S768x8x128 : Shape := ⟨3, ![768, 8, 128]⟩
abbrev S768x1024 : Shape := ⟨2, ![768, 1024]⟩
abbrev S256x8x128 : Shape := ⟨3, ![256, 8, 128]⟩
abbrev S256x8x64 : Shape := ⟨3, ![256, 8, 64]⟩
abbrev S256x512 : Shape := ⟨2, ![256, 512]⟩
abbrev S1x768 : Shape := ⟨2, ![1, 768]⟩
abbrev S1x256 : Shape := ⟨2, ![1, 256]⟩
abbrev S1x128 : Shape := ⟨2, ![1, 128]⟩
abbrev S1x1024 : Shape := ⟨2, ![1, 1024]⟩
abbrev S16x1024 : Shape := ⟨2, ![16, 1024]⟩
abbrev S2x512x32 : Shape := ⟨3, ![2, 512, 32]⟩
abbrev S1024x32 : Shape := ⟨2, ![1024, 32]⟩
abbrev S1024x128 : Shape := ⟨2, ![1024, 128]⟩
abbrev S2x512x256 : Shape := ⟨3, ![2, 512, 256]⟩
abbrev S1024x256 : Shape := ⟨2, ![1024, 256]⟩
abbrev S1024x512 : Shape := ⟨2, ![1024, 512]⟩
abbrev S256x256 : Shape := ⟨2, ![256, 256]⟩
abbrev S256x128 : Shape := ⟨2, ![256, 128]⟩

abbrev nBuf : Space → Nat
  | .hbm => 63
  | .vmem => 10
  | .smem => 0
  | _ => 0

abbrev bufTy : (tb : Table) → Fin (tcTables nBuf tb) → BufTy
  | .hbm, ⟨0, _⟩ => ⟨S2x1x512x256, .f32⟩
  | .hbm, ⟨1, _⟩ => ⟨S2x1x512x32, .f32⟩
  | .hbm, ⟨2, _⟩ => ⟨S1x256x1024, .f32⟩
  | .hbm, ⟨3, _⟩ => ⟨S_, .f32⟩
  | .hbm, ⟨4, _⟩ => ⟨S1024x5664, .f32⟩
  | .hbm, ⟨5, _⟩ => ⟨S_, .f32⟩
  | .hbm, ⟨6, _⟩ => ⟨S768, .f32⟩
  | .hbm, ⟨7, _⟩ => ⟨S_, .f32⟩
  | .hbm, ⟨8, _⟩ => ⟨S768x768, .f32⟩
  | .hbm, ⟨9, _⟩ => ⟨S_, .f32⟩
  | .hbm, ⟨10, _⟩ => ⟨S256, .f32⟩
  | .hbm, ⟨11, _⟩ => ⟨S256x1024, .f32⟩
  | .hbm, ⟨12, _⟩ => ⟨S_, .f32⟩
  | .hbm, ⟨13, _⟩ => ⟨S512x1024, .f32⟩
  | .hbm, ⟨14, _⟩ => ⟨S_, .f32⟩
  | .hbm, ⟨15, _⟩ => ⟨S128, .f32⟩
  | .hbm, ⟨16, _⟩ => ⟨S_, .f32⟩
  | .hbm, ⟨17, _⟩ => ⟨S512x1024, .f32⟩
  | .hbm, ⟨18, _⟩ => ⟨S_, .f32⟩
  | .hbm, ⟨19, _⟩ => ⟨S1024x1024, .f32⟩
  | .hbm, ⟨20, _⟩ => ⟨S_, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S_, .f32⟩
  | .hbm, ⟨25, _⟩ => ⟨S1024x16, .f32⟩
  | .hbm, ⟨26, _⟩ => ⟨S5664x1024, .f32⟩
  | .hbm, ⟨27, _⟩ => ⟨S5664x1024, .bf16⟩
  | .hbm, ⟨28, _⟩ => ⟨S768x8x96, .f32⟩
  | .hbm, ⟨29, _⟩ => ⟨S_, .i32⟩
  | .hbm, ⟨30, _⟩ => ⟨S_, .f32⟩
  | .hbm, ⟨31, _⟩ => ⟨S768x8x128, .f32⟩
  | .hbm, ⟨32, _⟩ => ⟨S768x1024, .f32⟩
  | .hbm, ⟨33, _⟩ => ⟨S256x8x128, .f32⟩
  | .hbm, ⟨34, _⟩ => ⟨S256x8x64, .f32⟩
  | .hbm, ⟨35, _⟩ => ⟨S_, .i32⟩
  | .hbm, ⟨36, _⟩ => ⟨S_, .f32⟩
  | .hbm, ⟨37, _⟩ => ⟨S256x8x128, .f32⟩
  | .hbm, ⟨38, _⟩ => ⟨S256x1024, .f32⟩
  | .hbm, ⟨39, _⟩ => ⟨S256x8x64, .f32⟩
  | .hbm, ⟨40, _⟩ => ⟨S256x512, .f32⟩
  | .hbm, ⟨41, _⟩ => ⟨S1x768, .f32⟩
  | .hbm, ⟨42, _⟩ => ⟨S768x1024, .bf16⟩
  | .hbm, ⟨43, _⟩ => ⟨S1x256, .f32⟩
  | .hbm, ⟨44, _⟩ => ⟨S256x1024, .bf16⟩
  | .hbm, ⟨45, _⟩ => ⟨S256x512, .bf16⟩
  | .hbm, ⟨46, _⟩ => ⟨S1x128, .f32⟩
  | .hbm, ⟨47, _⟩ => ⟨S512x1024, .bf16⟩
  | .hbm, ⟨48, _⟩ => ⟨S512x1024, .bf16⟩
  | .hbm, ⟨49, _⟩ => ⟨S1024x1024, .bf16⟩
  | .hbm, ⟨50, _⟩ => ⟨S1x1024, .f32⟩
  | .hbm, ⟨51, _⟩ => ⟨S1x1024, .f32⟩
  | .hbm, ⟨52, _⟩ => ⟨S16x1024, .f32⟩
  | .hbm, ⟨53, _⟩ => ⟨S16x1024, .bf16⟩
  | .hbm, ⟨54, _⟩ => ⟨S2x512x32, .f32⟩
  | .hbm, ⟨55, _⟩ => ⟨S1024x32, .f32⟩
  | .hbm, ⟨56, _⟩ => ⟨S_, .i32⟩
  | .hbm, ⟨57, _⟩ => ⟨S_, .f32⟩
  | .hbm, ⟨58, _⟩ => ⟨S1024x128, .f32⟩
  | .hbm, ⟨59, _⟩ => ⟨S2x512x256, .f32⟩
  | .hbm, ⟨60, _⟩ => ⟨S1024x256, .f32⟩
  | .hbm, ⟨61, _⟩ => ⟨S1024x1024, .bf16⟩
  | .hbm, ⟨62, _⟩ => ⟨S1024x512, .bf16⟩
  | .local _ .vmem, ⟨0, _⟩ => ⟨S256x256, .f32⟩
  | .local _ .vmem, ⟨1, _⟩ => ⟨S256x256, .f32⟩
  | .local _ .vmem, ⟨2, _⟩ => ⟨S256x128, .f32⟩
  | .local _ .vmem, ⟨3, _⟩ => ⟨S256x128, .f32⟩
  | .local _ .vmem, ⟨4, _⟩ => ⟨S256x1024, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x512, .bf16⟩
  | .local _ .vmem, ⟨9, _⟩ => ⟨S256x512, .bf16⟩
  | _, _ => ⟨S2x1x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_cst_5 : Ref sig .tc := ⟨.hbm, 16, rfl⟩
abbrev main_v7 : Ref sig .tc := ⟨.hbm, 17, rfl⟩
abbrev main_cst_6 : Ref sig .tc := ⟨.hbm, 18, rfl⟩
abbrev main_v8 : Ref sig .tc := ⟨.hbm, 19, rfl⟩
abbrev main_cst_7 : Ref sig .tc := ⟨.hbm, 20, rfl⟩
abbrev main_v9 : Ref sig .tc := ⟨.hbm, 21, rfl⟩
abbrev main_cst_8 : Ref sig .tc := ⟨.hbm, 22, rfl⟩
abbrev main_v10 : Ref sig .tc := ⟨.hbm, 23, rfl⟩
abbrev main_cst_9 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_call0_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_10 : Ref sig .tc := ⟨.hbm, 35, rfl⟩
abbrev main_call1_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_11 : Ref sig .tc := ⟨.hbm, 56, rfl⟩
abbrev main_call2_v0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41_0 : Ref sig .tc := ⟨.hbm, 61, rfl⟩
abbrev main_v41_1 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S2x1x512x256 : Shape := ⟨4, ![2, 1, 512, 256]⟩
abbrev S2x1x512x32 : Shape := ⟨4, ![2, 1, 512, 32]⟩
abbrev S1x256x1024 : Shape := ⟨3, ![1, 256, 1024]⟩
abbrev S2x512x256 : Shape := ⟨3, ![2, 512, 256]⟩
abbrev S2x512x32 : Shape := ⟨3, ![2, 512, 32]⟩
abbrev S256x1024 : Shape := ⟨2, ![256, 1024]⟩
abbrev S2x512x1024 : Shape := ⟨3, ![2, 512, 1024]⟩
abbrev S2x512x8x128 : Shape := ⟨4, ![2, 512, 8, 128]⟩
abbrev S2x512x8x64 : Shape := ⟨4, ![2, 512, 8, 64]⟩
abbrev S2x512x1x32 : Shape := ⟨4, ![2, 512, 1, 32]⟩
abbrev S2x512x8x32 : Shape := ⟨4, ![2, 512, 8, 32]⟩
abbrev S_ : Shape := ⟨0, ![]⟩
abbrev S1024x1024 : Shape := ⟨2, ![1024, 1024]⟩
abbrev S1024x512 : Shape := ⟨2, ![1024, 512]⟩

abbrev nBuf : Space → Nat
  | .hbm => 19
  | .vmem => 0
  | .smem => 0
  | _ => 0

abbrev bufTy : (tb : Table) → Fin (tcTables nBuf tb) → BufTy
  | .hbm, ⟨0, _⟩ => ⟨S2x1x512x256, .f32⟩
  | .hbm, ⟨1, _⟩ => ⟨S2x1x512x32, .f32⟩
  | .hbm, ⟨2, _⟩ => ⟨S1x256x1024, .f32⟩
  | .hbm, ⟨3, _⟩ => ⟨S2x512x256, .f32⟩
  | .hbm, ⟨4, _⟩ => ⟨S2x512x32, .f32⟩
  | .hbm, ⟨5, _⟩ => ⟨S256x1024, .f32⟩
  | .hbm, ⟨6, _⟩ => ⟨S2x512x1024, .f32⟩
  | .hbm, ⟨7, _⟩ => ⟨S2x512x8x128, .f32⟩
  | .hbm, ⟨8, _⟩ => ⟨S2x512x8x64, .f32⟩
  | .hbm, ⟨9, _⟩ => ⟨S2x512x8x64, .f32⟩
  | .hbm, ⟨10, _⟩ => ⟨S2x512x1x32, .f32⟩
  | .hbm, ⟨11, _⟩ => ⟨S2x512x8x32, .f32⟩
  | .hbm, ⟨12, _⟩ => ⟨S_, .f32⟩
  | .hbm, ⟨13, _⟩ => ⟨S2x512x8x32, .f32⟩
  | .hbm, ⟨14, _⟩ => ⟨S2x512x8x128, .f32⟩
  | .hbm, ⟨15, _⟩ => ⟨S1024x1024, .f32⟩
  | .hbm, ⟨16, _⟩ => ⟨S1024x1024, .bf16⟩
  | .hbm, ⟨17, _⟩ => ⟨S1024x512, .f32⟩
  | .hbm, ⟨18, _⟩ => ⟨S1024x512, .bf16⟩
  | _, _ => ⟨S2x1x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Proof.Hgrn.lean ====
module

public import Mathlib.Analysis.SpecialFunctions.Exp
public import Mathlib.Algebra.BigOperators.Fin
public import Mathlib.Algebra.BigOperators.Intervals

/-
The gated recurrence of one head, written over the reals with times as natural numbers, in two forms: by chunks of 32
(the layer's own form) and by pairs of chunks (the kernel's form), and the equality of the two.
-/

@[expose] public section

noncomputable section

namespace Cert.Hgrn

open Finset

/-! ## The running sum inside a chunk -/

section Scan

variable {A : Type} [AddCommMonoid A]

/-- The sum of the `n` entries ending at `t`, those before the chunk of `t` left out. -/
def win (f : ℕ → A) (n t : ℕ) : A := ∑ i ∈ range n, if i ≤ t % 32 then f (t - i) else 0

theorem win_one (f : ℕ → A) (t : ℕ) : win f 1 t = f t := by simp [win]

/-- One doubling step: the window of twice the width is the window plus the window as many rows before. -/
theorem win_double (f : ℕ → A) (n t : ℕ) (hn : n < 32) :
    win f (n + n) t = win f n t + if n ≤ t % 32 then win f n (t - n) else 0 := by
  unfold win
  rw [sum_range_add]
  congr 1
  split
  · next h =>
    refine sum_congr rfl fun i _ => ?_
    have e : (t - n) % 32 = t % 32 - n := by omega
    have : (n + i ≤ t % 32) = (i ≤ (t - n) % 32) := by rw [e]; apply propext; omega
    simp only [this, Nat.sub_sub]
  · next h =>
    refine sum_eq_zero fun i _ => if_neg (by omega)

/-- The running sum of a chunk up to and including `t`. -/
def cum (f : ℕ → A) (t : ℕ) : A := ∑ i ∈ range (t % 32 + 1), f (32 * (t / 32) + i)

theorem win_full (f : ℕ → A) (t : ℕ) : win f 32 t = cum f t := by
  unfold win cum
  have h : t % 32 < 32 := Nat.mod_lt _ (by norm_num)
  rw [← sum_filter]
  have e : (range 32).filter (fun i => i ≤ t % 32) = range (t % 32 + 1) := by
    ext i; simp only [mem_filter, mem_range]; omega
  rw [e, ← sum_range_reflect]
  refine sum_congr rfl fun i hi => ?_
  rw [mem_range] at hi
  congr 1
  omega

/-- The whole sum of a chunk. -/
def tot (f : ℕ → A) (c : ℕ) : A := ∑ i ∈ range 32, f (32 * c + i)

theorem cum_last (f : ℕ → A) (c : ℕ) : cum f (32 * c + 31) = tot f c := by
  unfold cum tot
  have h1 : (32 * c + 31) % 32 + 1 = 32 := by omega
  have h2 : (32 * c + 31) / 32 = c := by omega
  rw [h1, h2]

end Scan

/-! ## The recurrence by chunks -/

variable {K : Type} [Fintype K]
variable (q kk g : ℕ → K → ℝ) (v : ℕ → ℝ)

abbrev C (t : ℕ) (k : K) : ℝ := cum (fun n => g n k) t
abbrev T (c : ℕ) (k : K) : ℝ := tot (fun n => g n k) c

/-- The query decayed to the start of its chunk, the key raised to it, and the key decayed to the chunk's end. -/
def qd (t : ℕ) (k : K) : ℝ := q t k * Real.exp (C g t k)
def kd (t : ℕ) (k : K) : ℝ := kk t k * Real.exp (-C g t k)
def ke (t : ℕ) (k : K) : ℝ := kk t k * Real.exp (T g (t / 32) k - C g t k)

/-- The state's increment over chunk `c`, and the state before chunk `c`. -/
def U (c : ℕ) (k : K) : ℝ := ∑ i ∈ range 32, ke kk g (32 * c + i) k * v (32 * c + i)
def S : ℕ → K → ℝ
  | 0, _ => 0
  | c + 1, k => Real.exp (T g c k) * S c k + U kk g v c k

/-- The recurrence's output at time `t`. -/
def out (t : ℕ) : ℝ :=
  (∑ i ∈ range 32, (if i ≤ t % 32 then ∑ k, qd q g t k * kd kk g (32 * (t / 32) + i) k else 0) * v (32 * (t / 32) + i))
    + ∑ k, qd q g t k * S kk g v (t / 32) k

/-! ## The recurrence by pairs of chunks -/

/-- The chunk that makes a pair with chunk `c`. -/
def partner (c : ℕ) : ℕ := if c % 2 = 1 then c - 1 else c + 1

def qd2 (t : ℕ) (k : K) : ℝ :=
  if (t / 32) % 2 = 1 then qd q g t k * Real.exp (T g (partner (t / 32)) k) else qd q g t k
def ke2 (t : ℕ) (k : K) : ℝ :=
  if (t / 32) % 2 = 1 then ke kk g t k else ke kk g t k * Real.exp (T g (partner (t / 32)) k)

/-- The state before pair `p`. -/
def P : ℕ → K → ℝ
  | 0, _ => 0
  | p + 1, k => P p k * Real.exp (T g (2 * p) k + T g (2 * p + 1) k)
      + ∑ s ∈ range 256, v s * (if s / 64 = p then ke2 kk g s k else 0)

/-- The output at time `t`, by pairs. -/
def pairOut (t : ℕ) : ℝ :=
  (∑ s ∈ range 256, (if s / 32 = t / 32 ∧ s ≤ t then ∑ k, qd q g t k * kd kk g s k
      else if s / 64 = t / 64 ∧ s / 32 < t / 32 then ∑ k, qd q g t k * ke kk g s k else 0) * v s)
    + ∑ k, qd2 q g t k * P kk g v (t / 64) k

/-- A sum over `32 * n` times by chunks. -/
theorem sum_chunks (f : ℕ → ℝ) (n : ℕ) :
    ∑ s ∈ range (32 * n), f s = ∑ c ∈ range n, ∑ i ∈ range 32, f (32 * c + i) := by
  induction n with
  | zero => simp
  | succ n ih => rw [Nat.mul_succ, sum_range_add, ih, sum_range_succ _ n]

/-- A sum over the times that meets only one chunk. -/
theorem sum_one_chunk (f : ℕ → ℝ) (c : ℕ) (hc : c < 8) (hf : ∀ s, s / 32 ≠ c → f s = 0) :
    ∑ s ∈ range 256, f s = ∑ i ∈ range 32, f (32 * c + i) := by
  rw [show 256 = 32 * 8 from rfl, sum_chunks]
  refine sum_eq_single c (fun d _ hd => sum_eq_zero fun i hi => hf _ ?_) (fun h => absurd (mem_range.mpr hc) h)
  rw [mem_range] at hi
  omega

/-- The pair's increment: the first chunk's decayed over the second, plus the second chunk's. -/
theorem pair_inc (p : ℕ) (hp : p < 4) (k : K) :
    ∑ s ∈ range 256, v s * (if s / 64 = p then ke2 kk g s k else 0)
      = Real.exp (T g (2 * p + 1) k) * U kk g v (2 * p) k + U kk g v (2 * p + 1) k := by
  have e : ∀ s, v s * (if s / 64 = p then ke2 kk g s k else 0)
      = (if s / 32 = 2 * p then Real.exp (T g (2 * p + 1) k) * (ke kk g s k * v s) else 0)
        + (if s / 32 = 2 * p + 1 then ke kk g s k * v s else 0) := by
    intro s
    unfold ke2 partner
    by_cases h0 : s / 32 = 2 * p
    · have h1 : s / 64 = p := by omega
      have h2 : ¬ (s / 32) % 2 = 1 := by omega
      have h3 : ¬ s / 32 = 2 * p + 1 := by omega
      rw [if_pos h1, if_neg h2, if_pos h0, if_neg h3, if_neg h2, h0]; ring
    · by_cases h1 : s / 32 = 2 * p + 1
      · have h2 : s / 64 = p := by omega
        have h3 : (s / 32) % 2 = 1 := by omega
        rw [if_pos h2, if_pos h3, if_neg h0, if_pos h1]; ring
      · have h2 : ¬ s / 64 = p := by omega
        rw [if_neg h2, if_neg h0, if_neg h1]; ring
  simp only [e]
  rw [sum_add_distrib, sum_one_chunk _ (2 * p) (by omega) (fun s h => if_neg h),
    sum_one_chunk _ (2 * p + 1) (by omega) (fun s h => if_neg h)]
  unfold U
  rw [mul_sum]
  congr 1
  · refine sum_congr rfl fun i hi => ?_
    rw [mem_range] at hi
    rw [if_pos (by omega)]
  · refine sum_congr rfl fun i hi => ?_
    rw [mem_range] at hi
    rw [if_pos (by omega)]

/-- The state before pair `p` is the state before its first chunk. -/
theorem P_eq_S (p : ℕ) (hp : p ≤ 4) (k : K) : P kk g v p k = S kk g v (2 * p) k := by
  induction p with
  | zero => rfl
  | succ p ih =>
    rw [P, ih (by omega), pair_inc kk g v p (by omega), show 2 * (p + 1) = 2 * p + 1 + 1 from rfl, S, S, Real.exp_add]
    ring

/-- A query against a state one chunk on. -/
theorem q_S_succ (t c : ℕ) :
    ∑ k, qd q g t k * S kk g v (c + 1) k
      = (∑ k, qd q g t k * Real.exp (T g c k) * S kk g v c k)
        + ∑ i ∈ range 32, (∑ k, qd q g t k * ke kk g (32 * c + i) k) * v (32 * c + i) := by
  have : ∀ k, qd q g t k * S kk g v (c + 1) k = qd q g t k * Real.exp (T g c k) * S kk g v c k
      + ∑ i ∈ range 32, qd q g t k * ke kk g (32 * c + i) k * v (32 * c + i) := by
    intro k
    rw [S, U, mul_add, mul_sum]
    congr 1
    · ring
    · exact sum_congr rfl fun i _ => by ring
  simp only [this]
  rw [sum_add_distrib, sum_comm]
  congr 1
  exact sum_congr rfl fun i _ => by rw [sum_mul]

/-- The two forms agree. -/
theorem pairOut_eq_out (t : ℕ) (ht : t < 256) : pairOut q kk g v t = out q kk g v t := by
  have e : ∀ s, (if s / 32 = t / 32 ∧ s ≤ t then ∑ k, qd q g t k * kd kk g s k
        else if s / 64 = t / 64 ∧ s / 32 < t / 32 then ∑ k, qd q g t k * ke kk g s k else 0) * v s
      = (if s / 32 = t / 32 then (if s ≤ t then ∑ k, qd q g t k * kd kk g s k else 0) * v s else 0)
        + (if (t / 32) % 2 = 1 ∧ s / 32 = t / 32 - 1 then (∑ k, qd q g t k * ke kk g s k) * v s else 0) := by
    intro s
    by_cases h0 : s / 32 = t / 32
    · have h1 : ¬ ((t / 32) % 2 = 1 ∧ s / 32 = t / 32 - 1) := by omega
      have h2 : ¬ (s / 64 = t / 64 ∧ s / 32 < t / 32) := by omega
      rw [if_pos h0, if_neg h1, add_zero]
      by_cases h3 : s ≤ t
      · rw [if_pos ⟨h0, h3⟩, if_pos h3]
      · rw [if_neg (fun h => h3 h.2), if_neg h2, if_neg h3]
    · rw [if_neg (fun h => h0 h.1), if_neg h0, zero_add]
      by_cases h1 : s / 64 = t / 64 ∧ s / 32 < t / 32
      · have h2 : (t / 32) % 2 = 1 ∧ s / 32 = t / 32 - 1 := by omega
        rw [if_pos h1, if_pos h2]
      · have h2 : ¬ ((t / 32) % 2 = 1 ∧ s / 32 = t / 32 - 1) := by omega
        rw [if_neg h1, if_neg h2, zero_mul]
  unfold pairOut out
  simp only [e]
  rw [sum_add_distrib, sum_one_chunk _ (t / 32) (by omega) (fun s h => if_neg h)]
  have hP : ∀ k, P kk g v (t / 64) k = S kk g v (2 * (t / 64)) k := fun k => P_eq_S kk g v (t / 64) (by omega) k
  simp only [hP]
  have e1 : ∑ i ∈ range 32, (if (32 * (t / 32) + i) / 32 = t / 32 then
        (if 32 * (t / 32) + i ≤ t then ∑ k, qd q g t k * kd kk g (32 * (t / 32) + i) k else 0) * v (32 * (t / 32) + i) else 0)
      = ∑ i ∈ range 32, (if i ≤ t % 32 then ∑ k, qd q g t k * kd kk g (32 * (t / 32) + i) k else 0) * v (32 * (t / 32) + i) := by
    refine sum_congr rfl fun i hi => ?_
    rw [mem_range] at hi
    rw [if_pos (by omega)]
    by_cases h : i ≤ t % 32
    · rw [if_pos h, if_pos (by omega)]
    · rw [if_neg h, if_neg (by omega)]
  rw [e1, add_assoc]
  congr 1
  by_cases h : (t / 32) % 2 = 1
  · have hc : t / 32 = 2 * (t / 64) + 1 := by omega
    have hp : partner (t / 32) = 2 * (t / 64) := by unfold partner; rw [if_pos h]; omega
    have hq := q_S_succ q kk g v t (2 * (t / 64))
    rw [← hc] at hq
    rw [hq, sum_one_chunk _ (2 * (t / 64)) (by omega) (fun s hs => if_neg (by omega)), add_comm]
    congr 1
    · refine sum_congr rfl fun k _ => ?_
      unfold qd2
      rw [if_pos h, hp]
    · refine sum_congr rfl fun i hi => ?_
      rw [mem_range] at hi
      rw [if_pos (by omega)]
  · have hc : t / 32 = 2 * (t / 64) := by omega
    rw [sum_eq_zero (fun s _ => if_neg (fun hh => h hh.1)), zero_add, hc]
    refine sum_congr rfl fun k _ => ?_
    unfold qd2
    rw [if_neg h]

end Cert.Hgrn

end
-- ==== Proof.Spec.lean ====
module

public import proofs.«01_k».proof.Proof.Hgrn
public import Idealize.ShloMosaic.PureOps.Ideal

/-
What the mixer computes, entry by entry, over the extended reals: every array as a function of its coordinates. Both the
kernel's blocks and the reference's arrays are shown to hold these functions.
-/

@[expose] public section

noncomputable section

namespace Cert.Spec

open Idealize.ShloMosaic

/-- The arguments, read at their coordinates (the modulation vector at its first row, the one that is used). -/
structure Inp where
  x : Fin 32 → Fin 256 → Fin 1024 → EReal
  md : Fin 6144 → EReal
  win : Fin 1024 → Fin 5664 → EReal
  qn : Fin 768 → EReal
  wuq : Fin 768 → Fin 768 → EReal
  kvn : Fin 256 → EReal
  wukv : Fin 256 → Fin 1024 → EReal
  wo : Fin 512 → Fin 1024 → EReal
  gam : Fin 2 → Fin 2 → Fin 512 → EReal
  hgn : Fin 128 → EReal
  who : Fin 512 → Fin 1024 → EReal
  wout : Fin 1024 → Fin 1024 → EReal
  lng : Fin 1024 → EReal
  lnb : Fin 1024 → EReal
  wr : Fin 1024 → Fin 16 → EReal

variable (I : Inp)

/-- The modulated input and its projection by `w_in`. -/
def h (b : Fin 32) (t : Fin 256) (d : Fin 1024) : EReal :=
  I.x b t d * (1 + I.md ⟨1024 + d, by omega⟩) + I.md ⟨d, by omega⟩
def proj (b : Fin 32) (t : Fin 256) (j : Fin 5664) : EReal := ∑ d, h I b t d * I.win d j

/-- The factor of a root-mean-square norm over `n` entries. -/
def rinv {n : ℕ} (c : BitVec 32) (f : Fin n → EReal) : EReal :=
  Ideal.rsqrt (Ideal.div (∑ j, f j * f j) (Ideal.ofBits .f32 c) + Ideal.ofBits .f32 897988541#32)

/-! ## The latent attention -/

def cqr (b : Fin 32) (t : Fin 256) (i : Fin 768) : EReal := proj I b t ⟨i, by omega⟩
def cq (b : Fin 32) (t : Fin 256) (i : Fin 768) : EReal := cqr I b t i * rinv 1145044992#32 (cqr I b t) * I.qn i
def q (b : Fin 32) (t : Fin 256) (l : Fin 768) : EReal := ∑ i, cq I b t i * I.wuq i l
def ckr (b : Fin 32) (t : Fin 256) (j : Fin 256) : EReal := proj I b t ⟨768 + j, by omega⟩
def ckv (b : Fin 32) (t : Fin 256) (j : Fin 256) : EReal := ckr I b t j * rinv 1132462080#32 (ckr I b t) * I.kvn j
def kpe (b : Fin 32) (t : Fin 256) (r : Fin 32) : EReal := proj I b t ⟨1024 + r, by omega⟩
def kv (b : Fin 32) (t : Fin 256) (l : Fin 1024) : EReal := ∑ i, ckv I b t i * I.wukv i l

/-- The query, key and value of a head. -/
def qh (b : Fin 32) (t : Fin 256) (hd : Fin 8) (e : Fin 96) : EReal := q I b t ⟨96 * hd + e, by omega⟩
def kh (b : Fin 32) (t : Fin 256) (hd : Fin 8) (e : Fin 64) : EReal := kv I b t ⟨128 * hd + e, by omega⟩
def vh (b : Fin 32) (t : Fin 256) (hd : Fin 8) (e : Fin 64) : EReal := kv I b t ⟨128 * hd + 64 + e, by omega⟩

def score (b : Fin 32) (hd : Fin 8) (t t' : Fin 256) : EReal :=
  (∑ e : Fin 64, qh I b t hd ⟨e, by omega⟩ * kh I b t' hd e)
    + ∑ e : Fin 32, qh I b t hd ⟨64 + e, by omega⟩ * kpe I b t' e

/-- A softmax-weighted sum: the scores times `c`, their exponentials over the sum of these, against `v`. -/
def softAvg {n : ℕ} (c : EReal) (s v : Fin n → EReal) : EReal :=
  ∑ t', Ideal.div (Ideal.exp (s t' * c - Finset.univ.fold max ⊥ fun u => s u * c))
    (∑ u, Ideal.exp (s u * c - Finset.univ.fold max ⊥ fun u => s u * c)) * v t'

def att (b : Fin 32) (t : Fin 256) (j : Fin 512) : EReal :=
  softAvg (Ideal.rsqrt (Ideal.ofBits .f32 1119879168#32)) (score I b ⟨j / 64, by omega⟩ t)
    (fun t' => vh I b t' ⟨j / 64, by omega⟩ ⟨j % 64, by omega⟩)

/-! ## The gated recurrence -/

/-- The lower bound of the forget gate, the gate, the query and the value. -/
def lb (a : Fin 2) (j : Fin 512) : EReal :=
  Ideal.div (Ideal.exp (I.gam a 0 j - max (I.gam a 0 j) (I.gam a 1 j)))
    (Ideal.exp (I.gam a 0 j - max (I.gam a 0 j) (I.gam a 1 j)) + Ideal.exp (I.gam a 1 j - max (I.gam a 0 j) (I.gam a 1 j)))
def ff (a : Fin 2) (b : Fin 32) (t : Fin 256) (j : Fin 512) : EReal :=
  lb I a j + (1 - lb I a j) * Ideal.logistic (proj I b t ⟨1568 + 512 * a + j, by omega⟩)
def sq (b : Fin 32) (t : Fin 256) (j : Fin 512) : EReal :=
  proj I b t ⟨1056 + j, by omega⟩ * Ideal.logistic (proj I b t ⟨1056 + j, by omega⟩)
def hv (b : Fin 32) (t : Fin 256) (j : Fin 512) : EReal := proj I b t ⟨2592 + j, by omega⟩
def lf (a : Fin 2) (b : Fin 32) (t : Fin 256) (j : Fin 512) : EReal := Ideal.log (ff I a b t j)
def hk (a : Fin 2) (b : Fin 32) (t : Fin 256) (j : Fin 512) : EReal := 1 - ff I a b t j

/-- The row at which direction `a` is at time `n`: forward in order, backward from the last row. Its own inverse. -/
def row (a : Fin 2) (n : ℕ) : Fin 256 := if a = 0 then ⟨n % 256, by omega⟩ else ⟨255 - n % 256, by omega⟩

def lane (hd : Fin 4) (k : Fin 128) : Fin 512 := ⟨128 * hd + k, by omega⟩

/-- The recurrence's data as real numbers, by time. -/
def qR (a : Fin 2) (b : Fin 32) (hd : Fin 4) (n : ℕ) (k : Fin 128) : ℝ := (sq I b (row a n) (lane hd k)).toReal
def kR (a : Fin 2) (b : Fin 32) (hd : Fin 4) (n : ℕ) (k : Fin 128) : ℝ := (hk I a b (row a n) (lane hd k)).toReal
def gR (a : Fin 2) (b : Fin 32) (hd : Fin 4) (n : ℕ) (k : Fin 128) : ℝ := (lf I a b (row a n) (lane hd k)).toReal
def vR (a : Fin 2) (b : Fin 32) (hd : Fin 4) (i : Fin 128) (n : ℕ) : ℝ := (hv I b (row a n) (lane hd i)).toReal

/-- The recurrence's output at a row, and its last state. -/
def od (a : Fin 2) (b : Fin 32) (hd : Fin 4) (t : Fin 256) (i : Fin 128) : EReal :=
  (Hgrn.out (qR I a b hd) (kR I a b hd) (gR I a b hd) (vR I a b hd i) (row a t) : ℝ)
def sfin (a : Fin 2) (b : Fin 32) (hd : Fin 4) (k i : Fin 128) : EReal :=
  (Hgrn.S (kR I a b hd) (gR I a b hd) (vR I a b hd i) 8 k : ℝ)

/-! ## The gates, the norm and the routing -/

def oh (b : Fin 32) (t : Fin 256) (hd : Fin 4) (i : Fin 128) : EReal := od I 0 b hd t i + od I 1 b hd t i
def hgx (b : Fin 32) (t : Fin 256) (hd : Fin 4) (i : Fin 128) : EReal :=
  oh I b t hd i * rinv 1124073472#32 (oh I b t hd) * I.hgn i
    * (proj I b t ⟨3104 + (128 * hd + i), by omega⟩ * Ideal.logistic (proj I b t ⟨3104 + (128 * hd + i), by omega⟩))
def merged (b : Fin 32) (t : Fin 256) (d : Fin 1024) : EReal :=
  Ideal.logistic (proj I b t ⟨3616 + d, by omega⟩) * (∑ j, att I b t j * I.wo j d)
    + Ideal.logistic (proj I b t ⟨4640 + d, by omega⟩)
      * ∑ j : Fin 512, hgx I b t ⟨j / 128, by omega⟩ ⟨j % 128, by omega⟩ * I.who j d
def y (b : Fin 32) (t : Fin 256) (d : Fin 1024) : EReal :=
  Ideal.ofBits .f32 1066940400#32 * I.x b t d + I.md ⟨2048 + d, by omega⟩ * ∑ e, merged I b t e * I.wout e d
def cen (b : Fin 32) (t : Fin 256) (d : Fin 1024) : EReal :=
  y I b t d - Ideal.div (∑ e, y I b t e) (Ideal.ofBits .f32 1149239296#32)
def x1 (b : Fin 32) (t : Fin 256) (d : Fin 1024) : EReal :=
  cen I b t d * rinv 1149239296#32 (cen I b t) * I.lng d + I.lnb d
def h2 (b : Fin 32) (t : Fin 256) (d : Fin 1024) : EReal :=
  x1 I b t d * (1 + I.md ⟨4096 + d, by omega⟩) + I.md ⟨3072 + d, by omega⟩
def logit (b : Fin 32) (t : Fin 256) (e : Fin 16) : EReal := ∑ d, h2 I b t d * I.wr d e
def aff (b : Fin 32) (t : Fin 256) (e : Fin 16) : EReal :=
  Ideal.div (Ideal.exp (logit I b t e - Finset.univ.fold max ⊥ (logit I b t)))
    (∑ u, Ideal.exp (logit I b t u - Finset.univ.fold max ⊥ (logit I b t)))

/-! ## The arguments that have to be finite -/

/-- A number that is neither infinity. -/
def IsR (x : EReal) : Prop := ∃ r : ℝ, x = r

structure Inp.Fin (I : Inp) : Prop where
  x : ∀ b t d, IsR (I.x b t d)
  md : ∀ j : _root_.Fin 6144, j < 2048 → IsR (I.md j)
  win : ∀ d (j : _root_.Fin 5664), j < 3104 → IsR (I.win d j)
  qn : ∀ i, IsR (I.qn i)
  wuq : ∀ i j, IsR (I.wuq i j)
  kvn : ∀ i, IsR (I.kvn i)
  wukv : ∀ i (j : _root_.Fin 1024), j % 128 < 64 → IsR (I.wukv i j)
  gam : ∀ a c j, IsR (I.gam a c j)

end Cert.Spec

end
-- ==== Proof.Block.lean ====
module

public import proofs.«01_k».proof.Proof.Spec
public import proofs.«01_k».proof.Proof.Gen.KernelIdeal.Value
public import Idealize.ShloMosaic.Lib.Pointwise
public import Idealize.ShloMosaic.Lib.WholeRead

/-
What a grid point's input blocks hold of the arguments, and the memory-reference readings that every array of the body
starts from.
-/

@[expose] public section

set_option maxRecDepth 16384

noncomputable section

namespace Cert.Block

open Cert.KernelIdeal Cert.KernelIdeal.Gen Idealize.ShloMosaic Idealize.ShloMosaic.TcCoe Idealize.SL.Sem
open Cert.Spec

/-- A block row is a row of one of the point's two sequences. -/
def seq (g : Fin 16) (r : Fin 512) : Fin 32 := ⟨2 * g + r / 256, by omega⟩
def tm (r : Fin 512) : Fin 256 := ⟨r % 256, by omega⟩

/-- The input blocks of grid point `g` as functions of the arguments. -/
structure BlockIs (I : Inp) (g : Fin 16)
    (x0 : FVec Ideal S512x1024 .f32) (x1 : FVec Ideal S8x6144 .f32) (x2 : FVec Ideal S2x2x512 .f32)
    (x3 : FVec Ideal S5664x1024 .bf16) (x4 : FVec Ideal S1x768 .f32) (x5 : FVec Ideal S768x1024 .bf16)
    (x6 : FVec Ideal S1x256 .f32) (x7 : FVec Ideal S256x1024 .bf16) (x8 : FVec Ideal S256x512 .bf16)
    (x9 : FVec Ideal S1x128 .f32) (x10 x11 : FVec Ideal S512x1024 .bf16) (x12 : FVec Ideal S1024x1024 .bf16)
    (x13 x14 : FVec Ideal S1x1024 .f32) (x15 : FVec Ideal S16x1024 .bf16) : Prop where
  h0 : ∀ r d, x0 (ix2 r d) = I.x (seq g r) (tm r) d
  h1 : ∀ j, x1 (ix2 0 j) = I.md j
  h2 : ∀ a c j, x2 (ix3 a c j) = I.gam a c j
  h3 : ∀ j d, x3 (ix2 j d) = I.win d j
  h4 : ∀ j, x4 (ix2 0 j) = I.qn j
  h5 : ∀ i (l : Fin 1024), x5 (ix2 i l) = if hl : l.val % 128 < 96 then I.wuq i ⟨96 * (l / 128) + l % 128, by omega⟩ else 0
  h6 : ∀ j, x6 (ix2 0 j) = I.kvn j
  h7 : ∀ i (l : Fin 1024), x7 (ix2 i l) = if l.val % 128 < 64 then I.wukv i l else 0
  h8 : ∀ i (l : Fin 512), x8 (ix2 i l) = I.wukv i ⟨128 * (l / 64) + 64 + l % 64, by omega⟩
  h9 : ∀ j, x9 (ix2 0 j) = I.hgn j
  h10 : ∀ j d, x10 (ix2 j d) = I.wo j d
  h11 : ∀ j d, x11 (ix2 j d) = I.who j d
  h12 : ∀ j d, x12 (ix2 j d) = I.wout j d
  h13 : ∀ j, x13 (ix2 0 j) = I.lng j
  h14 : ∀ j, x14 (ix2 0 j) = I.lnb j
  h15 : ∀ e d, x15 (ix2 e d) = I.wr d e

/-- A load of a box of a whole buffer reads that slice of its contents. -/
theorem ra {sg : RefSig} {κ : Kind} {sp : Space} {s : Shape} {e : EltTy} {m : Memref sg κ sp s e} (hw : m.IsWhole)
    (X : s.Idx → Elt Ideal e) {off : Fin s.rank → ℕ} {size : Fin s.rank → ℕ} (inb : ∀ a, off a + size a ≤ s.size a) :
    View.readAt (Elt Ideal) m.view (Rect.unit off size inb).toLoadRect (hw.unread X)
      = extractStridedSlice ⟨s.rank, size⟩ off X ⟨rfl, inb⟩ := by
  funext x
  rw [hw.readAt_unread]
  exact congrFun (View.ld_unit X off size inb) x

end Cert.Block

end
-- ==== Proof.Masks.lean ====
module

public import proofs.«01_k».proof.Proof.Block
public import Idealize.ShloMosaic.Lib.WordCmp

/-
The integer masks of the recurrence, at a row and a lane.
-/

@[expose] public section

set_option maxRecDepth 16384

noncomputable section

namespace Cert.Masks

open Cert.KernelIdeal Cert.KernelIdeal.Gen Idealize.ShloMosaic Idealize.ShloMosaic.TcCoe Idealize.SL.Sem
open Cert.Spec Cert.Block

open Idealize.ShloMosaic.WordCmp

/-- A choice by a decided mask. -/
theorem sel {α : Type} (p : Prop) [Decidable p] (x y : α) : Scalar.select (BitVec.ofBool (decide p)) x y = if p then x else y := by
  unfold Scalar.select
  by_cases h : p <;> simp [h]

theorem and_ofBool (p q : Prop) [Decidable p] [Decidable q] :
    IntOp.andi (BitVec.ofBool (decide p)) (BitVec.ofBool (decide q)) = BitVec.ofBool (decide (p ∧ q)) := by
  by_cases h : p <;> by_cases k : q <;> simp [h, k] <;> rfl

theorem v849 (r : Fin 256) (j : Fin 512) : kernelRun0_A.sl.v849 (ix2 r j) = BitVec.ofNat 32 (r.val % 32) := by
  unfold kernelRun0_A.sl.v849 kernelRun0_A.sl.v848 kernelRun0_A.sl.v845 kernelRun0_A.sl.v841 kernelRun0_A.sl.v757 kernelRun0_A.sl.v771 kernelRun0_A.sl.v738 kernelRun0_A.sl.v686 kernelRun0_A.sl.v689
  pointwise
  revert r; decide +kernel
theorem v611 (r s : Fin 256) : kernelRun0_A.sl.v611 (ix2 r s) = BitVec.ofNat 32 (r.val / 32) := by
  unfold kernelRun0_A.sl.v611 kernelRun0_A.sl.v610 kernelRun0_A.sl.v607 kernelRun0_A.sl.v603 kernelRun0_A.sl.v602 kernelRun0_A.sl.v595 kernelRun0_A.sl.v592 kernelRun0_A.sl.v590 kernelRun0_A.sl.v588 kernelRun0_A.sl.v586
  pointwise
  revert r; decide +kernel
theorem v635 (r s : Fin 256) : kernelRun0_A.sl.v635 (ix2 r s) = BitVec.ofNat 32 (s.val / 32) := by
  unfold kernelRun0_A.sl.v635 kernelRun0_A.sl.v634 kernelRun0_A.sl.v631 kernelRun0_A.sl.v627 kernelRun0_A.sl.v619 kernelRun0_A.sl.v616 kernelRun0_A.sl.v602 kernelRun0_A.sl.v590 kernelRun0_A.sl.v588 kernelRun0_A.sl.v587
  pointwise
  revert s; decide +kernel
theorem v660 (r s : Fin 256) : kernelRun0_A.sl.v660 (ix2 r s) = BitVec.ofNat 32 (r.val / 64) := by
  unfold kernelRun0_A.sl.v660 kernelRun0_A.sl.v659 kernelRun0_A.sl.v656 kernelRun0_A.sl.v603 kernelRun0_A.sl.v602 kernelRun0_A.sl.v595 kernelRun0_A.sl.v592 kernelRun0_A.sl.v590 kernelRun0_A.sl.v637 kernelRun0_A.sl.v586
  pointwise
  revert r; decide +kernel
theorem v684 (r s : Fin 256) : kernelRun0_A.sl.v684 (ix2 r s) = BitVec.ofNat 32 (s.val / 64) := by
  unfold kernelRun0_A.sl.v684 kernelRun0_A.sl.v683 kernelRun0_A.sl.v680 kernelRun0_A.sl.v627 kernelRun0_A.sl.v619 kernelRun0_A.sl.v616 kernelRun0_A.sl.v602 kernelRun0_A.sl.v590 kernelRun0_A.sl.v637 kernelRun0_A.sl.v587
  pointwise
  revert s; decide +kernel
theorem v710 (r : Fin 256) (j : Fin 512) : kernelRun0_A.sl.v710 (ix2 r j) = BitVec.ofNat 32 (r.val / 64) := by
  unfold kernelRun0_A.sl.v710 kernelRun0_A.sl.v709 kernelRun0_A.sl.v706 kernelRun0_A.sl.v702 kernelRun0_A.sl.v701 kernelRun0_A.sl.v694 kernelRun0_A.sl.v691 kernelRun0_A.sl.v689 kernelRun0_A.sl.v687 kernelRun0_A.sl.v686
  pointwise
  revert r; decide +kernel
theorem v735 (r : Fin 256) (j : Fin 512) : kernelRun0_A.sl.v735 (ix2 r j) = BitVec.ofNat 32 (j.val / 128) := by
  unfold kernelRun0_A.sl.v735 kernelRun0_A.sl.v734 kernelRun0_A.sl.v731 kernelRun0_A.sl.v727 kernelRun0_A.sl.v719 kernelRun0_A.sl.v716 kernelRun0_A.sl.v712 kernelRun0_A.sl.v711 kernelRun0_A.sl.v701 kernelRun0_A.sl.v689
  pointwise
  revert j; decide +kernel
theorem v777 (r : Fin 256) (j : Fin 512) : kernelRun0_A.sl.v777 (ix2 r j) = BitVec.ofNat 32 (r.val / 32 % 2) := by
  unfold kernelRun0_A.sl.v777 kernelRun0_A.sl.v776 kernelRun0_A.sl.v773 kernelRun0_A.sl.v771 kernelRun0_A.sl.v769 kernelRun0_A.sl.v767 kernelRun0_A.sl.v764 kernelRun0_A.sl.v761 kernelRun0_A.sl.v760 kernelRun0_A.sl.v757 kernelRun0_A.sl.v738 kernelRun0_A.sl.v702 kernelRun0_A.sl.v701 kernelRun0_A.sl.v694 kernelRun0_A.sl.v691 kernelRun0_A.sl.v689 kernelRun0_A.sl.v686
  pointwise
  revert r; decide +kernel

/-- The same chunk, not after; and the same pair, in an earlier chunk. -/
theorem v781 (r s : Fin 256) : kernelRun0_A.sl.v781 (ix2 r s) = BitVec.ofBool (decide (r.val / 32 = s.val / 32 ∧ s.val ≤ r.val)) := by
  unfold kernelRun0_A.sl.v781 kernelRun0_A.sl.v587 kernelRun0_A.sl.v586
  pointwise
  rw [v611, v635, cmpi_eq_ofNat (by omega) (by omega), cmpi_sle_ofNat (by omega) (by omega), and_ofBool]
theorem v831 (r s : Fin 256) : kernelRun0_A.sl.v831 (ix2 r s) = BitVec.ofBool (decide (r.val / 64 = s.val / 64 ∧ s.val / 32 < r.val / 32)) := by
  unfold kernelRun0_A.sl.v831
  pointwise
  rw [v611, v635, v660, v684, cmpi_eq_ofNat (by omega) (by omega), cmpi_sgt_ofNat (by omega) (by omega), and_ofBool]
/-- Their mirror images. -/
theorem v1509 (r s : Fin 256) : kernelRun0_A.sl.v1509 (ix2 r s) = BitVec.ofBool (decide (r.val / 32 = s.val / 32 ∧ r.val ≤ s.val)) := by
  unfold kernelRun0_A.sl.v1509 kernelRun0_A.sl.v587 kernelRun0_A.sl.v586
  pointwise
  rw [v611, v635, cmpi_eq_ofNat (by omega) (by omega), cmpi_sge_ofNat (by omega) (by omega), and_ofBool]
theorem v1559 (r s : Fin 256) : kernelRun0_A.sl.v1559 (ix2 r s) = BitVec.ofBool (decide (r.val / 64 = s.val / 64 ∧ r.val / 32 < s.val / 32)) := by
  unfold kernelRun0_A.sl.v1559
  pointwise
  rw [v611, v635, v660, v684, cmpi_eq_ofNat (by omega) (by omega), cmpi_slt_ofNat (by omega) (by omega), and_ofBool]

/-- The chunk is odd; its negation; and a lane's pair is the row's. -/
theorem odd (r : Fin 256) (j : Fin 512) :
    cmpi .eq kernelRun0_A.sl.v777 kernelRun0_A.sl.v701 (ix2 r j) = BitVec.ofBool (decide (r.val / 32 % 2 = 1)) := by
  unfold kernelRun0_A.sl.v701
  pointwise
  rw [v777, cmpi_eq_ofNat (by omega) (by omega)]
theorem v1560 (r : Fin 256) (j : Fin 512) : kernelRun0_A.sl.v1560 (ix2 r j) = BitVec.ofBool (decide (¬ r.val / 32 % 2 = 1)) := by
  have h := odd r j
  unfold kernelRun0_A.sl.v701 at h
  unfold kernelRun0_A.sl.v1560 kernelRun0_A.sl.v701
  pointwise [kernelRun0_A.sl.cst_707] at h ⊢
  rw [h]
  by_cases k : r.val / 32 % 2 = 1 <;> simp [k] <;> rfl
theorem pairLane (r : Fin 256) (j : Fin 512) :
    cmpi .eq kernelRun0_A.sl.v710 kernelRun0_A.sl.v735 (ix2 r j) = BitVec.ofBool (decide (r.val / 64 = j.val / 128)) := by
  pointwise
  rw [v710, v735, cmpi_eq_ofNat (by omega) (by omega)]

end Cert.Masks

end
-- ==== Proof.KScan.lean ====
module

public import proofs.«01_k».proof.Proof.Masks

/-
The vector functions that the body applies for each sequence and direction of the recurrence, and for each head: the
running sums of the log decays inside a chunk by doubling, the decayed queries and keys, and a head's output and states
by pairs of chunks. Each is read at an index against the recurrence over the reals.
-/

@[expose] public section

set_option maxRecDepth 16384

noncomputable section

namespace Cert.KScan

open Cert.KernelIdeal Cert.KernelIdeal.Gen Idealize.ShloMosaic Idealize.ShloMosaic.TcCoe Idealize.SL.Sem
open Cert.Spec Cert.Block

open Finset

/-! ## Sums of real numbers inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem coe_ite (p : Prop) [Decidable p] (x y : ℝ) : ((if p then x else y : ℝ) : EReal) = if p then (x : EReal) else y := by
  split <;> rfl

theorem win_coe (x : ℕ → ℝ) (n t : ℕ) : Hgrn.win (fun m => (x m : EReal)) n t = (Hgrn.win x n t : ℝ) := by
  unfold Hgrn.win
  rw [coe_sum]
  refine sum_congr rfl fun i _ => ?_
  split <;> simp

/-! ## The time of a row -/

/-- The time at which direction `a` visits row `r`. -/
noncomputable def tau (a : Fin 2) (r : Fin 256) : ℕ := (row a r).val

theorem tau_zero (r : Fin 256) : tau 0 r = r.val := by
  unfold tau row; rw [if_pos rfl]; exact Nat.mod_eq_of_lt r.isLt
theorem tau_one (r : Fin 256) : tau 1 r = 255 - r.val := by
  unfold tau row; rw [if_neg (by decide)]; show 255 - r.val % 256 = _; rw [Nat.mod_eq_of_lt r.isLt]
theorem tau_lt (a : Fin 2) (r : Fin 256) : tau a r < 256 := (row a r).isLt
theorem row_tau (a : Fin 2) (r : Fin 256) : row a (tau a r) = r := by
  obtain rfl | rfl : a = 0 ∨ a = 1 := by fin_cases a <;> simp
  · rw [tau_zero]; unfold row; rw [if_pos rfl]; exact Fin.ext (Nat.mod_eq_of_lt r.isLt)
  · rw [tau_one]; unfold row; rw [if_neg (by decide)]; apply Fin.ext; show 255 - (255 - r.val) % 256 = r.val; omega
theorem tau_row (a : Fin 2) (n : ℕ) (h : n < 256) : tau a (row a n) = n := by
  obtain rfl | rfl : a = 0 ∨ a = 1 := by fin_cases a <;> simp
  · rw [tau_zero]; unfold row; rw [if_pos rfl]; exact Nat.mod_eq_of_lt h
  · rw [tau_one]; unfold row; rw [if_neg (by decide)]; show 255 - (255 - n % 256) = n; omega

/-- A sum over the rows is the sum over the times. -/
theorem sum_rows {A : Type} [AddCommMonoid A] (a : Fin 2) (f : ℕ → A) : ∑ r : Fin 256, f (tau a r) = ∑ n ∈ range 256, f n := by
  rw [← Fin.sum_univ_eq_sum_range]
  refine Finset.sum_bij' (fun r _ => row a r) (fun r _ => row a r) (fun _ _ => mem_univ _) (fun _ _ => mem_univ _) ?_ ?_ ?_
  · intro r _; exact row_tau a r
  · intro r _; exact row_tau a r
  · intro r _; rfl

/-! ## The running sums -/

/-- One doubling step of the running sum down the rows of each chunk, and up them. -/
noncomputable def stepF (n : BitVec 32) (A : FVec Ideal S256x512 .f32) : FVec Ideal S256x512 .f32 :=
  addf A (select (cmpi .sge kernelRun0_A.sl.v849 (broadcast S256x512 n)) (dynamicRotate 0 n none A rotates_S256x512_d0) kernelRun0_A.sl.v853)
noncomputable def stepB (n n' : BitVec 32) (A : FVec Ideal S256x512 .f32) : FVec Ideal S256x512 .f32 :=
  addf A (select (cmpi .slt kernelRun0_A.sl.v849 (broadcast S256x512 n')) (dynamicRotate 0 n none A rotates_S256x512_d0) kernelRun0_A.sl.v853)
noncomputable def scanF (A : FVec Ideal S256x512 .f32) : FVec Ideal S256x512 .f32 :=
  stepF 16#32 (stepF 8#32 (stepF 4#32 (stepF 2#32 (stepF 1#32 A))))
noncomputable def scanB (A : FVec Ideal S256x512 .f32) : FVec Ideal S256x512 .f32 :=
  stepB 240#32 16#32 (stepB 248#32 24#32 (stepB 252#32 28#32 (stepB 254#32 30#32 (stepB 255#32 31#32 A))))

theorem stepF_apply (n : ℕ) (hn : n < 32) (A : FVec Ideal S256x512 .f32) (f : ℕ → EReal) (j : Fin 512)
    (hA : ∀ r, A (ix2 r j) = Hgrn.win f n (tau 0 r)) (r : Fin 256) :
    stepF (BitVec.ofNat 32 n) A (ix2 r j) = Hgrn.win f (n + n) (tau 0 r) := by
  have hr := r.isLt
  have e : (BitVec.ofNat 32 n).toNat % 256 = n := by
    rw [BitVec.toNat_ofNat, Nat.mod_eq_of_lt (by omega), Nat.mod_eq_of_lt (by omega)]
  unfold stepF kernelRun0_A.sl.v853
  pointwise [kernelRun0_A.sl.cst_27]
  rw [Masks.v849, WordCmp.cmpi_sge_ofNat (by omega) (by omega), Masks.sel, Hgrn.win_double _ _ _ hn, hA, hA, tau_zero, tau_zero]
  refine congrArg₂ _ rfl (if_ctx_congr Iff.rfl (fun h => congrArg _ ?_) fun _ => rfl)
  show (r.val + 256 - (BitVec.ofNat 32 n).toNat % 256) % 256 = r.val - n
  rw [e]
  omega

theorem stepB_apply (n : ℕ) (h0 : 0 < n) (hn : n < 32) (A : FVec Ideal S256x512 .f32) (f : ℕ → EReal) (j : Fin 512)
    (hA : ∀ r, A (ix2 r j) = Hgrn.win f n (tau 1 r)) (r : Fin 256) :
    stepB (BitVec.ofNat 32 (256 - n)) (BitVec.ofNat 32 (32 - n)) A (ix2 r j) = Hgrn.win f (n + n) (tau 1 r) := by
  have hr := r.isLt
  have e : (BitVec.ofNat 32 (256 - n)).toNat % 256 = 256 - n := by
    rw [BitVec.toNat_ofNat, Nat.mod_eq_of_lt (by omega), Nat.mod_eq_of_lt (by omega)]
  unfold stepB kernelRun0_A.sl.v853
  pointwise [kernelRun0_A.sl.cst_27]
  rw [Masks.v849, WordCmp.cmpi_slt_ofNat (by omega) (by omega), Masks.sel, Hgrn.win_double _ _ _ hn, hA, hA, tau_one, tau_one]
  refine congrArg₂ _ rfl (if_ctx_congr ?_ (fun h => congrArg _ ?_) fun _ => rfl)
  · constructor <;> intro h <;> omega
  · show 255 - (r.val + 256 - (BitVec.ofNat 32 (256 - n)).toNat % 256) % 256 = 255 - r.val - n
    rw [e]
    omega

/-- The running sum at a row is the sum of its chunk's entries up to the row's time. -/
theorem scanF_apply (A : FVec Ideal S256x512 .f32) (f : ℕ → EReal) (j : Fin 512)
    (hA : ∀ r, A (ix2 r j) = f (tau 0 r)) (r : Fin 256) : scanF A (ix2 r j) = Hgrn.cum f (tau 0 r) := by
  unfold scanF
  rw [← Hgrn.win_full]
  exact stepF_apply 16 (by omega) _ f j (stepF_apply 8 (by omega) _ f j (stepF_apply 4 (by omega) _ f j
    (stepF_apply 2 (by omega) _ f j (stepF_apply 1 (by omega) _ f j fun r => by rw [hA, Hgrn.win_one])))) r
theorem scanB_apply (A : FVec Ideal S256x512 .f32) (f : ℕ → EReal) (j : Fin 512)
    (hA : ∀ r, A (ix2 r j) = f (tau 1 r)) (r : Fin 256) : scanB A (ix2 r j) = Hgrn.cum f (tau 1 r) := by
  unfold scanB
  rw [← Hgrn.win_full]
  exact stepB_apply 16 (by omega) (by omega) _ f j (stepB_apply 8 (by omega) (by omega) _ f j
    (stepB_apply 4 (by omega) (by omega) _ f j (stepB_apply 2 (by omega) (by omega) _ f j
      (stepB_apply 1 (by omega) (by omega) _ f j fun r => by rw [hA, Hgrn.win_one])))) r

/-! ## The chunk sums -/

/-- The last (first) row of each chunk, at every row of the chunk; and the value of the pair's other chunk. -/
noncomputable def totF (A : FVec Ideal S256x512 .f32) : FVec Ideal S256x512 .f32 :=
  shapeCast S256x512 (broadcastTo S8x32x512 (shapeCast S8x1x512 (extractStridedSlice S8x1x512 ![0, 31, 0]
    (shapeCast S8x32x512 A shapeCasts_S256x512_S8x32x512) slices_S8x32x512_o0_31_0_S8x1x512) shapeCasts_S8x1x512_S8x1x512)
    broadcasts_S8x1x512_S8x32x512) shapeCasts_S8x32x512_S256x512
noncomputable def totB (A : FVec Ideal S256x512 .f32) : FVec Ideal S256x512 .f32 :=
  shapeCast S256x512 (broadcastTo S8x32x512 (shapeCast S8x1x512 (extractStridedSlice S8x1x512 ![0, 0, 0]
    (shapeCast S8x32x512 A shapeCasts_S256x512_S8x32x512) slices_S8x32x512_o0_0_0_S8x1x512) shapeCasts_S8x1x512_S8x1x512)
    broadcasts_S8x1x512_S8x32x512) shapeCasts_S8x32x512_S256x512
noncomputable def part (T : FVec Ideal S256x512 .f32) : FVec Ideal S256x512 .f32 :=
  select (cmpi .eq kernelRun0_A.sl.v777 kernelRun0_A.sl.v701) (dynamicRotate 0 32#32 none T rotates_S256x512_d0) (dynamicRotate 0 224#32 none T rotates_S256x512_d0)

theorem totF_apply (A : FVec Ideal S256x512 .f32) (f : ℕ → EReal) (j : Fin 512)
    (hA : ∀ r, A (ix2 r j) = Hgrn.cum f (tau 0 r)) (r : Fin 256) : totF A (ix2 r j) = Hgrn.tot f (tau 0 r / 32) := by
  have hr := r.isLt
  unfold totF
  pointwise
  rw [hA, ← Hgrn.cum_last, tau_zero, tau_zero]
  refine congrArg _ ?_
  dsimp only
  omega
theorem totB_apply (A : FVec Ideal S256x512 .f32) (f : ℕ → EReal) (j : Fin 512)
    (hA : ∀ r, A (ix2 r j) = Hgrn.cum f (tau 1 r)) (r : Fin 256) : totB A (ix2 r j) = Hgrn.tot f (tau 1 r / 32) := by
  have hr := r.isLt
  unfold totB
  pointwise
  rw [hA, ← Hgrn.cum_last, tau_one, tau_one]
  refine congrArg _ ?_
  dsimp only
  omega
theorem part_apply (a : Fin 2) (T : FVec Ideal S256x512 .f32) (F : ℕ → EReal) (j : Fin 512)
    (hT : ∀ r, T (ix2 r j) = F (tau a r / 32)) (r : Fin 256) : part T (ix2 r j) = F (Hgrn.partner (tau a r / 32)) := by
  have hr := r.isLt
  have ho := Masks.odd r j
  unfold part
  pointwise at ho ⊢
  rw [ho, Masks.sel, hT, hT]
  unfold Hgrn.partner
  obtain rfl | rfl : a = 0 ∨ a = 1 := by fin_cases a <;> simp
  · rw [tau_zero, tau_zero, tau_zero]
    split
    · refine congrArg F ?_; dsimp only; omega
    · refine congrArg F ?_; dsimp only; omega
  · rw [tau_one, tau_one, tau_one]
    by_cases h : r.val / 32 % 2 = 1
    · rw [if_pos h, if_neg (by omega)]; refine congrArg F ?_; dsimp only; omega
    · rw [if_neg h, if_pos (by omega)]; refine congrArg F ?_; dsimp only; omega

/-! ## The decayed queries and keys -/

/-- The kernel's mask of the rows whose chunk is the second of its pair, in the order of direction `a`. -/
noncomputable def second (a : Fin 2) : IVec S256x512 1 := if a = 0 then cmpi .eq kernelRun0_A.sl.v777 kernelRun0_A.sl.v701 else kernelRun0_A.sl.v1560
theorem second_apply (a : Fin 2) (r : Fin 256) (j : Fin 512) :
    second a (ix2 r j) = BitVec.ofBool (decide (tau a r / 32 % 2 = 1)) := by
  have hr := r.isLt
  obtain rfl | rfl : a = 0 ∨ a = 1 := by fin_cases a <;> simp
  · unfold second; rw [if_pos rfl, Masks.odd, tau_zero]
  · unfold second; rw [if_neg (by decide), Masks.v1560, tau_one]
    congr 1
    rw [decide_eq_decide]
    omega

noncomputable def qdV (q C : FVec Ideal S256x512 .f32) : FVec Ideal S256x512 .f32 := mulf q (exp C)
noncomputable def kdV (k C : FVec Ideal S256x512 .f32) : FVec Ideal S256x512 .f32 := mulf k (exp (subf kernelRun0_A.sl.v853 C))
noncomputable def keV (k T C : FVec Ideal S256x512 .f32) : FVec Ideal S256x512 .f32 := mulf k (exp (subf T C))
noncomputable def qd2V (m : IVec S256x512 1) (qd T' : FVec Ideal S256x512 .f32) : FVec Ideal S256x512 .f32 := select m (mulf qd (exp T')) qd
noncomputable def ke2V (m : IVec S256x512 1) (ke T' : FVec Ideal S256x512 .f32) : FVec Ideal S256x512 .f32 := select m ke (mulf ke (exp T'))

theorem exp_coe (x : ℝ) : Ideal.exp (x : EReal) = (Real.exp x : ℝ) := rfl

section

variable (a : Fin 2) (qr kr gr : ℕ → Fin 512 → ℝ)
variable (q k C T T' : FVec Ideal S256x512 .f32)

theorem qdV_apply (hq : ∀ r j, q (ix2 r j) = (qr (tau a r) j : ℝ)) (hC : ∀ r j, C (ix2 r j) = (Hgrn.C gr (tau a r) j : ℝ))
    (r : Fin 256) (j : Fin 512) : qdV q C (ix2 r j) = (Hgrn.qd qr gr (tau a r) j : ℝ) := by
  unfold qdV
  pointwise
  rw [hq, hC, exp_coe, ← EReal.coe_mul]
  rfl
theorem kdV_apply (hk : ∀ r j, k (ix2 r j) = (kr (tau a r) j : ℝ)) (hC : ∀ r j, C (ix2 r j) = (Hgrn.C gr (tau a r) j : ℝ))
    (r : Fin 256) (j : Fin 512) : kdV k C (ix2 r j) = (Hgrn.kd kr gr (tau a r) j : ℝ) := by
  unfold kdV kernelRun0_A.sl.v853
  pointwise [kernelRun0_A.sl.cst_27]
  rw [hk, hC, zero_sub, ← EReal.coe_neg, exp_coe, ← EReal.coe_mul]
  rfl
theorem keV_apply (hk : ∀ r j, k (ix2 r j) = (kr (tau a r) j : ℝ)) (hC : ∀ r j, C (ix2 r j) = (Hgrn.C gr (tau a r) j : ℝ))
    (hT : ∀ r j, T (ix2 r j) = (Hgrn.T gr (tau a r / 32) j : ℝ))
    (r : Fin 256) (j : Fin 512) : keV k T C (ix2 r j) = (Hgrn.ke kr gr (tau a r) j : ℝ) := by
  unfold keV
  pointwise
  rw [hk, hC, hT, ← EReal.coe_sub, exp_coe, ← EReal.coe_mul]
  rfl
theorem qd2V_apply (hq : ∀ r j, q (ix2 r j) = (Hgrn.qd qr gr (tau a r) j : ℝ))
    (hT : ∀ r j, T' (ix2 r j) = (Hgrn.T gr (Hgrn.partner (tau a r / 32)) j : ℝ))
    (r : Fin 256) (j : Fin 512) : qd2V (second a) q T' (ix2 r j) = (Hgrn.qd2 qr gr (tau a r) j : ℝ) := by
  unfold qd2V
  pointwise
  rw [hq, hT, second_apply, Masks.sel, exp_coe, ← EReal.coe_mul, ← coe_ite]
  rfl
theorem ke2V_apply (hk : ∀ r j, k (ix2 r j) = (Hgrn.ke kr gr (tau a r) j : ℝ))
    (hT : ∀ r j, T' (ix2 r j) = (Hgrn.T gr (Hgrn.partner (tau a r / 32)) j : ℝ))
    (r : Fin 256) (j : Fin 512) : ke2V (second a) k T' (ix2 r j) = (Hgrn.ke2 kr gr (tau a r) j : ℝ) := by
  unfold ke2V
  pointwise
  rw [hk, hT, second_apply, Masks.sel, exp_coe, ← EReal.coe_mul, ← coe_ite]
  rfl

end

end Cert.KScan

end
-- ==== Proof.Reals.lean ====
module

public import proofs.«01_k».proof.Proof.KScan

/-
Which of the mixer's entries are real numbers when the named arguments are finite.
-/

@[expose] public section

set_option maxRecDepth 16384

noncomputable section

namespace Cert.Spec

open Cert.KernelIdeal Cert.KernelIdeal.Gen Idealize.ShloMosaic Idealize.ShloMosaic.TcCoe Idealize.SL.Sem
open Cert.Block

/-! ## Closure -/

theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.one : IsR 1 := ⟨1, rfl⟩
theorem IsR.zero : IsR 0 := ⟨0, rfl⟩
theorem IsR.sum {n : ℕ} {f : _root_.Fin n → EReal} (h : ∀ i, IsR (f i)) : IsR (∑ i, f i) := by
  choose g hg using h
  refine ⟨∑ i, g i, ?_⟩
  rw [KScan.coe_sum]
  exact Finset.sum_congr rfl fun i _ => hg i
theorem IsR.coe {x : EReal} (h : IsR x) : x = (x.toReal : ℝ) := by obtain ⟨a, rfl⟩ := h; rfl
theorem IsR.maxx {x y : EReal} (hx : IsR x) (hy : IsR y) : IsR (max x y) := by
  rcases max_choice x y with h | h <;> rw [h] <;> assumption

/-- The logistic function of a real number. -/
theorem logistic_coe (x : ℝ) : Ideal.logistic (x : EReal) = ((1 + Real.exp (-x))⁻¹ : ℝ) := by
  have h : (1 + Real.exp (-x)) ≠ 0 := by positivity
  show Ideal.div 1 (1 + Ideal.exp (-(x : EReal))) = _
  rw [← EReal.coe_neg, KScan.exp_coe, ← EReal.coe_one, ← EReal.coe_add, Ideal.div_coe h, ← EReal.coe_mul, one_mul, one_div]
theorem logistic_mem {x : EReal} (h : IsR x) : ∃ s : ℝ, Ideal.logistic x = s ∧ 0 < s ∧ s < 1 := by
  obtain ⟨a, rfl⟩ := h
  have := Real.exp_pos (-a)
  exact ⟨_, logistic_coe a, by positivity, inv_lt_one_of_one_lt₀ (by linarith)⟩

/-- The constants of the norms are positive numbers. -/
theorem bits_eps : ∃ k : ℝ, Ideal.ofBits .f32 897988541#32 = k ∧ 0 < k :=
  ⟨8796093 * 2 ^ (-43 : ℤ), by simp [Ideal.ofBits, Ideal.ieee, -EReal.coe_mul], by positivity⟩
theorem bits_768 : ∃ k : ℝ, Ideal.ofBits .f32 1145044992#32 = k ∧ 0 < k :=
  ⟨768, by simp [Ideal.ofBits, Ideal.ieee, -EReal.coe_mul]; norm_num, by positivity⟩
theorem bits_256 : ∃ k : ℝ, Ideal.ofBits .f32 1132462080#32 = k ∧ 0 < k :=
  ⟨256, by simp [Ideal.ofBits, Ideal.ieee, -EReal.coe_mul]; norm_num, by positivity⟩

/-- The factor of a norm over real entries is real. -/
theorem IsR.rinv {n : ℕ} {c : BitVec 32} (hc : ∃ k : ℝ, Ideal.ofBits .f32 c = k ∧ 0 < k) {f : _root_.Fin n → EReal} (h : ∀ i, IsR (f i)) :
    IsR (Spec.rinv c f) := by
  choose g hg using h
  obtain ⟨k, hk, hk0⟩ := hc
  unfold Spec.rinv
  obtain ⟨e, he, he0⟩ := bits_eps
  have hs : (∑ j, f j * f j) = (∑ j, g j * g j : ℝ) := by
    rw [KScan.coe_sum]
    exact Finset.sum_congr rfl fun i _ => by rw [hg, EReal.coe_mul]
  have hp : 0 ≤ ∑ j, g j * g j := Finset.sum_nonneg fun i _ => mul_self_nonneg _
  rw [hk, he, hs, Ideal.div_coe hk0.ne', one_div, ← EReal.coe_mul, ← EReal.coe_add]
  have h0 : 0 < (∑ j, g j * g j) * k⁻¹ + e := by positivity
  exact ⟨(Real.sqrt ((∑ j, g j * g j) * k⁻¹ + e))⁻¹, by rw [Ideal.rsqrt_coe, if_neg (not_lt.mpr h0.le), if_neg h0.ne']⟩

/-! ## The mixer's entries -/

section

variable {I : Inp} (hI : I.Fin)
include hI

theorem h_isR (b : _root_.Fin 32) (t : _root_.Fin 256) (d : _root_.Fin 1024) : IsR (h I b t d) :=
  ((hI.x b t d).mul (IsR.one.add (hI.md _ (by show 1024 + d.val < _; omega)))).add (hI.md _ (by show d.val < _; omega))
theorem proj_isR (b : _root_.Fin 32) (t : _root_.Fin 256) (j : _root_.Fin 5664) (hj : j.val < 3104) : IsR (proj I b t j) :=
  IsR.sum fun d => (h_isR hI b t d).mul (hI.win d j hj)

theorem lb_mem (a : _root_.Fin 2) (j : _root_.Fin 512) : ∃ s : ℝ, lb I a j = s ∧ 0 < s ∧ s < 1 := by
  obtain ⟨x, hx⟩ := hI.gam a 0 j
  obtain ⟨y, hy⟩ := hI.gam a 1 j
  obtain ⟨m, hm⟩ := (hI.gam a 0 j).maxx (hI.gam a 1 j)
  unfold lb
  rw [hm, hx, hy, ← EReal.coe_sub, ← EReal.coe_sub, KScan.exp_coe, KScan.exp_coe, ← EReal.coe_add]
  have h1 := Real.exp_pos (x - m)
  have h2 := Real.exp_pos (y - m)
  rw [Ideal.div_coe (by positivity), ← EReal.coe_mul]
  refine ⟨_, rfl, by positivity, ?_⟩
  rw [one_div, ← div_eq_mul_inv, div_lt_one (by positivity)]
  linarith
theorem ff_mem (a : _root_.Fin 2) (b : _root_.Fin 32) (t : _root_.Fin 256) (j : _root_.Fin 512) : ∃ s : ℝ, ff I a b t j = s ∧ 0 < s ∧ s < 1 := by
  obtain ⟨l, hl, l0, l1⟩ := lb_mem hI a j
  obtain ⟨s, hs, s0, s1⟩ := logistic_mem (proj_isR hI b t ⟨1568 + 512 * a + j, by omega⟩ (by simp only; omega))
  unfold ff
  rw [hl, hs, ← EReal.coe_one, ← EReal.coe_sub, ← EReal.coe_mul, ← EReal.coe_add]
  refine ⟨_, rfl, ?_, ?_⟩ <;> nlinarith [mul_pos l0 s0, mul_pos (sub_pos.mpr l1) s0, mul_pos (sub_pos.mpr l1) (sub_pos.mpr s1)]
theorem lf_isR (a : _root_.Fin 2) (b : _root_.Fin 32) (t : _root_.Fin 256) (j : _root_.Fin 512) : IsR (lf I a b t j) := by
  obtain ⟨s, hs, s0, s1⟩ := ff_mem hI a b t j
  unfold lf
  rw [hs]
  exact ⟨Real.log s, by rw [Ideal.log_coe, if_neg (not_le.mpr s0)]⟩
theorem hk_isR (a : _root_.Fin 2) (b : _root_.Fin 32) (t : _root_.Fin 256) (j : _root_.Fin 512) : IsR (hk I a b t j) := by
  obtain ⟨s, hs, s0, s1⟩ := ff_mem hI a b t j
  exact IsR.one.sub ⟨s, hs⟩
theorem sq_isR (b : _root_.Fin 32) (t : _root_.Fin 256) (j : _root_.Fin 512) : IsR (sq I b t j) := by
  have hp := proj_isR hI b t ⟨1056 + j, by omega⟩ (by simp only; omega)
  obtain ⟨s, hs, _⟩ := logistic_mem hp
  exact hp.mul ⟨s, hs⟩
theorem hv_isR (b : _root_.Fin 32) (t : _root_.Fin 256) (j : _root_.Fin 512) : IsR (hv I b t j) :=
  proj_isR hI b t ⟨2592 + j, by omega⟩ (by simp only; omega)

theorem q_isR (b : _root_.Fin 32) (t : _root_.Fin 256) (l : _root_.Fin 768) : IsR (q I b t l) := by
  have hc : ∀ i, IsR (cqr I b t i) := fun i => proj_isR hI b t _ (by show i.val < _; omega)
  exact IsR.sum fun i => (((hc i).mul (IsR.rinv bits_768 hc)).mul (hI.qn i)).mul (hI.wuq i l)
theorem ckv_isR (b : _root_.Fin 32) (t : _root_.Fin 256) (l : _root_.Fin 256) : IsR (ckv I b t l) := by
  have hc : ∀ i, IsR (ckr I b t i) := fun i => proj_isR hI b t _ (by simp only; omega)
  exact ((hc l).mul (IsR.rinv bits_256 hc)).mul (hI.kvn l)
theorem kpe_isR (b : _root_.Fin 32) (t : _root_.Fin 256) (r : _root_.Fin 32) : IsR (kpe I b t r) :=
  proj_isR hI b t _ (by simp only; omega)
theorem kh_isR (b : _root_.Fin 32) (t : _root_.Fin 256) (hd : _root_.Fin 8) (e : _root_.Fin 64) : IsR (kh I b t hd e) :=
  IsR.sum fun i => (ckv_isR hI b t i).mul (hI.wukv i _ (by show (128 * hd.val + e.val) % 128 < 64; omega))
theorem score_isR (b : _root_.Fin 32) (hd : _root_.Fin 8) (t t' : _root_.Fin 256) : IsR (score I b hd t t') :=
  (IsR.sum fun e => (q_isR hI b t _).mul (kh_isR hI b t' hd e)).add (IsR.sum fun e => (q_isR hI b t _).mul (kpe_isR hI b t' e))

end

end Cert.Spec

end
-- ==== Proof.KSoft.lean ====
module

public import proofs.«01_k».proof.Proof.Masks
public import proofs.«01_k».proof.Proof.Reals

/-
A softmax written with powers of two and one division at the end is the softmax of the scaled scores; and the kernel's
attention of one head as a function of its query, key and value blocks.
-/

@[expose] public section

set_option maxRecDepth 16384

noncomputable section

namespace Cert.KSoft

open Cert.KernelIdeal Cert.KernelIdeal.Gen Idealize.ShloMosaic Idealize.ShloMosaic.TcCoe Idealize.SL.Sem
open Cert.Spec Cert.Block

/-! ## Powers of two against exponentials -/

theorem fold_coe {n : ℕ} [NeZero n] (f : Fin n → ℝ) :
    ∃ m : ℝ, (Finset.univ.fold max ⊥ fun u => (f u : EReal)) = m ∧ (∀ u, f u ≤ m) ∧ ∃ u, f u = m := by
  obtain ⟨u, -, hu⟩ := Finset.exists_max_image (Finset.univ : Finset (Fin n)) f ⟨0, Finset.mem_univ _⟩
  refine ⟨f u, le_antisymm ?_ ?_, fun v => hu v (Finset.mem_univ _), u, rfl⟩
  · exact (Finset.fold_max_le _).mpr ⟨bot_le, fun v _ => EReal.coe_le_coe_iff.mpr (hu v (Finset.mem_univ _))⟩
  · exact (Finset.le_fold_max _).mpr (Or.inr ⟨u, Finset.mem_univ _, le_rfl⟩)

theorem sum_mul_coe {n : ℕ} (f : Fin n → EReal) (r : ℝ) (hr : 0 ≤ r) : (∑ i, f i) * (r : EReal) = ∑ i, f i * r := by
  have h : ∀ s : Finset (Fin n), (∑ i ∈ s, f i) * (r : EReal) = ∑ i ∈ s, f i * r := by
    intro s
    induction s using Finset.induction_on with
    | empty => simp
    | insert a s ha ih =>
      rw [Finset.sum_insert ha, Finset.sum_insert ha,
        EReal.right_distrib_of_nonneg_of_ne_top (EReal.coe_nonneg.mpr hr) (EReal.coe_ne_top r), ih]
  exact h _

theorem exp2_coe (x : ℝ) : Ideal.exp2 (x : EReal) = (Real.rpow 2 x : ℝ) := rfl

/-- The reference's scale is the reciprocal of the square root of 96. -/
theorem rsqrt96 : Ideal.rsqrt (Ideal.ofBits .f32 1119879168#32) = ((Real.sqrt 96)⁻¹ : ℝ) := by
  have h : Ideal.ofBits .f32 1119879168#32 = ((96 : ℝ) : EReal) := by
    simp [Ideal.ofBits, Ideal.ieee, -EReal.coe_mul]; norm_num
  rw [h, Ideal.rsqrt_coe]
  norm_num

theorem pow2 (x : ℝ) : Real.rpow 2 (x * ((Real.sqrt 96)⁻¹ * (Real.log 2)⁻¹)) = Real.exp (x * (Real.sqrt 96)⁻¹) := by
  have h : Real.log 2 ≠ 0 := (Real.log_pos (by norm_num)).ne'
  rw [Real.rpow_eq_pow]
  rw [Real.rpow_def_of_pos (by norm_num)]
  congr 1
  field_simp

theorem soft {n : ℕ} [NeZero n] (s : Fin n → EReal) (hs : ∀ u, IsR (s u)) (v : Fin n → EReal) (κ : EReal)
    (hκ : κ = (((Real.sqrt 96)⁻¹ * (Real.log 2)⁻¹ : ℝ) : EReal)) :
    Ideal.div (∑ t, Ideal.exp2 ((s t - Finset.univ.fold max ⊥ s) * κ) * v t)
      (∑ t, Ideal.exp2 ((s t - Finset.univ.fold max ⊥ s) * κ))
      = softAvg (Ideal.rsqrt (Ideal.ofBits .f32 1119879168#32)) s v := by
  choose f hf using hs
  obtain rfl : s = fun u => (f u : EReal) := funext hf
  have hc : 0 < (Real.sqrt 96)⁻¹ := by positivity
  obtain ⟨m, hm, hle, u, hu⟩ := fold_coe f
  obtain ⟨m', hm', hle', u', hu'⟩ := fold_coe fun u => f u * (Real.sqrt 96)⁻¹
  have hmm : m' = m * (Real.sqrt 96)⁻¹ := by
    refine le_antisymm ?_ ?_
    · rw [← hu']; exact mul_le_mul_of_nonneg_right (hle u') hc.le
    · rw [← hu]; exact hle' u
  unfold softAvg
  subst hκ
  rw [rsqrt96]
  simp only [← EReal.coe_mul]
  rw [hm, hm', hmm]
  simp only [← EReal.coe_sub, ← EReal.coe_mul, exp2_coe, pow2, KScan.exp_coe]
  have hx : ∀ t, Real.exp (f t * (Real.sqrt 96)⁻¹ - m * (Real.sqrt 96)⁻¹) = Real.exp ((f t - m) * (Real.sqrt 96)⁻¹) :=
    fun t => by rw [sub_mul]
  simp only [hx, ← KScan.coe_sum]
  have hZ : 0 < ∑ t, Real.exp ((f t - m) * (Real.sqrt 96)⁻¹) :=
    Finset.sum_pos (fun _ _ => Real.exp_pos _) ⟨0, Finset.mem_univ _⟩
  simp only [Ideal.div_coe hZ.ne']
  rw [sum_mul_coe _ _ (by positivity)]
  exact Finset.sum_congr rfl fun t _ => mul_right_comm _ _ _

/-! ## One head -/

variable (q k v : FVec Ideal S256x128 .bf16)

/-- The kernel's softmax average of one head. -/
def headAvg : FVec Ideal S256x128 .f32 := k0_pay30 q k v

theorem named_eq : (Named.named Cert.KernelIdeal.κ "scale_log2e" 0x3E16C740#32 : Ideal .f32) = (((Real.sqrt 96)⁻¹ * (Real.log 2)⁻¹ : ℝ) : EReal) :=
  rfl

theorem headAvg_apply (r : Fin 256) (j : Fin 128) (hs : ∀ t, IsR (∑ l : Fin 128, q (ix2 r l) * k (ix2 t l))) :
    headAvg q k v (ix2 r j) = softAvg (Ideal.rsqrt (Ideal.ofBits .f32 1119879168#32))
      (fun t => ∑ l : Fin 128, q (ix2 r l) * k (ix2 t l)) (fun t => v (ix2 t j)) := by
  rw [← soft _ hs _ _ named_eq]
  unfold headAvg k0_pay30
  pointwise
  rfl

/-- Two heads of 64 lanes side by side. -/
def slab (a b : FVec Ideal S256x128 .f32) : FVec Ideal S256x128 .bf16 :=
  truncf .bf16 (select (cmpi .eq k0_pay25 (broadcast S256x128 1#32)) b a) bitsLt_bf16_f32

theorem pay25 (r : Fin 256) (j : Fin 128) : k0_pay25 (ix2 r j) = BitVec.ofNat 32 (j.val / 64) := by
  unfold k0_pay25
  pointwise
  revert j; decide +kernel

theorem slab_apply (a b : FVec Ideal S256x128 .f32) (r : Fin 256) (j : Fin 128) :
    slab a b (ix2 r j) = if j.val / 64 = 1 then b (ix2 r j) else a (ix2 r j) := by
  unfold slab
  pointwise
  rw [pay25, show (1#32 : BitVec 32) = BitVec.ofNat 32 1 from rfl, WordCmp.cmpi_eq_ofNat (by omega) (by omega), Masks.sel]

end Cert.KSoft

end
-- ==== Proof.KBuf.lean ====
module

public import proofs.«01_k».proof.Proof.Block
public import proofs.«01_k».proof.Proof.Reals

/-
Reading back a buffer that the body filled by rectangles, a write at a time; and the buffer of the recurrence's inputs.
-/

@[expose] public section

set_option maxRecDepth 16384

noncomputable section

namespace Cert.KBuf

open Cert.KernelIdeal Cert.KernelIdeal.Gen Idealize.ShloMosaic Idealize.ShloMosaic.TcCoe Idealize.SL.Sem
open Cert.Spec Cert.Block

section

variable {n m a b o0 o1 c0 c1 p0 p1 : ℕ} {e : EltTy}

/-- An index of two axes inside a unit rectangle is the image of its distance from the corner. -/
theorem emb_unit2 (inb : ∀ k, (![o0, o1] : Fin 2 → ℕ) k + (![a, b] : Fin 2 → ℕ) k ≤ (⟨2, ![n, m]⟩ : Shape).size k)
    (r : Fin a) (j : Fin b) (y0 : Fin n) (y1 : Fin m) (h0 : y0.val = o0 + r) (h1 : y1.val = o1 + j) :
    (Rect.unit (s := ⟨2, ![n, m]⟩) ![o0, o1] ![a, b] inb).emb (ix2 r j) = ix2 y0 y1 := by
  funext k
  apply Fin.ext
  rw [Rect.emb_apply]
  match k with
  | ⟨0, _⟩ => show o0 + 1 * r.val = y0.val; omega
  | ⟨1, _⟩ => show o1 + 1 * j.val = y1.val; omega

theorem hit (inb : ∀ k, (![o0, o1] : Fin 2 → ℕ) k + (![a, b] : Fin 2 → ℕ) k ≤ (⟨2, ![n, m]⟩ : Shape).size k)
    (w : (⟨2, ![a, b]⟩ : Shape).Idx → Elt Ideal e) (L : List (View.Piece (Elt Ideal) ⟨2, ![n, m]⟩ e))
    (r : Fin a) (j : Fin b) (y0 : Fin n) (y1 : Fin m) (h0 : y0.val = o0 + r) (h1 : y1.val = o1 + j) :
    View.canon (⟨Rect.unit (s := ⟨2, ![n, m]⟩) ![o0, o1] ![a, b] inb, w⟩ :: L) (ix2 y0 y1) = w (ix2 r j) := by
  rw [← emb_unit2 inb r j y0 y1 h0 h1]
  exact View.canon_cons_emb (Rect.unit (s := ⟨2, ![n, m]⟩) ![o0, o1] ![a, b] inb) w L (ix2 r j)

theorem miss (inb : ∀ k, (![o0, o1] : Fin 2 → ℕ) k + (![a, b] : Fin 2 → ℕ) k ≤ (⟨2, ![n, m]⟩ : Shape).size k)
    (w : (⟨2, ![a, b]⟩ : Shape).Idx → Elt Ideal e) (L : List (View.Piece (Elt Ideal) ⟨2, ![n, m]⟩ e))
    (y0 : Fin n) (y1 : Fin m) (h : ¬ ((o0 ≤ y0.val ∧ y0.val < o0 + a) ∧ o1 ≤ y1.val ∧ y1.val < o1 + b)) :
    View.canon (⟨Rect.unit (s := ⟨2, ![n, m]⟩) ![o0, o1] ![a, b] inb, w⟩ :: L) (ix2 y0 y1) = View.canon L (ix2 y0 y1) := by
  refine View.canon_cons_of_not_mem _ L fun hm => h ?_
  have := (Rect.mem_set_unit (s := ⟨2, ![n, m]⟩) (inb := inb)).mp hm
  exact ⟨this 0, this 1⟩

theorem hit_within (inb : ∀ k, (![o0, o1] : Fin 2 → ℕ) k + (![a, b] : Fin 2 → ℕ) k ≤ (⟨2, ![n, m]⟩ : Shape).size k)
    (inb' : ∀ k, (![p0, p1] : Fin 2 → ℕ) k + (![c0, c1] : Fin 2 → ℕ) k ≤ (⟨2, ![a, b]⟩ : Shape).size k)
    (hs : ∀ k, (Rect.unit (s := ⟨2, ![n, m]⟩) ![o0, o1] ![a, b] inb).stride k = 1)
    (w : (⟨2, ![c0, c1]⟩ : Shape).Idx → Elt Ideal e) (L : List (View.Piece (Elt Ideal) ⟨2, ![n, m]⟩ e))
    (r : Fin c0) (j : Fin c1) (y0 : Fin n) (y1 : Fin m) (h0 : y0.val = o0 + (p0 + r)) (h1 : y1.val = o1 + (p1 + j)) :
    View.canon (⟨(Rect.unit (s := ⟨2, ![n, m]⟩) ![o0, o1] ![a, b] inb).within (Rect.unit (s := ⟨2, ![a, b]⟩) ![p0, p1] ![c0, c1] inb') hs, w⟩ :: L)
      (ix2 y0 y1) = w (ix2 r j) := by
  have i0 : p0 + c0 ≤ a := inb' 0
  have i1 : p1 + c1 ≤ b := inb' 1
  rw [← emb_unit2 inb ⟨p0 + r, by omega⟩ ⟨p1 + j, by omega⟩ y0 y1 h0 h1, ← emb_unit2 inb' r j ⟨p0 + r, by omega⟩ ⟨p1 + j, by omega⟩ rfl rfl]
  exact View.canon_cons_within_emb (Rect.unit (s := ⟨2, ![n, m]⟩) ![o0, o1] ![a, b] inb) (Rect.unit (s := ⟨2, ![a, b]⟩) ![p0, p1] ![c0, c1] inb') hs w L (ix2 r j)

theorem miss_within (inb : ∀ k, (![o0, o1] : Fin 2 → ℕ) k + (![a, b] : Fin 2 → ℕ) k ≤ (⟨2, ![n, m]⟩ : Shape).size k)
    (inb' : ∀ k, (![p0, p1] : Fin 2 → ℕ) k + (![c0, c1] : Fin 2 → ℕ) k ≤ (⟨2, ![a, b]⟩ : Shape).size k)
    (hs : ∀ k, (Rect.unit (s := ⟨2, ![n, m]⟩) ![o0, o1] ![a, b] inb).stride k = 1)
    (w : (⟨2, ![c0, c1]⟩ : Shape).Idx → Elt Ideal e) (L : List (View.Piece (Elt Ideal) ⟨2, ![n, m]⟩ e))
    (y0 : Fin n) (y1 : Fin m)
    (h : ¬ ((o0 + p0 ≤ y0.val ∧ y0.val < o0 + p0 + c0) ∧ o1 + p1 ≤ y1.val ∧ y1.val < o1 + p1 + c1)) :
    View.canon (⟨(Rect.unit (s := ⟨2, ![n, m]⟩) ![o0, o1] ![a, b] inb).within (Rect.unit (s := ⟨2, ![a, b]⟩) ![p0, p1] ![c0, c1] inb') hs, w⟩ :: L)
      (ix2 y0 y1) = View.canon L (ix2 y0 y1) := by
  refine View.canon_cons_of_not_mem _ L fun hm => h ?_
  obtain ⟨x, hx⟩ := LoadRect.exists_idx_of_mem _ hm
  have e0 := congrArg Fin.val (congrFun hx 0)
  have e1 := congrArg Fin.val (congrFun hx 1)
  have x0 : (x 0).val < c0 := (x 0).isLt
  have x1 : (x 1).val < c1 := (x 1).isLt
  have e0' : (o0 + p0) + 1 * (x 0).val = y0.val := e0
  have e1' : (o1 + p1) + 1 * (x 1).val = y1.val := e1
  omega

/-- A read back through a unit rectangle, at an index. -/
theorem read2 {sg : RefSig} {κ : Kind} {sp : Space} (v : View sg κ sp ⟨2, ![n, m]⟩ e) (L : List (View.Piece (Elt Ideal) ⟨2, ![n, m]⟩ e))
    (inb : ∀ k, (![o0, o1] : Fin 2 → ℕ) k + (![a, b] : Fin 2 → ℕ) k ≤ (⟨2, ![n, m]⟩ : Shape).size k)
    (r : Fin a) (j : Fin b) (y0 : Fin n) (y1 : Fin m) (h0 : y0.val = o0 + r) (h1 : y1.val = o1 + j) :
    v.readCov L (Rect.unit (s := ⟨2, ![n, m]⟩) ![o0, o1] ![a, b] inb).toLoadRect (ix2 r j) = View.canon L (ix2 y0 y1) := by
  rw [View.readCov_eq_canon', ← emb_unit2 inb r j y0 y1 h0 h1]
  rfl

end

/-- Row `r` of sequence `s` of the block. -/
def rw2 (s : Fin 2) (r : Fin 256) : Fin 512 := ⟨256 * s + r, by omega⟩
def sq2 (g : Fin 16) (s : Fin 2) : Fin 32 := ⟨2 * g + s, by omega⟩
theorem seq_rw2 (g : Fin 16) (s : Fin 2) (r : Fin 256) : seq g (rw2 s r) = sq2 g s := Fin.ext (by show 2 * g.val + (256 * s.val + r.val) / 256 = 2 * g.val + s.val; omega)
theorem tm_rw2 (s : Fin 2) (r : Fin 256) : tm (rw2 s r) = r := Fin.ext (by show (256 * s.val + r.val) % 256 = r.val; omega)

/-! ## The buffer of the last states -/

section

variable {d0 d1 d2 d3 d4 p0 q1 q2 : ℕ} {e : EltTy}

theorem hit5 (inb : ∀ k, (![p0, 0, 0, 0, 0] : Fin 5 → ℕ) k + (![1, d1, d2, d3, d4] : Fin 5 → ℕ) k ≤ (⟨5, ![d0, d1, d2, d3, d4]⟩ : Shape).size k)
    (inb' : ∀ k, (![0, q1, q2, 0, 0] : Fin 5 → ℕ) k + (![1, 1, 1, d3, d4] : Fin 5 → ℕ) k ≤ (⟨5, ![1, d1, d2, d3, d4]⟩ : Shape).size k)
    (hs : ∀ k, (Rect.unit (s := ⟨5, ![d0, d1, d2, d3, d4]⟩) ![p0, 0, 0, 0, 0] ![1, d1, d2, d3, d4] inb).stride k = 1)
    (w : (⟨5, ![1, 1, 1, d3, d4]⟩ : Shape).Idx → Elt Ideal e) (L : List (View.Piece (Elt Ideal) ⟨5, ![d0, d1, d2, d3, d4]⟩ e))
    (y0 : Fin d0) (y1 : Fin d1) (y2 : Fin d2) (k : Fin d3) (i : Fin d4) (h0 : y0.val = p0) (h1 : y1.val = q1) (h2 : y2.val = q2) :
    View.canon (⟨(Rect.unit (s := ⟨5, ![d0, d1, d2, d3, d4]⟩) ![p0, 0, 0, 0, 0] ![1, d1, d2, d3, d4] inb).within
      (Rect.unit (s := ⟨5, ![1, d1, d2, d3, d4]⟩) ![0, q1, q2, 0, 0] ![1, 1, 1, d3, d4] inb') hs, w⟩ :: L)
      (ix5 y0 y1 y2 k i) = w (ix5 0 0 0 k i) := by
  have e : ix5 y0 y1 y2 k i = (Rect.unit (s := ⟨5, ![d0, d1, d2, d3, d4]⟩) ![p0, 0, 0, 0, 0] ![1, d1, d2, d3, d4] inb).emb
      ((Rect.unit (s := ⟨5, ![1, d1, d2, d3, d4]⟩) ![0, q1, q2, 0, 0] ![1, 1, 1, d3, d4] inb').emb (ix5 0 0 0 k i)) := by
    funext a
    apply Fin.ext
    match a with
    | ⟨0, _⟩ => show y0.val = p0 + 1 * (0 + 1 * 0); omega
    | ⟨1, _⟩ => show y1.val = 0 + 1 * (q1 + 1 * 0); omega
    | ⟨2, _⟩ => show y2.val = 0 + 1 * (q2 + 1 * 0); omega
    | ⟨3, _⟩ => show k.val = 0 + 1 * (0 + 1 * k.val); omega
    | ⟨4, _⟩ => show i.val = 0 + 1 * (0 + 1 * i.val); omega
  rw [e]
  exact View.canon_cons_within_emb (Rect.unit (s := ⟨5, ![d0, d1, d2, d3, d4]⟩) ![p0, 0, 0, 0, 0] ![1, d1, d2, d3, d4] inb)
    (Rect.unit (s := ⟨5, ![1, d1, d2, d3, d4]⟩) ![0, q1, q2, 0, 0] ![1, 1, 1, d3, d4] inb') hs w L (ix5 0 0 0 k i)

theorem miss5 (inb : ∀ k, (![p0, 0, 0, 0, 0] : Fin 5 → ℕ) k + (![1, d1, d2, d3, d4] : Fin 5 → ℕ) k ≤ (⟨5, ![d0, d1, d2, d3, d4]⟩ : Shape).size k)
    (inb' : ∀ k, (![0, q1, q2, 0, 0] : Fin 5 → ℕ) k + (![1, 1, 1, d3, d4] : Fin 5 → ℕ) k ≤ (⟨5, ![1, d1, d2, d3, d4]⟩ : Shape).size k)
    (hs : ∀ k, (Rect.unit (s := ⟨5, ![d0, d1, d2, d3, d4]⟩) ![p0, 0, 0, 0, 0] ![1, d1, d2, d3, d4] inb).stride k = 1)
    (w : (⟨5, ![1, 1, 1, d3, d4]⟩ : Shape).Idx → Elt Ideal e) (L : List (View.Piece (Elt Ideal) ⟨5, ![d0, d1, d2, d3, d4]⟩ e))
    (y0 : Fin d0) (y1 : Fin d1) (y2 : Fin d2) (k : Fin d3) (i : Fin d4) (h : ¬ (y0.val = p0 ∧ y1.val = q1 ∧ y2.val = q2)) :
    View.canon (⟨(Rect.unit (s := ⟨5, ![d0, d1, d2, d3, d4]⟩) ![p0, 0, 0, 0, 0] ![1, d1, d2, d3, d4] inb).within
      (Rect.unit (s := ⟨5, ![1, d1, d2, d3, d4]⟩) ![0, q1, q2, 0, 0] ![1, 1, 1, d3, d4] inb') hs, w⟩ :: L)
      (ix5 y0 y1 y2 k i) = View.canon L (ix5 y0 y1 y2 k i) := by
  refine View.canon_cons_of_not_mem _ L fun hm => h ?_
  obtain ⟨x, hx⟩ := LoadRect.exists_idx_of_mem _ hm
  have e0 : (p0 + 0) + 1 * (x 0).val = y0.val := congrArg Fin.val (congrFun hx 0)
  have e1 : (0 + q1) + 1 * (x 1).val = y1.val := congrArg Fin.val (congrFun hx 1)
  have e2 : (0 + q2) + 1 * (x 2).val = y2.val := congrArg Fin.val (congrFun hx 2)
  have x0 : (x 0).val < 1 := (x 0).isLt
  have x1 : (x 1).val < 1 := (x 1).isLt
  have x2 : (x 2).val < 1 := (x 2).isLt
  omega

theorem inb_seq (s : Fin 2) : ∀ k, (![s.val, 0, 0, 0, 0] : Fin 5 → ℕ) k + (![1, 2, 4, 128, 128] : Fin 5 → ℕ) k
    ≤ (⟨5, ![2, 2, 4, 128, 128]⟩ : Shape).size k := by
  revert s; decide

theorem inb_dir (a : Fin 2) (hd : Fin 4) : ∀ k, (![0, a.val, hd.val, 0, 0] : Fin 5 → ℕ) k + (![1, 1, 1, 128, 128] : Fin 5 → ℕ) k
    ≤ (⟨5, ![1, 2, 4, 128, 128]⟩ : Shape).size k := by
  revert a hd; decide

/-- The piece of one sequence, direction and head in the block of last states. -/
noncomputable abbrev pc (s a : Fin 2) (hd : Fin 4) (w : (⟨5, ![1, 1, 1, 128, 128]⟩ : Shape).Idx → Elt Ideal e) :
    View.Piece (Elt Ideal) ⟨5, ![2, 2, 4, 128, 128]⟩ e :=
  ⟨(Rect.unit (s := ⟨5, ![2, 2, 4, 128, 128]⟩) ![s.val, 0, 0, 0, 0] ![1, 2, 4, 128, 128] (inb_seq s)).within
    (Rect.unit (s := ⟨5, ![1, 2, 4, 128, 128]⟩) ![0, a.val, hd.val, 0, 0] ![1, 1, 1, 128, 128] (inb_dir a hd)) (fun _ => rfl), w⟩

theorem hit_pc (s a : Fin 2) (hd : Fin 4) (w : (⟨5, ![1, 1, 1, 128, 128]⟩ : Shape).Idx → Elt Ideal e)
    (L : List (View.Piece (Elt Ideal) ⟨5, ![2, 2, 4, 128, 128]⟩ e)) (k i : Fin 128) :
    View.canon (pc s a hd w :: L) (ix5 s a hd k i) = w (ix5 0 0 0 k i) :=
  hit5 _ _ _ w L s a hd k i rfl rfl rfl

theorem miss_pc (s a s' a' : Fin 2) (hd hd' : Fin 4) (w : (⟨5, ![1, 1, 1, 128, 128]⟩ : Shape).Idx → Elt Ideal e)
    (L : List (View.Piece (Elt Ideal) ⟨5, ![2, 2, 4, 128, 128]⟩ e)) (k i : Fin 128)
    (h : ¬ (s' = s ∧ a' = a ∧ hd' = hd)) :
    View.canon (pc s a hd w :: L) (ix5 s' a' hd' k i) = View.canon L (ix5 s' a' hd' k i) :=
  miss5 _ _ _ w L s' a' hd' k i (fun q => h ⟨Fin.ext q.1, Fin.ext q.2.1, Fin.ext q.2.2⟩)

/-- The block of last states, piece by piece. -/
theorem canon_pcs (f : Fin 2 → Fin 2 → Fin 4 → Fin 128 → Fin 128 → Elt Ideal e)
    (w0 w1 w2 w3 w4 w5 w6 w7 w8 w9 w10 w11 w12 w13 w14 w15 : (⟨5, ![1, 1, 1, 128, 128]⟩ : Shape).Idx → Elt Ideal e)
    (h0 : ∀ k i, w0 (ix5 0 0 0 k i) = f 0 0 0 k i)
    (h1 : ∀ k i, w1 (ix5 0 0 0 k i) = f 1 0 0 k i)
    (h2 : ∀ k i, w2 (ix5 0 0 0 k i) = f 0 0 1 k i)
    (h3 : ∀ k i, w3 (ix5 0 0 0 k i) = f 1 0 1 k i)
    (h4 : ∀ k i, w4 (ix5 0 0 0 k i) = f 0 0 2 k i)
    (h5 : ∀ k i, w5 (ix5 0 0 0 k i) = f 1 0 2 k i)
    (h6 : ∀ k i, w6 (ix5 0 0 0 k i) = f 0 0 3 k i)
    (h7 : ∀ k i, w7 (ix5 0 0 0 k i) = f 1 0 3 k i)
    (h8 : ∀ k i, w8 (ix5 0 0 0 k i) = f 0 1 0 k i)
    (h9 : ∀ k i, w9 (ix5 0 0 0 k i) = f 1 1 0 k i)
    (h10 : ∀ k i, w10 (ix5 0 0 0 k i) = f 0 1 1 k i)
    (h11 : ∀ k i, w11 (ix5 0 0 0 k i) = f 1 1 1 k i)
    (h12 : ∀ k i, w12 (ix5 0 0 0 k i) = f 0 1 2 k i)
    (h13 : ∀ k i, w13 (ix5 0 0 0 k i) = f 1 1 2 k i)
    (h14 : ∀ k i, w14 (ix5 0 0 0 k i) = f 0 1 3 k i)
    (h15 : ∀ k i, w15 (ix5 0 0 0 k i) = f 1 1 3 k i)
    (s a : Fin 2) (hd : Fin 4) (k i : Fin 128) :
    View.canon [pc 1 1 3 w15,
      pc 0 1 3 w14,
      pc 1 1 2 w13,
      pc 0 1 2 w12,
      pc 1 1 1 w11,
      pc 0 1 1 w10,
      pc 1 1 0 w9,
      pc 0 1 0 w8,
      pc 1 0 3 w7,
      pc 0 0 3 w6,
      pc 1 0 2 w5,
      pc 0 0 2 w4,
      pc 1 0 1 w3,
      pc 0 0 1 w2,
      pc 1 0 0 w1,
      pc 0 0 0 w0] (ix5 s a hd k i) = f s a hd k i := by
  fin_cases s <;> fin_cases a <;> fin_cases hd <;>
  · repeat refine (miss_pc _ _ _ _ _ _ _ _ _ _ (by decide)).trans ?_
    refine (hit_pc _ _ _ _ _ _ _).trans ?_
    first | exact h0 k i | exact h1 k i | exact h2 k i | exact h3 k i | exact h4 k i | exact h5 k i | exact h6 k i | exact h7 k i | exact h8 k i | exact h9 k i | exact h10 k i | exact h11 k i | exact h12 k i | exact h13 k i | exact h14 k i | exact h15 k i

section

variable {d0 d1 d2 p : ℕ}

theorem hit3 (inb : ∀ k, (![p, 0, 0] : Fin 3 → ℕ) k + (![1, d1, d2] : Fin 3 → ℕ) k ≤ (⟨3, ![d0, d1, d2]⟩ : Shape).size k)
    (w : (⟨3, ![1, d1, d2]⟩ : Shape).Idx → Elt Ideal e) (L : List (View.Piece (Elt Ideal) ⟨3, ![d0, d1, d2]⟩ e))
    (y : Fin d0) (i : Fin d1) (j : Fin d2) (h : y.val = p) :
    View.canon (⟨Rect.unit (s := ⟨3, ![d0, d1, d2]⟩) ![p, 0, 0] ![1, d1, d2] inb, w⟩ :: L) (ix3 y i j) = w (ix3 0 i j) := by
  have e : ix3 y i j = (Rect.unit (s := ⟨3, ![d0, d1, d2]⟩) ![p, 0, 0] ![1, d1, d2] inb).emb (ix3 0 i j) := by
    funext k
    apply Fin.ext
    match k with
    | ⟨0, _⟩ => show y.val = p + 1 * 0; omega
    | ⟨1, _⟩ => show i.val = 0 + 1 * i.val; omega
    | ⟨2, _⟩ => show j.val = 0 + 1 * j.val; omega
  rw [e]
  exact View.canon_cons_emb (Rect.unit (s := ⟨3, ![d0, d1, d2]⟩) ![p, 0, 0] ![1, d1, d2] inb) w L (ix3 0 i j)

theorem miss3 (inb : ∀ k, (![p, 0, 0] : Fin 3 → ℕ) k + (![1, d1, d2] : Fin 3 → ℕ) k ≤ (⟨3, ![d0, d1, d2]⟩ : Shape).size k)
    (w : (⟨3, ![1, d1, d2]⟩ : Shape).Idx → Elt Ideal e) (L : List (View.Piece (Elt Ideal) ⟨3, ![d0, d1, d2]⟩ e))
    (y : Fin d0) (i : Fin d1) (j : Fin d2) (h : ¬ y.val = p) :
    View.canon (⟨Rect.unit (s := ⟨3, ![d0, d1, d2]⟩) ![p, 0, 0] ![1, d1, d2] inb, w⟩ :: L) (ix3 y i j) = View.canon L (ix3 y i j) := by
  refine View.canon_cons_of_not_mem _ L fun hm => h ?_
  have := (Rect.mem_set_unit (s := ⟨3, ![d0, d1, d2]⟩) (inb := inb)).mp hm 0
  have h0 : p ≤ y.val := this.1
  have h1 : y.val < p + 1 := this.2
  omega

end

end

end Cert.KBuf

end
-- ==== Proof.KProj.lean ====
module

public import proofs.«01_k».proof.Proof.Block

/-
The projections of a grid point's two sequences, as the body computes them: each array at a row and a lane is the
layer's function of the row's sequence and time.
-/

@[expose] public section

set_option maxRecDepth 16384

noncomputable section

namespace Cert.KProj

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

/-- The modulated input. -/
theorem v11 (r d) : (kernelRun0_A.sl.v11 c arg1 harg1 arg2 harg2 x0 x1) (ix2 r d) = h I (seq g r) (tm r) d := by
  unfold kernelRun0_A.sl.v11 kernelRun0_A.sl.v10 kernelRun0_A.sl.v9 kernelRun0_A.sl.v8 kernelRun0_A.sl.v7 kernelRun0_A.sl.v6 kernelRun0_A.sl.v5 kernelRun0_A.sl.v4 kernelRun0_A.sl.v3 kernelRun0_A.sl.v2
  simp only [ra]
  pointwise [kernelRun0_A.sl.cst]
  simp only [H.h0, H.h1]
  rfl

/-- The queries' latent part before its norm, normalised, and projected to padded heads. -/
theorem v14 (r j) : (kernelRun0_A.sl.v14 c arg1 harg1 arg2 harg2 arg4 harg4 x0 x1 x3) (ix2 r j) = cqr I (seq g r) (tm r) j := by
  unfold kernelRun0_A.sl.v14 kernelRun0_A.sl.v13
  simp only [ra]
  pointwise [kernelRun0_A.sl.cst_5]
  simp only [v11 c arg1 harg1 arg2 harg2 H, H.h3]
  rfl
theorem v28 (r j) : (kernelRun0_A.sl.v28 c arg1 harg1 arg2 harg2 arg4 harg4 arg5 harg5 x0 x1 x3 x4) (ix2 r j) = cq I (seq g r) (tm r) j := by
  unfold kernelRun0_A.sl.v28 kernelRun0_A.sl.v27 kernelRun0_A.sl.v26 kernelRun0_A.sl.v25 kernelRun0_A.sl.v24 kernelRun0_A.sl.v23 kernelRun0_A.sl.v22 kernelRun0_A.sl.v21 kernelRun0_A.sl.v20 kernelRun0_A.sl.v19 kernelRun0_A.sl.v18 kernelRun0_A.sl.v17 kernelRun0_A.sl.v16
  simp only [ra]
  pointwise [kernelRun0_A.sl.cst_9, kernelRun0_A.sl.cst_10]
  simp only [v14 c arg1 harg1 arg2 harg2 arg4 harg4 H, H.h4]
  rfl
/-- A head's query on its 128 lanes: 96 entries and zeros. -/
def qpad (I : Inp) (b : Fin 32) (t : Fin 256) (l : Fin 1024) : EReal :=
  if hl : l.val % 128 < 96 then q I b t ⟨96 * (l / 128) + l % 128, by omega⟩ else 0
theorem v36 (r l) : (kernelRun0_A.sl.v36 c arg1 harg1 arg2 harg2 arg4 harg4 arg5 harg5 arg6 harg6 x0 x1 x3 x4 x5) (ix2 r l) = qpad I (seq g r) (tm r) l := by
  unfold kernelRun0_A.sl.v36 kernelRun0_A.sl.v33 kernelRun0_A.sl.v32 kernelRun0_A.sl.v31 kernelRun0_A.sl.v29
  simp only [ra]
  pointwise [kernelRun0_A.sl.cst_13]
  simp only [v28 c arg1 harg1 arg2 harg2 arg4 harg4 arg5 harg5 H, H.h5]
  unfold qpad q
  split
  · rfl
  · simp only [mul_zero, Finset.sum_const_zero]

/-- The keys' and values' latent part, normalised. -/
theorem v39 (r j) : (kernelRun0_A.sl.v39 c arg1 harg1 arg2 harg2 arg4 harg4 x0 x1 x3) (ix2 r j) = ckr I (seq g r) (tm r) j := by
  unfold kernelRun0_A.sl.v39 kernelRun0_A.sl.v38 kernelRun0_A.sl.r_1
  simp only [ra]
  pointwise [kernelRun0_A.sl.cst_17]
  simp only [v11 c arg1 harg1 arg2 harg2 H, H.h3]
  rfl
theorem v53 (r j) : (kernelRun0_A.sl.v53 c arg1 harg1 arg2 harg2 arg4 harg4 arg7 harg7 x0 x1 x3 x6) (ix2 r j) = ckv I (seq g r) (tm r) j := by
  unfold kernelRun0_A.sl.v53 kernelRun0_A.sl.v52 kernelRun0_A.sl.v51 kernelRun0_A.sl.v50 kernelRun0_A.sl.v49 kernelRun0_A.sl.v48 kernelRun0_A.sl.v46 kernelRun0_A.sl.v45 kernelRun0_A.sl.v44 kernelRun0_A.sl.v43 kernelRun0_A.sl.v42 kernelRun0_A.sl.v41 kernelRun0_A.sl.v22
  simp only [ra]
  pointwise [kernelRun0_A.sl.cst_21, kernelRun0_A.sl.cst_10]
  simp only [v39 c arg1 harg1 arg2 harg2 arg4 harg4 H, H.h6]
  rfl

/-- The shared key part on 128 lanes, and the keys on 128 lanes a head. -/
def kpad (I : Inp) (b : Fin 32) (t : Fin 256) (l : Fin 128) : EReal := if hl : l.val < 32 then kpe I b t ⟨l, hl⟩ else 0
theorem v59 (r l) : (kernelRun0_A.sl.v59 c arg1 harg1 arg2 harg2 arg4 harg4 x0 x1 x3) (ix2 r l) = kpad I (seq g r) (tm r) l := by
  unfold kernelRun0_A.sl.v59 kernelRun0_A.sl.v58 kernelRun0_A.sl.v57 kernelRun0_A.sl.v56
  simp only [ra]
  pointwise [kernelRun0_A.sl.cst_26, kernelRun0_A.sl.cst_27]
  simp only [v11 c arg1 harg1 arg2 harg2 H, H.h3]
  rfl
theorem v64 (r l) : (kernelRun0_A.sl.v64 c arg1 harg1 arg2 harg2 arg4 harg4 arg7 harg7 arg8 harg8 x0 x1 x3 x6 x7) (ix2 r l) = if l.val % 128 < 64 then kv I (seq g r) (tm r) l else 0 := by
  unfold kernelRun0_A.sl.v64 kernelRun0_A.sl.v63 kernelRun0_A.sl.v61
  simp only [ra]
  pointwise [kernelRun0_A.sl.cst_13]
  simp only [v53 c arg1 harg1 arg2 harg2 arg4 harg4 arg7 harg7 H, H.h7]
  unfold kv
  split
  · rfl
  · simp only [mul_zero, Finset.sum_const_zero]
theorem v65 (r) (l : Fin 128) : (kernelRun0_A.sl.v65 c arg1 harg1 arg2 harg2 arg4 harg4 x0 x1 x3) (ix2 r l) = kpad I (seq g r) (tm r) ⟨(l + 64) % 128, by omega⟩ := by
  unfold kernelRun0_A.sl.v65
  pointwise
  simp only [v59 c arg1 harg1 arg2 harg2 arg4 harg4 H]
  exact congrArg _ (Fin.ext (by dsimp only; omega))
def kfull (I : Inp) (b : Fin 32) (t : Fin 256) (l : Fin 1024) : EReal :=
  (if l.val % 128 < 64 then kv I b t l else 0) + kpad I b t ⟨(l % 128 + 64) % 128, by omega⟩
theorem v71 (r l) : (kernelRun0_A.sl.v71 c arg1 harg1 arg2 harg2 arg4 harg4 arg7 harg7 arg8 harg8 x0 x1 x3 x6 x7) (ix2 r l) = kfull I (seq g r) (tm r) l := by
  unfold kernelRun0_A.sl.v71 kernelRun0_A.sl.v68 kernelRun0_A.sl.v67 kernelRun0_A.sl.v66
  pointwise
  simp only [v64 c arg1 harg1 arg2 harg2 arg4 harg4 arg7 harg7 arg8 harg8 H, v65 c arg1 harg1 arg2 harg2 arg4 harg4 H]
  unfold kfull
  congr 1
  repeat' split
  all_goals exact congrArg _ (Fin.ext (by dsimp only; omega))

/-- The values, 64 lanes a head. -/
def vfull (I : Inp) (b : Fin 32) (t : Fin 256) (l : Fin 512) : EReal := kv I b t ⟨128 * (l / 64) + 64 + l % 64, by omega⟩
theorem v78 (r l) : (kernelRun0_A.sl.v78 c arg1 harg1 arg2 harg2 arg4 harg4 arg7 harg7 arg9 harg9 x0 x1 x3 x6 x8) (ix2 r l) = vfull I (seq g r) (tm r) l := by
  unfold kernelRun0_A.sl.v78 kernelRun0_A.sl.v75 kernelRun0_A.sl.v74 kernelRun0_A.sl.v73 kernelRun0_A.sl.r_2 kernelRun0_A.sl.v61
  simp only [ra]
  pointwise [kernelRun0_A.sl.cst_37]
  simp only [v53 c arg1 harg1 arg2 harg2 arg4 harg4 arg7 harg7 H, H.h8]
  rfl

/-! ## The recurrence's arrays -/

theorem v81 (r) (j : Fin 2560) : (kernelRun0_A.sl.v81 c arg1 harg1 arg2 harg2 arg4 harg4 x0 x1 x3) (ix2 r j) = proj I (seq g r) (tm r) ⟨1056 + j, by omega⟩ := by
  unfold kernelRun0_A.sl.v81 kernelRun0_A.sl.v80
  simp only [ra]
  pointwise [kernelRun0_A.sl.cst_41]
  simp only [v11 c arg1 harg1 arg2 harg2 H, H.h3]
  rfl
theorem v87 (r j) : (kernelRun0_A.sl.v87 c arg1 harg1 arg2 harg2 arg4 harg4 x0 x1 x3) (ix2 r j) = sq I (seq g r) (tm r) j := by
  unfold kernelRun0_A.sl.v87 kernelRun0_A.sl.v84 kernelRun0_A.sl.v83 kernelRun0_A.sl.v82
  pointwise
  simp only [v81 c arg1 harg1 arg2 harg2 arg4 harg4 H]
  first | rfl | exact congrArg _ (Fin.ext (by dsimp only; omega)) | trace_state
theorem v106 (r j) : (kernelRun0_A.sl.v106 c arg1 harg1 arg2 harg2 arg3 harg3 arg4 harg4 x0 x1 x2 x3) (ix2 r j) = ff I 0 (seq g r) (tm r) j := by
  unfold kernelRun0_A.sl.v106 kernelRun0_A.sl.v105 kernelRun0_A.sl.v104 kernelRun0_A.sl.v103 kernelRun0_A.sl.v102 kernelRun0_A.sl.v101 kernelRun0_A.sl.v100 kernelRun0_A.sl.v99 kernelRun0_A.sl.v98 kernelRun0_A.sl.v97 kernelRun0_A.sl.v96 kernelRun0_A.sl.v95 kernelRun0_A.sl.v94 kernelRun0_A.sl.v93 kernelRun0_A.sl.v92 kernelRun0_A.sl.v91 kernelRun0_A.sl.v89
  simp only [ra]
  pointwise [kernelRun0_A.sl.cst]
  simp only [v81 c arg1 harg1 arg2 harg2 arg4 harg4 H, H.h2]
  have e : (⟨1056 + (512 + j.val), by omega⟩ : Fin 5664) = ⟨1568 + 512 * (0 : Fin 2).val + j, by omega⟩ :=
    Fin.ext (by show 1056 + (512 + j.val) = 1568 + 512 * 0 + j.val; omega)
  rw [e]
  rfl
theorem v134 (r j) : (kernelRun0_A.sl.v134 c arg1 harg1 arg2 harg2 arg3 harg3 arg4 harg4 x0 x1 x2 x3) (ix2 r j) = ff I 1 (seq g r) (tm r) j := by
  unfold kernelRun0_A.sl.v134 kernelRun0_A.sl.v133 kernelRun0_A.sl.v132 kernelRun0_A.sl.v131 kernelRun0_A.sl.v130 kernelRun0_A.sl.v129 kernelRun0_A.sl.v128 kernelRun0_A.sl.v126 kernelRun0_A.sl.v125 kernelRun0_A.sl.v124 kernelRun0_A.sl.v123 kernelRun0_A.sl.v122 kernelRun0_A.sl.v121 kernelRun0_A.sl.v120 kernelRun0_A.sl.v119 kernelRun0_A.sl.v117 kernelRun0_A.sl.v99
  simp only [ra]
  pointwise [kernelRun0_A.sl.cst]
  simp only [v81 c arg1 harg1 arg2 harg2 arg4 harg4 H, H.h2]
  have e : (⟨1056 + (1024 + j.val), by omega⟩ : Fin 5664) = ⟨1568 + 512 * (1 : Fin 2).val + j, by omega⟩ :=
    Fin.ext (by show 1056 + (1024 + j.val) = 1568 + 512 * 1 + j.val; omega)
  rw [e]
  rfl
theorem v110 (r j) : (kernelRun0_A.sl.v110 c arg1 harg1 arg2 harg2 arg3 harg3 arg4 harg4 x0 x1 x2 x3) (ix2 r j) = lf I 0 (seq g r) (tm r) j := by
  unfold kernelRun0_A.sl.v110 kernelRun0_A.sl.v107
  pointwise
  rw [v106 c arg1 harg1 arg2 harg2 arg3 harg3 arg4 harg4 H]
  rfl
theorem v115 (r j) : (kernelRun0_A.sl.v115 c arg1 harg1 arg2 harg2 arg3 harg3 arg4 harg4 x0 x1 x2 x3) (ix2 r j) = hk I 0 (seq g r) (tm r) j := by
  unfold kernelRun0_A.sl.v115 kernelRun0_A.sl.v112 kernelRun0_A.sl.v111
  pointwise [kernelRun0_A.sl.cst]
  rw [v106 c arg1 harg1 arg2 harg2 arg3 harg3 arg4 harg4 H]
  rfl
theorem v138 (r j) : (kernelRun0_A.sl.v138 c arg1 harg1 arg2 harg2 arg3 harg3 arg4 harg4 x0 x1 x2 x3) (ix2 r j) = lf I 1 (seq g r) (tm r) j := by
  unfold kernelRun0_A.sl.v138 kernelRun0_A.sl.v135
  pointwise
  rw [v134 c arg1 harg1 arg2 harg2 arg3 harg3 arg4 harg4 H]
  rfl
theorem v143 (r j) : (kernelRun0_A.sl.v143 c arg1 harg1 arg2 harg2 arg3 harg3 arg4 harg4 x0 x1 x2 x3) (ix2 r j) = hk I 1 (seq g r) (tm r) j := by
  unfold kernelRun0_A.sl.v143 kernelRun0_A.sl.v140 kernelRun0_A.sl.v111
  pointwise [kernelRun0_A.sl.cst]
  rw [v134 c arg1 harg1 arg2 harg2 arg3 harg3 arg4 harg4 H]
  rfl
theorem v147 (r j) : (kernelRun0_A.sl.v147 c arg1 harg1 arg2 harg2 arg4 harg4 x0 x1 x3) (ix2 r j) = hv I (seq g r) (tm r) j := by
  unfold kernelRun0_A.sl.v147 kernelRun0_A.sl.v144
  pointwise
  rw [v81 c arg1 harg1 arg2 harg2 arg4 harg4 H]
  first | rfl | exact congrArg _ (Fin.ext (by dsimp only; omega)) | trace_state
theorem v148 (r) (j : Fin 512) : k0_pay24 (kernelRun0_A.sl.v148 c arg1 harg1 arg2 harg2 arg4 harg4 x0 x1 x3) (ix2 r j) = proj I (seq g r) (tm r) ⟨3104 + j, by omega⟩ := by
  unfold kernelRun0_A.sl.v148
  pointwise [k0_pay24]
  rw [v81 c arg1 harg1 arg2 harg2 arg4 harg4 H]
  first | rfl | exact congrArg _ (Fin.ext (by dsimp only; omega)) | trace_state

end Cert.KProj

end
-- ==== Proof.KAttn.lean ====
module

public import proofs.«01_k».proof.Proof.KSoft
public import proofs.«01_k».proof.Proof.KBuf
public import proofs.«01_k».proof.Proof.KProj
public import proofs.«01_k».proof.Proof.Reals

/-
The attention of a grid point: the heads' queries, keys and values in their buffers, and the buffer of the heads' outputs.
-/

@[expose] public section

set_option maxRecDepth 16384

noncomputable section

namespace Cert.KAttn

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KBuf Cert.KSoft Cert.KProj

section

variable {n m a b o0 o1 d0 d1 p0 p1 : ℕ} {e : EltTy}

omit H in
/-- A load of a rectangle inside a rectangle. -/
theorem read2w {sg : RefSig} {κ : Kind} {sp : Space} (v : View sg κ sp ⟨2, ![n, m]⟩ e) (L : List (View.Piece (Elt Ideal) ⟨2, ![n, m]⟩ e))
    (inb : ∀ k, (![o0, o1] : Fin 2 → ℕ) k + (![d0, d1] : Fin 2 → ℕ) k ≤ (⟨2, ![n, m]⟩ : Shape).size k)
    (inb' : ∀ k, (![p0, p1] : Fin 2 → ℕ) k + (![a, b] : Fin 2 → ℕ) k ≤ (⟨2, ![d0, d1]⟩ : Shape).size k)
    (hs : ∀ k, (Rect.unit (s := ⟨2, ![n, m]⟩) ![o0, o1] ![d0, d1] inb).stride k = 1)
    (r : Fin a) (j : Fin b) (y0 : Fin n) (y1 : Fin m) (h0 : y0.val = o0 + p0 + r) (h1 : y1.val = o1 + p1 + j) :
    v.readCov L ((Rect.unit (s := ⟨2, ![n, m]⟩) ![o0, o1] ![d0, d1] inb).withinL
      (Rect.unit (s := ⟨2, ![d0, d1]⟩) ![p0, p1] ![a, b] inb').toLoadRect hs) (ix2 r j) = View.canon L (ix2 y0 y1) := by
  rw [View.readCov_eq_canon']
  refine congrArg (View.canon L) ?_
  funext k
  apply Fin.ext
  match k with
  | ⟨0, _⟩ => show (o0 + p0) + 1 * r.val = y0.val; omega
  | ⟨1, _⟩ => show (o1 + p1) + 1 * j.val = y1.val; omega

end

/-- A lane of a head among eight heads of 128 lanes, and of a pair of heads. -/
def hl (hd : Fin 8) (l : Fin 128) : Fin 1024 := ⟨128 * hd + l, by omega⟩
def pl (p : Fin 4) (l : Fin 128) : Fin 512 := ⟨128 * p + l, by omega⟩

variable {o p : ℕ}

theorem qload (inb) (inb') (hs) (s : Fin 2) (hd : Fin 8) (ho : o = 256 * s.val) (hp : p = 128 * hd.val) (r : Fin 256) (l : Fin 128) :
    arg23.view.readCov (kernelRun0_A.sl.HS0_1 c arg1 harg1 arg2 harg2 arg4 harg4 arg5 harg5 arg6 harg6 x0 x1 x3 x4 x5) ((Rect.unit (s := S512x1024) ![o, 0] ![256, 1024] inb).withinL
      (Rect.unit (s := S256x1024) ![0, p] ![256, 128] inb').toLoadRect hs) (ix2 r l) = qpad I (sq2 g s) r (hl hd l) := by
  subst ho hp
  refine (read2w arg23.view _ inb inb' hs r l (rw2 s r) (hl hd l) (by dsimp only [rw2]; omega) (by dsimp only [hl]; omega)).trans ?_
  unfold kernelRun0_A.sl.HS0_1
  refine (hit _ _ _ (rw2 s r) (hl hd l) _ _ (by omega) (by omega)).trans ?_
  rw [KProj.v36 c arg1 harg1 arg2 harg2 arg4 harg4 arg5 harg5 arg6 harg6 H, seq_rw2, tm_rw2]

theorem kload (inb) (inb') (hs) (s : Fin 2) (hd : Fin 8) (ho : o = 256 * s.val) (hp : p = 128 * hd.val) (r : Fin 256) (l : Fin 128) :
    arg24.view.readCov (kernelRun0_A.sl.HS1_1 c arg1 harg1 arg2 harg2 arg4 harg4 arg7 harg7 arg8 harg8 x0 x1 x3 x6 x7) ((Rect.unit (s := S512x1024) ![o, 0] ![256, 1024] inb).withinL
      (Rect.unit (s := S256x1024) ![0, p] ![256, 128] inb').toLoadRect hs) (ix2 r l) = kfull I (sq2 g s) r (hl hd l) := by
  subst ho hp
  refine (read2w arg24.view _ inb inb' hs r l (rw2 s r) (hl hd l) (by dsimp only [rw2]; omega) (by dsimp only [hl]; omega)).trans ?_
  unfold kernelRun0_A.sl.HS1_1
  refine (hit _ _ _ (rw2 s r) (hl hd l) _ _ (by omega) (by omega)).trans ?_
  rw [KProj.v71 c arg1 harg1 arg2 harg2 arg4 harg4 arg7 harg7 arg8 harg8 H, seq_rw2, tm_rw2]

theorem vload (inb) (inb') (hs) (s : Fin 2) (q : Fin 4) (ho : o = 256 * s.val) (hp : p = 128 * q.val) (r : Fin 256) (l : Fin 128) :
    arg25.view.readCov (kernelRun0_A.sl.HS2_1 c arg1 harg1 arg2 harg2 arg4 harg4 arg7 harg7 arg9 harg9 x0 x1 x3 x6 x8) ((Rect.unit (s := S512x512) ![o, 0] ![256, 512] inb).withinL
      (Rect.unit (s := S256x512) ![0, p] ![256, 128] inb').toLoadRect hs) (ix2 r l) = vfull I (sq2 g s) r (pl q l) := by
  subst ho hp
  refine (read2w arg25.view _ inb inb' hs r l (rw2 s r) (pl q l) (by dsimp only [rw2]; omega) (by dsimp only [pl]; omega)).trans ?_
  unfold kernelRun0_A.sl.HS2_1
  refine (hit _ _ _ (rw2 s r) (pl q l) _ _ (by omega) (by omega)).trans ?_
  rw [KProj.v78 c arg1 harg1 arg2 harg2 arg4 harg4 arg7 harg7 arg9 harg9 H, seq_rw2, tm_rw2]

omit H in
/-- The padded lanes' product is the score. -/
theorem pad_score (b : Fin 32) (hd : Fin 8) (t t' : Fin 256) :
    ∑ l : Fin 128, qpad I b t (hl hd l) * kfull I b t' (hl hd l) = score I b hd t t' := by
  refine (Fin.sum_univ_add (a := 96) (b := 32) fun l : Fin 128 => qpad I b t (hl hd l) * kfull I b t' (hl hd l)).trans ?_
  have h0 : ∀ i : Fin 32, qpad I b t (hl hd (Fin.natAdd 96 i)) * kfull I b t' (hl hd (Fin.natAdd 96 i)) = 0 := by
    intro i
    have : qpad I b t (hl hd (Fin.natAdd 96 i)) = 0 := dif_neg (by dsimp only [hl, Fin.natAdd]; omega)
    rw [this, zero_mul]
  rw [Finset.sum_eq_zero (fun i _ => h0 i), add_zero]
  refine (Fin.sum_univ_add (a := 64) (b := 32)
    fun l : Fin 96 => qpad I b t (hl hd (Fin.castAdd 32 l)) * kfull I b t' (hl hd (Fin.castAdd 32 l))).trans ?_
  unfold score
  have eq : ∀ l : Fin 96, qpad I b t (hl hd (Fin.castAdd 32 l)) = qh I b t hd l := by
    intro l
    unfold qpad qh
    rw [dif_pos (by dsimp only [hl, Fin.castAdd, Fin.castLE]; omega)]
    exact congrArg _ (Fin.ext (by dsimp only [hl, Fin.castAdd, Fin.castLE]; omega))
  congr 1
  · refine Finset.sum_congr rfl fun i _ => ?_
    rw [eq]
    congr 1
    unfold kfull kpad kh
    rw [if_pos (by dsimp only [hl, Fin.castAdd, Fin.castLE]; omega), dif_neg (by dsimp only [hl, Fin.castAdd, Fin.castLE]; omega), add_zero]
    rfl
  · refine Finset.sum_congr rfl fun i _ => ?_
    rw [eq]
    congr 1
    unfold kfull kpad kpe
    rw [if_neg (by dsimp only [hl, Fin.castAdd, Fin.castLE, Fin.natAdd]; omega), zero_add]
    rw [dif_pos (by dsimp only [hl, Fin.castAdd, Fin.castLE, Fin.natAdd]; omega)]
    exact congrArg _ (Fin.ext (by dsimp only [hl, Fin.castAdd, Fin.castLE, Fin.natAdd] <;> omega))

variable (hI : I.Fin)

omit H in
include hI in
/-- A pair of heads. -/
theorem pair (b : Fin 32) (w : Fin 4) (q k v q' k' : FVec Ideal S256x128 .bf16)
    (hq : ∀ r l, q (ix2 r l) = qpad I b r (hl ⟨2 * w, by omega⟩ l)) (hk : ∀ r l, k (ix2 r l) = kfull I b r (hl ⟨2 * w, by omega⟩ l))
    (hv : ∀ r l, v (ix2 r l) = vfull I b r (pl w l))
    (hq' : ∀ r l, q' (ix2 r l) = qpad I b r (hl ⟨2 * w + 1, by omega⟩ l)) (hk' : ∀ r l, k' (ix2 r l) = kfull I b r (hl ⟨2 * w + 1, by omega⟩ l))
    (r : Fin 256) (j : Fin 128) :
    shapeCast S256x128 (slab (headAvg q k v) (headAvg q' k' v)) shapeCasts_S256x128_S256x128 (ix2 r j) = att I b r (pl w j) := by
  rw [shapeCast_id]
  have hs : ∀ t, IsR (∑ l : Fin 128, q (ix2 r l) * k (ix2 t l)) := fun t => by
    simp only [hq, hk, pad_score]; exact score_isR hI _ _ _ _
  have hs' : ∀ t, IsR (∑ l : Fin 128, q' (ix2 r l) * k' (ix2 t l)) := fun t => by
    simp only [hq', hk', pad_score]; exact score_isR hI _ _ _ _
  rw [slab_apply, headAvg_apply _ _ _ _ _ hs, headAvg_apply _ _ _ _ _ hs']
  simp only [hq, hk, hq', hk', hv, pad_score]
  unfold att
  split
  · rename_i h
    have e : (⟨(pl w j).val / 64, by omega⟩ : Fin 8) = ⟨2 * w + 1, by omega⟩ := Fin.ext (by dsimp only [pl]; omega)
    rw [e]
    congr 1
    funext t
    unfold vfull vh
    exact congrArg _ (Fin.ext (by dsimp only [pl]; omega))
  · rename_i h
    have e : (⟨(pl w j).val / 64, by omega⟩ : Fin 8) = ⟨2 * w, by omega⟩ := Fin.ext (by dsimp only [pl]; omega)
    rw [e]
    congr 1
    funext t
    unfold vfull vh
    exact congrArg _ (Fin.ext (by dsimp only [pl]; omega))

set_option maxHeartbeats 1000000 in
include hI in
/-- The buffer of the heads' outputs. -/
theorem om_s (s : Fin 2) (w : Fin 4) (r : Fin 256) (j : Fin 128) : View.canon (kernelRun0_A.sl.HS4_8 c arg1 harg1 arg2 harg2 arg4 harg4 arg5 harg5 arg6 harg6 arg7 harg7 arg8 harg8 arg9 harg9 arg23 arg24 arg25 x0 x1 x3 x4 x5 x6 x7 x8) (ix2 (rw2 s r) (pl w j)) = att I (sq2 g s) r (pl w j) := by
  unfold kernelRun0_A.sl.HS4_8
  obtain ⟨s, hs⟩ := s
  obtain ⟨w, hw⟩ := w
  interval_cases s <;> interval_cases w
  all_goals
    repeat refine (miss _ _ _ _ _ (by dsimp only [rw2, pl]; omega)).trans ?_
    refine (hit _ _ _ r j _ _ (by dsimp only [rw2] <;> omega) (by dsimp only [pl] <;> omega)).trans ?_
  · exact pair hI _ 0 (kernelRun0_A.sl.v178 c arg1 harg1 arg2 harg2 arg4 harg4 arg5 harg5 arg6 harg6 arg23 x0 x1 x3 x4 x5) (kernelRun0_A.sl.v180 c arg1 harg1 arg2 harg2 arg4 harg4 arg7 harg7 arg8 harg8 arg24 x0 x1 x3 x6 x7) (kernelRun0_A.sl.v193 c arg1 harg1 arg2 harg2 arg4 harg4 arg7 harg7 arg9 harg9 arg25 x0 x1 x3 x6 x8) (kernelRun0_A.sl.v198 c arg1 harg1 arg2 harg2 arg4 harg4 arg5 harg5 arg6 harg6 arg23 x0 x1 x3 x4 x5) (kernelRun0_A.sl.v200 c arg1 harg1 arg2 harg2 arg4 harg4 arg7 harg7 arg8 harg8 arg24 x0 x1 x3 x6 x7) (fun r l => qload c arg1 harg1 arg2 harg2 arg4 harg4 arg5 harg5 arg6 harg6 arg23 H _ _ _ 0 0 rfl rfl r l) (fun r l => kload c arg1 harg1 arg2 harg2 arg4 harg4 arg7 harg7 arg8 harg8 arg24 H _ _ _ 0 0 rfl rfl r l) (fun r l => vload c arg1 harg1 arg2 harg2 arg4 harg4 arg7 harg7 arg9 harg9 arg25 H _ _ _ 0 0 rfl rfl r l)
      (fun r l => qload c arg1 harg1 arg2 harg2 arg4 harg4 arg5 harg5 arg6 harg6 arg23 H _ _ _ 0 1 rfl rfl r l) (fun r l => kload c arg1 harg1 arg2 harg2 arg4 harg4 arg7 harg7 arg8 harg8 arg24 H _ _ _ 0 1 rfl rfl r l) r j
  · exact pair hI _ 1 (kernelRun0_A.sl.v226 c arg1 harg1 arg2 harg2 arg4 harg4 arg5 harg5 arg6 harg6 arg23 x0 x1 x3 x4 x5) (kernelRun0_A.sl.v228 c arg1 harg1 arg2 harg2 arg4 harg4 arg7 harg7 arg8 harg8 arg24 x0 x1 x3 x6 x7) (kernelRun0_A.sl.v241 c arg1 harg1 arg2 harg2 arg4 harg4 arg7 harg7 arg9 harg9 arg25 x0 x1 x3 x6 x8) (kernelRun0_A.sl.v246 c arg1 harg1 arg2 harg2 arg4 harg4 arg5 harg5 arg6 harg6 arg23 x0 x1 x3 x4 x5) (kernelRun0_A.sl.v248 c arg1 harg1 arg2 harg2 arg4 harg4 arg7 harg7 arg8 harg8 arg24 x0 x1 x3 x6 x7) (fun r l => qload c arg1 harg1 arg2 harg2 arg4 harg4 arg5 harg5 arg6 harg6 arg23 H _ _ _ 0 2 rfl rfl r l) (fun r l => kload c arg1 harg1 arg2 harg2 arg4 harg4 arg7 harg7 arg8 harg8 arg24 H _ _ _ 0 2 rfl rfl r l) (fun r l => vload c arg1 harg1 arg2 harg2 arg4 harg4 arg7 harg7 arg9 harg9 arg25 H _ _ _ 0 1 rfl rfl r l)
      (fun r l => qload c arg1 harg1 arg2 harg2 arg4 harg4 arg5 harg5 arg6 harg6 arg23 H _ _ _ 0 3 rfl rfl r l) (fun r l => kload c arg1 harg1 arg2 harg2 arg4 harg4 arg7 harg7 arg8 harg8 arg24 H _ _ _ 0 3 rfl rfl r l) r j
  · exact pair hI _ 2 (kernelRun0_A.sl.v274 c arg1 harg1 arg2 harg2 arg4 harg4 arg5 harg5 arg6 harg6 arg23 x0 x1 x3 x4 x5) (kernelRun0_A.sl.v276 c arg1 harg1 arg2 harg2 arg4 harg4 arg7 harg7 arg8 harg8 arg24 x0 x1 x3 x6 x7) (kernelRun0_A.sl.v289 c arg1 harg1 arg2 harg2 arg4 harg4 arg7 harg7 arg9 harg9 arg25 x0 x1 x3 x6 x8) (kernelRun0_A.sl.v294 c arg1 harg1 arg2 harg2 arg4 harg4 arg5 harg5 arg6 harg6 arg23 x0 x1 x3 x4 x5) (kernelRun0_A.sl.v296 c arg1 harg1 arg2 harg2 arg4 harg4 arg7 harg7 arg8 harg8 arg24 x0 x1 x3 x6 x7) (fun r l => qload c arg1 harg1 arg2 harg2 arg4 harg4 arg5 harg5 arg6 harg6 arg23 H _ _ _ 0 4 rfl rfl r l) (fun r l => kload c arg1 harg1 arg2 harg2 arg4 harg4 arg7 harg7 arg8 harg8 arg24 H _ _ _ 0 4 rfl rfl r l) (fun r l => vload c arg1 harg1 arg2 harg2 arg4 harg4 arg7 harg7 arg9 harg9 arg25 H _ _ _ 0 2 rfl rfl r l)
      (fun r l => qload c arg1 harg1 arg2 harg2 arg4 harg4 arg5 harg5 arg6 harg6 arg23 H _ _ _ 0 5 rfl rfl r l) (fun r l => kload c arg1 harg1 arg2 harg2 arg4 harg4 arg7 harg7 arg8 harg8 arg24 H _ _ _ 0 5 rfl rfl r l) r j
  · exact pair hI _ 3 (kernelRun0_A.sl.v322 c arg1 harg1 arg2 harg2 arg4 harg4 arg5 harg5 arg6 harg6 arg23 x0 x1 x3 x4 x5) (kernelRun0_A.sl.v324 c arg1 harg1 arg2 harg2 arg4 harg4 arg7 harg7 arg8 harg8 arg24 x0 x1 x3 x6 x7) (kernelRun0_A.sl.v337 c arg1 harg1 arg2 harg2 arg4 harg4 arg7 harg7 arg9 harg9 arg25 x0 x1 x3 x6 x8) (kernelRun0_A.sl.v342 c arg1 harg1 arg2 harg2 arg4 harg4 arg5 harg5 arg6 harg6 arg23 x0 x1 x3 x4 x5) (kernelRun0_A.sl.v344 c arg1 harg1 arg2 harg2 arg4 harg4 arg7 harg7 arg8 harg8 arg24 x0 x1 x3 x6 x7) (fun r l => qload c arg1 harg1 arg2 harg2 arg4 harg4 arg5 harg5 arg6 harg6 arg23 H _ _ _ 0 6 rfl rfl r l) (fun r l => kload c arg1 harg1 arg2 harg2 arg4 harg4 arg7 harg7 arg8 harg8 arg24 H _ _ _ 0 6 rfl rfl r l) (fun r l => vload c arg1 harg1 arg2 harg2 arg4 harg4 arg7 harg7 arg9 harg9 arg25 H _ _ _ 0 3 rfl rfl r l)
      (fun r l => qload c arg1 harg1 arg2 harg2 arg4 harg4 arg5 harg5 arg6 harg6 arg23 H _ _ _ 0 7 rfl rfl r l) (fun r l => kload c arg1 harg1 arg2 harg2 arg4 harg4 arg7 harg7 arg8 harg8 arg24 H _ _ _ 0 7 rfl rfl r l) r j
  · exact pair hI _ 0 (kernelRun0_A.sl.v395 c arg1 harg1 arg2 harg2 arg4 harg4 arg5 harg5 arg6 harg6 arg23 x0 x1 x3 x4 x5) (kernelRun0_A.sl.v397 c arg1 harg1 arg2 harg2 arg4 harg4 arg7 harg7 arg8 harg8 arg24 x0 x1 x3 x6 x7) (kernelRun0_A.sl.v410 c arg1 harg1 arg2 harg2 arg4 harg4 arg7 harg7 arg9 harg9 arg25 x0 x1 x3 x6 x8) (kernelRun0_A.sl.v415 c arg1 harg1 arg2 harg2 arg4 harg4 arg5 harg5 arg6 harg6 arg23 x0 x1 x3 x4 x5) (kernelRun0_A.sl.v417 c arg1 harg1 arg2 harg2 arg4 harg4 arg7 harg7 arg8 harg8 arg24 x0 x1 x3 x6 x7) (fun r l => qload c arg1 harg1 arg2 harg2 arg4 harg4 arg5 harg5 arg6 harg6 arg23 H _ _ _ 1 0 rfl rfl r l) (fun r l => kload c arg1 harg1 arg2 harg2 arg4 harg4 arg7 harg7 arg8 harg8 arg24 H _ _ _ 1 0 rfl rfl r l) (fun r l => vload c arg1 harg1 arg2 harg2 arg4 harg4 arg7 harg7 arg9 harg9 arg25 H _ _ _ 1 0 rfl rfl r l)
      (fun r l => qload c arg1 harg1 arg2 harg2 arg4 harg4 arg5 harg5 arg6 harg6 arg23 H _ _ _ 1 1 rfl rfl r l) (fun r l => kload c arg1 harg1 arg2 harg2 arg4 harg4 arg7 harg7 arg8 harg8 arg24 H _ _ _ 1 1 rfl rfl r l) r j
  · exact pair hI _ 1 (kernelRun0_A.sl.v443 c arg1 harg1 arg2 harg2 arg4 harg4 arg5 harg5 arg6 harg6 arg23 x0 x1 x3 x4 x5) (kernelRun0_A.sl.v445 c arg1 harg1 arg2 harg2 arg4 harg4 arg7 harg7 arg8 harg8 arg24 x0 x1 x3 x6 x7) (kernelRun0_A.sl.v458 c arg1 harg1 arg2 harg2 arg4 harg4 arg7 harg7 arg9 harg9 arg25 x0 x1 x3 x6 x8) (kernelRun0_A.sl.v463 c arg1 harg1 arg2 harg2 arg4 harg4 arg5 harg5 arg6 harg6 arg23 x0 x1 x3 x4 x5) (kernelRun0_A.sl.v465 c arg1 harg1 arg2 harg2 arg4 harg4 arg7 harg7 arg8 harg8 arg24 x0 x1 x3 x6 x7) (fun r l => qload c arg1 harg1 arg2 harg2 arg4 harg4 arg5 harg5 arg6 harg6 arg23 H _ _ _ 1 2 rfl rfl r l) (fun r l => kload c arg1 harg1 arg2 harg2 arg4 harg4 arg7 harg7 arg8 harg8 arg24 H _ _ _ 1 2 rfl rfl r l) (fun r l => vload c arg1 harg1 arg2 harg2 arg4 harg4 arg7 harg7 arg9 harg9 arg25 H _ _ _ 1 1 rfl rfl r l)
      (fun r l => qload c arg1 harg1 arg2 harg2 arg4 harg4 arg5 harg5 arg6 harg6 arg23 H _ _ _ 1 3 rfl rfl r l) (fun r l => kload c arg1 harg1 arg2 harg2 arg4 harg4 arg7 harg7 arg8 harg8 arg24 H _ _ _ 1 3 rfl rfl r l) r j
  · exact pair hI _ 2 (kernelRun0_A.sl.v491 c arg1 harg1 arg2 harg2 arg4 harg4 arg5 harg5 arg6 harg6 arg23 x0 x1 x3 x4 x5) (kernelRun0_A.sl.v493 c arg1 harg1 arg2 harg2 arg4 harg4 arg7 harg7 arg8 harg8 arg24 x0 x1 x3 x6 x7) (kernelRun0_A.sl.v506 c arg1 harg1 arg2 harg2 arg4 harg4 arg7 harg7 arg9 harg9 arg25 x0 x1 x3 x6 x8) (kernelRun0_A.sl.v511 c arg1 harg1 arg2 harg2 arg4 harg4 arg5 harg5 arg6 harg6 arg23 x0 x1 x3 x4 x5) (kernelRun0_A.sl.v513 c arg1 harg1 arg2 harg2 arg4 harg4 arg7 harg7 arg8 harg8 arg24 x0 x1 x3 x6 x7) (fun r l => qload c arg1 harg1 arg2 harg2 arg4 harg4 arg5 harg5 arg6 harg6 arg23 H _ _ _ 1 4 rfl rfl r l) (fun r l => kload c arg1 harg1 arg2 harg2 arg4 harg4 arg7 harg7 arg8 harg8 arg24 H _ _ _ 1 4 rfl rfl r l) (fun r l => vload c arg1 harg1 arg2 harg2 arg4 harg4 arg7 harg7 arg9 harg9 arg25 H _ _ _ 1 2 rfl rfl r l)
      (fun r l => qload c arg1 harg1 arg2 harg2 arg4 harg4 arg5 harg5 arg6 harg6 arg23 H _ _ _ 1 5 rfl rfl r l) (fun r l => kload c arg1 harg1 arg2 harg2 arg4 harg4 arg7 harg7 arg8 harg8 arg24 H _ _ _ 1 5 rfl rfl r l) r j
  · exact pair hI _ 3 (kernelRun0_A.sl.v539 c arg1 harg1 arg2 harg2 arg4 harg4 arg5 harg5 arg6 harg6 arg23 x0 x1 x3 x4 x5) (kernelRun0_A.sl.v541 c arg1 harg1 arg2 harg2 arg4 harg4 arg7 harg7 arg8 harg8 arg24 x0 x1 x3 x6 x7) (kernelRun0_A.sl.v554 c arg1 harg1 arg2 harg2 arg4 harg4 arg7 harg7 arg9 harg9 arg25 x0 x1 x3 x6 x8) (kernelRun0_A.sl.v559 c arg1 harg1 arg2 harg2 arg4 harg4 arg5 harg5 arg6 harg6 arg23 x0 x1 x3 x4 x5) (kernelRun0_A.sl.v561 c arg1 harg1 arg2 harg2 arg4 harg4 arg7 harg7 arg8 harg8 arg24 x0 x1 x3 x6 x7) (fun r l => qload c arg1 harg1 arg2 harg2 arg4 harg4 arg5 harg5 arg6 harg6 arg23 H _ _ _ 1 6 rfl rfl r l) (fun r l => kload c arg1 harg1 arg2 harg2 arg4 harg4 arg7 harg7 arg8 harg8 arg24 H _ _ _ 1 6 rfl rfl r l) (fun r l => vload c arg1 harg1 arg2 harg2 arg4 harg4 arg7 harg7 arg9 harg9 arg25 H _ _ _ 1 3 rfl rfl r l)
      (fun r l => qload c arg1 harg1 arg2 harg2 arg4 harg4 arg5 harg5 arg6 harg6 arg23 H _ _ _ 1 7 rfl rfl r l) (fun r l => kload c arg1 harg1 arg2 harg2 arg4 harg4 arg7 harg7 arg8 harg8 arg24 H _ _ _ 1 7 rfl rfl r l) r j

end Cert.KAttn

end
-- ==== Proof.KHead.lean ====
module

public import proofs.«01_k».proof.Proof.KScan

/-
One head of the recurrence, as the body computes it from a sequence's decayed queries and keys: the output of every row
and the last state.
-/

@[expose] public section

set_option maxRecDepth 16384

noncomputable section

namespace Cert.KHead

open Cert.KernelIdeal Cert.KernelIdeal.Gen Idealize.ShloMosaic Idealize.ShloMosaic.TcCoe Idealize.SL.Sem
open Cert.Spec Cert.Block

open Finset
open Cert.KScan

/-- A lane of 512 is a group of 128 and a place in it. -/
theorem sum512 {A : Type} [AddCommMonoid A] (f : Fin 4 → Fin 128 → A) :
    ∑ l : Fin 512, f ⟨l / 128, by omega⟩ ⟨l % 128, by omega⟩ = ∑ p, ∑ k, f p k := by
  rw [← Fintype.sum_prod_type']
  symm
  refine Fintype.sum_equiv (finProdFinEquiv (m := 4) (n := 128)) _ _ fun x => ?_
  obtain ⟨p, k⟩ := x
  have h1 : (finProdFinEquiv (m := 4) (n := 128) (p, k)).val = k.val + 128 * p.val := rfl
  congr 1 <;> apply Fin.ext <;> simp only [h1] <;> omega

noncomputable def tile4 (x : FVec Ideal S256x128 .f32) : FVec Ideal S256x512 .f32 :=
  concatenate S256x512 1 [⟨S256x128, x⟩, ⟨S256x128, x⟩, ⟨S256x128, x⟩, ⟨S256x128, x⟩] concatenates_S256x128_S256x128_S256x128_S256x128_S256x512_d1
/-- The rows of each pair kept in the pair's own group of lanes. -/
noncomputable def diag (x : FVec Ideal S256x128 .f32) : FVec Ideal S256x512 .f32 :=
  select (cmpi .eq kernelRun0_A.sl.v710 kernelRun0_A.sl.v735) (tile4 x) kernelRun0_A.sl.v853
noncomputable def cat4 (A B C D : FVec Ideal S128x128 .f32) : FVec Ideal S128x512 .f32 :=
  concatenate S128x512 1 [⟨S128x128, A⟩, ⟨S128x128, B⟩, ⟨S128x128, C⟩, ⟨S128x128, D⟩] concatenates_S128x128_S128x128_S128x128_S128x128_S128x512_d1

theorem tile4_apply (x : FVec Ideal S256x128 .f32) (r : Fin 256) (l : Fin 512) :
    tile4 x (ix2 r l) = x (ix2 r ⟨l % 128, by omega⟩) := by
  unfold tile4
  pointwise
  repeat' split
  all_goals exact congrArg x (congrArg (ix2 r) (Fin.ext (by dsimp only; omega)))
theorem diag_apply (x : FVec Ideal S256x128 .f32) (r : Fin 256) (l : Fin 512) :
    diag x (ix2 r l) = if r.val / 64 = l.val / 128 then x (ix2 r ⟨l % 128, by omega⟩) else 0 := by
  have h := Masks.pairLane r l
  unfold diag kernelRun0_A.sl.v853
  pointwise [kernelRun0_A.sl.cst_27] at h ⊢
  rw [h, Masks.sel, tile4_apply]
theorem cat4_apply (A B C D : FVec Ideal S128x128 .f32) (G : Fin 4 → Fin 128 → Fin 128 → EReal)
    (hA : ∀ i k, A (ix2 i k) = G 0 i k) (hB : ∀ i k, B (ix2 i k) = G 1 i k) (hC : ∀ i k, C (ix2 i k) = G 2 i k)
    (hD : ∀ i k, D (ix2 i k) = G 3 i k) (i : Fin 128) (l : Fin 512) :
    cat4 A B C D (ix2 i l) = G ⟨l / 128, by omega⟩ i ⟨l % 128, by omega⟩ := by
  unfold cat4
  pointwise
  simp only [hA, hB, hC, hD]
  repeat' split
  all_goals exact congr (congrFun (congrArg G (Fin.ext (by simp; omega))) i) (Fin.ext (by dsimp only; omega))

/-- The output: the pairs' own products under the two masks, and the queries against the states before each pair. -/
noncomputable def headOut (m1 m2 : IVec S256x256 1) (qd kd ke v qd2 : FVec Ideal S256x128 .f32) (A B C D : FVec Ideal S128x128 .f32) :
    FVec Ideal S256x128 .f32 :=
  addf
    (matmul dot_S256x256_S256x128_S256x128_1_0_0_1_n_n none
      (truncf .bf16 (select m1
        (matmul dot_S256x128_S256x128_S256x256_1_1_0_0_n_n none (truncf .bf16 qd bitsLt_bf16_f32) (truncf .bf16 kd bitsLt_bf16_f32) kernelRun0_A.sl.cst_511)
        (select m2
          (matmul dot_S256x128_S256x128_S256x256_1_1_0_0_n_n none (truncf .bf16 qd bitsLt_bf16_f32) (truncf .bf16 ke bitsLt_bf16_f32) kernelRun0_A.sl.cst_511)
          kernelRun0_A.sl.v989)) bitsLt_bf16_f32)
      (truncf .bf16 v bitsLt_bf16_f32) kernelRun0_A.sl.cst_216)
    (matmul dot_S256x512_S128x512_S256x128_1_1_0_0_n_n none (truncf .bf16 (diag qd2) bitsLt_bf16_f32)
      (truncf .bf16 (cat4 A B C D) bitsLt_bf16_f32) kernelRun0_A.sl.cst_216)

/-- The pairs' increments of the state, one group of lanes each; and one step of the state. -/
noncomputable def incs (v ke2 : FVec Ideal S256x128 .f32) : FVec Ideal S128x512 .f32 :=
  matmul dot_S128x256_S256x512_S128x512_1_0_0_1_n_n none
    (truncf .bf16 (transpose S128x256 [1, 0] v transposes_S256x128_p1_0_S128x256) bitsLt_bf16_f32)
    (truncf .bf16 (diag ke2) bitsLt_bf16_f32) kernelRun0_A.sl.cst_517
noncomputable def step (A : FVec Ideal S128x128 .f32) (b : FVec Ideal S1x128 .f32) (i : FVec Ideal S128x128 .f32) :
    FVec Ideal S128x128 .f32 :=
  addf (mulf A (broadcastTo S128x128 (exp b) broadcasts_S1x128_S128x128)) i

/-- The pair of times that row group `p` holds, in direction `a`. -/
def pr (a : Fin 2) (p : Fin 4) : ℕ := if a = 0 then p.val else 3 - p.val
theorem pr_row (a : Fin 2) (r : Fin 256) (p : Fin 4) : r.val / 64 = p.val ↔ tau a r / 64 = pr a p := by
  have hr := r.isLt
  unfold pr
  obtain rfl | rfl : a = 0 ∨ a = 1 := by fin_cases a <;> simp
  · rw [tau_zero, if_pos rfl]
  · rw [tau_one, if_neg (by decide)]; omega

/-- The masks of direction `a`. -/
noncomputable def near (a : Fin 2) : IVec S256x256 1 := if a = 0 then kernelRun0_A.sl.v781 else kernelRun0_A.sl.v1509
noncomputable def prev (a : Fin 2) : IVec S256x256 1 := if a = 0 then kernelRun0_A.sl.v831 else kernelRun0_A.sl.v1559
theorem near_apply (a : Fin 2) (r s : Fin 256) :
    near a (ix2 r s) = BitVec.ofBool (decide (tau a s / 32 = tau a r / 32 ∧ tau a s ≤ tau a r)) := by
  have hr := r.isLt
  have hs := s.isLt
  unfold near
  obtain rfl | rfl : a = 0 ∨ a = 1 := by fin_cases a <;> simp
  · rw [if_pos rfl, Masks.v781, tau_zero, tau_zero]; congr 1; rw [decide_eq_decide]; omega
  · rw [if_neg (by decide), Masks.v1509, tau_one, tau_one]; congr 1; rw [decide_eq_decide]; omega
theorem prev_apply (a : Fin 2) (r s : Fin 256) :
    prev a (ix2 r s) = BitVec.ofBool (decide (tau a s / 64 = tau a r / 64 ∧ tau a s / 32 < tau a r / 32)) := by
  have hr := r.isLt
  have hs := s.isLt
  unfold prev
  obtain rfl | rfl : a = 0 ∨ a = 1 := by fin_cases a <;> simp
  · rw [if_pos rfl, Masks.v831, tau_zero, tau_zero]; congr 1; rw [decide_eq_decide]; omega
  · rw [if_neg (by decide), Masks.v1559, tau_one, tau_one]; congr 1; rw [decide_eq_decide]; omega

section

variable (a : Fin 2) (q kk g : ℕ → Fin 128 → ℝ) (w : Fin 128 → ℕ → ℝ)
variable (qd kd ke v qd2 ke2 : FVec Ideal S256x128 .f32)

theorem headOut_apply (A B C D : FVec Ideal S128x128 .f32)
    (hqd : ∀ r k, qd (ix2 r k) = (Hgrn.qd q g (tau a r) k : ℝ)) (hkd : ∀ r k, kd (ix2 r k) = (Hgrn.kd kk g (tau a r) k : ℝ))
    (hke : ∀ r k, ke (ix2 r k) = (Hgrn.ke kk g (tau a r) k : ℝ)) (hv : ∀ r i, v (ix2 r i) = (w i (tau a r) : ℝ))
    (hqd2 : ∀ r k, qd2 (ix2 r k) = (Hgrn.qd2 q g (tau a r) k : ℝ))
    (hA : ∀ i k, A (ix2 i k) = (Hgrn.P kk g (w i) (pr a 0) k : ℝ)) (hB : ∀ i k, B (ix2 i k) = (Hgrn.P kk g (w i) (pr a 1) k : ℝ))
    (hC : ∀ i k, C (ix2 i k) = (Hgrn.P kk g (w i) (pr a 2) k : ℝ)) (hD : ∀ i k, D (ix2 i k) = (Hgrn.P kk g (w i) (pr a 3) k : ℝ))
    (r : Fin 256) (i : Fin 128) :
    headOut (near a) (prev a) qd kd ke v qd2 A B C D (ix2 r i) = (Hgrn.out q kk g (w i) (tau a r) : ℝ) := by
  rw [← Hgrn.pairOut_eq_out _ _ _ _ _ (tau_lt a r)]
  unfold headOut Hgrn.pairOut kernelRun0_A.sl.v989
  pointwise [kernelRun0_A.sl.cst_511, kernelRun0_A.sl.cst_216, kernelRun0_A.sl.cst_27]
  simp only [hqd, hkd, hke, hv, near_apply, prev_apply, Masks.sel, diag_apply, hqd2,
    cat4_apply A B C D (fun p i k => (Hgrn.P kk g (w i) (pr a p) k : ℝ)) hA hB hC hD]
  simp only [← EReal.coe_mul, ← coe_sum, ← EReal.coe_zero, ← coe_ite, ← EReal.coe_add]
  rw [EReal.coe_eq_coe_iff]
  refine congrArg₂ _ ?_ ?_
  · exact sum_rows a fun n => (if n / 32 = tau a r / 32 ∧ n ≤ tau a r then ∑ k, Hgrn.qd q g (tau a r) k * Hgrn.kd kk g n k
      else if n / 64 = tau a r / 64 ∧ n / 32 < tau a r / 32 then ∑ k, Hgrn.qd q g (tau a r) k * Hgrn.ke kk g n k else 0) * w i n
  · refine (sum512 fun p k => (if r.val / 64 = p.val then Hgrn.qd2 q g (tau a r) k else 0) * Hgrn.P kk g (w i) (pr a p) k).trans ?_
    rw [Finset.sum_eq_single (⟨r.val / 64, by omega⟩ : Fin 4)]
    · refine sum_congr rfl fun k _ => ?_
      rw [if_pos rfl, ← (pr_row a r ⟨r.val / 64, by omega⟩).mp rfl]
    · intro p _ hp
      refine sum_eq_zero fun k _ => ?_
      rw [if_neg (fun h => hp (Fin.ext h.symm)), zero_mul]
    · intro h; exact absurd (mem_univ _) h

theorem incs_apply (hke2 : ∀ r k, ke2 (ix2 r k) = (Hgrn.ke2 kk g (tau a r) k : ℝ)) (hv : ∀ r i, v (ix2 r i) = (w i (tau a r) : ℝ))
    (i : Fin 128) (l : Fin 512) :
    incs v ke2 (ix2 i l) = (∑ s ∈ range 256, w i s * (if s / 64 = pr a ⟨l / 128, by omega⟩ then Hgrn.ke2 kk g s ⟨l % 128, by omega⟩ else 0) : ℝ) := by
  unfold incs
  pointwise [kernelRun0_A.sl.cst_517]
  simp only [hv, diag_apply, hke2]
  simp only [← EReal.coe_mul, ← coe_sum, ← EReal.coe_zero, ← coe_ite, ← EReal.coe_add]
  rw [EReal.coe_eq_coe_iff, ← sum_rows a]
  refine sum_congr rfl fun r _ => ?_
  have := pr_row a r ⟨l / 128, by omega⟩
  simp only at this
  simp only [this]

theorem step_apply (p : ℕ) (A : FVec Ideal S128x128 .f32) (b : FVec Ideal S1x128 .f32) (x : FVec Ideal S128x128 .f32)
    (hA : ∀ i k, A (ix2 i k) = (Hgrn.P kk g (w i) p k : ℝ))
    (hb : ∀ k, b (ix2 0 k) = (Hgrn.T g (2 * p) k + Hgrn.T g (2 * p + 1) k : ℝ))
    (hx : ∀ i k, x (ix2 i k) = (∑ s ∈ range 256, w i s * (if s / 64 = p then Hgrn.ke2 kk g s k else 0) : ℝ))
    (i k : Fin 128) : step A b x (ix2 i k) = (Hgrn.P kk g (w i) (p + 1) k : ℝ) := by
  unfold step
  pointwise
  rw [hA, hb, hx, exp_coe, ← EReal.coe_mul, ← EReal.coe_add]
  rfl

end

/-! ## A head from the sequence's arrays -/

/-- A head's lanes of an array, its lanes of one row, and one group of the increments. -/
noncomputable def hs (o : ℕ) (h : S256x512.Slices ![0, o] S256x128) (X : FVec Ideal S256x512 .f32) : FVec Ideal S256x128 .f32 :=
  extractStridedSlice S256x128 ![0, o] X h
noncomputable def hr (ro o : ℕ) (h : S256x512.Slices ![ro, o] S1x128) (X : FVec Ideal S256x512 .f32) : FVec Ideal S1x128 .f32 :=
  extractStridedSlice S1x128 ![ro, o] X h
noncomputable def hi (l : ℕ) (h : S128x512.Slices ![0, l] S128x128) (X : FVec Ideal S128x512 .f32) : FVec Ideal S128x128 .f32 :=
  extractStridedSlice S128x128 ![0, l] X h

theorem hs_apply (hd : Fin 4) (h : S256x512.Slices ![0, 128 * hd.val] S256x128) (X : FVec Ideal S256x512 .f32) (r : Fin 256) (k : Fin 128) :
    hs _ h X (ix2 r k) = X (ix2 r (lane hd k)) := by
  unfold hs
  pointwise
  rfl
theorem hr_apply (hd : Fin 4) (ro : Fin 256) (h : S256x512.Slices ![ro.val, 128 * hd.val] S1x128) (X : FVec Ideal S256x512 .f32) (k : Fin 128) :
    hr _ _ h X (ix2 0 k) = X (ix2 ro (lane hd k)) := by
  unfold hr
  pointwise
  rfl
theorem hi_apply (p : Fin 4) (h : S128x512.Slices ![0, 128 * p.val] S128x128) (X : FVec Ideal S128x512 .f32) (i k : Fin 128) :
    hi _ h X (ix2 i k) = X (ix2 i (lane p k)) := by
  unfold hi
  pointwise
  rfl

section

variable (o : ℕ) (h : S256x512.Slices ![0, o] S256x128) (h0 : S256x512.Slices ![0, o] S1x128)
  (h1 : S256x512.Slices ![64, o] S1x128) (h2 : S256x512.Slices ![128, o] S1x128) (h3 : S256x512.Slices ![192, o] S1x128)
variable (qd kd ke v qd2 ke2 bp : FVec Ideal S256x512 .f32)

noncomputable def F1 := step kernelRun0_A.sl.v1008 (hr 0 o h0 bp) (hi 0 slices_S128x512_o0_0_S128x128 (incs (hs o h v) (hs o h ke2)))
noncomputable def F2 := step (F1 o h h0 v ke2 bp) (hr 64 o h1 bp) (hi 128 slices_S128x512_o0_128_S128x128 (incs (hs o h v) (hs o h ke2)))
noncomputable def F3 := step (F2 o h h0 h1 v ke2 bp) (hr 128 o h2 bp) (hi 256 slices_S128x512_o0_256_S128x128 (incs (hs o h v) (hs o h ke2)))
noncomputable def F4 := step (F3 o h h0 h1 h2 v ke2 bp) (hr 192 o h3 bp) (hi 384 slices_S128x512_o0_384_S128x128 (incs (hs o h v) (hs o h ke2)))
noncomputable def FO := headOut (near 0) (prev 0) (hs o h qd) (hs o h kd) (hs o h ke) (hs o h v) (hs o h qd2)
  kernelRun0_A.sl.v1008 (F1 o h h0 v ke2 bp) (F2 o h h0 h1 v ke2 bp) (F3 o h h0 h1 h2 v ke2 bp)

noncomputable def B1 := step kernelRun0_A.sl.v1008 (hr 192 o h3 bp) (hi 384 slices_S128x512_o0_384_S128x128 (incs (hs o h v) (hs o h ke2)))
noncomputable def B2 := step (B1 o h h3 v ke2 bp) (hr 128 o h2 bp) (hi 256 slices_S128x512_o0_256_S128x128 (incs (hs o h v) (hs o h ke2)))
noncomputable def B3 := step (B2 o h h2 h3 v ke2 bp) (hr 64 o h1 bp) (hi 128 slices_S128x512_o0_128_S128x128 (incs (hs o h v) (hs o h ke2)))
noncomputable def B4 := step (B3 o h h1 h2 h3 v ke2 bp) (hr 0 o h0 bp) (hi 0 slices_S128x512_o0_0_S128x128 (incs (hs o h v) (hs o h ke2)))
noncomputable def BO := headOut (near 1) (prev 1) (hs o h qd) (hs o h kd) (hs o h ke) (hs o h v) (hs o h qd2)
  (B3 o h h1 h2 h3 v ke2 bp) (B2 o h h2 h3 v ke2 bp) (B1 o h h3 v ke2 bp) kernelRun0_A.sl.v1008

end

theorem v1008_apply (i k : Fin 128) : kernelRun0_A.sl.v1008 (F := Ideal) (ix2 i k) = ((0 : ℝ) : EReal) := by
  unfold kernelRun0_A.sl.v1008
  pointwise [kernelRun0_A.sl.cst_27]
  rfl

section

variable (a : Fin 2) (hd : Fin 4) (q kk g w : ℕ → Fin 512 → ℝ)

/-- The data of head `hd`. -/
abbrev lq : ℕ → Fin 128 → ℝ := fun n k => q n (lane hd k)
abbrev lw (i : Fin 128) : ℕ → ℝ := fun n => w n (lane hd i)

variable (h : S256x512.Slices ![0, 128 * hd.val] S256x128) (h0 : S256x512.Slices ![0, 128 * hd.val] S1x128)
  (h1 : S256x512.Slices ![64, 128 * hd.val] S1x128) (h2 : S256x512.Slices ![128, 128 * hd.val] S1x128)
  (h3 : S256x512.Slices ![192, 128 * hd.val] S1x128)
variable (qd kd ke v qd2 ke2 bp : FVec Ideal S256x512 .f32)
variable (hv : ∀ r j, v (ix2 r j) = (w (tau a r) j : ℝ)) (hke2 : ∀ r j, ke2 (ix2 r j) = (Hgrn.ke2 kk g (tau a r) j : ℝ))
variable (hbp : ∀ r j, bp (ix2 r j) = (Hgrn.T g (tau a r / 32) j + Hgrn.T g (Hgrn.partner (tau a r / 32)) j : ℝ))
variable (hqd : ∀ r k, qd (ix2 r k) = (Hgrn.qd q g (tau a r) k : ℝ)) (hkd : ∀ r k, kd (ix2 r k) = (Hgrn.kd kk g (tau a r) k : ℝ))
variable (hke : ∀ r k, ke (ix2 r k) = (Hgrn.ke kk g (tau a r) k : ℝ)) (hqd2 : ∀ r k, qd2 (ix2 r k) = (Hgrn.qd2 q g (tau a r) k : ℝ))

include hv hke2 in
/-- A group of the increments is its pair's increment. -/
theorem hi_incs (p : Fin 4) (n : ℕ) (hn : pr a p = n) (hl : S128x512.Slices ![0, 128 * p.val] S128x128) (i k : Fin 128) :
    hi _ hl (incs (hs _ h v) (hs _ h ke2)) (ix2 i k)
      = (∑ s ∈ range 256, lw hd w i s * (if s / 64 = n then Hgrn.ke2 (lq hd kk) (lq hd g) s k else 0) : ℝ) := by
  rw [hi_apply, incs_apply a (lq hd kk) (lq hd g) (lw hd w)
    (hke2 := fun r k => by rw [hs_apply, hke2]; rfl) (hv := fun r i => by rw [hs_apply, hv])]
  subst hn
  have e1 : (lane p k).val / 128 = p.val := by show (128 * p.val + k.val) / 128 = _; omega
  have e2 : (lane p k).val % 128 = k.val := by show (128 * p.val + k.val) % 128 = _; omega
  simp only [e1, e2]

include hbp in
/-- A row of the pair sums. -/
theorem hr_bp (ro : Fin 256) (n : ℕ) (hn : tau a ro / 32 = 2 * n ∨ tau a ro / 32 = 2 * n + 1)
    (hl : S256x512.Slices ![ro.val, 128 * hd.val] S1x128) (k : Fin 128) :
    hr _ _ hl bp (ix2 0 k) = (Hgrn.T (lq hd g) (2 * n) k + Hgrn.T (lq hd g) (2 * n + 1) k : ℝ) := by
  rw [hr_apply, hbp]
  unfold Hgrn.partner
  rcases hn with e | e
  · rw [e, if_neg (by omega)]
  · rw [e, if_pos (by omega), Nat.add_sub_cancel, add_comm]

include hbp hv hke2 in
/-- The forward states, one after each pair. -/
theorem F_apply (ha : a = 0) (i k : Fin 128) :
    (F1 _ h h0 v ke2 bp (ix2 i k) = (Hgrn.P (lq hd kk) (lq hd g) (lw hd w i) 1 k : ℝ)
      ∧ F2 _ h h0 h1 v ke2 bp (ix2 i k) = (Hgrn.P (lq hd kk) (lq hd g) (lw hd w i) 2 k : ℝ))
    ∧ (F3 _ h h0 h1 h2 v ke2 bp (ix2 i k) = (Hgrn.P (lq hd kk) (lq hd g) (lw hd w i) 3 k : ℝ)
      ∧ F4 _ h h0 h1 h2 h3 v ke2 bp (ix2 i k) = (Hgrn.P (lq hd kk) (lq hd g) (lw hd w i) 4 k : ℝ)) := by
  subst ha
  have s1 := step_apply (lq hd kk) (lq hd g) (lw hd w) 0 kernelRun0_A.sl.v1008 _ _ (fun i k => v1008_apply i k)
    (hr_bp 0 hd g bp hbp 0 0 (by decide) h0) (hi_incs 0 hd kk g w h v ke2 hv hke2 0 0 rfl slices_S128x512_o0_0_S128x128)
  have s2 := step_apply (lq hd kk) (lq hd g) (lw hd w) 1 (F1 _ h h0 v ke2 bp) _ _ s1
    (hr_bp 0 hd g bp hbp 64 1 (by decide) h1) (hi_incs 0 hd kk g w h v ke2 hv hke2 1 1 rfl slices_S128x512_o0_128_S128x128)
  have s3 := step_apply (lq hd kk) (lq hd g) (lw hd w) 2 (F2 _ h h0 h1 v ke2 bp) _ _ s2
    (hr_bp 0 hd g bp hbp 128 2 (by decide) h2) (hi_incs 0 hd kk g w h v ke2 hv hke2 2 2 rfl slices_S128x512_o0_256_S128x128)
  have s4 := step_apply (lq hd kk) (lq hd g) (lw hd w) 3 (F3 _ h h0 h1 h2 v ke2 bp) _ _ s3
    (hr_bp 0 hd g bp hbp 192 3 (by decide) h3) (hi_incs 0 hd kk g w h v ke2 hv hke2 3 3 rfl slices_S128x512_o0_384_S128x128)
  exact ⟨⟨s1 i k, s2 i k⟩, s3 i k, s4 i k⟩

include hbp hv hke2 in
/-- The backward states. -/
theorem B_apply (ha : a = 1) (i k : Fin 128) :
    (B1 _ h h3 v ke2 bp (ix2 i k) = (Hgrn.P (lq hd kk) (lq hd g) (lw hd w i) 1 k : ℝ)
      ∧ B2 _ h h2 h3 v ke2 bp (ix2 i k) = (Hgrn.P (lq hd kk) (lq hd g) (lw hd w i) 2 k : ℝ))
    ∧ (B3 _ h h1 h2 h3 v ke2 bp (ix2 i k) = (Hgrn.P (lq hd kk) (lq hd g) (lw hd w i) 3 k : ℝ)
      ∧ B4 _ h h0 h1 h2 h3 v ke2 bp (ix2 i k) = (Hgrn.P (lq hd kk) (lq hd g) (lw hd w i) 4 k : ℝ)) := by
  subst ha
  have s1 := step_apply (lq hd kk) (lq hd g) (lw hd w) 0 kernelRun0_A.sl.v1008 _ _ (fun i k => v1008_apply i k)
    (hr_bp 1 hd g bp hbp 192 0 (by decide) h3) (hi_incs 1 hd kk g w h v ke2 hv hke2 3 0 rfl slices_S128x512_o0_384_S128x128)
  have s2 := step_apply (lq hd kk) (lq hd g) (lw hd w) 1 (B1 _ h h3 v ke2 bp) _ _ s1
    (hr_bp 1 hd g bp hbp 128 1 (by decide) h2) (hi_incs 1 hd kk g w h v ke2 hv hke2 2 1 rfl slices_S128x512_o0_256_S128x128)
  have s3 := step_apply (lq hd kk) (lq hd g) (lw hd w) 2 (B2 _ h h2 h3 v ke2 bp) _ _ s2
    (hr_bp 1 hd g bp hbp 64 2 (by decide) h1) (hi_incs 1 hd kk g w h v ke2 hv hke2 1 2 rfl slices_S128x512_o0_128_S128x128)
  have s4 := step_apply (lq hd kk) (lq hd g) (lw hd w) 3 (B3 _ h h1 h2 h3 v ke2 bp) _ _ s3
    (hr_bp 1 hd g bp hbp 0 3 (by decide) h0) (hi_incs 1 hd kk g w h v ke2 hv hke2 0 3 rfl slices_S128x512_o0_0_S128x128)
  exact ⟨⟨s1 i k, s2 i k⟩, s3 i k, s4 i k⟩

include h3 hbp hv hke2 hqd hkd hke hqd2 in
theorem FO_apply (ha : a = 0) (r : Fin 256) (i : Fin 128) :
    FO _ h h0 h1 h2 qd kd ke v qd2 ke2 bp (ix2 r i) = (Hgrn.out (lq hd q) (lq hd kk) (lq hd g) (lw hd w i) (tau a r) : ℝ) := by
  have hF := F_apply a hd kk g w h h0 h1 h2 h3 v ke2 bp hv hke2 hbp ha
  subst ha
  exact headOut_apply 0 (lq hd q) (lq hd kk) (lq hd g) (lw hd w) _ _ _ _ _ _ _ _ _
    (fun r k => by rw [hs_apply, hqd]; rfl) (fun r k => by rw [hs_apply, hkd]; rfl) (fun r k => by rw [hs_apply, hke]; rfl)
    (fun r k => by rw [hs_apply, hv]) (fun r k => by rw [hs_apply, hqd2]; rfl)
    (fun i k => v1008_apply i k) (fun i k => (hF i k).1.1) (fun i k => (hF i k).1.2) (fun i k => (hF i k).2.1) r i

include h0 hbp hv hke2 hqd hkd hke hqd2 in
theorem BO_apply (ha : a = 1) (r : Fin 256) (i : Fin 128) :
    BO _ h h1 h2 h3 qd kd ke v qd2 ke2 bp (ix2 r i) = (Hgrn.out (lq hd q) (lq hd kk) (lq hd g) (lw hd w i) (tau a r) : ℝ) := by
  have hF := B_apply a hd kk g w h h0 h1 h2 h3 v ke2 bp hv hke2 hbp ha
  subst ha
  exact headOut_apply 1 (lq hd q) (lq hd kk) (lq hd g) (lw hd w) _ _ _ _ _ _ _ _ _
    (fun r k => by rw [hs_apply, hqd]; rfl) (fun r k => by rw [hs_apply, hkd]; rfl) (fun r k => by rw [hs_apply, hke]; rfl)
    (fun r k => by rw [hs_apply, hv]) (fun r k => by rw [hs_apply, hqd2]; rfl)
    (fun i k => (hF i k).2.1) (fun i k => (hF i k).1.2) (fun i k => (hF i k).1.1) (fun i k => v1008_apply i k) r i

end

/-! ## A head from the log decays, the queries, the keys and the values of a sequence -/

section

variable (o : ℕ) (h : S256x512.Slices ![0, o] S256x128) (h0 : S256x512.Slices ![0, o] S1x128)
  (h1 : S256x512.Slices ![64, o] S1x128) (h2 : S256x512.Slices ![128, o] S1x128) (h3 : S256x512.Slices ![192, o] S1x128)
variable (l q k v : FVec Ideal S256x512 .f32)

noncomputable def outF := FO o h h0 h1 h2 (qdV q (scanF l)) (kdV k (scanF l)) (keV k (totF (scanF l)) (scanF l)) v
  (qd2V (second 0) (qdV q (scanF l)) (part (totF (scanF l)))) (ke2V (second 0) (keV k (totF (scanF l)) (scanF l)) (part (totF (scanF l))))
  (addf (totF (scanF l)) (part (totF (scanF l))))
noncomputable def lastF := F4 o h h0 h1 h2 h3 v (ke2V (second 0) (keV k (totF (scanF l)) (scanF l)) (part (totF (scanF l))))
  (addf (totF (scanF l)) (part (totF (scanF l))))
noncomputable def outB := BO o h h1 h2 h3 (qdV q (scanB l)) (kdV k (scanB l)) (keV k (totB (scanB l)) (scanB l)) v
  (qd2V (second 1) (qdV q (scanB l)) (part (totB (scanB l)))) (ke2V (second 1) (keV k (totB (scanB l)) (scanB l)) (part (totB (scanB l))))
  (addf (totB (scanB l)) (part (totB (scanB l))))
noncomputable def lastB := B4 o h h0 h1 h2 h3 v (ke2V (second 1) (keV k (totB (scanB l)) (scanB l)) (part (totB (scanB l))))
  (addf (totB (scanB l)) (part (totB (scanB l))))

end

theorem cum_coe (g : ℕ → ℝ) (n : ℕ) : Hgrn.cum (fun m => (g m : EReal)) n = (Hgrn.cum g n : ℝ) := (coe_sum _ _).symm
theorem tot_coe (g : ℕ → ℝ) (n : ℕ) : Hgrn.tot (fun m => (g m : EReal)) n = (Hgrn.tot g n : ℝ) := (coe_sum _ _).symm
theorem bpV_apply (a : Fin 2) (g : ℕ → Fin 512 → ℝ) (T : FVec Ideal S256x512 .f32)
    (hT : ∀ r j, T (ix2 r j) = (Hgrn.T g (tau a r / 32) j : ℝ)) (r : Fin 256) (j : Fin 512) :
    addf T (part T) (ix2 r j) = (Hgrn.T g (tau a r / 32) j + Hgrn.T g (Hgrn.partner (tau a r / 32)) j : ℝ) := by
  pointwise
  rw [hT, part_apply a T (fun c => (Hgrn.T g c j : ℝ)) j (fun r => hT r j), ← EReal.coe_add]

section

variable (hd : Fin 4) (qr kr g w : ℕ → Fin 512 → ℝ)
variable (h : S256x512.Slices ![0, 128 * hd.val] S256x128) (h0 : S256x512.Slices ![0, 128 * hd.val] S1x128)
  (h1 : S256x512.Slices ![64, 128 * hd.val] S1x128) (h2 : S256x512.Slices ![128, 128 * hd.val] S1x128)
  (h3 : S256x512.Slices ![192, 128 * hd.val] S1x128)
variable (l q k v : FVec Ideal S256x512 .f32)

include h3 in
theorem outF_apply (hl : ∀ r j, l (ix2 r j) = (g (tau 0 r) j : ℝ)) (hq : ∀ r j, q (ix2 r j) = (qr (tau 0 r) j : ℝ))
    (hk : ∀ r j, k (ix2 r j) = (kr (tau 0 r) j : ℝ)) (hv : ∀ r j, v (ix2 r j) = (w (tau 0 r) j : ℝ)) (r : Fin 256) (i j : Fin 128) :
    outF _ h h0 h1 h2 l q k v (ix2 r i) = (Hgrn.out (lq hd qr) (lq hd kr) (lq hd g) (lw hd w i) (tau 0 r) : ℝ)
      ∧ lastF _ h h0 h1 h2 h3 l k v (ix2 i j) = (Hgrn.S (lq hd kr) (lq hd g) (lw hd w i) 8 j : ℝ) := by
  have hC : ∀ r j, scanF l (ix2 r j) = (Hgrn.C g (tau 0 r) j : ℝ) := fun r j => by
    rw [scanF_apply l (fun m => (g m j : EReal)) j (fun r => hl r j), cum_coe]
  have hT : ∀ r j, totF (scanF l) (ix2 r j) = (Hgrn.T g (tau 0 r / 32) j : ℝ) := fun r j => by
    rw [totF_apply _ (fun m => (g m j : EReal)) j (fun r => by rw [hC, cum_coe]), tot_coe]
  have hT' : ∀ r j, part (totF (scanF l)) (ix2 r j) = (Hgrn.T g (Hgrn.partner (tau 0 r / 32)) j : ℝ) := fun r j =>
    part_apply 0 _ (fun c => (Hgrn.T g c j : ℝ)) j (fun r => hT r j) r
  have hqd := qdV_apply 0 qr g q _ hq hC
  have hke := keV_apply 0 kr g k _ _ hk hC hT
  have hke2 := ke2V_apply 0 kr g _ _ hke hT'
  refine ⟨FO_apply 0 hd qr kr g w h h0 h1 h2 h3 _ _ _ _ _ _ _ hv hke2 (bpV_apply 0 g _ hT) hqd (kdV_apply 0 kr g k _ hk hC) hke
    (qd2V_apply 0 qr g _ _ hqd hT') rfl r i, ?_⟩
  rw [← Hgrn.P_eq_S _ _ _ 4 (by omega)]
  exact (F_apply 0 hd kr g w h h0 h1 h2 h3 _ _ _ hv hke2 (bpV_apply 0 g _ hT) rfl i j).2.2

include h0 in
theorem outB_apply (hl : ∀ r j, l (ix2 r j) = (g (tau 1 r) j : ℝ)) (hq : ∀ r j, q (ix2 r j) = (qr (tau 1 r) j : ℝ))
    (hk : ∀ r j, k (ix2 r j) = (kr (tau 1 r) j : ℝ)) (hv : ∀ r j, v (ix2 r j) = (w (tau 1 r) j : ℝ)) (r : Fin 256) (i j : Fin 128) :
    outB _ h h1 h2 h3 l q k v (ix2 r i) = (Hgrn.out (lq hd qr) (lq hd kr) (lq hd g) (lw hd w i) (tau 1 r) : ℝ)
      ∧ lastB _ h h0 h1 h2 h3 l k v (ix2 i j) = (Hgrn.S (lq hd kr) (lq hd g) (lw hd w i) 8 j : ℝ) := by
  have hC : ∀ r j, scanB l (ix2 r j) = (Hgrn.C g (tau 1 r) j : ℝ) := fun r j => by
    rw [scanB_apply l (fun m => (g m j : EReal)) j (fun r => hl r j), cum_coe]
  have hT : ∀ r j, totB (scanB l) (ix2 r j) = (Hgrn.T g (tau 1 r / 32) j : ℝ) := fun r j => by
    rw [totB_apply _ (fun m => (g m j : EReal)) j (fun r => by rw [hC, cum_coe]), tot_coe]
  have hT' : ∀ r j, part (totB (scanB l)) (ix2 r j) = (Hgrn.T g (Hgrn.partner (tau 1 r / 32)) j : ℝ) := fun r j =>
    part_apply 1 _ (fun c => (Hgrn.T g c j : ℝ)) j (fun r => hT r j) r
  have hqd := qdV_apply 1 qr g q _ hq hC
  have hke := keV_apply 1 kr g k _ _ hk hC hT
  have hke2 := ke2V_apply 1 kr g _ _ hke hT'
  refine ⟨BO_apply 1 hd qr kr g w h h0 h1 h2 h3 _ _ _ _ _ _ _ hv hke2 (bpV_apply 1 g _ hT) hqd (kdV_apply 1 kr g k _ hk hC) hke
    (qd2V_apply 1 qr g _ _ hqd hT') rfl r i, ?_⟩
  rw [← Hgrn.P_eq_S _ _ _ 4 (by omega)]
  exact (B_apply 1 hd kr g w h h0 h1 h2 h3 _ _ _ hv hke2 (bpV_apply 1 g _ hT) rfl i j).2.2

end

end Cert.KHead

end
-- ==== Proof.KRead.lean ====
module

public import proofs.«01_k».proof.Proof.KBuf
public import proofs.«01_k».proof.Proof.KProj
public import proofs.«01_k».proof.Proof.Reals

/-
The buffer of the recurrence's inputs, and what the recurrence's loads read from it.
-/

@[expose] public section

set_option maxRecDepth 16384

noncomputable section

namespace Cert.KRead

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KBuf

/-- The buffer of the recurrence's inputs: seven groups of 512 lanes. -/
theorem buf_sq (r : Fin 512) (j : Fin 512) (l : Fin 3584) (hl : l.val = j) : View.canon (kernelRun0_A.sl.HS3_7 c arg1 harg1 arg2 harg2 arg3 harg3 arg4 harg4 x0 x1 x2 x3) (ix2 r l) = sq I (seq g r) (tm r) j := by
  unfold kernelRun0_A.sl.HS3_7
  repeat refine (miss _ _ _ _ _ (by omega)).trans ?_
  exact (hit _ _ _ r j _ _ (by omega) (by omega)).trans (KProj.v87 c arg1 harg1 arg2 harg2 arg4 harg4 H r j)
theorem buf_lf0 (r : Fin 512) (j : Fin 512) (l : Fin 3584) (hl : l.val = 512 + j) : View.canon (kernelRun0_A.sl.HS3_7 c arg1 harg1 arg2 harg2 arg3 harg3 arg4 harg4 x0 x1 x2 x3) (ix2 r l) = lf I 0 (seq g r) (tm r) j := by
  unfold kernelRun0_A.sl.HS3_7
  repeat refine (miss _ _ _ _ _ (by omega)).trans ?_
  exact (hit _ _ _ r j _ _ (by omega) (by omega)).trans (KProj.v110 c arg1 harg1 arg2 harg2 arg3 harg3 arg4 harg4 H r j)
theorem buf_hk0 (r : Fin 512) (j : Fin 512) (l : Fin 3584) (hl : l.val = 1024 + j) : View.canon (kernelRun0_A.sl.HS3_7 c arg1 harg1 arg2 harg2 arg3 harg3 arg4 harg4 x0 x1 x2 x3) (ix2 r l) = hk I 0 (seq g r) (tm r) j := by
  unfold kernelRun0_A.sl.HS3_7
  repeat refine (miss _ _ _ _ _ (by omega)).trans ?_
  exact (hit _ _ _ r j _ _ (by omega) (by omega)).trans (KProj.v115 c arg1 harg1 arg2 harg2 arg3 harg3 arg4 harg4 H r j)
theorem buf_lf1 (r : Fin 512) (j : Fin 512) (l : Fin 3584) (hl : l.val = 1536 + j) : View.canon (kernelRun0_A.sl.HS3_7 c arg1 harg1 arg2 harg2 arg3 harg3 arg4 harg4 x0 x1 x2 x3) (ix2 r l) = lf I 1 (seq g r) (tm r) j := by
  unfold kernelRun0_A.sl.HS3_7
  repeat refine (miss _ _ _ _ _ (by omega)).trans ?_
  exact (hit _ _ _ r j _ _ (by omega) (by omega)).trans (KProj.v138 c arg1 harg1 arg2 harg2 arg3 harg3 arg4 harg4 H r j)
theorem buf_hk1 (r : Fin 512) (j : Fin 512) (l : Fin 3584) (hl : l.val = 2048 + j) : View.canon (kernelRun0_A.sl.HS3_7 c arg1 harg1 arg2 harg2 arg3 harg3 arg4 harg4 x0 x1 x2 x3) (ix2 r l) = hk I 1 (seq g r) (tm r) j := by
  unfold kernelRun0_A.sl.HS3_7
  repeat refine (miss _ _ _ _ _ (by omega)).trans ?_
  exact (hit _ _ _ r j _ _ (by omega) (by omega)).trans (KProj.v143 c arg1 harg1 arg2 harg2 arg3 harg3 arg4 harg4 H r j)
theorem buf_hv (r : Fin 512) (j : Fin 512) (l : Fin 3584) (hl : l.val = 2560 + j) : View.canon (kernelRun0_A.sl.HS3_7 c arg1 harg1 arg2 harg2 arg3 harg3 arg4 harg4 x0 x1 x2 x3) (ix2 r l) = hv I (seq g r) (tm r) j := by
  unfold kernelRun0_A.sl.HS3_7
  repeat refine (miss _ _ _ _ _ (by omega)).trans ?_
  exact (hit _ _ _ r j _ _ (by omega) (by omega)).trans (KProj.v147 c arg1 harg1 arg2 harg2 arg4 harg4 H r j)
theorem buf_hg (r : Fin 512) (j : Fin 512) (l : Fin 3584) (hl : l.val = 3072 + j) :
    View.canon (kernelRun0_A.sl.HS3_7 c arg1 harg1 arg2 harg2 arg3 harg3 arg4 harg4 x0 x1 x2 x3) (ix2 r l) = proj I (seq g r) (tm r) ⟨3104 + j, by omega⟩ := by
  unfold kernelRun0_A.sl.HS3_7
  exact (hit _ _ _ r j _ _ (by omega) (by omega)).trans (KProj.v148 c arg1 harg1 arg2 harg2 arg4 harg4 H r j)

/-! ## The loads -/

theorem v832 (r : Fin 256) (j : Fin 512) : (kernelRun0_A.sl.v832 c arg1 harg1 arg2 harg2 arg3 harg3 arg4 harg4 arg26 x0 x1 x2 x3) (ix2 r j) = lf I 0 (sq2 g 0) r j := by
  refine (read2 _ _ _ r j (rw2 0 r) ⟨512 + j, by omega⟩ (by show 256 * 0 + r.val = 0 + r.val; omega) rfl).trans ?_
  rw [buf_lf0 c arg1 harg1 arg2 harg2 arg3 harg3 arg4 harg4 H _ j _ rfl, seq_rw2, tm_rw2]
theorem v889 (r : Fin 256) (j : Fin 512) : (kernelRun0_A.sl.v889 c arg1 harg1 arg2 harg2 arg3 harg3 arg4 harg4 arg26 x0 x1 x2 x3) (ix2 r j) = hk I 0 (sq2 g 0) r j := by
  refine (read2 _ _ _ r j (rw2 0 r) ⟨1024 + j, by omega⟩ (by show 256 * 0 + r.val = 0 + r.val; omega) rfl).trans ?_
  rw [buf_hk0 c arg1 harg1 arg2 harg2 arg3 harg3 arg4 harg4 H _ j _ rfl, seq_rw2, tm_rw2]
theorem v890 (r : Fin 256) (j : Fin 512) : (kernelRun0_A.sl.v890 c arg1 harg1 arg2 harg2 arg3 harg3 arg4 harg4 arg26 x0 x1 x2 x3) (ix2 r j) = sq I (sq2 g 0) r j := by
  refine (read2 _ _ _ r j (rw2 0 r) ⟨0 + j, by omega⟩ (by show 256 * 0 + r.val = 0 + r.val; omega) rfl).trans ?_
  rw [buf_sq c arg1 harg1 arg2 harg2 arg3 harg3 arg4 harg4 H _ j _ (by show 0 + j.val = _; omega), seq_rw2, tm_rw2]
theorem v905 (r : Fin 256) (j : Fin 512) : (kernelRun0_A.sl.v905 c arg1 harg1 arg2 harg2 arg3 harg3 arg4 harg4 arg26 x0 x1 x2 x3) (ix2 r j) = hv I (sq2 g 0) r j := by
  refine (read2 _ _ _ r j (rw2 0 r) ⟨2560 + j, by omega⟩ (by show 256 * 0 + r.val = 0 + r.val; omega) rfl).trans ?_
  rw [buf_hv c arg1 harg1 arg2 harg2 arg3 harg3 arg4 harg4 H _ j _ rfl, seq_rw2, tm_rw2]
theorem v906 (r : Fin 256) (j : Fin 512) : (kernelRun0_A.sl.v906 c arg1 harg1 arg2 harg2 arg3 harg3 arg4 harg4 arg26 x0 x1 x2 x3) (ix2 r j) = lf I 0 (sq2 g 1) r j := by
  refine (read2 _ _ _ r j (rw2 1 r) ⟨512 + j, by omega⟩ (by show 256 * 1 + r.val = 256 + r.val; omega) rfl).trans ?_
  rw [buf_lf0 c arg1 harg1 arg2 harg2 arg3 harg3 arg4 harg4 H _ j _ rfl, seq_rw2, tm_rw2]
theorem v963 (r : Fin 256) (j : Fin 512) : (kernelRun0_A.sl.v963 c arg1 harg1 arg2 harg2 arg3 harg3 arg4 harg4 arg26 x0 x1 x2 x3) (ix2 r j) = hk I 0 (sq2 g 1) r j := by
  refine (read2 _ _ _ r j (rw2 1 r) ⟨1024 + j, by omega⟩ (by show 256 * 1 + r.val = 256 + r.val; omega) rfl).trans ?_
  rw [buf_hk0 c arg1 harg1 arg2 harg2 arg3 harg3 arg4 harg4 H _ j _ rfl, seq_rw2, tm_rw2]
theorem v964 (r : Fin 256) (j : Fin 512) : (kernelRun0_A.sl.v964 c arg1 harg1 arg2 harg2 arg3 harg3 arg4 harg4 arg26 x0 x1 x2 x3) (ix2 r j) = sq I (sq2 g 1) r j := by
  refine (read2 _ _ _ r j (rw2 1 r) ⟨0 + j, by omega⟩ (by show 256 * 1 + r.val = 256 + r.val; omega) rfl).trans ?_
  rw [buf_sq c arg1 harg1 arg2 harg2 arg3 harg3 arg4 harg4 H _ j _ (by show 0 + j.val = _; omega), seq_rw2, tm_rw2]
theorem v979 (r : Fin 256) (j : Fin 512) : (kernelRun0_A.sl.v979 c arg1 harg1 arg2 harg2 arg3 harg3 arg4 harg4 arg26 x0 x1 x2 x3) (ix2 r j) = hv I (sq2 g 1) r j := by
  refine (read2 _ _ _ r j (rw2 1 r) ⟨2560 + j, by omega⟩ (by show 256 * 1 + r.val = 256 + r.val; omega) rfl).trans ?_
  rw [buf_hv c arg1 harg1 arg2 harg2 arg3 harg3 arg4 harg4 H _ j _ rfl, seq_rw2, tm_rw2]
theorem v1561 (r : Fin 256) (j : Fin 512) : (kernelRun0_A.sl.v1561 c arg1 harg1 arg2 harg2 arg3 harg3 arg4 harg4 arg26 x0 x1 x2 x3) (ix2 r j) = lf I 1 (sq2 g 0) r j := by
  refine (read2 _ _ _ r j (rw2 0 r) ⟨1536 + j, by omega⟩ (by show 256 * 0 + r.val = 0 + r.val; omega) rfl).trans ?_
  rw [buf_lf1 c arg1 harg1 arg2 harg2 arg3 harg3 arg4 harg4 H _ j _ rfl, seq_rw2, tm_rw2]
theorem v1618 (r : Fin 256) (j : Fin 512) : (kernelRun0_A.sl.v1618 c arg1 harg1 arg2 harg2 arg3 harg3 arg4 harg4 arg26 x0 x1 x2 x3) (ix2 r j) = hk I 1 (sq2 g 0) r j := by
  refine (read2 _ _ _ r j (rw2 0 r) ⟨2048 + j, by omega⟩ (by show 256 * 0 + r.val = 0 + r.val; omega) rfl).trans ?_
  rw [buf_hk1 c arg1 harg1 arg2 harg2 arg3 harg3 arg4 harg4 H _ j _ rfl, seq_rw2, tm_rw2]
theorem v1635 (r : Fin 256) (j : Fin 512) : (kernelRun0_A.sl.v1635 c arg1 harg1 arg2 harg2 arg3 harg3 arg4 harg4 arg26 x0 x1 x2 x3) (ix2 r j) = lf I 1 (sq2 g 1) r j := by
  refine (read2 _ _ _ r j (rw2 1 r) ⟨1536 + j, by omega⟩ (by show 256 * 1 + r.val = 256 + r.val; omega) rfl).trans ?_
  rw [buf_lf1 c arg1 harg1 arg2 harg2 arg3 harg3 arg4 harg4 H _ j _ rfl, seq_rw2, tm_rw2]
theorem v1692 (r : Fin 256) (j : Fin 512) : (kernelRun0_A.sl.v1692 c arg1 harg1 arg2 harg2 arg3 harg3 arg4 harg4 arg26 x0 x1 x2 x3) (ix2 r j) = hk I 1 (sq2 g 1) r j := by
  refine (read2 _ _ _ r j (rw2 1 r) ⟨2048 + j, by omega⟩ (by show 256 * 1 + r.val = 256 + r.val; omega) rfl).trans ?_
  rw [buf_hk1 c arg1 harg1 arg2 harg2 arg3 harg3 arg4 harg4 H _ j _ rfl, seq_rw2, tm_rw2]
theorem v2243 (r j : Fin 512) : (kernelRun0_A.sl.v2243 c arg1 harg1 arg2 harg2 arg3 harg3 arg4 harg4 arg26 x0 x1 x2 x3) (ix2 r j) = proj I (seq g r) (tm r) ⟨3104 + j, by omega⟩ := by
  refine (read2 _ _ _ r j r ⟨3072 + j, by omega⟩ (by omega) rfl).trans ?_
  exact buf_hg c arg1 harg1 arg2 harg2 arg3 harg3 arg4 harg4 H r j _ rfl

end Cert.KRead

end
-- ==== Proof.KHgrn.lean ====
module

public import proofs.«01_k».proof.Proof.KHead
public import proofs.«01_k».proof.Proof.KRead

/-
The recurrence of a block: each head of each sequence in each direction.
-/

@[expose] public section

set_option maxRecDepth 16384

noncomputable section

namespace Cert.KHgrn

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KScan Cert.KHead Cert.KRead Cert.KBuf

/-- A sequence's inputs by lane of 512, as real numbers by time. -/
noncomputable def qL (I : Inp) (a : Fin 2) (b : Fin 32) (n : ℕ) (j : Fin 512) : ℝ := (sq I b (row a n) j).toReal
noncomputable def kL (I : Inp) (a : Fin 2) (b : Fin 32) (n : ℕ) (j : Fin 512) : ℝ := (hk I a b (row a n) j).toReal
noncomputable def gL (I : Inp) (a : Fin 2) (b : Fin 32) (n : ℕ) (j : Fin 512) : ℝ := (lf I a b (row a n) j).toReal
noncomputable def vL (I : Inp) (a : Fin 2) (b : Fin 32) (n : ℕ) (j : Fin 512) : ℝ := (hv I b (row a n) j).toReal

section

variable {J : Inp} (hI : J.Fin) (b : Fin 32) (hd : Fin 4)
variable (h : S256x512.Slices ![0, 128 * hd.val] S256x128) (h0 : S256x512.Slices ![0, 128 * hd.val] S1x128)
  (h1 : S256x512.Slices ![64, 128 * hd.val] S1x128) (h2 : S256x512.Slices ![128, 128 * hd.val] S1x128)
  (h3 : S256x512.Slices ![192, 128 * hd.val] S1x128)
variable (l q k v : FVec Ideal S256x512 .f32)

omit H in
include hI in
theorem fwd (hl : ∀ r j, l (ix2 r j) = lf J 0 b r j) (hq : ∀ r j, q (ix2 r j) = sq J b r j) (hk : ∀ r j, k (ix2 r j) = Spec.hk J 0 b r j)
    (hv : ∀ r j, v (ix2 r j) = Spec.hv J b r j) (r : Fin 256) (i j : Fin 128) :
    outF _ h h0 h1 h2 l q k v (ix2 r i) = od J 0 b hd r i ∧ lastF _ h h0 h1 h2 h3 l k v (ix2 i j) = sfin J 0 b hd j i :=
  outF_apply hd (qL J 0 b) (kL J 0 b) (gL J 0 b) (vL J 0 b) h h0 h1 h2 h3 l q k v
    (fun r j => by rw [hl, (lf_isR hI 0 b r j).coe]; unfold gL; rw [row_tau])
    (fun r j => by rw [hq, (sq_isR hI b r j).coe]; unfold qL; rw [row_tau])
    (fun r j => by rw [hk, (hk_isR hI 0 b r j).coe]; unfold kL; rw [row_tau])
    (fun r j => by rw [hv, (hv_isR hI b r j).coe]; unfold vL; rw [row_tau]) r i j
omit H in
include hI in
theorem bwd (hl : ∀ r j, l (ix2 r j) = lf J 1 b r j) (hq : ∀ r j, q (ix2 r j) = sq J b r j) (hk : ∀ r j, k (ix2 r j) = Spec.hk J 1 b r j)
    (hv : ∀ r j, v (ix2 r j) = Spec.hv J b r j) (r : Fin 256) (i j : Fin 128) :
    outB _ h h1 h2 h3 l q k v (ix2 r i) = od J 1 b hd r i ∧ lastB _ h h0 h1 h2 h3 l k v (ix2 i j) = sfin J 1 b hd j i :=
  outB_apply hd (qL J 1 b) (kL J 1 b) (gL J 1 b) (vL J 1 b) h h0 h1 h2 h3 l q k v
    (fun r j => by rw [hl, (lf_isR hI 1 b r j).coe]; unfold gL; rw [row_tau])
    (fun r j => by rw [hq, (sq_isR hI b r j).coe]; unfold qL; rw [row_tau])
    (fun r j => by rw [hk, (hk_isR hI 1 b r j).coe]; unfold kL; rw [row_tau])
    (fun r j => by rw [hv, (hv_isR hI b r j).coe]; unfold vL; rw [row_tau]) r i j

end

/-! ## The body's heads -/

section

variable (hI : I.Fin)
include hI

theorem f0 (hd : Fin 4) (h : S256x512.Slices ![0, 128 * hd.val] S256x128) (h0 : S256x512.Slices ![0, 128 * hd.val] S1x128)
    (h1 : S256x512.Slices ![64, 128 * hd.val] S1x128) (h2 : S256x512.Slices ![128, 128 * hd.val] S1x128)
    (h3 : S256x512.Slices ![192, 128 * hd.val] S1x128) (r : Fin 256) (i j : Fin 128) :
    outF _ h h0 h1 h2 (kernelRun0_A.sl.v832 c arg1 harg1 arg2 harg2 arg3 harg3 arg4 harg4 arg26 x0 x1 x2 x3) (kernelRun0_A.sl.v890 c arg1 harg1 arg2 harg2 arg3 harg3 arg4 harg4 arg26 x0 x1 x2 x3) (kernelRun0_A.sl.v889 c arg1 harg1 arg2 harg2 arg3 harg3 arg4 harg4 arg26 x0 x1 x2 x3) (kernelRun0_A.sl.v905 c arg1 harg1 arg2 harg2 arg3 harg3 arg4 harg4 arg26 x0 x1 x2 x3) (ix2 r i) = od I 0 (sq2 g 0) hd r i
      ∧ lastF _ h h0 h1 h2 h3 (kernelRun0_A.sl.v832 c arg1 harg1 arg2 harg2 arg3 harg3 arg4 harg4 arg26 x0 x1 x2 x3) (kernelRun0_A.sl.v889 c arg1 harg1 arg2 harg2 arg3 harg3 arg4 harg4 arg26 x0 x1 x2 x3) (kernelRun0_A.sl.v905 c arg1 harg1 arg2 harg2 arg3 harg3 arg4 harg4 arg26 x0 x1 x2 x3) (ix2 i j) = sfin I 0 (sq2 g 0) hd j i :=
  fwd hI _ hd h h0 h1 h2 h3 _ _ _ _ (KRead.v832 c arg1 harg1 arg2 harg2 arg3 harg3 arg4 harg4 arg26 H) (KRead.v890 c arg1 harg1 arg2 harg2 arg3 harg3 arg4 harg4 arg26 H) (KRead.v889 c arg1 harg1 arg2 harg2 arg3 harg3 arg4 harg4 arg26 H) (KRead.v905 c arg1 harg1 arg2 harg2 arg3 harg3 arg4 harg4 arg26 H) r i j
theorem f1 (hd : Fin 4) (h : S256x512.Slices ![0, 128 * hd.val] S256x128) (h0 : S256x512.Slices ![0, 128 * hd.val] S1x128)
    (h1 : S256x512.Slices ![64, 128 * hd.val] S1x128) (h2 : S256x512.Slices ![128, 128 * hd.val] S1x128)
    (h3 : S256x512.Slices ![192, 128 * hd.val] S1x128) (r : Fin 256) (i j : Fin 128) :
    outF _ h h0 h1 h2 (kernelRun0_A.sl.v906 c arg1 harg1 arg2 harg2 arg3 harg3 arg4 harg4 arg26 x0 x1 x2 x3) (kernelRun0_A.sl.v964 c arg1 harg1 arg2 harg2 arg3 harg3 arg4 harg4 arg26 x0 x1 x2 x3) (kernelRun0_A.sl.v963 c arg1 harg1 arg2 harg2 arg3 harg3 arg4 harg4 arg26 x0 x1 x2 x3) (kernelRun0_A.sl.v979 c arg1 harg1 arg2 harg2 arg3 harg3 arg4 harg4 arg26 x0 x1 x2 x3) (ix2 r i) = od I 0 (sq2 g 1) hd r i
      ∧ lastF _ h h0 h1 h2 h3 (kernelRun0_A.sl.v906 c arg1 harg1 arg2 harg2 arg3 harg3 arg4 harg4 arg26 x0 x1 x2 x3) (kernelRun0_A.sl.v963 c arg1 harg1 arg2 harg2 arg3 harg3 arg4 harg4 arg26 x0 x1 x2 x3) (kernelRun0_A.sl.v979 c arg1 harg1 arg2 harg2 arg3 harg3 arg4 harg4 arg26 x0 x1 x2 x3) (ix2 i j) = sfin I 0 (sq2 g 1) hd j i :=
  fwd hI _ hd h h0 h1 h2 h3 _ _ _ _ (KRead.v906 c arg1 harg1 arg2 harg2 arg3 harg3 arg4 harg4 arg26 H) (KRead.v964 c arg1 harg1 arg2 harg2 arg3 harg3 arg4 harg4 arg26 H) (KRead.v963 c arg1 harg1 arg2 harg2 arg3 harg3 arg4 harg4 arg26 H) (KRead.v979 c arg1 harg1 arg2 harg2 arg3 harg3 arg4 harg4 arg26 H) r i j
theorem b0 (hd : Fin 4) (h : S256x512.Slices ![0, 128 * hd.val] S256x128) (h0 : S256x512.Slices ![0, 128 * hd.val] S1x128)
    (h1 : S256x512.Slices ![64, 128 * hd.val] S1x128) (h2 : S256x512.Slices ![128, 128 * hd.val] S1x128)
    (h3 : S256x512.Slices ![192, 128 * hd.val] S1x128) (r : Fin 256) (i j : Fin 128) :
    outB _ h h1 h2 h3 (kernelRun0_A.sl.v1561 c arg1 harg1 arg2 harg2 arg3 harg3 arg4 harg4 arg26 x0 x1 x2 x3) (kernelRun0_A.sl.v890 c arg1 harg1 arg2 harg2 arg3 harg3 arg4 harg4 arg26 x0 x1 x2 x3) (kernelRun0_A.sl.v1618 c arg1 harg1 arg2 harg2 arg3 harg3 arg4 harg4 arg26 x0 x1 x2 x3) (kernelRun0_A.sl.v905 c arg1 harg1 arg2 harg2 arg3 harg3 arg4 harg4 arg26 x0 x1 x2 x3) (ix2 r i) = od I 1 (sq2 g 0) hd r i
      ∧ lastB _ h h0 h1 h2 h3 (kernelRun0_A.sl.v1561 c arg1 harg1 arg2 harg2 arg3 harg3 arg4 harg4 arg26 x0 x1 x2 x3) (kernelRun0_A.sl.v1618 c arg1 harg1 arg2 harg2 arg3 harg3 arg4 harg4 arg26 x0 x1 x2 x3) (kernelRun0_A.sl.v905 c arg1 harg1 arg2 harg2 arg3 harg3 arg4 harg4 arg26 x0 x1 x2 x3) (ix2 i j) = sfin I 1 (sq2 g 0) hd j i :=
  bwd hI _ hd h h0 h1 h2 h3 _ _ _ _ (KRead.v1561 c arg1 harg1 arg2 harg2 arg3 harg3 arg4 harg4 arg26 H) (KRead.v890 c arg1 harg1 arg2 harg2 arg3 harg3 arg4 harg4 arg26 H) (KRead.v1618 c arg1 harg1 arg2 harg2 arg3 harg3 arg4 harg4 arg26 H) (KRead.v905 c arg1 harg1 arg2 harg2 arg3 harg3 arg4 harg4 arg26 H) r i j
theorem b1 (hd : Fin 4) (h : S256x512.Slices ![0, 128 * hd.val] S256x128) (h0 : S256x512.Slices ![0, 128 * hd.val] S1x128)
    (h1 : S256x512.Slices ![64, 128 * hd.val] S1x128) (h2 : S256x512.Slices ![128, 128 * hd.val] S1x128)
    (h3 : S256x512.Slices ![192, 128 * hd.val] S1x128) (r : Fin 256) (i j : Fin 128) :
    outB _ h h1 h2 h3 (kernelRun0_A.sl.v1635 c arg1 harg1 arg2 harg2 arg3 harg3 arg4 harg4 arg26 x0 x1 x2 x3) (kernelRun0_A.sl.v964 c arg1 harg1 arg2 harg2 arg3 harg3 arg4 harg4 arg26 x0 x1 x2 x3) (kernelRun0_A.sl.v1692 c arg1 harg1 arg2 harg2 arg3 harg3 arg4 harg4 arg26 x0 x1 x2 x3) (kernelRun0_A.sl.v979 c arg1 harg1 arg2 harg2 arg3 harg3 arg4 harg4 arg26 x0 x1 x2 x3) (ix2 r i) = od I 1 (sq2 g 1) hd r i
      ∧ lastB _ h h0 h1 h2 h3 (kernelRun0_A.sl.v1635 c arg1 harg1 arg2 harg2 arg3 harg3 arg4 harg4 arg26 x0 x1 x2 x3) (kernelRun0_A.sl.v1692 c arg1 harg1 arg2 harg2 arg3 harg3 arg4 harg4 arg26 x0 x1 x2 x3) (kernelRun0_A.sl.v979 c arg1 harg1 arg2 harg2 arg3 harg3 arg4 harg4 arg26 x0 x1 x2 x3) (ix2 i j) = sfin I 1 (sq2 g 1) hd j i :=
  bwd hI _ hd h h0 h1 h2 h3 _ _ _ _ (KRead.v1635 c arg1 harg1 arg2 harg2 arg3 harg3 arg4 harg4 arg26 H) (KRead.v964 c arg1 harg1 arg2 harg2 arg3 harg3 arg4 harg4 arg26 H) (KRead.v1692 c arg1 harg1 arg2 harg2 arg3 harg3 arg4 harg4 arg26 H) (KRead.v979 c arg1 harg1 arg2 harg2 arg3 harg3 arg4 harg4 arg26 H) r i j

/-- The buffer of the forward outputs. -/
theorem of_s (s : Fin 2) (hd : Fin 4) (r : Fin 256) (i : Fin 128) : View.canon (kernelRun0_A.sl.HS5_8 c arg1 harg1 arg2 harg2 arg3 harg3 arg4 harg4 arg26 x0 x1 x2 x3) (ix2 (rw2 s r) (lane hd i)) = od I 0 (sq2 g s) hd r i := by
  unfold kernelRun0_A.sl.HS5_8
  obtain ⟨s, hs⟩ := s
  obtain ⟨hd, hhd⟩ := hd
  interval_cases s <;> interval_cases hd
  all_goals
    repeat refine (miss_within _ _ _ _ _ _ _ (by dsimp only [rw2, lane]; omega)).trans ?_
    refine (hit_within _ _ _ _ _ r i _ _ (by dsimp only [rw2]; omega) (by dsimp only [lane]; omega)).trans ?_
  · unfold kernelRun0_A.sl.v1040; pointwise; exact (f0 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 r i i).1
  · unfold kernelRun0_A.sl.v1172; pointwise; exact (f0 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 r i i).1
  · unfold kernelRun0_A.sl.v1304; pointwise; exact (f0 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 r i i).1
  · unfold kernelRun0_A.sl.v1436; pointwise; exact (f0 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 r i i).1
  · unfold kernelRun0_A.sl.v1106; pointwise; exact (f1 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 r i i).1
  · unfold kernelRun0_A.sl.v1238; pointwise; exact (f1 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 r i i).1
  · unfold kernelRun0_A.sl.v1370; pointwise; exact (f1 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 r i i).1
  · unfold kernelRun0_A.sl.v1502; pointwise; exact (f1 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 r i i).1

/-- The buffer of the backward outputs. -/
theorem ob_s (s : Fin 2) (hd : Fin 4) (r : Fin 256) (i : Fin 128) : View.canon (kernelRun0_A.sl.HS6_8 c arg1 harg1 arg2 harg2 arg3 harg3 arg4 harg4 arg26 x0 x1 x2 x3) (ix2 (rw2 s r) (lane hd i)) = od I 1 (sq2 g s) hd r i := by
  unfold kernelRun0_A.sl.HS6_8
  obtain ⟨s, hs⟩ := s
  obtain ⟨hd, hhd⟩ := hd
  interval_cases s <;> interval_cases hd
  all_goals
    repeat refine (miss_within _ _ _ _ _ _ _ (by dsimp only [rw2, lane]; omega)).trans ?_
    refine (hit_within _ _ _ _ _ r i _ _ (by dsimp only [rw2]; omega) (by dsimp only [lane]; omega)).trans ?_
  · unfold kernelRun0_A.sl.v1769; pointwise; exact (b0 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 r i i).1
  · unfold kernelRun0_A.sl.v1901; pointwise; exact (b0 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 r i i).1
  · unfold kernelRun0_A.sl.v2033; pointwise; exact (b0 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 r i i).1
  · unfold kernelRun0_A.sl.v2165; pointwise; exact (b0 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 r i i).1
  · unfold kernelRun0_A.sl.v1835; pointwise; exact (b1 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 r i i).1
  · unfold kernelRun0_A.sl.v1967; pointwise; exact (b1 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 r i i).1
  · unfold kernelRun0_A.sl.v2099; pointwise; exact (b1 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 r i i).1
  · unfold kernelRun0_A.sl.v2231; pointwise; exact (b1 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 r i i).1

end

end Cert.KHgrn

end
-- ==== Proof.KTail.lean ====
module

public import proofs.«01_k».proof.Proof.KAttn
public import proofs.«01_k».proof.Proof.KHgrn

/-
The rest of a grid point: the recurrence's gated norm, the two gates, the output projection, the residual with its layer
norm, the second modulation and the routing weights.
-/

@[expose] public section

set_option maxRecDepth 16384

noncomputable section

namespace Cert.KTail

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KBuf Cert.KAttn Cert.KHgrn Cert.KRead

variable (hI : I.Fin)

omit H in
theorem split_row (r : Fin 512) : rw2 ⟨r.val / 256, by omega⟩ (tm r) = r := Fin.ext (by dsimp only [rw2, tm]; omega)
omit H in
theorem split_seq (r : Fin 512) : sq2 g ⟨r.val / 256, by omega⟩ = seq g r := rfl
omit H in
theorem split_pl (l : Fin 512) : pl ⟨l.val / 128, by omega⟩ ⟨l.val % 128, by omega⟩ = l := Fin.ext (by dsimp only [pl]; omega)
omit H in
theorem split_lane (l : Fin 512) : lane ⟨l.val / 128, by omega⟩ ⟨l.val % 128, by omega⟩ = l := Fin.ext (by dsimp only [lane]; omega)

include hI in
theorem v2338 (r : Fin 512) (l : Fin 512) : (kernelRun0_A.sl.v2338 c arg1 harg1 arg2 harg2 arg4 harg4 arg5 harg5 arg6 harg6 arg7 harg7 arg8 harg8 arg9 harg9 arg23 arg24 arg25 arg27 x0 x1 x3 x4 x5 x6 x7 x8) (ix2 r l) = att I (seq g r) (tm r) l := by
  refine (read2 _ _ _ r l r l (by omega) (by omega)).trans ?_
  have h := om_s c arg1 harg1 arg2 harg2 arg4 harg4 arg5 harg5 arg6 harg6 arg7 harg7 arg8 harg8 arg9 harg9 arg23 arg24 arg25 H hI ⟨r.val / 256, by omega⟩ ⟨l.val / 128, by omega⟩ (tm r) ⟨l.val % 128, by omega⟩
  rw [split_row, split_pl, split_seq] at h
  exact h

include hI in
theorem v2242 (r : Fin 512) (l : Fin 512) : (kernelRun0_A.sl.v2242 c arg1 harg1 arg2 harg2 arg3 harg3 arg4 harg4 arg26 arg28 arg29 x0 x1 x2 x3) (ix2 r l) = oh I (seq g r) (tm r) ⟨l.val / 128, by omega⟩ ⟨l.val % 128, by omega⟩ := by
  unfold kernelRun0_A.sl.v2242
  pointwise
  have h1 := of_s c arg1 harg1 arg2 harg2 arg3 harg3 arg4 harg4 arg26 H hI ⟨r.val / 256, by omega⟩ ⟨l.val / 128, by omega⟩ (tm r) ⟨l.val % 128, by omega⟩
  have h2 := ob_s c arg1 harg1 arg2 harg2 arg3 harg3 arg4 harg4 arg26 H hI ⟨r.val / 256, by omega⟩ ⟨l.val / 128, by omega⟩ (tm r) ⟨l.val % 128, by omega⟩
  rw [split_row, split_lane, split_seq] at h1 h2
  exact congrArg₂ (· + ·) ((read2 _ _ _ r l r l (by omega) (by omega)).trans h1) ((read2 _ _ _ r l r l (by omega) (by omega)).trans h2)

include hI in
theorem v2242h (r : Fin 512) (hd : Fin 4) (i : Fin 128) (l : Fin 512) (hl : l.val = 128 * hd.val + i.val) : (kernelRun0_A.sl.v2242 c arg1 harg1 arg2 harg2 arg3 harg3 arg4 harg4 arg26 arg28 arg29 x0 x1 x2 x3) (ix2 r l) = oh I (seq g r) (tm r) hd i := by
  rw [v2242 c arg1 harg1 arg2 harg2 arg3 harg3 arg4 harg4 arg26 arg28 arg29 H hI]
  congr 1
  · exact Fin.ext (by dsimp only; omega)
  · exact Fin.ext (by dsimp only; omega)

theorem v2243h (r : Fin 512) (hd : Fin 4) (i : Fin 128) (l : Fin 512) (hl : l.val = 128 * hd.val + i.val) :
    (kernelRun0_A.sl.v2243 c arg1 harg1 arg2 harg2 arg3 harg3 arg4 harg4 arg26 x0 x1 x2 x3) (ix2 r l) = proj I (seq g r) (tm r) ⟨3104 + (128 * hd + i), by omega⟩ := by
  rw [KRead.v2243 c arg1 harg1 arg2 harg2 arg3 harg3 arg4 harg4 arg26 H]
  exact congrArg _ (Fin.ext (by dsimp only; omega))

include hI in
theorem v2262 (r : Fin 512) (i : Fin 128) : (kernelRun0_A.sl.v2262 c arg1 harg1 arg2 harg2 arg3 harg3 arg4 harg4 arg10 harg10 arg26 arg28 arg29 x0 x1 x2 x3 x9) (ix2 r i) = hgx I (seq g r) (tm r) 0 i := by
  unfold kernelRun0_A.sl.v2262 kernelRun0_A.sl.v2261 kernelRun0_A.sl.v2260 kernelRun0_A.sl.v2259 kernelRun0_A.sl.v2258 kernelRun0_A.sl.v2257 kernelRun0_A.sl.v2256 kernelRun0_A.sl.v2255 kernelRun0_A.sl.v2254 kernelRun0_A.sl.v2253 kernelRun0_A.sl.v2251 kernelRun0_A.sl.v2249 kernelRun0_A.sl.v2248 kernelRun0_A.sl.v2247 kernelRun0_A.sl.v2246 kernelRun0_A.sl.v2244 kernelRun0_A.sl.r_24 kernelRun0_A.sl.v2250 kernelRun0_A.sl.v22
  simp only [ra]
  pointwise [kernelRun0_A.sl.cst_956, kernelRun0_A.sl.cst_10]
  have e := fun i : Fin 128 => v2242h c arg1 harg1 arg2 harg2 arg3 harg3 arg4 harg4 arg26 arg28 arg29 H hI r 0 i ⟨i.val, by omega⟩ (by simp)
  have e' := fun i : Fin 128 => v2243h c arg1 harg1 arg2 harg2 arg3 harg3 arg4 harg4 arg26 H r 0 i ⟨i.val, by omega⟩ (by simp)
  simp only [e, e', H.h9]
  rfl

include hI in
theorem v2281 (r : Fin 512) (i : Fin 128) : (kernelRun0_A.sl.v2281 c arg1 harg1 arg2 harg2 arg3 harg3 arg4 harg4 arg10 harg10 arg26 arg28 arg29 x0 x1 x2 x3 x9) (ix2 r i) = hgx I (seq g r) (tm r) 1 i := by
  unfold kernelRun0_A.sl.v2281 kernelRun0_A.sl.v2280 kernelRun0_A.sl.v2279 kernelRun0_A.sl.v2278 kernelRun0_A.sl.v2277 kernelRun0_A.sl.v2276 kernelRun0_A.sl.v2275 kernelRun0_A.sl.v2274 kernelRun0_A.sl.v2273 kernelRun0_A.sl.v2272 kernelRun0_A.sl.v2270 kernelRun0_A.sl.v2268 kernelRun0_A.sl.v2267 kernelRun0_A.sl.v2266 kernelRun0_A.sl.v2263 kernelRun0_A.sl.v2265 kernelRun0_A.sl.v2250 kernelRun0_A.sl.v22
  simp only [ra]
  pointwise [kernelRun0_A.sl.cst_956, kernelRun0_A.sl.cst_10]
  have e := fun i : Fin 128 => v2242h c arg1 harg1 arg2 harg2 arg3 harg3 arg4 harg4 arg26 arg28 arg29 H hI r 1 i ⟨128 + i.val, by omega⟩ (by simp)
  have e' := fun i : Fin 128 => v2243h c arg1 harg1 arg2 harg2 arg3 harg3 arg4 harg4 arg26 H r 1 i ⟨128 + i.val, by omega⟩ (by simp)
  simp only [e, e', H.h9]
  rfl

include hI in
theorem v2300 (r : Fin 512) (i : Fin 128) : (kernelRun0_A.sl.v2300 c arg1 harg1 arg2 harg2 arg3 harg3 arg4 harg4 arg10 harg10 arg26 arg28 arg29 x0 x1 x2 x3 x9) (ix2 r i) = hgx I (seq g r) (tm r) 2 i := by
  unfold kernelRun0_A.sl.v2300 kernelRun0_A.sl.v2299 kernelRun0_A.sl.v2298 kernelRun0_A.sl.v2297 kernelRun0_A.sl.v2296 kernelRun0_A.sl.v2276 kernelRun0_A.sl.v2294 kernelRun0_A.sl.v2293 kernelRun0_A.sl.v2292 kernelRun0_A.sl.v2291 kernelRun0_A.sl.v2289 kernelRun0_A.sl.v2287 kernelRun0_A.sl.v2286 kernelRun0_A.sl.v2285 kernelRun0_A.sl.v2282 kernelRun0_A.sl.v2265 kernelRun0_A.sl.v2250 kernelRun0_A.sl.v22
  simp only [ra]
  pointwise [kernelRun0_A.sl.cst_956, kernelRun0_A.sl.cst_10]
  have e := fun i : Fin 128 => v2242h c arg1 harg1 arg2 harg2 arg3 harg3 arg4 harg4 arg26 arg28 arg29 H hI r 2 i ⟨256 + i.val, by omega⟩ (by simp)
  have e' := fun i : Fin 128 => v2243h c arg1 harg1 arg2 harg2 arg3 harg3 arg4 harg4 arg26 H r 2 i ⟨256 + i.val, by omega⟩ (by simp)
  simp only [e, e', H.h9]
  rfl

include hI in
theorem v2319 (r : Fin 512) (i : Fin 128) : (kernelRun0_A.sl.v2319 c arg1 harg1 arg2 harg2 arg3 harg3 arg4 harg4 arg10 harg10 arg26 arg28 arg29 x0 x1 x2 x3 x9) (ix2 r i) = hgx I (seq g r) (tm r) 3 i := by
  unfold kernelRun0_A.sl.v2319 kernelRun0_A.sl.v2318 kernelRun0_A.sl.v2317 kernelRun0_A.sl.v2316 kernelRun0_A.sl.v2315 kernelRun0_A.sl.v2276 kernelRun0_A.sl.v2313 kernelRun0_A.sl.v2312 kernelRun0_A.sl.v2311 kernelRun0_A.sl.v2310 kernelRun0_A.sl.v2308 kernelRun0_A.sl.v2306 kernelRun0_A.sl.v2305 kernelRun0_A.sl.v2304 kernelRun0_A.sl.v2301 kernelRun0_A.sl.v2265 kernelRun0_A.sl.v2250 kernelRun0_A.sl.v22
  simp only [ra]
  pointwise [kernelRun0_A.sl.cst_956, kernelRun0_A.sl.cst_10]
  have e := fun i : Fin 128 => v2242h c arg1 harg1 arg2 harg2 arg3 harg3 arg4 harg4 arg26 arg28 arg29 H hI r 3 i ⟨384 + i.val, by omega⟩ (by simp)
  have e' := fun i : Fin 128 => v2243h c arg1 harg1 arg2 harg2 arg3 harg3 arg4 harg4 arg26 H r 3 i ⟨384 + i.val, by omega⟩ (by simp)
  simp only [e, e', H.h9]
  rfl

include hI in
theorem v2321 (r : Fin 512) (j : Fin 512) : (kernelRun0_A.sl.v2321 c arg1 harg1 arg2 harg2 arg3 harg3 arg4 harg4 arg10 harg10 arg26 arg28 arg29 x0 x1 x2 x3 x9) (ix2 r j) = hgx I (seq g r) (tm r) ⟨j.val / 128, by omega⟩ ⟨j.val % 128, by omega⟩ := by
  unfold kernelRun0_A.sl.v2321 kernelRun0_A.sl.v2320
  pointwise
  split
  · rw [v2262 c arg1 harg1 arg2 harg2 arg3 harg3 arg4 harg4 arg10 harg10 arg26 arg28 arg29 H hI]
    congr 1
    · exact Fin.ext (by show (0 : ℕ) = j.val / 128; omega)
    · exact Fin.ext (by dsimp only; omega)
  split
  · rw [v2281 c arg1 harg1 arg2 harg2 arg3 harg3 arg4 harg4 arg10 harg10 arg26 arg28 arg29 H hI]
    congr 1
    · exact Fin.ext (by show (1 : ℕ) = j.val / 128; omega)
    · exact Fin.ext (by dsimp only; omega)
  split
  · rw [v2300 c arg1 harg1 arg2 harg2 arg3 harg3 arg4 harg4 arg10 harg10 arg26 arg28 arg29 H hI]
    congr 1
    · exact Fin.ext (by show (2 : ℕ) = j.val / 128; omega)
    · exact Fin.ext (by dsimp only; omega)
  · rw [v2319 c arg1 harg1 arg2 harg2 arg3 harg3 arg4 harg4 arg10 harg10 arg26 arg28 arg29 H hI]
    congr 1
    · exact Fin.ext (by show (3 : ℕ) = j.val / 128; omega)
    · exact Fin.ext (by dsimp only; omega)

theorem v2332 (r : Fin 512) (d : Fin 1024) : (kernelRun0_A.sl.v2332 c arg1 harg1 arg2 harg2 x0 x1) (ix2 r d) = h I (seq g r) (tm r) d := by
  unfold kernelRun0_A.sl.v2332 kernelRun0_A.sl.v2331 kernelRun0_A.sl.v2330 kernelRun0_A.sl.v2329 kernelRun0_A.sl.v2328 kernelRun0_A.sl.v2327 kernelRun0_A.sl.v2326 kernelRun0_A.sl.v2324 kernelRun0_A.sl.r kernelRun0_A.sl.v4 kernelRun0_A.sl.v2
  simp only [ra]
  pointwise [kernelRun0_A.sl.cst]
  simp only [H.h0, H.h1]
  rfl

theorem v2335 (r : Fin 512) (d : Fin 2048) : (kernelRun0_A.sl.v2335 c arg1 harg1 arg2 harg2 arg4 harg4 x0 x1 x3) (ix2 r d) = proj I (seq g r) (tm r) ⟨3616 + d, by omega⟩ := by
  unfold kernelRun0_A.sl.v2335 kernelRun0_A.sl.v2334
  simp only [ra]
  pointwise [kernelRun0_A.sl.cst_977]
  simp only [v2332 c arg1 harg1 arg2 harg2 H, H.h3]
  rfl

include hI in
theorem v2349 (r : Fin 512) (d : Fin 1024) : (kernelRun0_A.sl.v2349 c arg1 harg1 arg2 harg2 arg3 harg3 arg4 harg4 arg5 harg5 arg6 harg6 arg7 harg7 arg8 harg8 arg9 harg9 arg10 harg10 arg11 harg11 arg12 harg12 arg23 arg24 arg25 arg26 arg27 arg28 arg29 x0 x1 x2 x3 x4 x5 x6 x7 x8 x9 x10 x11) (ix2 r d) = merged I (seq g r) (tm r) d := by
  unfold kernelRun0_A.sl.v2349 kernelRun0_A.sl.v2348 kernelRun0_A.sl.v2347 kernelRun0_A.sl.v2346 kernelRun0_A.sl.v2344 kernelRun0_A.sl.v2343 kernelRun0_A.sl.v2342 kernelRun0_A.sl.v2341 kernelRun0_A.sl.v2340 kernelRun0_A.sl.v2337 kernelRun0_A.sl.v2336
  simp only [ra]
  pointwise [kernelRun0_A.sl.cst_13]
  simp only [v2335 c arg1 harg1 arg2 harg2 arg4 harg4 H, v2338 c arg1 harg1 arg2 harg2 arg4 harg4 arg5 harg5 arg6 harg6 arg7 harg7 arg8 harg8 arg9 harg9 arg23 arg24 arg25 arg27 H hI, v2321 c arg1 harg1 arg2 harg2 arg3 harg3 arg4 harg4 arg10 harg10 arg26 arg28 arg29 H hI, H.h10, H.h11]
  have e : (⟨3616 + (1024 + d.val), by omega⟩ : Fin 5664) = ⟨4640 + d.val, by omega⟩ := Fin.ext (by dsimp only; omega)
  unfold merged
  rw [← e]

include hI in
theorem v2360 (r : Fin 512) (d : Fin 1024) : (kernelRun0_A.sl.v2360 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) (ix2 r d) = y I (seq g r) (tm r) d := by
  unfold kernelRun0_A.sl.v2360 kernelRun0_A.sl.v2359 kernelRun0_A.sl.v2358 kernelRun0_A.sl.v2357 kernelRun0_A.sl.v2356 kernelRun0_A.sl.v2353 kernelRun0_A.sl.v2352 kernelRun0_A.sl.v2350 kernelRun0_A.sl.v2237 kernelRun0_A.sl.r kernelRun0_A.sl.v2
  simp only [ra]
  pointwise [kernelRun0_A.sl.cst_991, kernelRun0_A.sl.cst_13]
  simp only [v2349 c arg1 harg1 arg2 harg2 arg3 harg3 arg4 harg4 arg5 harg5 arg6 harg6 arg7 harg7 arg8 harg8 arg9 harg9 arg10 harg10 arg11 harg11 arg12 harg12 arg23 arg24 arg25 arg26 arg27 arg28 arg29 H hI, H.h0, H.h1, H.h12]
  rfl

include hI in
theorem v2370 (r : Fin 512) (d : Fin 1024) : (kernelRun0_A.sl.v2370 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) (ix2 r d) = cen I (seq g r) (tm r) d := by
  unfold kernelRun0_A.sl.v2370 kernelRun0_A.sl.v2369 kernelRun0_A.sl.v2368 kernelRun0_A.sl.v2367 kernelRun0_A.sl.v2366 kernelRun0_A.sl.v2365
  pointwise [kernelRun0_A.sl.cst_997]
  simp only [v2360 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 H hI]
  rfl

include hI in
theorem r_25 (r : Fin 512) (d : Fin 1024) : (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) (ix2 r d) = cen I (seq g r) (tm r) d * rinv 1149239296#32 (cen I (seq g r) (tm r)) := by
  unfold kernelRun0_A.sl.r_25 kernelRun0_A.sl.v2378 kernelRun0_A.sl.v2377 kernelRun0_A.sl.v2375 kernelRun0_A.sl.v2373 kernelRun0_A.sl.v2372 kernelRun0_A.sl.v2371 kernelRun0_A.sl.v2367 kernelRun0_A.sl.v22 k0_pay342
  pointwise [kernelRun0_A.sl.cst_997, kernelRun0_A.sl.cst_10]
  simp only [v2370 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 H hI]
  rfl

end Cert.KTail

end
-- ==== Proof.KOut.lean ====
module

public import proofs.«01_k».proof.Proof.KHgrn

/-
The output blocks of a grid point, entry by entry.
-/

@[expose] public section

set_option maxRecDepth 16384

noncomputable section

namespace Cert.KOut

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KScan Cert.KHead Cert.KRead Cert.KBuf Cert.KHgrn

section

variable (gi : grid0.Coords) (arg17 : Memref sig .tc .vmem S512x1024 .f32) (harg17 : arg17.IsWhole) (arg18 : Memref sig .tc .vmem S512x1024 .bf16) (harg18 : arg18.IsWhole) (arg19 : Memref sig .tc .vmem S2x16x256 .f32) (harg19 : arg19.IsWhole) (arg20 : Memref sig .tc .vmem S512x256 .f32) (harg20 : arg20.IsWhole) (arg21 : Memref sig .tc .vmem S512x128 .f32) (harg21 : arg21.IsWhole) (arg22 : Memref sig .tc .vmem S2x2x4x128x128 .f32) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole)
variable (hI : I.Fin)

set_option maxHeartbeats 2000000 in
include hI in
/-- The block of last states. -/
theorem sfins (s : Fin 2) (a : Fin 2) (hd : Fin 4) (k i : Fin 128) :
    out0_A_21 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix5 s a hd k i) = sfin I a (sq2 g s) hd k i := by
  unfold out0_A_21
  rw [View.read_writes_junk_eq_canon]
  unfold kernelRun0_A
  dsimp only
  refine canon_pcs (e := .f32) (fun s a hd k i => sfin I a (sq2 g s) hd k i) _ _ _ _ _ _ _ _ _ _ _ _ _ _ _ _ ?_ ?_ ?_ ?_ ?_ ?_ ?_ ?_ ?_ ?_ ?_ ?_ ?_ ?_ ?_ ?_ s a hd k i
  · intro k i; unfold kernelRun0_A.sl.v1045 kernelRun0_A.sl.v1041; pointwise; exact (f0 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 0 i k).2
  · intro k i; unfold kernelRun0_A.sl.v1111 kernelRun0_A.sl.v1107; pointwise; exact (f1 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 0 i k).2
  · intro k i; unfold kernelRun0_A.sl.v1177 kernelRun0_A.sl.v1173; pointwise; exact (f0 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 0 i k).2
  · intro k i; unfold kernelRun0_A.sl.v1243 kernelRun0_A.sl.v1239; pointwise; exact (f1 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 0 i k).2
  · intro k i; unfold kernelRun0_A.sl.v1309 kernelRun0_A.sl.v1305; pointwise; exact (f0 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 0 i k).2
  · intro k i; unfold kernelRun0_A.sl.v1375 kernelRun0_A.sl.v1371; pointwise; exact (f1 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 0 i k).2
  · intro k i; unfold kernelRun0_A.sl.v1441 kernelRun0_A.sl.v1437; pointwise; exact (f0 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 0 i k).2
  · intro k i; unfold kernelRun0_A.sl.v1507 kernelRun0_A.sl.v1503; pointwise; exact (f1 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 0 i k).2
  · intro k i; unfold kernelRun0_A.sl.v1774 kernelRun0_A.sl.v1770; pointwise; exact (b0 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 0 i k).2
  · intro k i; unfold kernelRun0_A.sl.v1840 kernelRun0_A.sl.v1836; pointwise; exact (b1 c arg1 harg1 arg2 harg2 arg3 harg3 arg4 harg4 arg26 H hI 0 slices_S256x512_o0_0_S256x128 slices_S256x512_o0_0_S1x128 slices_S256x512_o64_0_S1x128 slices_S256x512_o128_0_S1x128 slices_S256x512_o192_0_S1x128 0 i k).2
  · intro k i; unfold kernelRun0_A.sl.v1906 kernelRun0_A.sl.v1902; pointwise; exact (b0 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 0 i k).2
  · intro k i; unfold kernelRun0_A.sl.v1972 kernelRun0_A.sl.v1968; pointwise; exact (b1 c arg1 harg1 arg2 harg2 arg3 harg3 arg4 harg4 arg26 H hI 1 slices_S256x512_o0_128_S256x128 slices_S256x512_o0_128_S1x128 slices_S256x512_o64_128_S1x128 slices_S256x512_o128_128_S1x128 slices_S256x512_o192_128_S1x128 0 i k).2
  · intro k i; unfold kernelRun0_A.sl.v2038 kernelRun0_A.sl.v2034; pointwise; exact (b0 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 0 i k).2
  · intro k i; unfold kernelRun0_A.sl.v2104 kernelRun0_A.sl.v2100; pointwise; exact (b1 c arg1 harg1 arg2 harg2 arg3 harg3 arg4 harg4 arg26 H hI 2 slices_S256x512_o0_256_S256x128 slices_S256x512_o0_256_S1x128 slices_S256x512_o64_256_S1x128 slices_S256x512_o128_256_S1x128 slices_S256x512_o192_256_S1x128 0 i k).2
  · intro k i; unfold kernelRun0_A.sl.v2170 kernelRun0_A.sl.v2166; pointwise; exact (b0 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 0 i k).2
  · intro k i; unfold kernelRun0_A.sl.v2236 kernelRun0_A.sl.v2232; pointwise; exact (b1 c arg1 harg1 arg2 harg2 arg3 harg3 arg4 harg4 arg26 H hI 3 slices_S256x512_o0_384_S256x128 slices_S256x512_o0_384_S1x128 slices_S256x512_o64_384_S1x128 slices_S256x512_o128_384_S1x128 slices_S256x512_o192_384_S1x128 0 i k).2

/-- The block of the normalized latent. -/
theorem ckvs (r : Fin 512) (j : Fin 256) : out0_A_19 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix2 r j) = ckv I (seq g r) (tm r) j := by
  unfold out0_A_19
  rw [View.read_writes_junk_eq_canon]
  unfold kernelRun0_A
  dsimp only
  refine (hit _ _ _ r j r j (by omega) (by omega)).trans ?_
  exact KProj.v53 c arg1 harg1 arg2 harg2 arg4 harg4 arg7 harg7 H r j

/-- The block of the shared key. -/
theorem kpes (r : Fin 512) (l : Fin 128) : out0_A_20 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix2 r l) = KProj.kpad I (seq g r) (tm r) l := by
  unfold out0_A_20
  rw [View.read_writes_junk_eq_canon]
  unfold kernelRun0_A
  dsimp only
  refine (hit _ _ _ r l r l (by omega) (by omega)).trans ?_
  exact KProj.v59 c arg1 harg1 arg2 harg2 arg4 harg4 H r l

end

end Cert.KOut

end
-- ==== Proof.KRows.lean ====
module

public import proofs.«01_k».proof.Proof.KTail
public import proofs.«01_k».proof.Proof.KOut

/-
A grid point's blocks of the layer norm's output, its modulation and the routing weights.
-/

@[expose] public section

set_option maxRecDepth 16384

noncomputable section

namespace Cert.KRows

open Cert.KernelIdeal Cert.KernelIdeal.Gen Idealize.ShloMosaic Idealize.ShloMosaic.TcCoe Idealize.SL.Sem
open Cert.Spec Cert.Block

variable (c : Dev nD) (arg1 : Memref sig .tc .vmem S512x1024 .f32) (harg1 : arg1.IsWhole) (arg2 : Memref sig .tc .vmem S8x6144 .f32) (harg2 : arg2.IsWhole) (arg3 : Memref sig .tc .vmem S2x2x512 .f32) (harg3 : arg3.IsWhole) (arg4 : Memref sig .tc .vmem S5664x1024 .bf16) (harg4 : arg4.IsWhole) (arg5 : Memref sig .tc .vmem S1x768 .f32) (harg5 : arg5.IsWhole) (arg6 : Memref sig .tc .vmem S768x1024 .bf16) (harg6 : arg6.IsWhole) (arg7 : Memref sig .tc .vmem S1x256 .f32) (harg7 : arg7.IsWhole) (arg8 : Memref sig .tc .vmem S256x1024 .bf16) (harg8 : arg8.IsWhole) (arg9 : Memref sig .tc .vmem S256x512 .bf16) (harg9 : arg9.IsWhole) (arg10 : Memref sig .tc .vmem S1x128 .f32) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1x1024 .f32) (harg15 : arg15.IsWhole) (arg16 : Memref sig .tc .vmem S16x1024 .bf16) (harg16 : arg16.IsWhole)
variable (arg23 arg24 : Memref sig .tc .vmem S512x1024 .bf16) (arg25 : Memref sig .tc .vmem S512x512 .bf16) (arg26 : Memref sig .tc .vmem S512x3584 .f32) (arg27 : Memref sig .tc .vmem S512x512 .bf16) (arg28 arg29 : Memref sig .tc .vmem S512x512 .f32)
variable {I : Inp} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 : Vec Ideal S1x128 .f32} {x10 x11 : Vec Ideal S512x1024 .bf16} {x12 : Vec Ideal S1024x1024 .bf16} {x13 x14 : Vec Ideal S1x1024 .f32} {x15 : Vec Ideal S16x1024 .bf16}
variable (H : BlockIs I g x0 x1 x2 x3 x4 x5 x6 x7 x8 x9 x10 x11 x12 x13 x14 x15)
include H

open Cert.KBuf Cert.KTail

section

variable (gi : grid0.Coords) (arg17 : Memref sig .tc .vmem S512x1024 .f32) (harg17 : arg17.IsWhole) (arg18 : Memref sig .tc .vmem S512x1024 .bf16) (harg18 : arg18.IsWhole) (arg19 : Memref sig .tc .vmem S2x16x256 .f32) (harg19 : arg19.IsWhole) (arg20 : Memref sig .tc .vmem S512x256 .f32) (harg20 : arg20.IsWhole) (arg21 : Memref sig .tc .vmem S512x128 .f32) (harg21 : arg21.IsWhole) (arg22 : Memref sig .tc .vmem S2x2x4x128x128 .f32) (harg22 : arg22.IsWhole) (harg23 : arg23.IsWhole) (harg24 : arg24.IsWhole) (harg25 : arg25.IsWhole) (harg26 : arg26.IsWhole) (harg27 : arg27.IsWhole) (harg28 : arg28.IsWhole) (harg29 : arg29.IsWhole)
variable (hI : I.Fin)

include hI in
/-- The stored payloads, read at a row. -/
theorem row1 (r : Fin 512) (d : Fin 1024) : k0_pay1 (kernelRun0_A.sl.v2362 c arg14 harg14 x13) (kernelRun0_A.sl.v2364 c arg15 harg15 x14) (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) (ix2 r d) = Spec.x1 I (seq g r) (tm r) d := by
  unfold k0_pay1 kernelRun0_A.sl.v2362 kernelRun0_A.sl.v2364
  simp only [ra]
  pointwise
  simp only [KTail.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 H hI, H.h13, H.h14]
  rfl

include hI in
theorem row2 (r : Fin 512) (d : Fin 1024) : k0_pay2 (kernelRun0_A.sl.v2238 c arg2 harg2 x1) (kernelRun0_A.sl.v2239 c arg2 harg2 x1) (kernelRun0_A.sl.v2362 c arg14 harg14 x13) (kernelRun0_A.sl.v2364 c arg15 harg15 x14) (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) (ix2 r d) = h2 I (seq g r) (tm r) d := by
  unfold k0_pay2
  have e := row1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI
  generalize k0_pay1 (kernelRun0_A.sl.v2362 c arg14 harg14 x13) (kernelRun0_A.sl.v2364 c arg15 harg15 x14) (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) = X at e ⊢
  unfold kernelRun0_A.sl.v2238 kernelRun0_A.sl.v2239 kernelRun0_A.sl.r
  simp only [ra]
  pointwise
  simp only [e, H.h1]
  unfold h2
  congr 2

include hI in
theorem row3 (W : FVec Ideal S16x1024 .bf16) (hW : ∀ e d, W (ix2 e d) = I.wr d e) (e : Fin 16) (r : Fin 512) :
    k0_pay3 (kernelRun0_A.sl.v2238 c arg2 harg2 x1) (kernelRun0_A.sl.v2239 c arg2 harg2 x1) (kernelRun0_A.sl.v2362 c arg14 harg14 x13) (kernelRun0_A.sl.v2364 c arg15 harg15 x14) (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) W (ix2 e r) = aff I (seq g r) (tm r) e := by
  unfold k0_pay3
  have e2 := row2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI
  generalize k0_pay2 (kernelRun0_A.sl.v2238 c arg2 harg2 x1) (kernelRun0_A.sl.v2239 c arg2 harg2 x1) (kernelRun0_A.sl.v2362 c arg14 harg14 x13) (kernelRun0_A.sl.v2364 c arg15 harg15 x14) (kernelRun0_A.sl.r_25 c arg1 harg1 arg2 harg2 arg3 harg3 arg4 harg4 arg5 harg5 arg6 harg6 arg7 harg7 arg8 harg8 arg9 harg9 arg10 harg10 arg11 harg11 arg12 harg12 arg13 harg13 arg23 arg24 arg25 arg26 arg27 arg28 arg29 x0 x1 x2 x3 x4 x5 x6 x7 x8 x9 x10 x11 x12) = X at e2 ⊢
  pointwise
  simp only [e2, hW, mul_comm (I.wr _ _)]
  rfl

set_option maxHeartbeats 1000000

include hI in
theorem x1s (r : Fin 512) (d : Fin 1024) : out0_A_16 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix2 r d) = Spec.x1 I (seq g r) (tm r) d := by
  unfold out0_A_16
  rw [View.read_writes_junk_eq_canon]
  unfold kernelRun0_A
  dsimp only
  refine (hit _ _ _ r d r d (by omega) (by omega)).trans ?_
  exact row1 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI r d

include hI in
theorem h2s (r : Fin 512) (d : Fin 1024) : out0_A_17 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix2 r d) = h2 I (seq g r) (tm r) d := by
  unfold out0_A_17
  rw [View.read_writes_junk_eq_canon]
  unfold kernelRun0_A
  dsimp only
  refine (hit _ _ _ r d r d (by omega) (by omega)).trans ?_
  exact row2 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI r d

include hI in
theorem affs (s : Fin 2) (e : Fin 16) (t : Fin 256) : out0_A_18 c gi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 x0 x1 x2 x3 x4 x5 x6 x7 x8 x9 x10 x11 x12 x13 x14 x15 (ix3 s e t) = aff I (sq2 g s) t e := by
  unfold out0_A_18
  rw [View.read_writes_junk_eq_canon]
  unfold kernelRun0_A
  dsimp only
  obtain ⟨s, hs⟩ := s
  interval_cases s
  · refine (miss3 _ _ _ _ _ _ (by dsimp only; omega)).trans ?_
    refine (hit3 _ _ _ _ e t (by rfl)).trans ?_
    unfold k0_pay4
    pointwise
    refine (row3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI _ ?_ e ⟨t.val, by omega⟩).trans ?_
    · intro e d; simp only [ra]; pointwise; exact H.h15 e d
    · rw [show (⟨t.val, by omega⟩ : Fin 512) = rw2 0 t from Fin.ext (by dsimp only [rw2]; simp), seq_rw2, tm_rw2]
  · refine (hit3 _ _ _ _ e t (by rfl)).trans ?_
    unfold k0_pay5
    pointwise
    refine (row3 c arg1 harg1 arg2 harg2 arg3 harg3 arg4 harg4 arg5 harg5 arg6 harg6 arg7 harg7 arg8 harg8 arg9 harg9 arg10 harg10 arg11 harg11 arg12 harg12 arg13 harg13 arg14 harg14 arg15 harg15 arg23 arg24 arg25 arg26 arg27 arg28 arg29 H hI _ ?_ e ⟨256 + t.val, by omega⟩).trans ?_
    · intro e d; simp only [ra]; pointwise; exact H.h15 e d
    · rw [show (⟨256 + t.val, by omega⟩ : Fin 512) = rw2 1 t from Fin.ext (by dsimp only [rw2]; simp), seq_rw2, tm_rw2]

end

end Cert.KRows

end
-- ==== Proof.KWin.lean ====
module

public import proofs.«01_k».proof.Proof.KRows

/-
The input blocks of every grid point, as functions of the arguments.
-/

@[expose] public section

set_option maxRecDepth 16384

noncomputable section

namespace Cert.KWin

open Cert.KernelIdeal Cert.KernelIdeal.Gen Idealize.ShloMosaic Idealize.ShloMosaic.TcCoe Idealize.SL.Sem
open Cert.Spec Cert.Block

variable (m : (ℓ : Loc nD τ sig) → Buf (Elt Ideal) ℓ) (c : Dev nD)

/-- The arguments, read at their coordinates. -/
def inpOf (a0 : FVec Ideal S32x256x1024 .f32) (a1 : FVec Ideal S8x6144 .f32) (a2 : FVec Ideal S1x1024x5664 .f32)
    (a3 : FVec Ideal S1x768 .f32) (a4 : FVec Ideal S1x768x768 .f32) (a5 : FVec Ideal S1x256 .f32)
    (a6 : FVec Ideal S1x256x1024 .f32) (a7 : FVec Ideal S1x512x1024 .f32) (a8 : FVec Ideal S2x2x512 .f32)
    (a9 : FVec Ideal S1x128 .f32) (a10 : FVec Ideal S1x512x1024 .f32) (a11 : FVec Ideal S1x1024x1024 .f32)
    (a12 a13 : FVec Ideal S1x1024 .f32) (a14 : FVec Ideal S1x1024x16 .f32) : Spec.Inp where
  x b t d := a0 (ix3 b t d)
  md j := a1 (ix2 0 j)
  win d j := a2 (ix3 0 d j)
  qn i := a3 (ix2 0 i)
  wuq i j := a4 (ix3 0 i j)
  kvn i := a5 (ix2 0 i)
  wukv i j := a6 (ix3 0 i j)
  wo i j := a7 (ix3 0 i j)
  gam a b j := a8 (ix3 a b j)
  hgn i := a9 (ix2 0 i)
  who i j := a10 (ix3 0 i j)
  wout i j := a11 (ix3 0 i j)
  lng i := a12 (ix2 0 i)
  lnb i := a13 (ix2 0 i)
  wr i j := a14 (ix3 0 i j)

/-- The launch's arguments, read at their coordinates. -/
def inp : Spec.Inp :=
  inpOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem sz : (FloatOps.sitofp (F := Ideal) FTy.f32 0#32 : EReal) = 0 := by
  show ((((0#32 : BitVec 32).toInt : ℤ) : ℝ) : EReal) = 0
  simp

/-! ## What the host operations leave in the kernel's operands -/

theorem a36 (r : Fin 8192) (d : Fin 1024) : (V m c main_v36 : FVec Ideal S8192x1024 .f32) (ix2 r d) = (inp m c).x ⟨r / 256, by omega⟩ ⟨r % 256, by omega⟩ d := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a13 (j : Fin 5664) (d : Fin 1024) : (V m c main_v13 : FVec Ideal S5664x1024 .bf16) (ix2 j d) = (inp m c).win d j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a23 (j : Fin 768) : (V m c main_v23 : FVec Ideal S1x768 .f32) (ix2 0 j) = (inp m c).qn j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a24 (i : Fin 768) (l : Fin 1024) : (V m c main_v24 : FVec Ideal S768x1024 .bf16) (ix2 i l) = if hl : l.val % 128 < 96 then (inp m c).wuq i ⟨96 * (l / 128) + l % 128, by omega⟩ else 0 := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val % 128 < 96
  · rw [dif_pos h, dif_pos ⟨by omega, h⟩]
    exact congrArg (m (c, Proc.tc.devRef main_arg4)) (congrArg (ix3 0 i) (Fin.ext (by dsimp only <;> omega)))
  · have h2 : ¬(l.val / 128 < 8 ∧ l.val % 128 < 96) := fun hh => h hh.2
    rw [dif_neg h2, dif_neg h]; exact sz

theorem a25 (j : Fin 256) : (V m c main_v25 : FVec Ideal S1x256 .f32) (ix2 0 j) = (inp m c).kvn j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a26 (i : Fin 256) (l : Fin 1024) : (V m c main_v26 : FVec Ideal S256x1024 .bf16) (ix2 i l) = if l.val % 128 < 64 then (inp m c).wukv i l else 0 := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val % 128 < 64
  · rw [if_pos h, dif_pos ⟨by omega, h⟩]
    exact congrArg (m (c, Proc.tc.devRef main_arg6)) (congrArg (ix3 0 i) (Fin.ext (by dsimp only <;> omega)))
  · rw [if_neg h, dif_neg fun hh => h hh.2]; exact sz

theorem a27 (i : Fin 256) (l : Fin 512) : (V m c main_v27 : FVec Ideal S256x512 .bf16) (ix2 i l) = (inp m c).wukv i ⟨128 * (l / 64) + 64 + l % 64, by omega⟩ := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  exact congrArg (m (c, Proc.tc.devRef main_arg6)) (congrArg (ix3 0 i) (Fin.ext (by dsimp only <;> omega)))

theorem a28 (j : Fin 128) : (V m c main_v28 : FVec Ideal S1x128 .f32) (ix2 0 j) = (inp m c).hgn j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a29 (j : Fin 512) (d : Fin 1024) : (V m c main_v29 : FVec Ideal S512x1024 .bf16) (ix2 j d) = (inp m c).wo j d := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a30 (j : Fin 512) (d : Fin 1024) : (V m c main_v30 : FVec Ideal S512x1024 .bf16) (ix2 j d) = (inp m c).who j d := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a31 (j : Fin 1024) (d : Fin 1024) : (V m c main_v31 : FVec Ideal S1024x1024 .bf16) (ix2 j d) = (inp m c).wout j d := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a32 (j : Fin 1024) : (V m c main_v32 : FVec Ideal S1x1024 .f32) (ix2 0 j) = (inp m c).lng j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a33 (j : Fin 1024) : (V m c main_v33 : FVec Ideal S1x1024 .f32) (ix2 0 j) = (inp m c).lnb j := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

theorem a35 (e : Fin 16) (d : Fin 1024) : (V m c main_v35 : FVec Ideal S16x1024 .bf16) (ix2 e d) = (inp m c).wr d e := by
  unfold V
  simp only [hostOps0, hostOps0_1, hostOps0_2, hostOps0_3, hostOps0_4, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  rfl

/-! ## The blocks -/

variable (t : Fin grid0.N)

/-- The grid point's number. -/
def gp : Fin 16 := ⟨t.val, by have := t.isLt; have h : grid0.N = 16 := by decide +kernel
                              omega⟩

/-- A window whose block is the whole array at every point reads the array itself. -/
theorem rd {w : Pipeline.Window sig grid0} {t : Fin grid0.N} (h : ∀ a, (w.rect t).off a = 0 ∧ (w.rect t).stride a = 1) {α : Type} (X : w.shape.Idx → α)
    {x : (w.rect t).shape.Idx} {y : w.shape.Idx} (hy : ∀ a, (x a).val = (y a).val) : X ((w.rect t).emb x) = X y := by
  congr 1
  funext a
  apply Fin.ext
  rw [Rect.emb_apply, (h a).1, (h a).2, hy, zero_add, one_mul]

theorem b0 (r : Fin 512) (d : Fin 1024) : (iblk m c 0 t : FVec Ideal S512x1024 .f32) (ix2 r d) = (inp m c).x (seq (gp t) r) (tm r) d := by
  show (V m c main_v36 : FVec Ideal S8192x1024 .f32) ((win0_0.rect t).emb (ix2 r d)) = _
  have e : (win0_0.rect t).emb (ix2 r d) = ix2 (n0 := 8192) (n1 := 1024) ⟨512 * (gp t).val + r.val, by have := (gp t).isLt; omega⟩ d := by
    have h := (by decide +kernel : ∀ t : Fin grid0.N, win0_0.index t 0 = t.val ∧ win0_0.index t 1 = 0) t
    funext a
    apply Fin.ext
    rw [Rect.emb_apply]
    match a with
    | ⟨0, _⟩ => show win0_0.index t 0 * 512 + 1 * r.val = 512 * t.val + r.val
                rw [h.1]; omega
    | ⟨1, _⟩ => show win0_0.index t 1 * 1024 + 1 * d.val = d.val
                rw [h.2]; omega
  rw [e, a36]
  unfold seq tm
  congr 1 <;> exact Fin.ext (by dsimp only <;> omega)

set_option maxHeartbeats 2000000 in
theorem blockIs : BlockIs (inp m c) (gp t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (iblk m c 12 t) (iblk m c 13 t) (iblk m c 14 t) (iblk m c 15 t) where
  h0 := b0 m c t
  h1 j := (rd (w := win0_1) ((by decide +kernel : ∀ t : Fin grid0.N, ∀ a, (win0_1.rect t).off a = 0 ∧ (win0_1.rect t).stride a = 1) t) (V m c main_arg1) (y := (ix2 0 j)) fun _ => rfl).trans (congrFun (V_main_arg1 m c) _)
  h2 a b j := (rd (w := win0_2) ((by decide +kernel : ∀ t : Fin grid0.N, ∀ a, (win0_2.rect t).off a = 0 ∧ (win0_2.rect t).stride a = 1) t) (V m c main_arg8) (y := (ix3 a b j)) fun _ => rfl).trans (congrFun (V_main_arg8 m c) _)
  h3 j d := (rd (w := win0_3) ((by decide +kernel : ∀ t : Fin grid0.N, ∀ a, (win0_3.rect t).off a = 0 ∧ (win0_3.rect t).stride a = 1) t) (V m c main_v13) (y := (ix2 j d)) fun _ => rfl).trans (a13 m c j d)
  h4 j := (rd (w := win0_4) ((by decide +kernel : ∀ t : Fin grid0.N, ∀ a, (win0_4.rect t).off a = 0 ∧ (win0_4.rect t).stride a = 1) t) (V m c main_v23) (y := (ix2 0 j)) fun _ => rfl).trans (a23 m c j)
  h5 i l := (rd (w := win0_5) ((by decide +kernel : ∀ t : Fin grid0.N, ∀ a, (win0_5.rect t).off a = 0 ∧ (win0_5.rect t).stride a = 1) t) (V m c main_v24) (y := (ix2 i l)) fun _ => rfl).trans (a24 m c i l)
  h6 j := (rd (w := win0_6) ((by decide +kernel : ∀ t : Fin grid0.N, ∀ a, (win0_6.rect t).off a = 0 ∧ (win0_6.rect t).stride a = 1) t) (V m c main_v25) (y := (ix2 0 j)) fun _ => rfl).trans (a25 m c j)
  h7 i l := (rd (w := win0_7) ((by decide +kernel : ∀ t : Fin grid0.N, ∀ a, (win0_7.rect t).off a = 0 ∧ (win0_7.rect t).stride a = 1) t) (V m c main_v26) (y := (ix2 i l)) fun _ => rfl).trans (a26 m c i l)
  h8 i l := (rd (w := win0_8) ((by decide +kernel : ∀ t : Fin grid0.N, ∀ a, (win0_8.rect t).off a = 0 ∧ (win0_8.rect t).stride a = 1) t) (V m c main_v27) (y := (ix2 i l)) fun _ => rfl).trans (a27 m c i l)
  h9 j := (rd (w := win0_9) ((by decide +kernel : ∀ t : Fin grid0.N, ∀ a, (win0_9.rect t).off a = 0 ∧ (win0_9.rect t).stride a = 1) t) (V m c main_v28) (y := (ix2 0 j)) fun _ => rfl).trans (a28 m c j)
  h10 j d := (rd (w := win0_10) ((by decide +kernel : ∀ t : Fin grid0.N, ∀ a, (win0_10.rect t).off a = 0 ∧ (win0_10.rect t).stride a = 1) t) (V m c main_v29) (y := (ix2 j d)) fun _ => rfl).trans (a29 m c j d)
  h11 j d := (rd (w := win0_11) ((by decide +kernel : ∀ t : Fin grid0.N, ∀ a, (win0_11.rect t).off a = 0 ∧ (win0_11.rect t).stride a = 1) t) (V m c main_v30) (y := (ix2 j d)) fun _ => rfl).trans (a30 m c j d)
  h12 j d := (rd (w := win0_12) ((by decide +kernel : ∀ t : Fin grid0.N, ∀ a, (win0_12.rect t).off a = 0 ∧ (win0_12.rect t).stride a = 1) t) (V m c main_v31) (y := (ix2 j d)) fun _ => rfl).trans (a31 m c j d)
  h13 j := (rd (w := win0_13) ((by decide +kernel : ∀ t : Fin grid0.N, ∀ a, (win0_13.rect t).off a = 0 ∧ (win0_13.rect t).stride a = 1) t) (V m c main_v32) (y := (ix2 0 j)) fun _ => rfl).trans (a32 m c j)
  h14 j := (rd (w := win0_14) ((by decide +kernel : ∀ t : Fin grid0.N, ∀ a, (win0_14.rect t).off a = 0 ∧ (win0_14.rect t).stride a = 1) t) (V m c main_v33) (y := (ix2 0 j)) fun _ => rfl).trans (a33 m c j)
  h15 e d := (rd (w := win0_15) ((by decide +kernel : ∀ t : Fin grid0.N, ∀ a, (win0_15.rect t).off a = 0 ∧ (win0_15.rect t).stride a = 1) t) (V m c main_v35) (y := (ix2 e d)) fun _ => rfl).trans (a35 m c e d)

end Cert.KWin

end
-- ==== Proof.KFin.lean ====
module

public import proofs.«01_k».proof.Proof.KWin

/-
The kernel's six output arrays when the grid has run, entry by entry.
-/

@[expose] public section

set_option maxRecDepth 16384

noncomputable section

namespace Cert.KFin

open Cert.KernelIdeal Cert.KernelIdeal.Gen Idealize.ShloMosaic Idealize.ShloMosaic.TcCoe Idealize.SL.Sem
open Cert.Spec Cert.Block

open Cert.KernelIdeal.Value
variable (m : (ℓ : Loc nD τ sig) → Buf (Elt Ideal) ℓ) (c : Dev nD)

/-- The grid point that writes the `n`-th sixteenth. -/
def pt (n : Fin 16) : Fin cfg0.N := ⟨n.val, by have h : cfg0.N = 16 := N_0
                                               omega⟩

/-- Where an index of a point's block lies in the array. -/
theorem embv {w : Pipeline.Window sig grid0} {t : Fin grid0.N} (o : Fin w.shape.rank → ℕ)
    (h : ∀ a, (w.rect t).off a = o a ∧ (w.rect t).stride a = 1)
    {x : (w.rect t).shape.Idx} {y : w.shape.Idx} (hy : ∀ a, o a + (x a).val = (y a).val) : (w.rect t).emb x = y := by
  funext a
  apply Fin.ext
  rw [Rect.emb_apply, (h a).1, (h a).2, one_mul, hy]

theorem f16 (hI : (KWin.inp m c).Fin) (R : Fin 8192) (j : Fin 1024) : ((dats m 0 c).arrAt 16 cfg0.N : FVec Ideal S8192x1024 .f32) (ix2 R j)
    = x1 (KWin.inp m c) ⟨R / 256, by omega⟩ ⟨R % 256, by omega⟩ j := by
  have e : (win0_16.rect (pt ⟨R / 512, by omega⟩)).emb (ix2 (n0 := 512) (n1 := 1024) ⟨R % 512, by omega⟩ j) = ix2 R j :=
    embv _ ((by decide +kernel : ∀ t : Fin grid0.N, ∀ a, (win0_16.rect t).off a = ![512 * t.val, 0] a ∧ (win0_16.rect t).stride a = 1) _) fun a => by
      match a with
      | ⟨0, _⟩ => show 512 * (R.val / 512) + R.val % 512 = R.val; omega
      | ⟨1, _⟩ => show 0 + j.val = j.val; omega
  have h := congrFun (blocks16 m c (pt ⟨R / 512, by omega⟩) (flush0_16 _)) (ix2 (n0 := 512) (n1 := 1024) ⟨R % 512, by omega⟩ j)
  rw [flushed16_A] at h
  rw [← e]
  refine (show _ = _ from h).trans ?_
  refine (KRows.x1s (hI := hI) (H := KWin.blockIs m c _) ..).trans ?_
  unfold seq tm
  congr 1 <;> exact Fin.ext (by dsimp only [KWin.gp, pt] <;> omega)

theorem f17 (hI : (KWin.inp m c).Fin) (R : Fin 8192) (j : Fin 1024) : ((dats m 0 c).arrAt 17 cfg0.N : FVec Ideal S8192x1024 .bf16) (ix2 R j)
    = h2 (KWin.inp m c) ⟨R / 256, by omega⟩ ⟨R % 256, by omega⟩ j := by
  have e : (win0_17.rect (pt ⟨R / 512, by omega⟩)).emb (ix2 (n0 := 512) (n1 := 1024) ⟨R % 512, by omega⟩ j) = ix2 R j :=
    embv _ ((by decide +kernel : ∀ t : Fin grid0.N, ∀ a, (win0_17.rect t).off a = ![512 * t.val, 0] a ∧ (win0_17.rect t).stride a = 1) _) fun a => by
      match a with
      | ⟨0, _⟩ => show 512 * (R.val / 512) + R.val % 512 = R.val; omega
      | ⟨1, _⟩ => show 0 + j.val = j.val; omega
  have h := congrFun (blocks17 m c (pt ⟨R / 512, by omega⟩) (flush0_17 _)) (ix2 (n0 := 512) (n1 := 1024) ⟨R % 512, by omega⟩ j)
  rw [flushed17_A] at h
  rw [← e]
  refine (show _ = _ from h).trans ?_
  refine (KRows.h2s (hI := hI) (H := KWin.blockIs m c _) ..).trans ?_
  unfold seq tm
  congr 1 <;> exact Fin.ext (by dsimp only [KWin.gp, pt] <;> omega)

theorem f19 (R : Fin 8192) (j : Fin 256) : ((dats m 0 c).arrAt 19 cfg0.N : FVec Ideal S8192x256 .f32) (ix2 R j)
    = ckv (KWin.inp m c) ⟨R / 256, by omega⟩ ⟨R % 256, by omega⟩ j := by
  have e : (win0_19.rect (pt ⟨R / 512, by omega⟩)).emb (ix2 (n0 := 512) (n1 := 256) ⟨R % 512, by omega⟩ j) = ix2 R j :=
    embv _ ((by decide +kernel : ∀ t : Fin grid0.N, ∀ a, (win0_19.rect t).off a = ![512 * t.val, 0] a ∧ (win0_19.rect t).stride a = 1) _) fun a => by
      match a with
      | ⟨0, _⟩ => show 512 * (R.val / 512) + R.val % 512 = R.val; omega
      | ⟨1, _⟩ => show 0 + j.val = j.val; omega
  have h := congrFun (blocks19 m c (pt ⟨R / 512, by omega⟩) (flush0_19 _)) (ix2 (n0 := 512) (n1 := 256) ⟨R % 512, by omega⟩ j)
  rw [flushed19_A] at h
  rw [← e]
  refine (show _ = _ from h).trans ?_
  refine (KOut.ckvs (H := KWin.blockIs m c _) ..).trans ?_
  unfold seq tm
  congr 1 <;> exact Fin.ext (by dsimp only [KWin.gp, pt] <;> omega)

theorem f20 (R : Fin 8192) (j : Fin 128) : ((dats m 0 c).arrAt 20 cfg0.N : FVec Ideal S8192x128 .f32) (ix2 R j)
    = KProj.kpad (KWin.inp m c) ⟨R / 256, by omega⟩ ⟨R % 256, by omega⟩ j := by
  have e : (win0_20.rect (pt ⟨R / 512, by omega⟩)).emb (ix2 (n0 := 512) (n1 := 128) ⟨R % 512, by omega⟩ j) = ix2 R j :=
    embv _ ((by decide +kernel : ∀ t : Fin grid0.N, ∀ a, (win0_20.rect t).off a = ![512 * t.val, 0] a ∧ (win0_20.rect t).stride a = 1) _) fun a => by
      match a with
      | ⟨0, _⟩ => show 512 * (R.val / 512) + R.val % 512 = R.val; omega
      | ⟨1, _⟩ => show 0 + j.val = j.val; omega
  have h := congrFun (blocks20 m c (pt ⟨R / 512, by omega⟩) (flush0_20 _)) (ix2 (n0 := 512) (n1 := 128) ⟨R % 512, by omega⟩ j)
  rw [flushed20_A] at h
  rw [← e]
  refine (show _ = _ from h).trans ?_
  refine (KOut.kpes (H := KWin.blockIs m c _) ..).trans ?_
  unfold seq tm
  congr 1 <;> exact Fin.ext (by dsimp only [KWin.gp, pt] <;> omega)

theorem f18 (hI : (KWin.inp m c).Fin) (b : Fin 32) (x : Fin 16) (u : Fin 256) : ((dats m 0 c).arrAt 18 cfg0.N : FVec Ideal S32x16x256 .f32) (ix3 b x u)
    = aff (KWin.inp m c) b u x := by
  have e : (win0_18.rect (pt ⟨b / 2, by omega⟩)).emb (ix3 (n0 := 2) (n1 := 16) (n2 := 256) ⟨b % 2, by omega⟩ x u) = ix3 b x u :=
    embv _ ((by decide +kernel : ∀ t : Fin grid0.N, ∀ a, (win0_18.rect t).off a = ![2 * t.val, 0, 0] a ∧ (win0_18.rect t).stride a = 1) _) fun a => by
      match a with
      | ⟨0, _⟩ => show 2 * (b.val / 2) + b.val % 2 = b.val; omega
      | ⟨1, _⟩ => show 0 + x.val = x.val; omega
      | ⟨2, _⟩ => show 0 + u.val = u.val; omega
  have h := congrFun (blocks18 m c (pt ⟨b / 2, by omega⟩) (flush0_18 _)) (ix3 (n0 := 2) (n1 := 16) (n2 := 256) ⟨b % 2, by omega⟩ x u)
  rw [flushed18_A] at h
  rw [← e]
  refine (show _ = _ from h).trans ?_
  refine (KRows.affs (hI := hI) (H := KWin.blockIs m c _) ..).trans ?_
  congr 1
  exact Fin.ext (by dsimp only [KBuf.sq2, KWin.gp, pt] <;> omega)

theorem f21 (hI : (KWin.inp m c).Fin) (b : Fin 32) (a : Fin 2) (hd : Fin 4) (k i : Fin 128) :
    ((dats m 0 c).arrAt 21 cfg0.N : FVec Ideal S32x2x4x128x128 .f32) (ix5 b a hd k i) = sfin (KWin.inp m c) a b hd k i := by
  have e : (win0_21.rect (pt ⟨b / 2, by omega⟩)).emb (ix5 (n0 := 2) (n1 := 2) (n2 := 4) (n3 := 128) (n4 := 128) ⟨b % 2, by omega⟩ a hd k i)
      = ix5 b a hd k i :=
    embv _ ((by decide +kernel : ∀ t : Fin grid0.N, ∀ a, (win0_21.rect t).off a = ![2 * t.val, 0, 0, 0, 0] a ∧ (win0_21.rect t).stride a = 1) _) fun x => by
      match x with
      | ⟨0, _⟩ => show 2 * (b.val / 2) + b.val % 2 = b.val; omega
      | ⟨1, _⟩ => show 0 + a.val = a.val; omega
      | ⟨2, _⟩ => show 0 + hd.val = hd.val; omega
      | ⟨3, _⟩ => show 0 + k.val = k.val; omega
      | ⟨4, _⟩ => show 0 + i.val = i.val; omega
  have h := congrFun (blocks21 m c (pt ⟨b / 2, by omega⟩) (flush0_21 _))
    (ix5 (n0 := 2) (n1 := 2) (n2 := 4) (n3 := 128) (n4 := 128) ⟨b % 2, by omega⟩ a hd k i)
  rw [flushed21_A] at h
  rw [← e]
  refine (show _ = _ from h).trans ?_
  refine (KOut.sfins (hI := hI) (H := KWin.blockIs m c _) ..).trans ?_
  congr 1
  exact Fin.ext (by dsimp only [KBuf.sq2, KWin.gp, pt] <;> omega)

end Cert.KFin

end
-- ==== Proof.RProj.lean ====
module

public import proofs.«01_k».proof.Proof.KWin
public import proofs.«01_k».proof.Proof.Gen.ReferenceIdeal.Run

/-
The reference's projections and root-mean-square norms, entry by entry.
-/

@[expose] public section

set_option maxRecDepth 16384

noncomputable section

namespace Cert.RProj

open Cert.ReferenceIdeal Cert.ReferenceIdeal.Gen Cert.ReferenceIdeal.Value Idealize.ShloMosaic Idealize.ShloMosaic.TcCoe Idealize.SL.Sem
open Cert.Spec Cert.Block

variable (V0 : Valuation τ sig (Elt Ideal))

/-- The reference's arguments, read at their coordinates. -/
def inp : Spec.Inp :=
  KWin.inpOf (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
    (V0 (Proc.devRef .tc main_arg6)) (V0 (Proc.devRef .tc main_arg7)) (V0 (Proc.devRef .tc main_arg8))
    (V0 (Proc.devRef .tc main_arg9)) (V0 (Proc.devRef .tc main_arg10)) (V0 (Proc.devRef .tc main_arg11))
    (V0 (Proc.devRef .tc main_arg12)) (V0 (Proc.devRef .tc main_arg13)) (V0 (Proc.devRef .tc main_arg14))

theorem r34 (b : Fin 32) (t : Fin 256) (j : Fin 5664) : (res_main_v34 V0 : FVec Ideal S32x256x5664 .f32) (ix3 b t j) = proj (inp V0) b t j := by
  pointwise [res_main_v34, res_main_v0]
  rfl

theorem r77 (b : Fin 32) (t : Fin 256) (j : Fin 256) : (res_main_v77 V0 : FVec Ideal S32x256x256 .f32) (ix3 b t j) = ckv (inp V0) b t j := by
  pointwise [res_main_v77, res_main_v36]
  simp only [r34]
  rfl

theorem r61 (b : Fin 32) (t : Fin 256) (hd : Fin 8) (e : Fin 96) : (res_main_v61 V0 : FVec Ideal S32x256x8x96 .f32) (ix4 b t hd e) = qh (inp V0) b t hd e := by
  pointwise [res_main_v61, res_main_v35]
  simp only [r34]
  unfold qh q
  exact Finset.sum_congr (M := EReal) rfl fun i _ => congrArg (_ * ·) (congrArg ((inp V0).wuq i) (Fin.ext (by dsimp only <;> omega)))

theorem r80 (b : Fin 32) (t : Fin 256) (hd : Fin 8) (e : Fin 128) : (res_main_v80 V0 : FVec Ideal S32x256x8x128 .f32) (ix4 b t hd e)
    = kv (inp V0) b t ⟨128 * hd + e, by omega⟩ := by
  pointwise [res_main_v80]
  simp only [r77]
  unfold kv
  exact Finset.sum_congr (M := EReal) rfl fun i _ => congrArg (_ * ·) (congrArg ((inp V0).wukv i) (Fin.ext (by dsimp only <;> omega)))

theorem r37 (b : Fin 32) (t : Fin 256) (l : Fin 32) : (res_main_v37 V0 : FVec Ideal S32x256x32 .f32) (ix3 b t l) = kpe (inp V0) b t l := by
  pointwise [res_main_v37]
  rw [r34]
  rfl

theorem r89 (b : Fin 32) (hd : Fin 8) (t t' : Fin 256) : (res_main_v89 V0 : FVec Ideal S32x8x256x256 .f32) (ix4 b hd t t')
    = score (inp V0) b hd t t' * Ideal.rsqrt (Ideal.ofBits .f32 1119879168#32) := by
  pointwise [res_main_v89]
  simp only [r61, r80, r37]
  unfold score
  refine congrArg (· * _) (congrArg₂ (· + ·) rfl ?_)
  exact Finset.sum_congr rfl fun e _ => mul_comm _ _

end Cert.RProj

end
-- ==== Proof.RScan.lean ====
module

public import proofs.«01_k».proof.Proof.RProj
public import proofs.«01_k».proof.Proof.Gen.ReferenceIdeal.Run
public import proofs.«01_k».proof.Proof.Reals

/-
The chunked recurrence of the reference, entry by entry.
-/

@[expose] public section

set_option maxRecDepth 16384

noncomputable section

namespace Cert.RScan

open Cert.ReferenceIdeal Cert.ReferenceIdeal.Gen Cert.ReferenceIdeal.Value Idealize.ShloMosaic Idealize.ShloMosaic.TcCoe Idealize.SL.Sem
open Cert.Spec Cert.Block

/-- The running sum of an array along a chunk's 32 rows. -/
def cumV (X : FVec Ideal S32x8x32x4x128 .f32) : FVec Ideal S32x8x32x4x128 .f32 := Host.reduceWindowAdd ![1, 1, 32, 1, 1] ![1, 1, 1, 1, 1] ![0, 0, 31, 0, 0] ![0, 0, 0, 0, 0] X (broadcastInDim S_ ![] bcast_S_S_ (constant S_ .f32 0x00000000#32)) reduceWindows_S32x8x32x4x128_S32x8x32x4x128_w1s1p0_0_w1s1p0_0_w32s1p31_0_w1s1p0_0_w1s1p0_0 h_S_
/-- A chunk's last row. -/
def lastV (C : FVec Ideal S32x8x32x4x128 .f32) : FVec Ideal S32x8x4x128 .f32 := shapeCast _ (extractStridedSlice S32x8x1x4x128 ![0, 0, 31, 0, 0] C slices_S32x8x32x4x128_S32x8x1x4x128_0_0_31_0_0) shapeCasts_S32x8x1x4x128_S32x8x4x128
/-- What a chunk adds to the state. -/
def uV (K C : FVec Ideal S32x8x32x4x128 .f32) (L : FVec Ideal S32x8x4x128 .f32) (V : FVec Ideal S32x8x32x4x128 .f32) : FVec Ideal S32x8x4x128x128 .f32 := Host.dotGeneral dot_S32x8x32x4x128_S32x8x32x4x128_S32x8x4x128x128_2_2_4_4_013_013 none (mulf K (Host.exp (subf (broadcastInDim S32x8x32x4x128 ![0, 1, 2, 3, 4] bcast_S32x8x1x4x128_S32x8x32x4x128_0_1_2_3_4 (broadcastInDim S32x8x1x4x128 ![0, 1, 3, 4] bcast_S32x8x4x128_S32x8x1x4x128_0_1_3_4 L)) C))) V
/-- One chunk's step of the state. -/
def stepV (n : ℕ) (h : S32x8x4x128.Slices ![0, n, 0, 0] S32x1x4x128) (h' : S32x8x4x128x128.Slices ![0, n, 0, 0, 0] S32x1x4x128x128)
    (L : FVec Ideal S32x8x4x128 .f32) (U : FVec Ideal S32x8x4x128x128 .f32) (S : FVec Ideal S32x4x128x128 .f32) : FVec Ideal S32x4x128x128 .f32 := addf (mulf (broadcastInDim S32x4x128x128 ![0, 1, 2, 3] bcast_S32x4x128x1_S32x4x128x128_0_1_2_3 (broadcastInDim S32x4x128x1 ![0, 1, 2] bcast_S32x4x128_S32x4x128x1_0_1_2 (Host.exp (shapeCast _ (extractStridedSlice S32x1x4x128 ![0, n, 0, 0] L h) shapeCasts_S32x1x4x128_S32x4x128)))) S) (shapeCast _ (extractStridedSlice S32x1x4x128x128 ![0, n, 0, 0, 0] U h') shapeCasts_S32x1x4x128x128_S32x4x128x128)
/-- The states before each chunk, side by side. -/
def concV (s0 s1 s2 s3 s4 s5 s6 s7 : FVec Ideal S32x4x128x128 .f32) : FVec Ideal S32x8x4x128x128 .f32 := (concatenate S32x8x4x128x128 1 [⟨S32x1x4x128x128, ((broadcastInDim S32x1x4x128x128 ![0, 2, 3, 4] bcast_S32x4x128x128_S32x1x4x128x128_0_2_3_4 s0) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s1) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s2) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s3) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s4) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s5) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s6) : (⟨S32x1x4x128x128, .f32⟩ : BufTy).Contents (Elt Ideal))⟩, ⟨S32x1x4x128x128, ((broadcastInDim S32x1x4x128x128 ![0, 2, 3, 4] bcast_S32x4x128x128_S32x1x4x128x128_0_2_3_4 s7) : (⟨S32x1x4x128x128, .f32⟩ : BufTy).Contents (Elt Ideal))⟩] concatenates_S32x1x4x128x128_S32x1x4x128x128_S32x1x4x128x128_S32x1x4x128x128_S32x1x4x128x128_S32x1x4x128x128_S32x1x4x128x128_S32x1x4x128x128_S32x8x4x128x128_d1 : (⟨S32x8x4x128x128, .f32⟩ : BufTy).Contents (Elt Ideal))
/-- The output by chunk: the part within the chunk and the part of the state before it. -/
def outV (K C Q V : FVec Ideal S32x8x32x4x128 .f32) (ST : FVec Ideal S32x8x4x128x128 .f32) : FVec Ideal S32x8x32x4x128 .f32 := addf (transpose S32x8x32x4x128 [0, 1, 4, 2, 3] (Host.dotGeneral dot_S32x8x32x4x128_S32x8x4x32x32_S32x8x4x128x32_2_4_4_3_013_012 none V (select (broadcastInDim S32x8x4x32x32 ![3, 4] bcast_S32x32_S32x8x4x32x32_3_4 (select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1)))) (Host.dotGeneral dot_S32x8x32x4x128_S32x8x32x4x128_S32x8x4x32x32_4_4_2_2_013_013 none Q (mulf K (Host.exp (Host.negf C)))) (broadcastInDim S32x8x4x32x32 ![] bcast_S_S32x8x4x32x32 (id (constant S_ .f32 0x00000000#32))))) transposes_S32x8x4x128x32_S32x8x32x4x128_0_1_4_2_3) (transpose S32x8x32x4x128 [0, 1, 4, 2, 3] (Host.dotGeneral dot_S32x8x4x128x128_S32x8x32x4x128_S32x8x4x128x32_3_4_4_2_012_013 none (ST) Q) transposes_S32x8x4x128x32_S32x8x32x4x128_0_1_4_2_3)

theorem mask (i u : Fin 32) : Scalar.select (IntOp.cmpi CmpIPredicate.sge (IntOp.addi (BitVec.ofNat 32 ↑i) 0#32) (BitVec.ofNat 32 ↑u)) 1#1 0#1
    = BitVec.ofBool (decide (u.val ≤ i.val)) := by
  revert i u; decide +kernel
theorem zero32 : Ideal.ofBits .f32 0#32 = 0 := by simp [Ideal.ofBits, Ideal.ieee]

theorem lastV_apply (C : FVec Ideal S32x8x32x4x128 .f32) (b : Fin 32) (c : Fin 8) (hd : Fin 4) (k : Fin 128) : lastV C (ix4 b c hd k) = C (ix5 b c 31 hd k) := by
  pointwise [lastV]
theorem uV_apply (K C : FVec Ideal S32x8x32x4x128 .f32) (L : FVec Ideal S32x8x4x128 .f32) (V : FVec Ideal S32x8x32x4x128 .f32) (b : Fin 32) (c : Fin 8) (hd : Fin 4) (k j : Fin 128) :
    uV K C L V (ix5 b c hd k j) = ∑ i, K (ix5 b c i hd k) * Ideal.exp (L (ix4 b c hd k) - C (ix5 b c i hd k)) * V (ix5 b c i hd j) := by
  pointwise [uV]
theorem stepV_apply (n : ℕ) (hn : n < 8) (h : S32x8x4x128.Slices ![0, n, 0, 0] S32x1x4x128) (h' : S32x8x4x128x128.Slices ![0, n, 0, 0, 0] S32x1x4x128x128)
    (L : FVec Ideal S32x8x4x128 .f32) (U : FVec Ideal S32x8x4x128x128 .f32) (S : FVec Ideal S32x4x128x128 .f32) (b : Fin 32) (hd : Fin 4) (k j : Fin 128) :
    stepV n h h' L U S (ix4 b hd k j) = Ideal.exp (L (ix4 b ⟨n, hn⟩ hd k)) * S (ix4 b hd k j) + U (ix5 b ⟨n, hn⟩ hd k j) := by
  pointwise [stepV]
theorem concV_apply (s : Fin 8 → FVec Ideal S32x4x128x128 .f32) (b : Fin 32) (n : Fin 8) (hd : Fin 4) (k j : Fin 128) :
    concV (s 0) (s 1) (s 2) (s 3) (s 4) (s 5) (s 6) (s 7) (ix5 b n hd k j) = s n (ix4 b hd k j) := by
  obtain ⟨n, hn⟩ := n
  interval_cases n
  all_goals pointwise [concV]; try rfl
theorem outV_apply (K C Q V : FVec Ideal S32x8x32x4x128 .f32) (ST : FVec Ideal S32x8x4x128x128 .f32) (b : Fin 32) (c : Fin 8) (i : Fin 32) (hd : Fin 4) (j : Fin 128) :
    outV K C Q V ST (ix5 b c i hd j) = (∑ u, V (ix5 b c u hd j) * (if u.val ≤ i.val then ∑ k, Q (ix5 b c i hd k) * (K (ix5 b c u hd k) * Ideal.exp (-C (ix5 b c u hd k))) else 0))
      + ∑ k, ST (ix5 b c hd k j) * Q (ix5 b c i hd k) := by
  pointwise [outV]
  refine congrArg (· + _) (Finset.sum_congr (M := EReal) rfl fun u _ => congrArg (V (ix5 b c u hd j) * ·) ?_)
  rw [← Masks.sel, ← mask i u]
  exact congrArg (Scalar.select _ _) zero32

/-- A fold that adds one term at a time. -/
theorem foldl_sum {n : ℕ} (g : Fin n → EReal) (f : EReal → Fin n → EReal) (a : EReal) (hf : ∀ r m, f r m = r + g m) (ha : a = 0) :
    (List.finRange n).foldl f a = ∑ m, g m := by
  have h : ∀ (l : List (Fin n)) (x : EReal), l.foldl f x = x + (l.map g).sum := by
    intro l
    induction l with
    | nil => intro x; simp
    | cons m l ih => intro x; rw [List.foldl_cons, List.map_cons, List.sum_cons, ih, hf, add_assoc]
  rw [h, ha, zero_add, ← List.ofFn_eq_map, List.sum_ofFn]

/-- A sum over the coordinates of a window along one axis of five. -/
theorem sum_win (f : (⟨5, ![1, 1, 32, 1, 1]⟩ : Shape).Idx → EReal) : ∑ w, f w = ∑ n : Fin 32, f (ix5 0 0 n 0 0) := by
  refine (Fintype.sum_bijective (fun n : Fin 32 => (ix5 0 0 n 0 0 : (⟨5, ![1, 1, 32, 1, 1]⟩ : Shape).Idx)) ⟨fun m n h => ?_, fun w => ⟨w 2, ?_⟩⟩ _ _ fun _ => rfl).symm
  · exact congrFun h 2
  · funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _

/-- A row of a chunk by its time. -/
def at5 (X : FVec Ideal S32x8x32x4x128 .f32) (b : Fin 32) (hd : Fin 4) (k : Fin 128) (t : ℕ) : EReal :=
  if h : t < 256 then X (ix5 b ⟨t / 32, by omega⟩ ⟨t % 32, by omega⟩ hd k) else 0

/-- The entry under a place of the window that ends at a row. -/
def winT (X : FVec Ideal S32x8x32x4x128 .f32) (b : Fin 32) (c : Fin 8) (i : Fin 32) (hd : Fin 4) (k : Fin 128) (w : (⟨5, ![1, 1, 32, 1, 1]⟩ : Shape).Idx) : EReal :=
  if h : 31 ≤ i.val + (w 2).val then X (ix5 b c ⟨i.val + (w 2).val - 31, by have : (w 2).val < 32 := (w 2).isLt; omega⟩ hd k) else 0

theorem cumV_apply (X : FVec Ideal S32x8x32x4x128 .f32) (b : Fin 32) (c : Fin 8) (i : Fin 32) (hd : Fin 4) (k : Fin 128) :
    cumV X (ix5 b c i hd k) = Hgrn.cum (at5 X b hd k) (32 * c + i) := by
  rw [← Hgrn.win_full]
  unfold cumV
  change List.foldl _ _ _ = _
  refine (foldl_sum (fun n => winT X b c i hd k ((⟨5, ![1, 1, 32, 1, 1]⟩ : Shape).rowMajor.symm n)) _ _ (fun r n => congrArg (r + ·) ?_) zero32).trans ?_
  · have w0 : ((⟨5, ![1, 1, 32, 1, 1]⟩ : Shape).rowMajor.symm n 0).val < 1 := ((⟨5, ![1, 1, 32, 1, 1]⟩ : Shape).rowMajor.symm n 0).isLt
    have w1 : ((⟨5, ![1, 1, 32, 1, 1]⟩ : Shape).rowMajor.symm n 1).val < 1 := ((⟨5, ![1, 1, 32, 1, 1]⟩ : Shape).rowMajor.symm n 1).isLt
    have w2 : ((⟨5, ![1, 1, 32, 1, 1]⟩ : Shape).rowMajor.symm n 2).val < 32 := ((⟨5, ![1, 1, 32, 1, 1]⟩ : Shape).rowMajor.symm n 2).isLt
    have w3 : ((⟨5, ![1, 1, 32, 1, 1]⟩ : Shape).rowMajor.symm n 3).val < 1 := ((⟨5, ![1, 1, 32, 1, 1]⟩ : Shape).rowMajor.symm n 3).isLt
    have w4 : ((⟨5, ![1, 1, 32, 1, 1]⟩ : Shape).rowMajor.symm n 4).val < 1 := ((⟨5, ![1, 1, 32, 1, 1]⟩ : Shape).rowMajor.symm n 4).isLt
    unfold winT
    by_cases h : 31 ≤ i.val + ((⟨5, ![1, 1, 32, 1, 1]⟩ : Shape).rowMajor.symm n 2).val
    · rw [dif_pos h, dif_pos]
      · refine congrArg X (funext fun a => Fin.ext ?_)
        match a with
        | ⟨0, _⟩ => show b.val * 1 + ((⟨5, ![1, 1, 32, 1, 1]⟩ : Shape).rowMajor.symm n 0).val - 0 = b.val; omega
        | ⟨1, _⟩ => show c.val * 1 + ((⟨5, ![1, 1, 32, 1, 1]⟩ : Shape).rowMajor.symm n 1).val - 0 = c.val; omega
        | ⟨2, _⟩ => show i.val * 1 + ((⟨5, ![1, 1, 32, 1, 1]⟩ : Shape).rowMajor.symm n 2).val - 31 = i.val + ((⟨5, ![1, 1, 32, 1, 1]⟩ : Shape).rowMajor.symm n 2).val - 31; omega
        | ⟨3, _⟩ => show hd.val * 1 + ((⟨5, ![1, 1, 32, 1, 1]⟩ : Shape).rowMajor.symm n 3).val - 0 = hd.val; omega
        | ⟨4, _⟩ => show k.val * 1 + ((⟨5, ![1, 1, 32, 1, 1]⟩ : Shape).rowMajor.symm n 4).val - 0 = k.val; omega
      · intro a
        match a with
        | ⟨0, _⟩ => show 0 ≤ b.val * 1 + ((⟨5, ![1, 1, 32, 1, 1]⟩ : Shape).rowMajor.symm n 0).val ∧ b.val * 1 + ((⟨5, ![1, 1, 32, 1, 1]⟩ : Shape).rowMajor.symm n 0).val - 0 < 32; omega
        | ⟨1, _⟩ => show 0 ≤ c.val * 1 + ((⟨5, ![1, 1, 32, 1, 1]⟩ : Shape).rowMajor.symm n 1).val ∧ c.val * 1 + ((⟨5, ![1, 1, 32, 1, 1]⟩ : Shape).rowMajor.symm n 1).val - 0 < 8; omega
        | ⟨2, _⟩ => show 31 ≤ i.val * 1 + ((⟨5, ![1, 1, 32, 1, 1]⟩ : Shape).rowMajor.symm n 2).val ∧ i.val * 1 + ((⟨5, ![1, 1, 32, 1, 1]⟩ : Shape).rowMajor.symm n 2).val - 31 < 32; omega
        | ⟨3, _⟩ => show 0 ≤ hd.val * 1 + ((⟨5, ![1, 1, 32, 1, 1]⟩ : Shape).rowMajor.symm n 3).val ∧ hd.val * 1 + ((⟨5, ![1, 1, 32, 1, 1]⟩ : Shape).rowMajor.symm n 3).val - 0 < 4; omega
        | ⟨4, _⟩ => show 0 ≤ k.val * 1 + ((⟨5, ![1, 1, 32, 1, 1]⟩ : Shape).rowMajor.symm n 4).val ∧ k.val * 1 + ((⟨5, ![1, 1, 32, 1, 1]⟩ : Shape).rowMajor.symm n 4).val - 0 < 128; omega
    · rw [dif_neg h, dif_neg]
      · exact zero32
      · intro hh
        have h2 : 31 ≤ i.val * 1 + ((⟨5, ![1, 1, 32, 1, 1]⟩ : Shape).rowMajor.symm n 2).val := (hh 2).1
        omega
  · refine (Equiv.sum_comp _ (winT X b c i hd k)).trans ((sum_win _).trans ?_)
    unfold Hgrn.win
    rw [← Finset.sum_range_reflect, ← Fin.sum_univ_eq_sum_range (fun n => if 32 - 1 - n ≤ (32 * c.val + i.val) % 32 then at5 X b hd k (32 * c.val + i.val - (32 - 1 - n)) else 0) 32]
    refine Finset.sum_congr rfl fun n _ => ?_
    unfold winT at5
    show (if h : 31 ≤ i.val + n.val then X (ix5 b c ⟨i.val + n.val - 31, by omega⟩ hd k) else 0) = _
    have e : (32 * c.val + i.val) % 32 = i.val := by omega
    by_cases h : 31 ≤ i.val + n.val
    · rw [dif_pos h, if_pos (by omega), dif_pos (by omega)]
      refine congrArg X (congrArg₂ (fun c' i' => ix5 b c' i' hd k) (Fin.ext ?_) (Fin.ext ?_))
      · show c.val = _; dsimp only; omega
      · show i.val + n.val - 31 = _; dsimp only; omega
    · rw [dif_neg h, if_neg (by omega)]

/-! ## On real entries -/

variable (qr kr gr : ℕ → Fin 128 → ℝ) (vr : Fin 128 → ℕ → ℝ) (X K Q V : FVec Ideal S32x8x32x4x128 .f32) (b : Fin 32) (hd : Fin 4)

theorem cum_real (hX : ∀ c i k, X (ix5 b c i hd k) = (gr (32 * c + i) k : ℝ)) (c : Fin 8) (i : Fin 32) (k : Fin 128) :
    cumV X (ix5 b c i hd k) = (Hgrn.C gr (32 * c + i) k : ℝ) := by
  rw [cumV_apply]
  unfold Hgrn.C Hgrn.cum
  rw [KScan.coe_sum]
  refine Finset.sum_congr rfl fun n hn => ?_
  have hn := Finset.mem_range.mp hn
  unfold at5
  rw [dif_pos (by omega), hX]
  exact congrArg (fun t => ((gr t k : ℝ) : EReal)) (by dsimp only; omega)
theorem last_real (hX : ∀ c i k, X (ix5 b c i hd k) = (gr (32 * c + i) k : ℝ)) (c : Fin 8) (k : Fin 128) :
    lastV (cumV X) (ix4 b c hd k) = (Hgrn.T gr c k : ℝ) := by
  rw [lastV_apply, cum_real gr X b hd hX]
  exact congrArg (fun t : ℝ => (t : EReal)) (Hgrn.cum_last _ _)
theorem u_real (hX : ∀ c i k, X (ix5 b c i hd k) = (gr (32 * c + i) k : ℝ)) (hK : ∀ c i k, K (ix5 b c i hd k) = (kr (32 * c + i) k : ℝ))
    (hV : ∀ c i j, V (ix5 b c i hd j) = (vr j (32 * c + i) : ℝ)) (c : Fin 8) (k j : Fin 128) :
    uV K (cumV X) (lastV (cumV X)) V (ix5 b c hd k j) = (Hgrn.U kr gr (vr j) c k : ℝ) := by
  rw [uV_apply]
  unfold Hgrn.U Hgrn.ke
  rw [KScan.coe_sum, ← Fin.sum_univ_eq_sum_range (fun n => ((_ : ℝ) : EReal)) 32]
  refine Finset.sum_congr (M := EReal) rfl fun n _ => ?_
  rw [hK, hV, last_real gr X b hd hX, cum_real gr X b hd hX, ← EReal.coe_sub, KScan.exp_coe, ← EReal.coe_mul, ← EReal.coe_mul]
  have e : (32 * c.val + n.val) / 32 = c.val := by omega
  rw [e]
theorem step_real (n : ℕ) (hn : n < 8) (h : S32x8x4x128.Slices ![0, n, 0, 0] S32x1x4x128) (h' : S32x8x4x128x128.Slices ![0, n, 0, 0, 0] S32x1x4x128x128)
    (L : FVec Ideal S32x8x4x128 .f32) (U : FVec Ideal S32x8x4x128x128 .f32) (S : FVec Ideal S32x4x128x128 .f32) (hL : ∀ c k, L (ix4 b c hd k) = (Hgrn.T gr c k : ℝ))
    (hU : ∀ c k j, U (ix5 b c hd k j) = (Hgrn.U kr gr (vr j) c k : ℝ)) (hS : ∀ k j, S (ix4 b hd k j) = (Hgrn.S kr gr (vr j) n k : ℝ))
    (k j : Fin 128) : stepV n h h' L U S (ix4 b hd k j) = (Hgrn.S kr gr (vr j) (n + 1) k : ℝ) := by
  rw [stepV_apply n hn, hL, hU, hS, KScan.exp_coe, ← EReal.coe_mul, ← EReal.coe_add]
  rfl
theorem chain (L : FVec Ideal S32x8x4x128 .f32) (U : FVec Ideal S32x8x4x128x128 .f32) (s : Fin 8 → FVec Ideal S32x4x128x128 .f32) (hL : ∀ c k, L (ix4 b c hd k) = (Hgrn.T gr c k : ℝ))
    (hU : ∀ c k j, U (ix5 b c hd k j) = (Hgrn.U kr gr (vr j) c k : ℝ)) (h0 : ∀ k j, s 0 (ix4 b hd k j) = 0)
    (hs : ∀ n : Fin 7, ∃ h h', s n.succ = stepV n h h' L U (s n.castSucc)) (n : Fin 8) :
    ∀ k j, s n (ix4 b hd k j) = (Hgrn.S kr gr (vr j) n k : ℝ) := by
  induction n using Fin.induction with
  | zero => intro k j; rw [h0]; rfl
  | succ n ih =>
    obtain ⟨h, h', e⟩ := hs n
    intro k j
    rw [e]
    exact step_real kr gr vr b hd n (by omega) h h' L U _ hL hU ih k j
theorem out_real (ST : FVec Ideal S32x8x4x128x128 .f32) (hX : ∀ c i k, X (ix5 b c i hd k) = (gr (32 * c + i) k : ℝ)) (hK : ∀ c i k, K (ix5 b c i hd k) = (kr (32 * c + i) k : ℝ))
    (hV : ∀ c i j, V (ix5 b c i hd j) = (vr j (32 * c + i) : ℝ)) (hQ : ∀ c i k, Q (ix5 b c i hd k) = (Hgrn.qd qr gr (32 * c + i) k : ℝ))
    (hS : ∀ c k j, ST (ix5 b c hd k j) = (Hgrn.S kr gr (vr j) c k : ℝ)) (c : Fin 8) (i : Fin 32) (j : Fin 128) :
    outV K (cumV X) Q V ST (ix5 b c i hd j) = (Hgrn.out qr kr gr (vr j) (32 * c + i) : ℝ) := by
  rw [outV_apply]
  have e : (32 * c.val + i.val) / 32 = c.val := by omega
  have e' : (32 * c.val + i.val) % 32 = i.val := by omega
  unfold Hgrn.out
  rw [e, e', EReal.coe_add, KScan.coe_sum, KScan.coe_sum, ← Fin.sum_univ_eq_sum_range (fun n => ((_ : ℝ) : EReal)) 32]
  refine congrArg₂ (· + ·) (Finset.sum_congr (M := EReal) rfl fun n _ => ?_) (Finset.sum_congr (M := EReal) rfl fun k _ => ?_)
  · rw [hV, EReal.coe_mul, KScan.coe_ite, KScan.coe_sum, mul_comm]
    refine congrArg (· * _) (if_congr Iff.rfl (Finset.sum_congr (M := EReal) rfl fun k _ => ?_) rfl)
    unfold Hgrn.kd
    rw [hQ, hK, cum_real gr X b hd hX, ← EReal.coe_neg, KScan.exp_coe, ← EReal.coe_mul, ← EReal.coe_mul]
  · rw [hS, hQ, mul_comm, EReal.coe_mul]

end Cert.RScan

end
-- ==== Proof.RSoft.lean ====
module

public import proofs.«01_k».proof.Proof.RProj
public import proofs.«01_k».proof.Proof.Gen.ReferenceIdeal.Run

/-
The reference's attention, entry by entry.
-/

@[expose] public section

set_option maxRecDepth 16384

noncomputable section

namespace Cert.RSoft

open Cert.ReferenceIdeal Cert.ReferenceIdeal.Gen Cert.ReferenceIdeal.Value Idealize.ShloMosaic Idealize.ShloMosaic.TcCoe Idealize.SL.Sem
open Cert.Spec Cert.Block

open RProj
variable (V0 : Valuation τ sig (Elt Ideal))

/-- The host's maximum over one axis: the fold of `max` over that axis's coordinates. -/
theorem hmax {s t u : Shape} {a : Fin s.rank} (h' : s.ReducesTo [a] t) (h : s.Reduces [a] t) (x : FVec Ideal s .f32) (w : BitVec 32)
    (hu : 0 < u.numel) (j : t.Idx) : Host.reduce (FloatOps.maximumf (F := Ideal) (φ := .f32)) x (constant u .f32 w) h' hu j
      = Finset.univ.fold max (Ideal.ofBits .f32 w) fun k : Fin (s.size a) => x (h.lift j k) := by
  rw [Host.reduce_eq_fold, Shape.ReducesTo.drop_eq_drop h' h]
  exact h.fold_filter_drop_single _ _ x j

theorem ninf : Ideal.ofBits .f32 0xFF800000#32 = ⊥ := by simp [Ideal.ofBits, Ideal.ieee]

/-- A host maximum over the last axis, read at an index. -/
theorem hmax4 (X : FVec Ideal S32x8x256x256 .f32) (b : Fin 32) (hd : Fin 8) (t : Fin 256) :
    Host.reduce (FloatOps.maximumf (F := Ideal) (φ := .f32)) X (constant S_ .f32 0xFF800000#32) reducesTo_S32x8x256x256_S32x8x256_d3 h_S_ (ix3 b hd t)
      = Finset.univ.fold max ⊥ fun u => X (ix4 b hd t u) := by
  refine (hmax reducesTo_S32x8x256x256_S32x8x256_d3 (by decide) X _ h_S_ _).trans ?_
  rw [ninf]
  refine congrArg (Finset.fold max ⊥ · Finset.univ) (funext fun u => congrArg X (funext fun a => ?_))
  match a with
  | ⟨0, _⟩ => rfl
  | ⟨1, _⟩ => rfl
  | ⟨2, _⟩ => rfl
  | ⟨3, _⟩ => rfl

/-- The exponentials of a softmax, as functions of the scores and of their maxima. -/
def expV (X : FVec Ideal S32x8x256x256 .f32) (M : FVec Ideal S32x8x256 .f32) : FVec Ideal S32x8x256x256 .f32 :=
  Host.exp (subf X (broadcastInDim S32x8x256x256 ![0, 1, 2, 3] bcast_S32x8x256x1_S32x8x256x256_0_1_2_3 (broadcastInDim S32x8x256x1 ![0, 1, 2] bcast_S32x8x256_S32x8x256x1_0_1_2 (maximumf (broadcastInDim S32x8x256 ![] bcast_S_S32x8x256 (constant S_ .f32 0xFF800000#32)) M))))

theorem expV_apply (X : FVec Ideal S32x8x256x256 .f32) (M : FVec Ideal S32x8x256 .f32) (b : Fin 32) (hd : Fin 8) (t t' : Fin 256) :
    expV X M (ix4 b hd t t') = Ideal.exp (X (ix4 b hd t t') - max (Ideal.ofBits .f32 0xFF800000#32) (M (ix3 b hd t))) := by
  pointwise [expV]

theorem r96 (b : Fin 32) (hd : Fin 8) (t t' : Fin 256) : (res_main_v96 V0 : FVec Ideal S32x8x256x256 .f32) (ix4 b hd t t')
    = Ideal.exp (score (inp V0) b hd t t' * Ideal.rsqrt (Ideal.ofBits .f32 1119879168#32)
      - Finset.univ.fold max ⊥ fun u => score (inp V0) b hd t u * Ideal.rsqrt (Ideal.ofBits .f32 1119879168#32)) := by
  refine (congrFun (show (res_main_v96 V0 : FVec Ideal S32x8x256x256 .f32) = expV (res_main_v89 V0) (Host.reduce (FloatOps.maximumf (F := Ideal) (φ := .f32)) (res_main_v89 V0) (constant S_ .f32 0xFF800000#32) reducesTo_S32x8x256x256_S32x8x256_d3 h_S_) from rfl) _).trans ?_
  refine (expV_apply _ _ b hd t t').trans ?_
  rw [hmax4 (res_main_v89 V0), ninf, max_eq_right bot_le]
  simp only [r89]

/-- The array of the attention's heads, side by side. -/
def attV (A : FVec Ideal S32x256x8x128 .f32) (E : FVec Ideal S32x8x256x256 .f32) : FVec Ideal S32x256x512 .f32 := shapeCast S32x256x512 (transpose S32x256x8x64 [0, 3, 1, 2] (Host.dotGeneral dot_S32x256x8x64_S32x8x256x256_S32x8x64x256_1_3_3_2_02_01 none (extractStridedSlice S32x256x8x64 ![0, 0, 0, 64] A slices_S32x256x8x128_S32x256x8x64_0_0_0_64) (Host.divf E (broadcastInDim S32x8x256x256 ![0, 1, 2, 3] bcast_S32x8x256x1_S32x8x256x256_0_1_2_3 (broadcastInDim S32x8x256x1 ![0, 1, 2] bcast_S32x8x256_S32x8x256x1_0_1_2 (Host.reduceAdd E (constant S_ .f32 0x00000000#32) reducesTo_S32x8x256x256_S32x8x256_d3 h_S_))))) transposes_S32x8x64x256_S32x256x8x64_0_3_1_2) shapeCasts_S32x256x8x64_S32x256x512

theorem attV_apply (A : FVec Ideal S32x256x8x128 .f32) (E : FVec Ideal S32x8x256x256 .f32) (b : Fin 32) (t : Fin 256) (j : Fin 512) :
    attV A E (ix3 b t j) = ∑ x, A (ix4 b x ⟨j / 64, by omega⟩ ⟨64 + j % 64, by omega⟩)
      * Ideal.div (E (ix4 b ⟨j / 64, by omega⟩ t x)) (∑ u, E (ix4 b ⟨j / 64, by omega⟩ t u)) := by
  pointwise [attV]

theorem att_eq (b : Fin 32) (t : Fin 256) (j : Fin 512) : attV (res_main_v80 V0) (res_main_v96 V0) (ix3 b t j) = att (inp V0) b t j := by
  rw [attV_apply]
  simp only [r80, r96]
  unfold att softAvg vh
  exact Finset.sum_congr (M := EReal) rfl fun u _ => (mul_comm _ _).trans (congrArg (_ * ·) (congrArg (kv (inp V0) b u) (Fin.ext (by dsimp only <;> omega))))

end Cert.RSoft

end
-- ==== Proof.RTail.lean ====
module

public import proofs.«01_k».proof.Proof.RSoft
public import proofs.«01_k».proof.Proof.Gen.ReferenceIdeal.Run

/-
The reference's gates, norms and routing, entry by entry.
-/

@[expose] public section

set_option maxRecDepth 16384

noncomputable section

namespace Cert.RTail

open Cert.ReferenceIdeal Cert.ReferenceIdeal.Gen Cert.ReferenceIdeal.Value Idealize.ShloMosaic Idealize.ShloMosaic.TcCoe Idealize.SL.Sem
open Cert.Spec Cert.Block

open RProj RSoft
variable (V0 : Valuation τ sig (Elt Ideal))

/-! ## The operations after the two mixers, as functions of their operands -/

def hgV (O : FVec Ideal S32x256x4x128 .f32) (G : FVec Ideal S32x256x4x128 .f32) (a9 : FVec Ideal S1x128 .f32) : FVec Ideal S32x256x512 .f32 :=
  (shapeCast S32x256x512 (mulf (mulf (mulf O (broadcastInDim S32x256x4x128 ![0, 1, 2, 3] bcast_S32x256x4x1_S32x256x4x128_0_1_2_3 (Host.rsqrt (addf (Host.divf (broadcastInDim S32x256x4x1 ![0, 1, 2] bcast_S32x256x4_S32x256x4x1_0_1_2 (Host.reduceAdd (mulf O O) (constant S_ .f32 0x00000000#32) reducesTo_S32x256x4x128_S32x256x4_d3 h_S_)) (broadcastInDim S32x256x4x1 ![] bcast_S_S32x256x4x1 (constant S_ .f32 0x43000000#32))) (broadcastInDim S32x256x4x1 ![] bcast_S_S32x256x4x1 (constant S_ .f32 0x358637BD#32)))))) (broadcastInDim S32x256x4x128 ![0, 1, 2, 3] bcast_S1x1x1x128_S32x256x4x128_0_1_2_3 (broadcastInDim S1x1x1x128 ![3] bcast_S128_S1x1x1x128_3 (shapeCast S128 a9 shapeCasts_S1x128_S128)))) (mulf G (Host.divf (broadcastInDim S32x256x4x128 ![] bcast_S_S32x256x4x128 (constant S_ .f32 0x3F800000#32)) (addf (broadcastInDim S32x256x4x128 ![] bcast_S_S32x256x4x128 (constant S_ .f32 0x3F800000#32)) (Host.exp (Host.negf G)))))) shapeCasts_S32x256x4x128_S32x256x512)

theorem hgV_apply (O : FVec Ideal S32x256x4x128 .f32) (G : FVec Ideal S32x256x4x128 .f32) (a9 : FVec Ideal S1x128 .f32) (b : Fin 32) (t : Fin 256) (j : Fin 512) :
    hgV O G a9 (ix3 b t j) = O (ix4 b t ⟨j / 128, by omega⟩ ⟨j % 128, by omega⟩) * rinv 1124073472#32 (fun x => O (ix4 b t ⟨j / 128, by omega⟩ x))
        * a9 (ix2 0 ⟨j % 128, by omega⟩) * (G (ix4 b t ⟨j / 128, by omega⟩ ⟨j % 128, by omega⟩) * Ideal.div 1 (1 + Ideal.exp (-G (ix4 b t ⟨j / 128, by omega⟩ ⟨j % 128, by omega⟩)))) := by
  pointwise [hgV]
  rfl

def mergedV (P : FVec Ideal S32x256x5664 .f32) (AT : FVec Ideal S32x256x512 .f32) (HG : FVec Ideal S32x256x512 .f32) (a7 : FVec Ideal S1x512x1024 .f32) (a10 : FVec Ideal S1x512x1024 .f32) : FVec Ideal S32x256x1024 .f32 :=
  (addf (mulf (Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf (extractStridedSlice S32x256x1024 ![0, 0, 3616] P slices_S32x256x5664_S32x256x1024_0_0_3616))))) (Host.dotGeneral dot_S32x256x512_S512x1024_S32x256x1024_2_0_01_1_n_n none AT (shapeCast S512x1024 a7 shapeCasts_S1x512x1024_S512x1024))) (mulf (Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf (extractStridedSlice S32x256x1024 ![0, 0, 4640] P slices_S32x256x5664_S32x256x1024_0_0_4640))))) (Host.dotGeneral dot_S32x256x512_S512x1024_S32x256x1024_2_0_01_1_n_n none HG (shapeCast S512x1024 a10 shapeCasts_S1x512x1024_S512x1024))))

theorem mergedV_apply (P : FVec Ideal S32x256x5664 .f32) (AT : FVec Ideal S32x256x512 .f32) (HG : FVec Ideal S32x256x512 .f32) (a7 : FVec Ideal S1x512x1024 .f32) (a10 : FVec Ideal S1x512x1024 .f32) (b : Fin 32) (t : Fin 256) (d : Fin 1024) :
    mergedV P AT HG a7 a10 (ix3 b t d) = Ideal.div 1 (1 + Ideal.exp (-P (ix3 b t ⟨3616 + d, by omega⟩))) * (∑ x, AT (ix3 b t x) * a7 (ix3 0 x d))
        + Ideal.div 1 (1 + Ideal.exp (-P (ix3 b t ⟨4640 + d, by omega⟩))) * ∑ x, HG (ix3 b t x) * a10 (ix3 0 x d) := by
  pointwise [mergedV]

def yV (a0 : FVec Ideal S32x256x1024 .f32) (md : FVec Ideal S1x6144 .f32) (MG : FVec Ideal S32x256x1024 .f32) (a11 : FVec Ideal S1x1024x1024 .f32) : FVec Ideal S32x256x1024 .f32 :=
  addf (mulf (broadcastInDim S32x256x1024 ![] bcast_S_S32x256x1024 (constant S_ .f32 0x3F9837F0#32)) a0) (mulf (broadcastInDim S32x256x1024 ![0, 1, 2] bcast_S1x1x1024_S32x256x1024_0_1_2 (broadcastInDim S1x1x1024 ![0, 2] bcast_S1x1024_S1x1x1024_0_2 (extractStridedSlice S1x1024 ![0, 2048] md slices_S1x6144_S1x1024_0_2048))) (Host.dotGeneral dot_S32x256x1024_S1024x1024_S32x256x1024_2_0_01_1_n_n none MG (shapeCast S1024x1024 a11 shapeCasts_S1x1024x1024_S1024x1024)))

theorem yV_apply (a0 : FVec Ideal S32x256x1024 .f32) (md : FVec Ideal S1x6144 .f32) (MG : FVec Ideal S32x256x1024 .f32) (a11 : FVec Ideal S1x1024x1024 .f32) (b : Fin 32) (t : Fin 256) (d : Fin 1024) :
    yV a0 md MG a11 (ix3 b t d) = Ideal.ofBits .f32 1066940400#32 * a0 (ix3 b t d) + md (ix2 0 ⟨2048 + d, by omega⟩) * ∑ x, MG (ix3 b t x) * a11 (ix3 0 x d) := by
  pointwise [yV]

def cenV (Y : FVec Ideal S32x256x1024 .f32) : FVec Ideal S32x256x1024 .f32 :=
  subf Y (broadcastInDim S32x256x1024 ![0, 1, 2] bcast_S32x256x1_S32x256x1024_0_1_2 (Host.divf (broadcastInDim S32x256x1 ![0, 1] bcast_S32x256_S32x256x1_0_1 (Host.reduceAdd Y (constant S_ .f32 0x00000000#32) reducesTo_S32x256x1024_S32x256_d2 h_S_)) (broadcastInDim S32x256x1 ![] bcast_S_S32x256x1 (constant S_ .f32 0x44800000#32))))

theorem cenV_apply (Y : FVec Ideal S32x256x1024 .f32) (b : Fin 32) (t : Fin 256) (d : Fin 1024) :
    cenV Y (ix3 b t d) = Y (ix3 b t d) - Ideal.div (∑ x, Y (ix3 b t x)) (Ideal.ofBits .f32 1149239296#32) := by
  pointwise [cenV]

def x1V (C : FVec Ideal S32x256x1024 .f32) (a12 : FVec Ideal S1x1024 .f32) (a13 : FVec Ideal S1x1024 .f32) : FVec Ideal S32x256x1024 .f32 :=
  addf (mulf (mulf C (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf C C) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x358637BD#32)))))) (broadcastInDim S32x256x1024 ![0, 1, 2] bcast_S1x1x1024_S32x256x1024_0_1_2 (broadcastInDim S1x1x1024 ![2] bcast_S1024_S1x1x1024_2 (shapeCast S1024 a12 shapeCasts_S1x1024_S1024)))) (broadcastInDim S32x256x1024 ![0, 1, 2] bcast_S1x1x1024_S32x256x1024_0_1_2 (broadcastInDim S1x1x1024 ![2] bcast_S1024_S1x1x1024_2 (shapeCast S1024 a13 shapeCasts_S1x1024_S1024)))

theorem x1V_apply (C : FVec Ideal S32x256x1024 .f32) (a12 : FVec Ideal S1x1024 .f32) (a13 : FVec Ideal S1x1024 .f32) (b : Fin 32) (t : Fin 256) (d : Fin 1024) :
    x1V C a12 a13 (ix3 b t d) = C (ix3 b t d) * rinv 1149239296#32 (fun x => C (ix3 b t x)) * a12 (ix2 0 d) + a13 (ix2 0 d) := by
  pointwise [x1V]
  rfl

def h2V (X : FVec Ideal S32x256x1024 .f32) (md : FVec Ideal S1x6144 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) (broadcastInDim S1x1x1024 ![0, 2] bcast_S1x1024_S1x1x1024_0_2 (extractStridedSlice S1x1024 ![0, 4096] md slices_S1x6144_S1x1024_0_4096))))) (broadcastInDim S32x256x1024 ![0, 1, 2] bcast_S1x1x1024_S32x256x1024_0_1_2 (broadcastInDim S1x1x1024 ![0, 2] bcast_S1x1024_S1x1x1024_0_2 (extractStridedSlice S1x1024 ![0, 3072] md slices_S1x6144_S1x1024_0_3072)))

theorem h2V_apply (X : FVec Ideal S32x256x1024 .f32) (md : FVec Ideal S1x6144 .f32) (b : Fin 32) (t : Fin 256) (d : Fin 1024) :
    h2V X md (ix3 b t d) = X (ix3 b t d) * (1 + md (ix2 0 ⟨4096 + d, by omega⟩)) + md (ix2 0 ⟨3072 + d, by omega⟩) := by
  pointwise [h2V]

def logitV (H : FVec Ideal S32x256x1024 .f32) (a14 : FVec Ideal S1x1024x16 .f32) : FVec Ideal S32x256x16 .f32 :=
  Host.dotGeneral dot_S32x256x1024_S1024x16_S32x256x16_2_0_01_1_n_n none H (shapeCast S1024x16 a14 shapeCasts_S1x1024x16_S1024x16)

theorem logitV_apply (H : FVec Ideal S32x256x1024 .f32) (a14 : FVec Ideal S1x1024x16 .f32) (b : Fin 32) (t : Fin 256) (e : Fin 16) :
    logitV H a14 (ix3 b t e) = ∑ x, H (ix3 b t x) * a14 (ix3 0 x e) := by
  pointwise [logitV]

def expL (L : FVec Ideal S32x256x16 .f32) (M : FVec Ideal S32x256 .f32) : FVec Ideal S32x256x16 .f32 :=
  Host.exp (subf L (broadcastInDim S32x256x16 ![0, 1, 2] bcast_S32x256x1_S32x256x16_0_1_2 (broadcastInDim S32x256x1 ![0, 1] bcast_S32x256_S32x256x1_0_1 (maximumf (broadcastInDim S32x256 ![] bcast_S_S32x256 (constant S_ .f32 0xFF800000#32)) M))))

theorem expL_apply (L : FVec Ideal S32x256x16 .f32) (M : FVec Ideal S32x256 .f32) (b : Fin 32) (t : Fin 256) (e : Fin 16) :
    expL L M (ix3 b t e) = Ideal.exp (L (ix3 b t e) - max (Ideal.ofBits .f32 0xFF800000#32) (M (ix2 b t))) := by
  pointwise [expL]

def affV (E : FVec Ideal S32x256x16 .f32) : FVec Ideal S32x16x256 .f32 :=
  transpose S32x16x256 [0, 2, 1] (Host.divf E (broadcastInDim S32x256x16 ![0, 1, 2] bcast_S32x256x1_S32x256x16_0_1_2 (broadcastInDim S32x256x1 ![0, 1] bcast_S32x256_S32x256x1_0_1 (Host.reduceAdd E (constant S_ .f32 0x00000000#32) reducesTo_S32x256x16_S32x256_d2 h_S_)))) transposes_S32x256x16_S32x16x256_0_2_1

theorem affV_apply (E : FVec Ideal S32x256x16 .f32) (b : Fin 32) (t : Fin 256) (e : Fin 16) :
    affV E (ix3 b e t) = Ideal.div (E (ix3 b t e)) (∑ x, E (ix3 b t x)) := by
  pointwise [affV]

theorem hmax3 (X : FVec Ideal S32x256x16 .f32) (b : Fin 32) (t : Fin 256) :
    Host.reduce (FloatOps.maximumf (F := Ideal) (φ := .f32)) X (constant S_ .f32 0xFF800000#32) reducesTo_S32x256x16_S32x256_d2 h_S_ (ix2 b t)
      = Finset.univ.fold max ⊥ fun u => X (ix3 b t u) := by
  refine (hmax reducesTo_S32x256x16_S32x256_d2 (by decide) X _ h_S_ _).trans ?_
  rw [ninf]
  refine congrArg (Finset.fold max ⊥ · Finset.univ) (funext fun u => congrArg X (funext fun a => ?_))
  match a with
  | ⟨0, _⟩ => rfl
  | ⟨1, _⟩ => rfl
  | ⟨2, _⟩ => rfl

/-! ## The reference's arrays -/

variable (hO : ∀ b t hd i, (res_main_v371 V0 : FVec Ideal S32x256x4x128 .f32) (ix4 b t hd i) = oh (inp V0) b t hd i)

theorem r0 (j : Fin 6144) : (res_main_v0 V0 : FVec Ideal S1x6144 .f32) (ix2 0 j) = (inp V0).md j := by
  pointwise [res_main_v0]
  rfl

theorem r386 (b : Fin 32) (t : Fin 256) (hd : Fin 4) (i : Fin 128) : (res_main_v386 V0 : FVec Ideal S32x256x4x128 .f32) (ix4 b t hd i)
    = proj (inp V0) b t ⟨3104 + (128 * hd + i), by omega⟩ := by
  pointwise [res_main_v386]
  rw [r34]
  exact congrArg (proj (inp V0) b t) (Fin.ext (by dsimp only <;> omega))

include hO

theorem hg_eq (b : Fin 32) (t : Fin 256) (j : Fin 512) : hgV (res_main_v371 V0) (res_main_v386 V0) (V0 (Proc.devRef .tc main_arg9)) (ix3 b t j)
    = hgx (inp V0) b t ⟨j / 128, by omega⟩ ⟨j % 128, by omega⟩ := by
  rw [hgV_apply]
  simp only [hO, r386]
  rfl

theorem merged_eq (b : Fin 32) (t : Fin 256) (d : Fin 1024) : mergedV (res_main_v34 V0) (attV (res_main_v80 V0) (res_main_v96 V0))
    (hgV (res_main_v371 V0) (res_main_v386 V0) (V0 (Proc.devRef .tc main_arg9))) (V0 (Proc.devRef .tc main_arg7)) (V0 (Proc.devRef .tc main_arg10)) (ix3 b t d)
    = merged (inp V0) b t d := by
  rw [mergedV_apply]
  simp only [att_eq, hg_eq V0 hO, r34]
  rfl

theorem r415 (b : Fin 32) (t : Fin 256) (d : Fin 1024) : (res_main_v415 V0 : FVec Ideal S32x256x1024 .f32) (ix3 b t d) = y (inp V0) b t d := by
  refine (congrFun (show (res_main_v415 V0 : FVec Ideal S32x256x1024 .f32) = yV (V0 (Proc.devRef .tc main_arg0)) (res_main_v0 V0) (mergedV (res_main_v34 V0) (attV (res_main_v80 V0) (res_main_v96 V0))
    (hgV (res_main_v371 V0) (res_main_v386 V0) (V0 (Proc.devRef .tc main_arg9))) (V0 (Proc.devRef .tc main_arg7)) (V0 (Proc.devRef .tc main_arg10))) (V0 (Proc.devRef .tc main_arg11)) from rfl) _).trans ?_
  rw [yV_apply]
  simp only [merged_eq V0 hO, r0]
  rfl

theorem r423 (b : Fin 32) (t : Fin 256) (d : Fin 1024) : (res_main_v423 V0 : FVec Ideal S32x256x1024 .f32) (ix3 b t d) = cen (inp V0) b t d := by
  refine (cenV_apply (res_main_v415 V0) b t d).trans ?_
  simp only [r415 V0 hO]
  rfl

theorem r439 (b : Fin 32) (t : Fin 256) (d : Fin 1024) : (res_main_v439 V0 : FVec Ideal S32x256x1024 .f32) (ix3 b t d) = x1 (inp V0) b t d := by
  refine (x1V_apply (res_main_v423 V0) (V0 (Proc.devRef .tc main_arg12)) (V0 (Proc.devRef .tc main_arg13)) b t d).trans ?_
  simp only [r423 V0 hO]
  rfl

theorem r445 (b : Fin 32) (t : Fin 256) (d : Fin 1024) : (res_main_v445 V0 : FVec Ideal S32x256x1024 .f32) (ix3 b t d) = h2 (inp V0) b t d := by
  refine (h2V_apply (res_main_v439 V0) (res_main_v0 V0) b t d).trans ?_
  simp only [r439 V0 hO, r0]
  rfl

theorem r447 (b : Fin 32) (t : Fin 256) (e : Fin 16) : (res_main_v447 V0 : FVec Ideal S32x256x16 .f32) (ix3 b t e) = logit (inp V0) b t e := by
  refine (logitV_apply (res_main_v445 V0) (V0 (Proc.devRef .tc main_arg14)) b t e).trans ?_
  simp only [r445 V0 hO]
  rfl

theorem r454 (b : Fin 32) (t : Fin 256) (e : Fin 16) : (res_main_v454 V0 : FVec Ideal S32x256x16 .f32) (ix3 b t e)
    = Ideal.exp (logit (inp V0) b t e - Finset.univ.fold max ⊥ (logit (inp V0) b t)) := by
  refine (congrFun (show (res_main_v454 V0 : FVec Ideal S32x256x16 .f32) = expL (res_main_v447 V0) (Host.reduce (FloatOps.maximumf (F := Ideal) (φ := .f32)) (res_main_v447 V0) (constant S_ .f32 0xFF800000#32) reducesTo_S32x256x16_S32x256_d2 h_S_) from rfl) _).trans ?_
  refine (expL_apply _ _ b t e).trans ?_
  rw [hmax3 (res_main_v447 V0), ninf, max_eq_right bot_le]
  simp only [r447 V0 hO]

theorem aff_eq (b : Fin 32) (t : Fin 256) (e : Fin 16) : affV (res_main_v454 V0) (ix3 b e t) = aff (inp V0) b t e := by
  rw [affV_apply]
  simp only [r454 V0 hO]
  rfl

end Cert.RTail

end
-- ==== Proof.RHgrn.lean ====
module

public import proofs.«01_k».proof.Proof.RScan
public import proofs.«01_k».proof.Proof.Gen.ReferenceIdeal.Run
public import proofs.«01_k».proof.Proof.RTail

/-
The gated recurrence of the reference: its gates, its states and its outputs, entry by entry.
-/

@[expose] public section

set_option maxRecDepth 16384

noncomputable section

namespace Cert.RHgrn

open Cert.ReferenceIdeal Cert.ReferenceIdeal.Gen Cert.ReferenceIdeal.Value Idealize.ShloMosaic Idealize.ShloMosaic.TcCoe Idealize.SL.Sem
open Cert.Spec Cert.Block

open RProj RScan
variable (V0 : Valuation τ sig (Elt Ideal))

/-! ## The gate's lower bound -/

theorem hmax2 (X : FVec Ideal S2x2x512 .f32) (a : Fin 2) (j : Fin 512) :
    Host.reduce (FloatOps.maximumf (F := Ideal) (φ := .f32)) X (constant S_ .f32 0xFF800000#32) reducesTo_S2x2x512_S2x512_d1 h_S_ (ix2 a j)
      = max (X (ix3 a 0 j)) (X (ix3 a 1 j)) := by
  refine (RSoft.hmax reducesTo_S2x2x512_S2x512_d1 (by decide) X _ h_S_ _).trans ?_
  rw [RSoft.ninf]
  have e : ∀ u : Fin 2, X ((by decide : S2x2x512.Reduces [1] S2x512).lift (ix2 a j) u) = X (ix3 a u j) := fun u => congrArg X (funext fun d => by
    match d with
    | ⟨0, _⟩ => rfl
    | ⟨1, _⟩ => rfl
    | ⟨2, _⟩ => rfl)
  refine (congrArg (Finset.fold max ⊥ · Finset.univ) (funext e)).trans ?_
  show Finset.fold max ⊥ (fun u : Fin 2 => X (ix3 a u j)) Finset.univ = _
  rw [show (Finset.univ : Finset (Fin 2)) = {0, 1} from rfl, Finset.fold_insert (by decide), Finset.fold_singleton, max_eq_left (bot_le (a := X (ix3 a 1 j)))]

def gexpV (X : FVec Ideal S2x2x512 .f32) (M : FVec Ideal S2x512 .f32) : FVec Ideal S2x2x512 .f32 := Host.exp (subf X (broadcastInDim S2x2x512 ![0, 1, 2] bcast_S2x1x512_S2x2x512_0_1_2 (broadcastInDim S2x1x512 ![0, 2] bcast_S2x512_S2x1x512_0_2 (maximumf (broadcastInDim S2x512 ![] bcast_S_S2x512 (constant S_ .f32 0xFF800000#32)) M))))
def quotV (E : FVec Ideal S2x2x512 .f32) : FVec Ideal S2x2x512 .f32 := Host.divf E (broadcastInDim S2x2x512 ![0, 1, 2] bcast_S2x1x512_S2x2x512_0_1_2 (broadcastInDim S2x1x512 ![0, 2] bcast_S2x512_S2x1x512_0_2 (Host.reduceAdd E (constant S_ .f32 0x00000000#32) reducesTo_S2x2x512_S2x512_d1 h_S_)))
def winV (X : FVec Ideal S2x2x512 .f32) : FVec Ideal S2x2x512 .f32 := Host.reduceWindowAdd ![1, 2, 1] ![1, 1, 1] ![0, 1, 0] ![0, 0, 0] X (broadcastInDim S_ ![] bcast_S_S_ (constant S_ .f32 0x00000000#32)) reduceWindows_S2x2x512_S2x2x512_w1s1p0_0_w2s1p1_0_w1s1p0_0 h_S_
def firstV (X : FVec Ideal S2x2x512 .f32) : FVec Ideal S2x512 .f32 := shapeCast _ (extractStridedSlice S2x1x512 ![0, 0, 0] X slices_S2x2x512_S2x1x512_0_0_0) shapeCasts_S2x1x512_S2x512

theorem gexpV_apply (X : FVec Ideal S2x2x512 .f32) (M : FVec Ideal S2x512 .f32) (a s : Fin 2) (j : Fin 512) :
    gexpV X M (ix3 a s j) = Ideal.exp (X (ix3 a s j) - max (Ideal.ofBits .f32 0xFF800000#32) (M (ix2 a j))) := by
  pointwise [gexpV]
theorem quotV_apply (E : FVec Ideal S2x2x512 .f32) (a s : Fin 2) (j : Fin 512) :
    quotV E (ix3 a s j) = Ideal.div (E (ix3 a s j)) (∑ u, E (ix3 a u j)) := by
  pointwise [quotV]
theorem firstV_apply (X : FVec Ideal S2x2x512 .f32) (a : Fin 2) (j : Fin 512) : firstV X (ix2 a j) = X (ix3 a 0 j) := by
  pointwise [firstV]

theorem winV_apply (X : FVec Ideal S2x2x512 .f32) (a : Fin 2) (j : Fin 512) : winV X (ix3 a 0 j) = X (ix3 a 0 j) := by
  unfold winV
  change List.foldl _ _ _ = _
  refine (foldl_sum (fun n => (fun w : (⟨3, ![1, 2, 1]⟩ : Shape).Idx => if (w 1).val = 1 then X (ix3 a 0 j) else 0) ((⟨3, ![1, 2, 1]⟩ : Shape).rowMajor.symm n)) _ _ (fun r n => congrArg (r + ·) ?_) zero32).trans ?_
  · have w0 : ((⟨3, ![1, 2, 1]⟩ : Shape).rowMajor.symm n 0).val < 1 := ((⟨3, ![1, 2, 1]⟩ : Shape).rowMajor.symm n 0).isLt
    have w1 : ((⟨3, ![1, 2, 1]⟩ : Shape).rowMajor.symm n 1).val < 2 := ((⟨3, ![1, 2, 1]⟩ : Shape).rowMajor.symm n 1).isLt
    have w2 : ((⟨3, ![1, 2, 1]⟩ : Shape).rowMajor.symm n 2).val < 1 := ((⟨3, ![1, 2, 1]⟩ : Shape).rowMajor.symm n 2).isLt
    dsimp only
    by_cases h : ((⟨3, ![1, 2, 1]⟩ : Shape).rowMajor.symm n 1).val = 1
    · rw [if_pos h, dif_pos]
      · refine congrArg X (funext fun d => Fin.ext ?_)
        match d with
        | ⟨0, _⟩ => show a.val * 1 + ((⟨3, ![1, 2, 1]⟩ : Shape).rowMajor.symm n 0).val - 0 = a.val; omega
        | ⟨1, _⟩ => show 0 * 1 + ((⟨3, ![1, 2, 1]⟩ : Shape).rowMajor.symm n 1).val - 1 = 0; omega
        | ⟨2, _⟩ => show j.val * 1 + ((⟨3, ![1, 2, 1]⟩ : Shape).rowMajor.symm n 2).val - 0 = j.val; omega
      · intro d
        match d with
        | ⟨0, _⟩ => show 0 ≤ a.val * 1 + ((⟨3, ![1, 2, 1]⟩ : Shape).rowMajor.symm n 0).val ∧ a.val * 1 + ((⟨3, ![1, 2, 1]⟩ : Shape).rowMajor.symm n 0).val - 0 < 2; omega
        | ⟨1, _⟩ => show 1 ≤ 0 * 1 + ((⟨3, ![1, 2, 1]⟩ : Shape).rowMajor.symm n 1).val ∧ 0 * 1 + ((⟨3, ![1, 2, 1]⟩ : Shape).rowMajor.symm n 1).val - 1 < 2; omega
        | ⟨2, _⟩ => show 0 ≤ j.val * 1 + ((⟨3, ![1, 2, 1]⟩ : Shape).rowMajor.symm n 2).val ∧ j.val * 1 + ((⟨3, ![1, 2, 1]⟩ : Shape).rowMajor.symm n 2).val - 0 < 512; omega
    · rw [if_neg h, dif_neg]
      · exact zero32
      · intro hh
        have h2 : 1 ≤ 0 * 1 + ((⟨3, ![1, 2, 1]⟩ : Shape).rowMajor.symm n 1).val := (hh 1).1
        omega
  · refine (Equiv.sum_comp _ (fun w : (⟨3, ![1, 2, 1]⟩ : Shape).Idx => if (w 1).val = 1 then X (ix3 a 0 j) else 0)).trans ?_
    refine (Fintype.sum_bijective (fun n : Fin 2 => (ix3 0 n 0 : (⟨3, ![1, 2, 1]⟩ : Shape).Idx)) ⟨fun m n h => congrFun h 1, fun w => ⟨w 1, ?_⟩⟩
      (fun n : Fin 2 => if n.val = 1 then X (ix3 a 0 j) else 0) _ fun _ => rfl).symm.trans ?_
    · funext d
      match d with
      | ⟨0, _⟩ => exact Subsingleton.elim (α := Fin 1) _ _
      | ⟨1, _⟩ => rfl
      | ⟨2, _⟩ => exact Subsingleton.elim (α := Fin 1) _ _
    · rw [Fin.sum_univ_two]
      simp

theorem r19 (a s : Fin 2) (j : Fin 512) : (res_main_v19 V0 : FVec Ideal S2x2x512 .f32) (ix3 a s j)
    = Ideal.exp ((inp V0).gam a s j - max ((inp V0).gam a 0 j) ((inp V0).gam a 1 j)) := by
  refine (congrFun (show (res_main_v19 V0 : FVec Ideal S2x2x512 .f32) = gexpV (V0 (Proc.devRef .tc main_arg8)) (Host.reduce (FloatOps.maximumf (F := Ideal) (φ := .f32)) (V0 (Proc.devRef .tc main_arg8)) (constant S_ .f32 0xFF800000#32) reducesTo_S2x2x512_S2x512_d1 h_S_) from rfl) _).trans ?_
  refine (gexpV_apply _ _ a s j).trans ?_
  rw [hmax2 (V0 (Proc.devRef .tc main_arg8)), RSoft.ninf, max_eq_right bot_le]
  rfl
theorem r26 (a : Fin 2) (j : Fin 512) : (res_main_v26 V0 : FVec Ideal S2x512 .f32) (ix2 a j) = lb (inp V0) a j := by
  refine (congrFun (show (res_main_v26 V0 : FVec Ideal S2x512 .f32) = firstV (winV (quotV (res_main_v19 V0))) from rfl) _).trans ?_
  rw [firstV_apply, winV_apply, quotV_apply, Fin.sum_univ_two]
  simp only [r19]
  rfl

/-! ## The gates, the query and the value -/

def low0 (W : FVec Ideal S2x512 .f32) : FVec Ideal S512 .f32 := shapeCast _ (extractStridedSlice S1x512 ![0, 0] W slices_S2x512_S1x512_0_0) shapeCasts_S1x512_S512
def low1 (W : FVec Ideal S2x512 .f32) : FVec Ideal S512 .f32 := shapeCast _ (extractStridedSlice S1x512 ![1, 0] W slices_S2x512_S1x512_1_0) shapeCasts_S1x512_S512
def gate0 (L : FVec Ideal S512 .f32) (P : FVec Ideal S32x256x5664 .f32) : FVec Ideal S32x256x4x128 .f32 := shapeCast _ (addf (broadcastInDim S32x256x512 ![0, 1, 2] bcast_S1x1x512_S32x256x512_0_1_2 (broadcastInDim S1x1x512 ![2] bcast_S512_S1x1x512_2 L)) (mulf (broadcastInDim S32x256x512 ![0, 1, 2] bcast_S1x1x512_S32x256x512_0_1_2 (broadcastInDim S1x1x512 ![2] bcast_S512_S1x1x512_2 (subf (broadcastInDim S512 ![] bcast_S_S512 (constant S_ .f32 0x3F800000#32)) L))) (Host.divf (broadcastInDim S32x256x512 ![] bcast_S_S32x256x512 (constant S_ .f32 0x3F800000#32)) (addf (broadcastInDim S32x256x512 ![] bcast_S_S32x256x512 (constant S_ .f32 0x3F800000#32)) (Host.exp (Host.negf (extractStridedSlice S32x256x512 ![0, 0, 1568] P slices_S32x256x5664_S32x256x512_0_0_1568))))))) shapeCasts_S32x256x512_S32x256x4x128
def gate1 (L : FVec Ideal S512 .f32) (P : FVec Ideal S32x256x5664 .f32) : FVec Ideal S32x256x4x128 .f32 := shapeCast _ (addf (broadcastInDim S32x256x512 ![0, 1, 2] bcast_S1x1x512_S32x256x512_0_1_2 (broadcastInDim S1x1x512 ![2] bcast_S512_S1x1x512_2 L)) (mulf (broadcastInDim S32x256x512 ![0, 1, 2] bcast_S1x1x512_S32x256x512_0_1_2 (broadcastInDim S1x1x512 ![2] bcast_S512_S1x1x512_2 (subf (broadcastInDim S512 ![] bcast_S_S512 (constant S_ .f32 0x3F800000#32)) L))) (Host.divf (broadcastInDim S32x256x512 ![] bcast_S_S32x256x512 (constant S_ .f32 0x3F800000#32)) (addf (broadcastInDim S32x256x512 ![] bcast_S_S32x256x512 (constant S_ .f32 0x3F800000#32)) (Host.exp (Host.negf (extractStridedSlice S32x256x512 ![0, 0, 2080] P slices_S32x256x5664_S32x256x512_0_0_2080))))))) shapeCasts_S32x256x512_S32x256x4x128
def qryV (Z : FVec Ideal S32x256x512 .f32) : FVec Ideal S32x256x4x128 .f32 := shapeCast _ (mulf Z (Host.divf (broadcastInDim S32x256x512 ![] bcast_S_S32x256x512 (constant S_ .f32 0x3F800000#32)) (addf (broadcastInDim S32x256x512 ![] bcast_S_S32x256x512 (constant S_ .f32 0x3F800000#32)) (Host.exp (Host.negf Z))))) shapeCasts_S32x256x512_S32x256x4x128
def colV (P : FVec Ideal S32x256x5664 .f32) : FVec Ideal S32x256x512 .f32 := extractStridedSlice S32x256x512 ![0, 0, 1056] P slices_S32x256x5664_S32x256x512_0_0_1056
def valV (P : FVec Ideal S32x256x5664 .f32) : FVec Ideal S32x256x4x128 .f32 := shapeCast _ (extractStridedSlice S32x256x512 ![0, 0, 2592] P slices_S32x256x5664_S32x256x512_0_0_2592) shapeCasts_S32x256x512_S32x256x4x128

theorem lane_eq (hd : Fin 4) (k : Fin 128) : lane hd k = ⟨hd * 128 + k, by omega⟩ := Fin.ext (by show 128 * hd.val + k.val = hd.val * 128 + k.val; omega)
theorem low0_apply (W : FVec Ideal S2x512 .f32) (j : Fin 512) : low0 W (ix1 j) = W (ix2 0 j) := by
  pointwise [low0]
theorem low1_apply (W : FVec Ideal S2x512 .f32) (j : Fin 512) : low1 W (ix1 j) = W (ix2 1 j) := by
  pointwise [low1]
theorem gate0_apply (L : FVec Ideal S512 .f32) (P : FVec Ideal S32x256x5664 .f32) (b : Fin 32) (t : Fin 256) (hd : Fin 4) (k : Fin 128) : gate0 L P (ix4 b t hd k)
    = L (ix1 (lane hd k)) + (1 - L (ix1 (lane hd k))) * Ideal.logistic (P (ix3 b t ⟨1568 + lane hd k, by omega⟩)) := by
  simp only [lane_eq]
  pointwise [gate0]
  rfl
theorem gate1_apply (L : FVec Ideal S512 .f32) (P : FVec Ideal S32x256x5664 .f32) (b : Fin 32) (t : Fin 256) (hd : Fin 4) (k : Fin 128) : gate1 L P (ix4 b t hd k)
    = L (ix1 (lane hd k)) + (1 - L (ix1 (lane hd k))) * Ideal.logistic (P (ix3 b t ⟨2080 + lane hd k, by omega⟩)) := by
  simp only [lane_eq]
  pointwise [gate1]
  rfl
theorem qryV_apply (Z : FVec Ideal S32x256x512 .f32) (b : Fin 32) (t : Fin 256) (hd : Fin 4) (k : Fin 128) : qryV Z (ix4 b t hd k)
    = Z (ix3 b t (lane hd k)) * Ideal.logistic (Z (ix3 b t (lane hd k))) := by
  simp only [lane_eq]
  pointwise [qryV]
  rfl
theorem colV_apply (P : FVec Ideal S32x256x5664 .f32) (b : Fin 32) (t : Fin 256) (j : Fin 512) : colV P (ix3 b t j) = P (ix3 b t ⟨1056 + j, by omega⟩) := by
  pointwise [colV]
theorem valV_apply (P : FVec Ideal S32x256x5664 .f32) (b : Fin 32) (t : Fin 256) (hd : Fin 4) (k : Fin 128) : valV P (ix4 b t hd k)
    = P (ix3 b t ⟨2592 + lane hd k, by omega⟩) := by
  simp only [lane_eq]
  pointwise [valV]

theorem r123 (b : Fin 32) (t : Fin 256) (hd : Fin 4) (k : Fin 128) : (res_main_v123 V0 : FVec Ideal S32x256x4x128 .f32) (ix4 b t hd k) = ff (inp V0) 0 b t (lane hd k) := by
  refine (congrFun (show (res_main_v123 V0 : FVec Ideal S32x256x4x128 .f32) = gate0 (low0 (res_main_v26 V0)) (res_main_v34 V0) from rfl) _).trans ?_
  rw [gate0_apply, low0_apply, r26, r34]
  rfl
theorem r143 (b : Fin 32) (t : Fin 256) (hd : Fin 4) (k : Fin 128) : (res_main_v143 V0 : FVec Ideal S32x256x4x128 .f32) (ix4 b t hd k) = ff (inp V0) 1 b t (lane hd k) := by
  refine (congrFun (show (res_main_v143 V0 : FVec Ideal S32x256x4x128 .f32) = gate1 (low1 (res_main_v26 V0)) (res_main_v34 V0) from rfl) _).trans ?_
  rw [gate1_apply, low1_apply, r26, r34]
  rfl
theorem r105 (b : Fin 32) (t : Fin 256) (hd : Fin 4) (k : Fin 128) : (res_main_v105 V0 : FVec Ideal S32x256x4x128 .f32) (ix4 b t hd k) = sq (inp V0) b t (lane hd k) := by
  refine (congrFun (show (res_main_v105 V0 : FVec Ideal S32x256x4x128 .f32) = qryV (colV (res_main_v34 V0)) from rfl) _).trans ?_
  rw [qryV_apply, colV_apply, r34]
  rfl
theorem r106 (b : Fin 32) (t : Fin 256) (hd : Fin 4) (k : Fin 128) : (res_main_v106 V0 : FVec Ideal S32x256x4x128 .f32) (ix4 b t hd k) = hv (inp V0) b t (lane hd k) := by
  refine (congrFun (show (res_main_v106 V0 : FVec Ideal S32x256x4x128 .f32) = valV (res_main_v34 V0) from rfl) _).trans ?_
  rw [valV_apply, r34]
  rfl

/-! ## By chunks, in each direction -/

/-- A row's place in its sequence. -/
def tm (c : Fin 8) (i : Fin 32) : Fin 256 := ⟨c * 32 + i, by omega⟩
def ch0 (Z : FVec Ideal S32x256x4x128 .f32) : FVec Ideal S32x8x32x4x128 .f32 := shapeCast _ Z shapeCasts_S32x256x4x128_S32x8x32x4x128
def ch1 (Z : FVec Ideal S32x256x4x128 .f32) : FVec Ideal S32x8x32x4x128 .f32 := shapeCast _ (Host.reverse [1] Z) shapeCasts_S32x256x4x128_S32x8x32x4x128
def key0 (Z : FVec Ideal S32x256x4x128 .f32) : FVec Ideal S32x8x32x4x128 .f32 := shapeCast _ (subf (broadcastInDim S32x256x4x128 ![] bcast_S_S32x256x4x128 (constant S_ .f32 0x3F800000#32)) Z) shapeCasts_S32x256x4x128_S32x8x32x4x128
def key1 (Z : FVec Ideal S32x256x4x128 .f32) : FVec Ideal S32x8x32x4x128 .f32 := shapeCast _ (Host.reverse [1] (subf (broadcastInDim S32x256x4x128 ![] bcast_S_S32x256x4x128 (constant S_ .f32 0x3F800000#32)) Z)) shapeCasts_S32x256x4x128_S32x8x32x4x128
def log0 (Z : FVec Ideal S32x256x4x128 .f32) : FVec Ideal S32x8x32x4x128 .f32 := shapeCast S32x8x32x4x128 (Host.log Z) shapeCasts_S32x256x4x128_S32x8x32x4x128
def log1 (Z : FVec Ideal S32x256x4x128 .f32) : FVec Ideal S32x8x32x4x128 .f32 := shapeCast S32x8x32x4x128 (Host.reverse [1] (Host.log Z)) shapeCasts_S32x256x4x128_S32x8x32x4x128
def qdV (Q C : FVec Ideal S32x8x32x4x128 .f32) : FVec Ideal S32x8x32x4x128 .f32 := mulf Q (Host.exp C)
def bothV (O O' : FVec Ideal S32x8x32x4x128 .f32) : FVec Ideal S32x256x4x128 .f32 := addf (shapeCast _ O shapeCasts_S32x8x32x4x128_S32x256x4x128) (Host.reverse [1] (shapeCast _ O' shapeCasts_S32x8x32x4x128_S32x256x4x128))
def finV (S S' : FVec Ideal S32x4x128x128 .f32) : FVec Ideal S32x2x4x128x128 .f32 := concatenate S32x2x4x128x128 1 [⟨S32x1x4x128x128, (broadcastInDim S32x1x4x128x128 ![0, 2, 3, 4] bcast_S32x4x128x128_S32x1x4x128x128_0_2_3_4 S)⟩, ⟨S32x1x4x128x128, (broadcastInDim S32x1x4x128x128 ![0, 2, 3, 4] bcast_S32x4x128x128_S32x1x4x128x128_0_2_3_4 S')⟩] concatenates_S32x1x4x128x128_S32x1x4x128x128_S32x2x4x128x128_d1

section

variable (Z : FVec Ideal S32x256x4x128 .f32) (b : Fin 32) (c : Fin 8) (i : Fin 32) (hd : Fin 4) (k : Fin 128)

theorem ch0_apply : ch0 Z (ix5 b c i hd k) = Z (ix4 b (tm c i) hd k) := by
  pointwise [ch0]
  rfl
theorem ch1_apply : ch1 Z (ix5 b c i hd k) = Z (ix4 b (tm c i).rev hd k) := by
  pointwise [ch1]
  rfl
theorem key0_apply : key0 Z (ix5 b c i hd k) = 1 - Z (ix4 b (tm c i) hd k) := by
  pointwise [key0]
  rfl
theorem key1_apply : key1 Z (ix5 b c i hd k) = 1 - Z (ix4 b (tm c i).rev hd k) := by
  pointwise [key1]
  rfl
theorem log0_apply : log0 Z (ix5 b c i hd k) = Ideal.log (Z (ix4 b (tm c i) hd k)) := by
  pointwise [log0]
  rfl
theorem log1_apply : log1 Z (ix5 b c i hd k) = Ideal.log (Z (ix4 b (tm c i).rev hd k)) := by
  pointwise [log1]
  rfl
theorem qdV_apply (Q C : FVec Ideal S32x8x32x4x128 .f32) : qdV Q C (ix5 b c i hd k) = Q (ix5 b c i hd k) * Ideal.exp (C (ix5 b c i hd k)) := by
  pointwise [qdV]
theorem bothV_apply (O O' : FVec Ideal S32x8x32x4x128 .f32) (t : Fin 256) : bothV O O' (ix4 b t hd k) = O (ix5 b ⟨t / 32, by omega⟩ ⟨t % 32, by omega⟩ hd k)
    + O' (ix5 b ⟨t.rev / 32, by omega⟩ ⟨t.rev % 32, by omega⟩ hd k) := by
  pointwise [bothV]
  rfl
theorem finV_apply (S : Fin 2 → FVec Ideal S32x4x128x128 .f32) (a : Fin 2) (k' : Fin 128) : finV (S 0) (S 1) (ix5 b a hd k k') = S a (ix4 b hd k k') := by
  obtain ⟨a, ha⟩ := a
  interval_cases a
  all_goals pointwise [finV]; try rfl

end

theorem tm0 (c : Fin 8) (i : Fin 32) : tm c i = row 0 (32 * c + i) := by
  unfold row tm
  rw [if_pos rfl]
  exact Fin.ext (by dsimp only; omega)
theorem tm1 (c : Fin 8) (i : Fin 32) : (tm c i).rev = row 1 (32 * c + i) := by
  unfold row tm
  rw [if_neg (by decide)]
  exact Fin.ext (by simp only [Fin.val_rev]; omega)

theorem e149 : (res_main_v149 V0 : FVec Ideal S32x8x32x4x128 .f32) = key0 (res_main_v123 V0 : FVec Ideal S32x256x4x128 .f32) := rfl
theorem e150 : (res_main_v150 V0 : FVec Ideal S32x8x32x4x128 .f32) = ch0 (res_main_v106 V0 : FVec Ideal S32x256x4x128 .f32) := rfl
theorem e152 : (res_main_v152 V0 : FVec Ideal S32x8x32x4x128 .f32) = cumV (log0 (res_main_v123 V0 : FVec Ideal S32x256x4x128 .f32)) := rfl
theorem e154 : (res_main_v154 V0 : FVec Ideal S32x8x4x128 .f32) = lastV (res_main_v152 V0 : FVec Ideal S32x8x32x4x128 .f32) := rfl
theorem e156 : (res_main_v156 V0 : FVec Ideal S32x8x32x4x128 .f32) = qdV (ch0 (res_main_v105 V0 : FVec Ideal S32x256x4x128 .f32)) (res_main_v152 V0 : FVec Ideal S32x8x32x4x128 .f32) := rfl
theorem e171 : (res_main_v171 V0 : FVec Ideal S32x8x4x128x128 .f32) = uV (res_main_v149 V0 : FVec Ideal S32x8x32x4x128 .f32) (res_main_v152 V0 : FVec Ideal S32x8x32x4x128 .f32) (res_main_v154 V0 : FVec Ideal S32x8x4x128 .f32) (res_main_v150 V0 : FVec Ideal S32x8x32x4x128 .f32) := rfl
theorem e262 : (res_main_v262 V0 : FVec Ideal S32x8x32x4x128 .f32) = key1 (res_main_v143 V0 : FVec Ideal S32x256x4x128 .f32) := rfl
theorem e263 : (res_main_v263 V0 : FVec Ideal S32x8x32x4x128 .f32) = ch1 (res_main_v106 V0 : FVec Ideal S32x256x4x128 .f32) := rfl
theorem e265 : (res_main_v265 V0 : FVec Ideal S32x8x32x4x128 .f32) = cumV (log1 (res_main_v143 V0 : FVec Ideal S32x256x4x128 .f32)) := rfl
theorem e267 : (res_main_v267 V0 : FVec Ideal S32x8x4x128 .f32) = lastV (res_main_v265 V0 : FVec Ideal S32x8x32x4x128 .f32) := rfl
theorem e269 : (res_main_v269 V0 : FVec Ideal S32x8x32x4x128 .f32) = qdV (ch1 (res_main_v105 V0 : FVec Ideal S32x256x4x128 .f32)) (res_main_v265 V0 : FVec Ideal S32x8x32x4x128 .f32) := rfl
theorem e284 : (res_main_v284 V0 : FVec Ideal S32x8x4x128x128 .f32) = uV (res_main_v262 V0 : FVec Ideal S32x8x32x4x128 .f32) (res_main_v265 V0 : FVec Ideal S32x8x32x4x128 .f32) (res_main_v267 V0 : FVec Ideal S32x8x4x128 .f32) (res_main_v263 V0 : FVec Ideal S32x8x32x4x128 .f32) := rfl
theorem e371 : (res_main_v371 V0 : FVec Ideal S32x256x4x128 .f32) = bothV (outV (res_main_v149 V0) (res_main_v152 V0) (res_main_v156 V0) (res_main_v150 V0) (concV (res_main_v147 V0) (res_main_v180 V0) (res_main_v189 V0) (res_main_v198 V0) (res_main_v207 V0) (res_main_v216 V0) (res_main_v225 V0) (res_main_v234 V0))) (outV (res_main_v262 V0) (res_main_v265 V0) (res_main_v269 V0) (res_main_v263 V0) (concV (res_main_v147 V0) (res_main_v293 V0) (res_main_v302 V0) (res_main_v311 V0) (res_main_v320 V0) (res_main_v329 V0) (res_main_v338 V0) (res_main_v347 V0))) := rfl
theorem r147 (b : Fin 32) (hd : Fin 4) (k j : Fin 128) : (res_main_v147 V0 : FVec Ideal S32x4x128x128 .f32) (ix4 b hd k j) = (0 : EReal) := by
  pointwise [res_main_v147]

theorem slc4 : ∀ n : Fin 7, S32x8x4x128.Slices ![0, n.val, 0, 0] S32x1x4x128 := by decide
theorem slc5 : ∀ n : Fin 7, S32x8x4x128x128.Slices ![0, n.val, 0, 0, 0] S32x1x4x128x128 := by decide

section

variable (hI : (inp V0).Fin) (b : Fin 32) (hd : Fin 4)
include hI

theorem n149 (c : Fin 8) (i : Fin 32) (k : Fin 128) : key0 (res_main_v123 V0) (ix5 b c i hd k) = (kR (inp V0) 0 b hd (32 * c + i) k : ℝ) := by
  rw [key0_apply, r123, tm0]
  exact (hk_isR hI 0 b _ _).coe
theorem n152 (c : Fin 8) (i : Fin 32) (k : Fin 128) : log0 (res_main_v123 V0) (ix5 b c i hd k) = (gR (inp V0) 0 b hd (32 * c + i) k : ℝ) := by
  rw [log0_apply, r123, tm0]
  exact (lf_isR hI 0 b _ _).coe
theorem n150 (c : Fin 8) (i : Fin 32) (j : Fin 128) : ch0 (res_main_v106 V0) (ix5 b c i hd j) = (vR (inp V0) 0 b hd j (32 * c + i) : ℝ) := by
  rw [ch0_apply, r106, tm0]
  exact (hv_isR hI b _ _).coe
theorem n156 (c : Fin 8) (i : Fin 32) (k : Fin 128) : (res_main_v156 V0 : FVec Ideal S32x8x32x4x128 .f32) (ix5 b c i hd k)
    = ((Hgrn.qd (qR (inp V0) 0 b hd) (gR (inp V0) 0 b hd) (32 * c + i) k : ℝ) : EReal) := by
  rw [e156, qdV_apply, e152, cum_real (gR (inp V0) 0 b hd) _ b hd (n152 V0 hI b hd), ch0_apply, r105, tm0, KScan.exp_coe, (sq_isR hI b _ _).coe]
  exact (EReal.coe_mul _ _).symm
theorem n154 (c : Fin 8) (k : Fin 128) : (res_main_v154 V0 : FVec Ideal S32x8x4x128 .f32) (ix4 b c hd k) = ((Hgrn.T (gR (inp V0) 0 b hd) c k : ℝ) : EReal) := by
  rw [e154, e152]
  exact last_real _ _ b hd (n152 V0 hI b hd) c k
theorem n171 (c : Fin 8) (k j : Fin 128) : (res_main_v171 V0 : FVec Ideal S32x8x4x128x128 .f32) (ix5 b c hd k j)
    = ((Hgrn.U (kR (inp V0) 0 b hd) (gR (inp V0) 0 b hd) (vR (inp V0) 0 b hd j) c k : ℝ) : EReal) := by
  rw [e171, e149, e154, e152, e150]
  exact u_real _ _ _ _ _ _ b hd (n152 V0 hI b hd) (n149 V0 hI b hd) (n150 V0 hI b hd) c k j
def st0 : Fin 8 → FVec Ideal S32x4x128x128 .f32 := ![res_main_v147 V0, res_main_v180 V0, res_main_v189 V0, res_main_v198 V0, res_main_v207 V0, res_main_v216 V0, res_main_v225 V0, res_main_v234 V0]
theorem ns0 (n : Fin 8) (k j : Fin 128) : st0 V0 n (ix4 b hd k j)
    = (Hgrn.S (kR (inp V0) 0 b hd) (gR (inp V0) 0 b hd) (vR (inp V0) 0 b hd j) n k : ℝ) := by
  refine chain _ _ _ b hd (res_main_v154 V0) (res_main_v171 V0) (st0 V0) (n154 V0 hI b hd) (n171 V0 hI b hd) (r147 V0 b hd) (fun n => ?_) n k j
  refine ⟨slc4 n, slc5 n, ?_⟩
  obtain ⟨n, hn⟩ := n
  interval_cases n
  all_goals rfl
theorem no0 (c : Fin 8) (i : Fin 32) (j : Fin 128) : outV (res_main_v149 V0) (res_main_v152 V0) (res_main_v156 V0) (res_main_v150 V0) (concV (res_main_v147 V0) (res_main_v180 V0) (res_main_v189 V0) (res_main_v198 V0) (res_main_v207 V0) (res_main_v216 V0) (res_main_v225 V0) (res_main_v234 V0)) (ix5 b c i hd j)
    = (Hgrn.out (qR (inp V0) 0 b hd) (kR (inp V0) 0 b hd) (gR (inp V0) 0 b hd) (vR (inp V0) 0 b hd j) (32 * c + i) : ℝ) := by
  rw [e149, e150, e152]
  exact out_real _ _ _ _ _ _ _ _ b hd _ (n152 V0 hI b hd) (n149 V0 hI b hd) (n150 V0 hI b hd) (n156 V0 hI b hd)
    (fun c k j => (concV_apply (st0 V0) b c hd k j).trans (ns0 V0 hI b hd c k j)) c i j
theorem nf0 (h : S32x8x4x128.Slices ![0, 7, 0, 0] S32x1x4x128) (h' : S32x8x4x128x128.Slices ![0, 7, 0, 0, 0] S32x1x4x128x128) (k j : Fin 128) :
    stepV 7 h h' (res_main_v154 V0) (res_main_v171 V0) (res_main_v234 V0) (ix4 b hd k j) = sfin (inp V0) 0 b hd k j :=
  step_real _ _ _ b hd 7 (by decide) h h' _ _ _ (n154 V0 hI b hd) (n171 V0 hI b hd) (ns0 V0 hI b hd 7) k j

theorem n262 (c : Fin 8) (i : Fin 32) (k : Fin 128) : key1 (res_main_v143 V0) (ix5 b c i hd k) = (kR (inp V0) 1 b hd (32 * c + i) k : ℝ) := by
  rw [key1_apply, r143, tm1]
  exact (hk_isR hI 1 b _ _).coe
theorem n265 (c : Fin 8) (i : Fin 32) (k : Fin 128) : log1 (res_main_v143 V0) (ix5 b c i hd k) = (gR (inp V0) 1 b hd (32 * c + i) k : ℝ) := by
  rw [log1_apply, r143, tm1]
  exact (lf_isR hI 1 b _ _).coe
theorem n263 (c : Fin 8) (i : Fin 32) (j : Fin 128) : ch1 (res_main_v106 V0) (ix5 b c i hd j) = (vR (inp V0) 1 b hd j (32 * c + i) : ℝ) := by
  rw [ch1_apply, r106, tm1]
  exact (hv_isR hI b _ _).coe
theorem n269 (c : Fin 8) (i : Fin 32) (k : Fin 128) : (res_main_v269 V0 : FVec Ideal S32x8x32x4x128 .f32) (ix5 b c i hd k)
    = ((Hgrn.qd (qR (inp V0) 1 b hd) (gR (inp V0) 1 b hd) (32 * c + i) k : ℝ) : EReal) := by
  rw [e269, qdV_apply, e265, cum_real (gR (inp V0) 1 b hd) _ b hd (n265 V0 hI b hd), ch1_apply, r105, tm1, KScan.exp_coe, (sq_isR hI b _ _).coe]
  exact (EReal.coe_mul _ _).symm
theorem n267 (c : Fin 8) (k : Fin 128) : (res_main_v267 V0 : FVec Ideal S32x8x4x128 .f32) (ix4 b c hd k) = ((Hgrn.T (gR (inp V0) 1 b hd) c k : ℝ) : EReal) := by
  rw [e267, e265]
  exact last_real _ _ b hd (n265 V0 hI b hd) c k
theorem n284 (c : Fin 8) (k j : Fin 128) : (res_main_v284 V0 : FVec Ideal S32x8x4x128x128 .f32) (ix5 b c hd k j)
    = ((Hgrn.U (kR (inp V0) 1 b hd) (gR (inp V0) 1 b hd) (vR (inp V0) 1 b hd j) c k : ℝ) : EReal) := by
  rw [e284, e262, e267, e265, e263]
  exact u_real _ _ _ _ _ _ b hd (n265 V0 hI b hd) (n262 V0 hI b hd) (n263 V0 hI b hd) c k j
def st1 : Fin 8 → FVec Ideal S32x4x128x128 .f32 := ![res_main_v147 V0, res_main_v293 V0, res_main_v302 V0, res_main_v311 V0, res_main_v320 V0, res_main_v329 V0, res_main_v338 V0, res_main_v347 V0]
theorem ns1 (n : Fin 8) (k j : Fin 128) : st1 V0 n (ix4 b hd k j)
    = (Hgrn.S (kR (inp V0) 1 b hd) (gR (inp V0) 1 b hd) (vR (inp V0) 1 b hd j) n k : ℝ) := by
  refine chain _ _ _ b hd (res_main_v267 V0) (res_main_v284 V0) (st1 V0) (n267 V0 hI b hd) (n284 V0 hI b hd) (r147 V0 b hd) (fun n => ?_) n k j
  refine ⟨slc4 n, slc5 n, ?_⟩
  obtain ⟨n, hn⟩ := n
  interval_cases n
  all_goals rfl
theorem no1 (c : Fin 8) (i : Fin 32) (j : Fin 128) : outV (res_main_v262 V0) (res_main_v265 V0) (res_main_v269 V0) (res_main_v263 V0) (concV (res_main_v147 V0) (res_main_v293 V0) (res_main_v302 V0) (res_main_v311 V0) (res_main_v320 V0) (res_main_v329 V0) (res_main_v338 V0) (res_main_v347 V0)) (ix5 b c i hd j)
    = (Hgrn.out (qR (inp V0) 1 b hd) (kR (inp V0) 1 b hd) (gR (inp V0) 1 b hd) (vR (inp V0) 1 b hd j) (32 * c + i) : ℝ) := by
  rw [e262, e263, e265]
  exact out_real _ _ _ _ _ _ _ _ b hd _ (n265 V0 hI b hd) (n262 V0 hI b hd) (n263 V0 hI b hd) (n269 V0 hI b hd)
    (fun c k j => (concV_apply (st1 V0) b c hd k j).trans (ns1 V0 hI b hd c k j)) c i j
theorem nf1 (h : S32x8x4x128.Slices ![0, 7, 0, 0] S32x1x4x128) (h' : S32x8x4x128x128.Slices ![0, 7, 0, 0, 0] S32x1x4x128x128) (k j : Fin 128) :
    stepV 7 h h' (res_main_v267 V0) (res_main_v284 V0) (res_main_v347 V0) (ix4 b hd k j) = sfin (inp V0) 1 b hd k j :=
  step_real _ _ _ b hd 7 (by decide) h h' _ _ _ (n267 V0 hI b hd) (n284 V0 hI b hd) (ns1 V0 hI b hd 7) k j

theorem r371 (t : Fin 256) (i : Fin 128) : (res_main_v371 V0 : FVec Ideal S32x256x4x128 .f32) (ix4 b t hd i) = oh (inp V0) b t hd i := by
  rw [e371, bothV_apply, no0 V0 hI b hd, no1 V0 hI b hd]
  unfold oh od
  have e0 : 32 * (t.val / 32) + t.val % 32 = (row 0 t.val).val := by
    unfold row
    rw [if_pos rfl]
    dsimp only
    omega
  have e1 : 32 * (t.rev.val / 32) + t.rev.val % 32 = (row 1 t.val).val := by
    unfold row
    rw [if_neg (by decide)]
    simp only [Fin.val_rev]
    omega
  dsimp only
  rw [e0, e1]

end

section

variable (hI : (inp V0).Fin)
include hI

theorem rsfin (h : S32x8x4x128.Slices ![0, 7, 0, 0] S32x1x4x128) (h' : S32x8x4x128x128.Slices ![0, 7, 0, 0, 0] S32x1x4x128x128)
    (b : Fin 32) (a : Fin 2) (hd : Fin 4) (k j : Fin 128) :
    finV (stepV 7 h h' (res_main_v154 V0) (res_main_v171 V0) (res_main_v234 V0)) (stepV 7 h h' (res_main_v267 V0) (res_main_v284 V0) (res_main_v347 V0)) (ix5 b a hd k j)
      = sfin (inp V0) a b hd k j := by
  refine (finV_apply b hd k ![stepV 7 h h' (res_main_v154 V0) (res_main_v171 V0) (res_main_v234 V0), stepV 7 h h' (res_main_v267 V0) (res_main_v284 V0) (res_main_v347 V0)] a j).trans ?_
  obtain ⟨a, ha⟩ := a
  interval_cases a
  · exact nf0 V0 hI b hd h h' k j
  · exact nf1 V0 hI b hd h h' k j

end

end Cert.RHgrn

end
-- ==== Proof.REnds.lean ====
module

public import proofs.«01_k».proof.Proof.RHgrn
public import proofs.«01_k».proof.Proof.KProj

/-
The six results of the reference, entry by entry.
-/

@[expose] public section

set_option maxRecDepth 16384

noncomputable section

namespace Cert.REnds

open Cert.ReferenceIdeal Cert.ReferenceIdeal.Gen Cert.ReferenceIdeal.Value Idealize.ShloMosaic Idealize.ShloMosaic.TcCoe Idealize.SL.Sem
open Cert.Spec

open RProj RScan RHgrn

/-! ## The last reshapes, over any array -/

/-- The rows of the sequences, one after another. -/
def rowsV (X : FVec Ideal S32x256x1024 .f32) : FVec Ideal S8192x1024 .f32 := shapeCast _ X shapeCasts_S32x256x1024_S8192x1024
theorem rowsV_apply (X : FVec Ideal S32x256x1024 .f32) (R : Fin 8192) (j : Fin 1024) :
    rowsV X (ix2 R j) = X (ix3 ⟨R / 256, by omega⟩ ⟨R % 256, by omega⟩ j) := by
  pointwise [rowsV]
def rowsBV (X : FVec Ideal S32x256x1024 .f32) : FVec Ideal S8192x1024 .bf16 :=
  truncf .bf16 (shapeCast _ X shapeCasts_S32x256x1024_S8192x1024) bitsLt_bf16_f32
theorem rowsBV_apply (X : FVec Ideal S32x256x1024 .f32) (R : Fin 8192) (j : Fin 1024) :
    rowsBV X (ix2 R j) = X (ix3 ⟨R / 256, by omega⟩ ⟨R % 256, by omega⟩ j) := by
  pointwise [rowsBV]
def rowsCV (X : FVec Ideal S32x256x256 .f32) : FVec Ideal S8192x256 .f32 := shapeCast _ X shapeCasts_S32x256x256_S8192x256
theorem rowsCV_apply (X : FVec Ideal S32x256x256 .f32) (R : Fin 8192) (j : Fin 256) :
    rowsCV X (ix2 R j) = X (ix3 ⟨R / 256, by omega⟩ ⟨R % 256, by omega⟩ j) := by
  pointwise [rowsCV]
def rowsPV (X : FVec Ideal S32x256x32 .f32) : FVec Ideal S8192x128 .f32 :=
  shapeCast _ (pad S32x256x128 ![0, 0, 0] ![0, 0, 96] ![0, 0, 0] X (sitofp .f32 (constantI S_ 32 0#32)) pads_S32x256x32_S32x256x128_000_000_0960 h_S_) shapeCasts_S32x256x128_S8192x128
theorem rowsPV_apply (X : FVec Ideal S32x256x32 .f32) (R : Fin 8192) (j : Fin 128) :
    rowsPV X (ix2 R j) = if h : j.val < 32 then X (ix3 ⟨R / 256, by omega⟩ ⟨R % 256, by omega⟩ ⟨j, h⟩) else 0 := by
  pointwise [rowsPV]
  by_cases h : j.val < 32
  · rw [dif_pos ⟨by omega, by omega, h⟩, dif_pos h]
  · rw [dif_neg (fun e => h e.2.2), dif_neg h]
    exact KWin.sz

/-! ## The results -/

variable (V0 : Valuation τ sig (Elt Ideal))

theorem e463 (R : Fin 8192) (j : Fin 256) : rowsCV (res_main_v77 V0) (ix2 R j) = ckv (inp V0) ⟨R / 256, by omega⟩ ⟨R % 256, by omega⟩ j :=
  (rowsCV_apply (res_main_v77 V0) R j).trans (r77 V0 _ _ j)
theorem e465 (R : Fin 8192) (j : Fin 128) : rowsPV (res_main_v37 V0) (ix2 R j) = KProj.kpad (inp V0) ⟨R / 256, by omega⟩ ⟨R % 256, by omega⟩ j := by
  refine (rowsPV_apply (res_main_v37 V0) R j).trans ?_
  simp only [r37]
  rfl

variable (hI : (inp V0).Fin)
include hI

theorem e459 (R : Fin 8192) (j : Fin 1024) : rowsV (res_main_v439 V0) (ix2 R j) = x1 (inp V0) ⟨R / 256, by omega⟩ ⟨R % 256, by omega⟩ j :=
  (rowsV_apply (res_main_v439 V0) R j).trans (RTail.r439 V0 (fun b t hd i => r371 V0 hI b hd t i) _ _ j)
theorem e461 (R : Fin 8192) (j : Fin 1024) : rowsBV (res_main_v445 V0) (ix2 R j) = h2 (inp V0) ⟨R / 256, by omega⟩ ⟨R % 256, by omega⟩ j :=
  (rowsBV_apply (res_main_v445 V0) R j).trans (RTail.r445 V0 (fun b t hd i => r371 V0 hI b hd t i) _ _ j)
theorem e462 (b : Fin 32) (e : Fin 16) (t : Fin 256) : RTail.affV (res_main_v454 V0) (ix3 b e t) = aff (inp V0) b t e :=
  RTail.aff_eq V0 (fun b t hd i => r371 V0 hI b hd t i) b t e
/-- The final states of the two directions. -/
def v468 : FVec Ideal S32x2x4x128x128 .f32 :=
  finV (stepV 7 slices_S32x8x4x128_S32x1x4x128_0_7_0_0 slices_S32x8x4x128x128_S32x1x4x128x128_0_7_0_0_0 (res_main_v154 V0) (res_main_v171 V0) (res_main_v234 V0))
    (stepV 7 slices_S32x8x4x128_S32x1x4x128_0_7_0_0 slices_S32x8x4x128x128_S32x1x4x128x128_0_7_0_0_0 (res_main_v267 V0) (res_main_v284 V0) (res_main_v347 V0))
theorem e468 (b : Fin 32) (a : Fin 2) (hd : Fin 4) (k i : Fin 128) : v468 V0 (ix5 b a hd k i) = sfin (inp V0) a b hd k i :=
  rsfin V0 hI _ _ b a hd k i

end Cert.REnds

end
-- ==== Proof.Finite.lean ====
module

public import proofs.«01_k».proof.Proof.KWin
public import proofs.«01_k».proof.Proof.Gen.Pre_finite
public import proofs.«01_k».proof.Defs

/-
What the precondition says of the inputs: the entries it names are real numbers.
-/

@[expose] public section

set_option maxRecDepth 16384

noncomputable section

namespace Cert.Finite

open Cert.Pre_finite Cert.Pre_finite.Gen Idealize.ShloMosaic Idealize.ShloMosaic.TcCoe Idealize.SL.Sem
open Cert.Spec

/-- An extended real whose absolute value is below plus infinity is a real number. -/
theorem isR (x : EReal) (h : Ideal.cmp .olt (max x (-x)) (Ideal.ofBits .f32 0x7F800000#32) = 1#1) : IsR x := by
  have htop : Ideal.ofBits .f32 0x7F800000#32 = ⊤ := by simp [Ideal.ofBits, Ideal.ieee]
  rw [htop] at h
  have h' : max x (-x) < ⊤ := of_decide_eq_true (BitVec.ofBool_eq_iff_eq (b := decide (max x (-x) < ⊤)) (b' := true) |>.mp h)
  induction x using EReal.rec with
  | bot => simp at h'
  | top => simp at h'
  | coe r => exact ⟨r, rfl⟩

/-- The same for every entry of an array the precondition tests. -/
theorem entry {s : Shape} (X : FVec Ideal s .f32) (hb : S_.BroadcastsInDim s (![] : Fin 0 → Fin s.rank))
    (h : cmpf .olt (Host.absf X) (broadcastInDim s ![] hb (constant (F := Ideal) S_ .f32 0x7F800000#32)) = fun _ => 1#1) (i : s.Idx) : IsR (X i) :=
  isR _ (congrFun h i)

variable (a0 : FVec Ideal S32x256x1024 .f32) (a1 : FVec Ideal S8x6144 .f32) (a2 : FVec Ideal S1x1024x5664 .f32)
    (a3 : FVec Ideal S1x768 .f32) (a4 : FVec Ideal S1x768x768 .f32) (a5 : FVec Ideal S1x256 .f32)
    (a6 : FVec Ideal S1x256x1024 .f32) (a7 : FVec Ideal S1x512x1024 .f32) (a8 : FVec Ideal S2x2x512 .f32)
    (a9 : FVec Ideal S1x128 .f32) (a10 : FVec Ideal S1x512x1024 .f32) (a11 : FVec Ideal S1x1024x1024 .f32)
    (a12 a13 : FVec Ideal S1x1024 .f32) (a14 : FVec Ideal S1x1024x16 .f32)

theorem md_at (j : Fin 2048) : extractStridedSlice S1x2048 ![0, 0] a1 slices_S8x6144_S1x2048_0_0 (ix2 0 j) = a1 (ix2 0 ⟨j, by omega⟩) := by
  pointwise []
theorem win_at (d : Fin 1024) (j : Fin 3104) : extractStridedSlice S1x1024x3104 ![0, 0, 0] a2 slices_S1x1024x5664_S1x1024x3104_0_0_0 (ix3 0 d j)
    = a2 (ix3 0 d ⟨j, by omega⟩) := by
  pointwise []
theorem wukv_at (i : Fin 256) (hd : Fin 8) (e : Fin 64) :
    extractStridedSlice S256x8x64 ![0, 0, 0] (shapeCast S256x8x128 a6 shapeCasts_S1x256x1024_S256x8x128) slices_S256x8x128_S256x8x64_0_0_0 (ix3 i hd e)
      = a6 (ix3 0 i ⟨hd * 128 + e, by omega⟩) := by
  pointwise []

theorem fin_of
    (h : let f := Cert.Pre_finite.fn (F := Ideal) a0 a1 a2 a3 a4 a5 a6 a7 a8 a9 a10 a11 a12 a13 a14
      f.1 = (fun _ => 1#1) ∧ f.2.1 = (fun _ => 1#1) ∧ f.2.2.1 = (fun _ => 1#1) ∧ f.2.2.2.1 = (fun _ => 1#1) ∧ f.2.2.2.2.1 = (fun _ => 1#1)
        ∧ f.2.2.2.2.2.1 = (fun _ => 1#1) ∧ f.2.2.2.2.2.2.1 = (fun _ => 1#1) ∧ f.2.2.2.2.2.2.2 = (fun _ => 1#1)) :
    (KWin.inpOf a0 a1 a2 a3 a4 a5 a6 a7 a8 a9 a10 a11 a12 a13 a14).Fin where
  x b t d := entry a0 _ h.1 (ix3 b t d)
  md j hj := (congrArg IsR (md_at a1 ⟨j, hj⟩)).mp (entry _ _ h.2.1 (ix2 0 ⟨j, hj⟩))
  win d j hj := (congrArg IsR (win_at a2 d ⟨j, hj⟩)).mp (entry _ _ h.2.2.1 (ix3 0 d ⟨j, hj⟩))
  qn i := entry a3 _ h.2.2.2.1 (ix2 0 i)
  wuq i j := entry a4 _ h.2.2.2.2.1 (ix3 0 i j)
  kvn i := entry a5 _ h.2.2.2.2.2.1 (ix2 0 i)
  wukv i j hj := by
    have e := wukv_at a6 i ⟨j / 128, by omega⟩ ⟨j % 128, hj⟩
    have p : (⟨j.val / 128 * 128 + j.val % 128, by omega⟩ : Fin 1024) = j := Fin.ext (by dsimp only; omega)
    have r := (congrArg IsR e).mp (entry _ _ h.2.2.2.2.2.2.1 (ix3 i ⟨j / 128, by omega⟩ ⟨j % 128, hj⟩))
    dsimp only at r
    simp only [p] at r
    exact r
  gam a c j := entry a8 _ h.2.2.2.2.2.2.2 (ix3 a c j)

open Cert.KernelIdeal in
/-- The precondition makes the named inputs of every device real. -/
theorem fin (m : (ℓ : Loc nD τ sig) → Buf (Elt Ideal) ℓ) (h : Cert.Pre_KernelIdeal_finite m) (c : Dev nD) : (KWin.inp m c).Fin :=
  fin_of _ _ _ _ _ _ _ _ _ _ _ _ _ _ _ (h c)

end Cert.Finite

end
-- ==== Proof.Claims.lean ====
module

public import proofs.«01_k».proof.Defs
public import proofs.«01_k».proof.Proof.KFin
public import proofs.«01_k».proof.Proof.REnds
public import proofs.«01_k».proof.Proof.Finite
public import proofs.«01_k».proof.Proof.Gen.Kernel.Frame
public import proofs.«01_k».proof.Proof.Gen.KernelIdeal.Frame
public import Idealize.ShloMosaic.Lib.Quiescent

/-
The claims: the frames, the named constant, and that kernel and reference leave the same six arrays.
-/

@[expose] public section

set_option maxRecDepth 16384

noncomputable section

namespace Cert.Proof.Claims

open Idealize.ShloMosaic Idealize.ShloMosaic.TcCoe Idealize.SL.Sem
open Cert.Spec

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2.2,
      Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The scores' factor in the exponent of two, `1 / (√96 · ln 2)`. -/
theorem preserves : Cert.preserves_Kernel_KernelIdeal :=
  IdealRules.named_const.statement Cert.KernelIdeal.κ "scale_log2e" .f32 0x3E16C740#32 (((Real.sqrt 96)⁻¹ * (Real.log 2)⁻¹ : ℝ) : EReal) rfl

/-! ## The six results -/

section
open Cert.ReferenceIdeal.Value Cert.REnds
variable (m : (ℓ : Loc Cert.KernelIdeal.nD Cert.KernelIdeal.τ Cert.KernelIdeal.sig) → Buf (Elt Ideal) ℓ) (c : Dev Cert.KernelIdeal.nD)
variable (V0 : Valuation Cert.ReferenceIdeal.τ Cert.ReferenceIdeal.sig (Elt Ideal)) (hV : RProj.inp V0 = KWin.inp m c)
include hV

theorem s3 : rowsCV (res_main_v77 V0) = (Cert.KernelIdeal.Gen.dats m 0 c).arrAt 19 Cert.KernelIdeal.cfg0.N := by
  funext j
  rw [eq_ix2 j]
  refine (e463 V0 _ _).trans ?_
  rw [hV]
  exact (KFin.f19 m c _ _).symm
theorem s4 : rowsPV (res_main_v37 V0) = (Cert.KernelIdeal.Gen.dats m 0 c).arrAt 20 Cert.KernelIdeal.cfg0.N := by
  funext j
  rw [eq_ix2 j]
  refine (e465 V0 _ _).trans ?_
  rw [hV]
  exact (KFin.f20 m c _ _).symm

variable (hI : (KWin.inp m c).Fin)
include hI

theorem s0 : rowsV (res_main_v439 V0) = (Cert.KernelIdeal.Gen.dats m 0 c).arrAt 16 Cert.KernelIdeal.cfg0.N := by
  funext j
  rw [eq_ix2 j]
  refine (e459 V0 (hV ▸ hI) _ _).trans ?_
  rw [hV]
  exact (KFin.f16 m c hI _ _).symm
theorem s1 : rowsBV (res_main_v445 V0) = (Cert.KernelIdeal.Gen.dats m 0 c).arrAt 17 Cert.KernelIdeal.cfg0.N := by
  funext j
  rw [eq_ix2 j]
  refine (e461 V0 (hV ▸ hI) _ _).trans ?_
  rw [hV]
  exact (KFin.f17 m c hI _ _).symm
theorem s2 : RTail.affV (res_main_v454 V0) = (Cert.KernelIdeal.Gen.dats m 0 c).arrAt 18 Cert.KernelIdeal.cfg0.N := by
  funext j
  rw [eq_ix3 j]
  refine (e462 V0 (hV ▸ hI) _ _ _).trans ?_
  rw [hV]
  exact (KFin.f18 m c hI _ _ _).symm
theorem s5 : v468 V0 = (Cert.KernelIdeal.Gen.dats m 0 c).arrAt 21 Cert.KernelIdeal.cfg0.N := by
  funext j
  rw [eq_ix5 j]
  refine (e468 V0 (hV ▸ hI) _ _ _ _ _).trans ?_
  rw [hV]
  exact (KFin.f21 m c hI _ _ _ _ _).symm

end

theorem algebraic : Cert.algebraic_KernelIdeal_ReferenceIdeal_pre_finite := by
  intro m g m' g' hpre hargs
  have hI := fun c => Finite.fin m hpre c
  have hV : ∀ c, RProj.inp (StableHlo.launchContents m' c) = KWin.inp m c := fun c => by
    obtain ⟨h0, h1, h2, h3, h4, h5, h6, h7, h8, h9, h10, h11, h12, h13, h14⟩ := hargs c
    refine Eq.trans (b := KWin.inpOf (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6)) (m' ((c.tc : Thread _ _).loc Cert.ReferenceIdeal.main_arg7))
      (m' ((c.tc : Thread _ _).loc Cert.ReferenceIdeal.main_arg8)) (m' ((c.tc : Thread _ _).loc Cert.ReferenceIdeal.main_arg9))
      (m' ((c.tc : Thread _ _).loc Cert.ReferenceIdeal.main_arg10)) (m' ((c.tc : Thread _ _).loc Cert.ReferenceIdeal.main_arg11))
      (m' ((c.tc : Thread _ _).loc Cert.ReferenceIdeal.main_arg12)) (m' ((c.tc : Thread _ _).loc Cert.ReferenceIdeal.main_arg13))
      (m' ((c.tc : Thread _ _).loc Cert.ReferenceIdeal.main_arg14))) rfl ?_
    rw [h0, h1, h2, h3, h4, h5, h6, h7, h8, h9, h10, h11, h12, h13, h14]
    rfl
  refine ⟨fun c => (Cert.KernelIdeal.Gen.dats m 0 c).arrAt 16 Cert.KernelIdeal.cfg0.N, fun c => (Cert.KernelIdeal.Gen.dats m 0 c).arrAt 17 Cert.KernelIdeal.cfg0.N,
    fun c => (Cert.KernelIdeal.Gen.dats m 0 c).arrAt 18 Cert.KernelIdeal.cfg0.N, fun c => (Cert.KernelIdeal.Gen.dats m 0 c).arrAt 19 Cert.KernelIdeal.cfg0.N,
    fun c => (Cert.KernelIdeal.Gen.dats m 0 c).arrAt 20 Cert.KernelIdeal.cfg0.N, fun c => (Cert.KernelIdeal.Gen.dats m 0 c).arrAt 21 Cert.KernelIdeal.cfg0.N,
    Cert.KernelIdeal.Value.run_blocks (F := Ideal) m g, ?_⟩
  refine (θ_run Cert.ReferenceIdeal.defs _ _).mono (fun r h c => ?_) (Cert.ReferenceIdeal.Value.run (F := Ideal) m' g')
  obtain ⟨r0, r1, r2, r3, r4, r5, rargs⟩ := h c
  exact ⟨r0.trans (s0 m c _ (hV c) (hI c)), r1.trans (s1 m c _ (hV c) (hI c)), r2.trans (s2 m c _ (hV c) (hI c)), r3.trans (s3 m c _ (hV c)),
    r4.trans (s4 m c _ (hV c)), r5.trans (s5 m c _ (hV c) (hI c)), rargs⟩

end Cert.Proof.Claims

end
-- ==== Proof.FBody.lean ====
module

public import proofs.«01_k».proof.Proof.KBuf
public import proofs.«01_k».proof.Proof.Gen.Kernel2Ideal.Value

/-
The experts' products: what the body of a grid point stores, and the host's packed operand.
-/

@[expose] public section

set_option maxRecDepth 16384

noncomputable section

namespace Cert.FBody

open Cert.Kernel2Ideal Cert.Kernel2Ideal.Gen Idealize.ShloMosaic Idealize.ShloMosaic.TcCoe Idealize.SL.Sem
open Cert.Block

/-- A row times a matrix. -/
def mm {n : ℕ} (x : Fin n → EReal) (w : Fin n → Fin 1024 → EReal) (f : Fin 1024) : EReal := ∑ d : Fin n, x d * w d f

/-- One row through one expert, weighted by its gate. -/
def row (x : Fin 1024 → EReal) (w1 w3 w2 : Fin 1024 → Fin 1024 → EReal) (g : EReal) (d : Fin 1024) : EReal :=
  mm (fun f => mm x w1 f * Ideal.logistic (mm x w1 f) * mm x w3 f) w2 d * g

/-- The stored block, from the loads. -/
theorem pay (X : FVec Ideal S1x1280x1024 .bf16) (G : FVec Ideal S1x1280x128 .bf16) (W1 W3 W2 : FVec Ideal S1x1024x1024 .f32) (s : Fin 1280) (d : Fin 1024) :
    k0_pay1 (F := Ideal) X G W1 W3 W2 (ix3 0 s d)
      = row (fun k => X (ix3 0 s k)) (fun k f => W1 (ix3 0 k f)) (fun k f => W3 (ix3 0 k f)) (fun k f => W2 (ix3 0 k f))
          (G (ix3 0 s 0) + G (ix3 0 s 1) + G (ix3 0 s 2)) d := by
  unfold k0_pay1
  pointwise []
  rfl

section
variable (c : Dev nD) (i : grid0.Coords) (arg2 : Memref sig .tc .vmem S1x1280x1152 .bf16) (harg2 : arg2.IsWhole) (arg3 : Memref sig .tc .vmem S1x1024x1024 .f32) (harg3 : arg3.IsWhole) (arg4 : Memref sig .tc .vmem S1x1024x1024 .f32) (harg4 : arg4.IsWhole) (arg5 : Memref sig .tc .vmem S1x1024x1024 .f32) (harg5 : arg5.IsWhole) (arg6 : Memref sig .tc .vmem S1x1280x1024 .bf16) (harg6 : arg6.IsWhole)
variable (x0 : FVec Ideal S1x1280x1152 .bf16) (x1 x2 x3 : FVec Ideal S1x1024x1024 .f32)

theorem out (s : Fin 1280) (d : Fin 1024) :
    (out0_A_4 (F := Ideal) c i arg2 harg2 arg3 harg3 arg4 harg4 arg5 harg5 arg6 harg6 x0 x1 x2 x3 : FVec Ideal S1x1280x1024 .bf16) (ix3 0 s d)
      = row (fun k => x0 (ix3 0 s ⟨k, by omega⟩)) (fun k f => x1 (ix3 0 k f)) (fun k f => x2 (ix3 0 k f)) (fun k f => x3 (ix3 0 k f))
          (x0 (ix3 0 s ⟨1024, by omega⟩) + x0 (ix3 0 s ⟨1025, by omega⟩) + x0 (ix3 0 s ⟨1026, by omega⟩)) d := by
  unfold out0_A_4
  rw [View.read_writes_junk_eq_canon]
  unfold kernelRun0_A
  dsimp only
  refine (KBuf.hit3 _ _ _ 0 s d (by rfl)).trans ?_
  refine (pay _ _ _ _ _ s d).trans ?_
  simp only [ra]
  pointwise []

end

variable (m : (ℓ : Loc nD τ sig) → Buf (Elt Ideal) ℓ) (c : Dev nD)

/-! ## The packed operand: a gathered row, then its gate's three pieces -/

theorem a25 (e : Fin 16) (s : Fin 1280) (k : Fin 1024) : (V m c main_v25 : FVec Ideal S16x1344x1152 .bf16) (ix3 e ⟨s, by omega⟩ ⟨k, by omega⟩)
    = (m ((c : Thread nD τ).loc main_arg0) : FVec Ideal S16x1280x1024 .f32) (ix3 e s k) := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []
  after_results_simp
  pointwise []

/-- The pieces. -/
def gateV (a1 : FVec Ideal S16x1280 .f32) (p : Fin 3) (e : Fin 16) (s : Fin 1280) : EReal :=
  match p with
  | 0 => a1 (ix2 e s)
  | 1 => a1 (ix2 e s) - a1 (ix2 e s)
  | 2 => a1 (ix2 e s) - a1 (ix2 e s) - (a1 (ix2 e s) - a1 (ix2 e s))

theorem a25g0 (e : Fin 16) (s : Fin 1280) : (V m c main_v25 : FVec Ideal S16x1344x1152 .bf16) (ix3 e ⟨s, by omega⟩ ⟨1024, by omega⟩)
    = gateV (m ((c : Thread nD τ).loc main_arg1)) 0 e s := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []
  after_results_simp
  pointwise []
  rfl

theorem a25g1 (e : Fin 16) (s : Fin 1280) : (V m c main_v25 : FVec Ideal S16x1344x1152 .bf16) (ix3 e ⟨s, by omega⟩ ⟨1025, by omega⟩)
    = gateV (m ((c : Thread nD τ).loc main_arg1)) 1 e s := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []
  after_results_simp
  pointwise []
  rfl

theorem a25g2 (e : Fin 16) (s : Fin 1280) : (V m c main_v25 : FVec Ideal S16x1344x1152 .bf16) (ix3 e ⟨s, by omega⟩ ⟨1026, by omega⟩)
    = gateV (m ((c : Thread nD τ).loc main_arg1)) 2 e s := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []
  after_results_simp
  pointwise []
  rfl

theorem a26 (e : Fin 16) (k f : Fin 1024) : (V m c main_v26 : FVec Ideal S16x1024x1024 .f32) (ix3 e k f)
    = (m ((c : Thread nD τ).loc main_arg2) : FVec Ideal S1x16x1024x1024 .f32) (ix4 0 e k f) := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []

theorem a27 (e : Fin 16) (k f : Fin 1024) : (V m c main_v27 : FVec Ideal S16x1024x1024 .f32) (ix3 e k f)
    = (m ((c : Thread nD τ).loc main_arg3) : FVec Ideal S1x16x1024x1024 .f32) (ix4 0 e k f) := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []

theorem a28 (e : Fin 16) (k f : Fin 1024) : (V m c main_v28 : FVec Ideal S16x1024x1024 .f32) (ix3 e k f)
    = (m ((c : Thread nD τ).loc main_arg4) : FVec Ideal S1x16x1024x1024 .f32) (ix4 0 e k f) := by
  unfold V
  simp only [hostOps0, hostOps0_1, hostOps0_2, hostOps0_3, hostOps0_4, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise []

end Cert.FBody

end
-- ==== Proof.FFin.lean ====
module

public import proofs.«01_k».proof.Proof.FBody

/-
The experts' products: the blocks of every grid point, and the output array when the grid has run, entry by entry.
-/

@[expose] public section

set_option maxRecDepth 16384

noncomputable section

namespace Cert.FFin

open Cert.Kernel2Ideal Cert.Kernel2Ideal.Gen Cert.Kernel2Ideal.Value Idealize.ShloMosaic Idealize.ShloMosaic.TcCoe Idealize.SL.Sem
open Cert.Block Cert.FBody

variable (m : (ℓ : Loc nD τ sig) → Buf (Elt Ideal) ℓ) (c : Dev nD) (t : Fin grid0.N)

/-- The expert of a grid point. -/
def ex : Fin 16 := ⟨t.val, by have := t.isLt; have h : grid0.N = 16 := by decide +kernel
                              omega⟩

/-- Where an index of a point's block lies in the array. -/
theorem embv {w : Pipeline.Window sig grid0} {t : Fin grid0.N} (o : Fin w.shape.rank → ℕ)
    (h : ∀ a, (w.rect t).off a = o a ∧ (w.rect t).stride a = 1)
    {x : (w.rect t).shape.Idx} {y : w.shape.Idx} (hy : ∀ a, o a + (x a).val = (y a).val) : (w.rect t).emb x = y := by
  funext a
  apply Fin.ext
  rw [Rect.emb_apply, (h a).1, (h a).2, one_mul, hy]

theorem b0 (s : Fin 1280) (j : Fin 1152) : (X0_0 m c t : FVec Ideal S1x1280x1152 .bf16) (ix3 0 s j)
    = (V m c main_v25 : FVec Ideal S16x1344x1152 .bf16) (ix3 (ex t) ⟨s, by omega⟩ j) := by
  show (cfg0.win 0).fill (cfg0.grid.coords t) dflt0_0 (iblk m c 0 t) (ix3 (n0 := 1) (n1 := 1280) (n2 := 1152) 0 s j) = _
  unfold Pipeline.Window.fill
  rw [dif_pos (moved0_0 t _)]
  refine congrArg (V m c main_v25 : FVec Ideal S16x1344x1152 .bf16) (embv (w := win0_0) ![t.val, 0, 0]
    ((by decide +kernel : ∀ t : Fin grid0.N, ∀ a, (win0_0.rect t).off a = ![t.val, 0, 0] a ∧ (win0_0.rect t).stride a = 1) t) fun a => ?_)
  match a with
  | ⟨0, _⟩ => rfl
  | ⟨1, _⟩ => show 0 + s.val = s.val; omega
  | ⟨2, _⟩ => show 0 + j.val = j.val; omega

theorem b1 (k f : Fin 1024) : (iblk m c 1 t : FVec Ideal S1x1024x1024 .f32) (ix3 0 k f)
    = (m ((c : Thread nD τ).loc main_arg2) : FVec Ideal S1x16x1024x1024 .f32) (ix4 0 (ex t) k f) := by
  refine Eq.trans ?_ (a26 m c (ex t) k f)
  refine congrArg (V m c main_v26 : FVec Ideal S16x1024x1024 .f32) (embv (w := win0_1) ![t.val, 0, 0]
    ((by decide +kernel : ∀ t : Fin grid0.N, ∀ a, (win0_1.rect t).off a = ![t.val, 0, 0] a ∧ (win0_1.rect t).stride a = 1) t) fun a => ?_)
  match a with
  | ⟨0, _⟩ => rfl
  | ⟨1, _⟩ => show 0 + k.val = k.val; omega
  | ⟨2, _⟩ => show 0 + f.val = f.val; omega

theorem b2 (k f : Fin 1024) : (iblk m c 2 t : FVec Ideal S1x1024x1024 .f32) (ix3 0 k f)
    = (m ((c : Thread nD τ).loc main_arg3) : FVec Ideal S1x16x1024x1024 .f32) (ix4 0 (ex t) k f) := by
  refine Eq.trans ?_ (a27 m c (ex t) k f)
  refine congrArg (V m c main_v27 : FVec Ideal S16x1024x1024 .f32) (embv (w := win0_2) ![t.val, 0, 0]
    ((by decide +kernel : ∀ t : Fin grid0.N, ∀ a, (win0_2.rect t).off a = ![t.val, 0, 0] a ∧ (win0_2.rect t).stride a = 1) t) fun a => ?_)
  match a with
  | ⟨0, _⟩ => rfl
  | ⟨1, _⟩ => show 0 + k.val = k.val; omega
  | ⟨2, _⟩ => show 0 + f.val = f.val; omega

theorem b3 (k f : Fin 1024) : (iblk m c 3 t : FVec Ideal S1x1024x1024 .f32) (ix3 0 k f)
    = (m ((c : Thread nD τ).loc main_arg4) : FVec Ideal S1x16x1024x1024 .f32) (ix4 0 (ex t) k f) := by
  refine Eq.trans ?_ (a28 m c (ex t) k f)
  refine congrArg (V m c main_v28 : FVec Ideal S16x1024x1024 .f32) (embv (w := win0_3) ![t.val, 0, 0]
    ((by decide +kernel : ∀ t : Fin grid0.N, ∀ a, (win0_3.rect t).off a = ![t.val, 0, 0] a ∧ (win0_3.rect t).stride a = 1) t) fun a => ?_)
  match a with
  | ⟨0, _⟩ => rfl
  | ⟨1, _⟩ => show 0 + k.val = k.val; omega
  | ⟨2, _⟩ => show 0 + f.val = f.val; omega

/-- A gathered row through its expert, weighted by its gate. -/
def ffn (a0 : FVec Ideal S16x1280x1024 .f32) (a1 : FVec Ideal S16x1280 .f32) (a2 a3 a4 : FVec Ideal S1x16x1024x1024 .f32)
    (e : Fin 16) (s : Fin 1280) (d : Fin 1024) : EReal :=
  row (fun k => a0 (ix3 e s k)) (fun k f => a2 (ix4 0 e k f)) (fun k f => a3 (ix4 0 e k f)) (fun k f => a4 (ix4 0 e k f)) (a1 (ix2 e s)) d

/-- The three pieces of a real gate sum to the gate. -/
theorem gate (a1 : FVec Ideal S16x1280 .f32) (e : Fin 16) (s : Fin 1280) (h : Spec.IsR (a1 (ix2 e s))) :
    gateV a1 0 e s + gateV a1 1 e s + gateV a1 2 e s = a1 (ix2 e s) := by
  obtain ⟨r, hr⟩ := h
  unfold gateV
  dsimp only
  rw [hr]
  norm_cast
  simp

theorem row_eq {x x' : Fin 1024 → EReal} {w1 w1' w3 w3' w2 w2' : Fin 1024 → Fin 1024 → EReal} {g g' : EReal} (hx : ∀ k, x k = x' k)
    (h1 : ∀ k f, w1 k f = w1' k f) (h3 : ∀ k f, w3 k f = w3' k f) (h2 : ∀ k f, w2 k f = w2' k f) (hg : g = g') (d : Fin 1024) :
    row x w1 w3 w2 g d = row x' w1' w3' w2' g' d := by
  rw [funext hx, funext fun k => funext (h1 k), funext fun k => funext (h3 k), funext fun k => funext (h2 k), hg]

/-- The grid point of an expert. -/
def pt (e : Fin 16) : Fin cfg0.N := ⟨e.val, by have h : cfg0.N = 16 := by decide +kernel
                                               omega⟩

theorem f29 (e : Fin 16) (s : Fin 1280) (d : Fin 1024)
    (h : Spec.IsR ((m ((c : Thread nD τ).loc main_arg1) : FVec Ideal S16x1280 .f32) (ix2 e s))) :
    ((dats m 0 c).arrAt 4 cfg0.N : FVec Ideal S16x1280x1024 .bf16) (ix3 e s d)
      = ffn (m ((c : Thread nD τ).loc main_arg0)) (m ((c : Thread nD τ).loc main_arg1)) (m ((c : Thread nD τ).loc main_arg2))
          (m ((c : Thread nD τ).loc main_arg3)) (m ((c : Thread nD τ).loc main_arg4)) e s d := by
  have ee : (win0_4.rect (pt e)).emb (ix3 (n0 := 1) (n1 := 1280) (n2 := 1024) 0 s d) = ix3 e s d :=
    embv _ ((by decide +kernel : ∀ t : Fin grid0.N, ∀ a, (win0_4.rect t).off a = ![t.val, 0, 0] a ∧ (win0_4.rect t).stride a = 1) _) fun a => by
      match a with
      | ⟨0, _⟩ => rfl
      | ⟨1, _⟩ => show 0 + s.val = s.val; omega
      | ⟨2, _⟩ => show 0 + d.val = d.val; omega
  have hb := congrFun (blocks4 m c (pt e) (flush0_4 _)) (ix3 (n0 := 1) (n1 := 1280) (n2 := 1024) 0 s d)
  rw [flushed4_A] at hb
  rw [← ee]
  refine (show _ = _ from hb).trans ?_
  refine (FBody.out ..).trans ?_
  refine row_eq (fun k => (b0 m c (pt e) s ⟨k, by omega⟩).trans (a25 m c e s k)) (b1 m c (pt e)) (b2 m c (pt e)) (b3 m c (pt e)) ?_ d
  refine Eq.trans ?_ (gate _ e s h)
  exact congrArg₂ (· + ·) (congrArg₂ (· + ·) ((b0 m c (pt e) s _).trans (a25g0 m c e s)) ((b0 m c (pt e) s _).trans (a25g1 m c e s)))
    ((b0 m c (pt e) s _).trans (a25g2 m c e s))

end Cert.FFin

end
-- ==== Proof.Claims2.lean ====
module

public import proofs.«01_k».proof.Defs
public import proofs.«01_k».proof.Proof.FFin
public import proofs.«01_k».proof.Proof.Finite
public import proofs.«01_k».proof.Proof.Gen.Kernel2.Frame
public import proofs.«01_k».proof.Proof.Gen.Reference2Ideal.Run
public import proofs.«01_k».proof.Proof.Gen.Pre_finite_gate
public import Idealize.ShloMosaic.Lib.Quiescent

/-
The claims of the experts' products: the frames, and that kernel and reference leave the same array.
-/

@[expose] public section

set_option maxRecDepth 16384

noncomputable section

namespace Cert.Proof.Claims2

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_pi_finite : Cert.quiescent_Kernel2Ideal_pre_finite_gate := fun m ρ _ => Cert.Kernel2Ideal.Gen.frame m ρ
theorem frame_ri : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)
theorem frame_ri_finite : Cert.quiescent_Reference2Ideal_pre_finite_gate := fun m ρ _ => frame_ri m ρ trivial

theorem preserves : Cert.preserves_Kernel2_Kernel2Ideal := trivial

/-- A device's gates are real numbers. -/
theorem gates (m : (ℓ : Loc Cert.Kernel2Ideal.nD Cert.Kernel2Ideal.τ Cert.Kernel2Ideal.sig) → Buf (Elt Ideal) ℓ) (h : Cert.Pre_Kernel2Ideal_finite_gate m)
    (c : Dev Cert.Kernel2Ideal.nD) (i : Cert.Kernel2Ideal.S16x1280.Idx) :
    Spec.IsR ((m ((c : Thread Cert.Kernel2Ideal.nD Cert.Kernel2Ideal.τ).loc Cert.Kernel2Ideal.main_arg1) : FVec Ideal Cert.Kernel2Ideal.S16x1280 .f32) i) :=
  Finite.isR _ (congrFun (h c) i)

section
open Cert.Reference2Ideal Cert.Reference2Ideal.Gen

/-- The reference's result, of its arguments. -/
def refV (a0 : FVec Ideal S16x1280x1024 .f32) (a1 : FVec Ideal S16x1280 .f32) (a2 a3 a4 : FVec Ideal S1x16x1024x1024 .f32) : FVec Ideal S16x1280x1024 .bf16 :=
  truncf .bf16 (mulf (Host.dotGeneral dot_S16x1280x1024_S16x1024x1024_S16x1280x1024_2_1_1_2_0_0 none
    (mulf (mulf (Host.dotGeneral dot_S16x1280x1024_S16x1024x1024_S16x1280x1024_2_1_1_2_0_0 none a0 (shapeCast _ a2 shapeCasts_S1x16x1024x1024_S16x1024x1024))
      (Host.divf (broadcastInDim S16x1280x1024 ![] bcast_S_S16x1280x1024 (constant S_ .f32 0x3F800000#32))
        (addf (broadcastInDim S16x1280x1024 ![] bcast_S_S16x1280x1024 (constant S_ .f32 0x3F800000#32))
          (Host.exp (Host.negf (Host.dotGeneral dot_S16x1280x1024_S16x1024x1024_S16x1280x1024_2_1_1_2_0_0 none a0
            (shapeCast _ a2 shapeCasts_S1x16x1024x1024_S16x1024x1024)))))))
      (Host.dotGeneral dot_S16x1280x1024_S16x1024x1024_S16x1280x1024_2_1_1_2_0_0 none a0 (shapeCast _ a3 shapeCasts_S1x16x1024x1024_S16x1024x1024)))
    (shapeCast _ a4 shapeCasts_S1x16x1024x1024_S16x1024x1024))
    (broadcastInDim S16x1280x1024 ![0, 1, 2] bcast_S16x1280x1_S16x1280x1024_0_1_2 (broadcastInDim S16x1280x1 ![0, 1] bcast_S16x1280_S16x1280x1_0_1 a1)))
    bitsLt_bf16_f32

theorem refV_apply (a0 : FVec Ideal S16x1280x1024 .f32) (a1 : FVec Ideal S16x1280 .f32) (a2 a3 a4 : FVec Ideal S1x16x1024x1024 .f32)
    (e : Fin 16) (s : Fin 1280) (d : Fin 1024) : refV a0 a1 a2 a3 a4 (ix3 e s d) = FFin.ffn a0 a1 a2 a3 a4 e s d := by
  unfold FFin.ffn FBody.row FBody.mm Ideal.logistic
  pointwise [refV]

end

theorem algebraic : Cert.algebraic_Kernel2Ideal_Reference2Ideal_pre_finite_gate := by
  intro m g m' g' hpre hargs
  refine ⟨fun c => (Cert.Kernel2Ideal.Gen.dats m 0 c).arrAt 4 Cert.Kernel2Ideal.cfg0.N, Cert.Kernel2Ideal.Value.run_blocks (F := Ideal) m g, ?_⟩
  refine (θ_run Cert.Reference2Ideal.defs _ _).mono (fun r h c => ?_) (Cert.Reference2Ideal.Value.run (F := Ideal) m' g')
  obtain ⟨r0, rargs⟩ := h c
  refine ⟨r0.trans ?_, rargs⟩
  obtain ⟨h0, h1, h2, h3, h4⟩ := hargs c
  refine (show _ = refV (m' ((c.tc : Thread _ _).loc Cert.Reference2Ideal.main_arg0)) (m' ((c.tc : Thread _ _).loc Cert.Reference2Ideal.main_arg1))
    (m' ((c.tc : Thread _ _).loc Cert.Reference2Ideal.main_arg2)) (m' ((c.tc : Thread _ _).loc Cert.Reference2Ideal.main_arg3))
    (m' ((c.tc : Thread _ _).loc Cert.Reference2Ideal.main_arg4)) from rfl).trans ?_
  rw [h0, h1, h2, h3, h4]
  funext j
  rw [eq_ix3 j]
  exact (refV_apply ..).trans (FFin.f29 m c _ _ _ (gates m hpre c _)).symm

end Cert.Proof.Claims2

end
-- ==== Proof.ABody.lean ====
module

public import proofs.«01_k».proof.Proof.KBuf
public import proofs.«01_k».proof.Proof.Gen.Kernel3Ideal.Value

/-
The modulation vectors: the block of every grid point, and the output array when the grid has run, entry by entry.
-/

@[expose] public section

set_option maxRecDepth 16384

noncomputable section

namespace Cert.ABody

open Cert.Kernel3Ideal Cert.Kernel3Ideal.Gen Cert.Kernel3Ideal.Value Idealize.ShloMosaic Idealize.ShloMosaic.TcCoe Idealize.SL.Sem

/-- One entry of the modulation: the activated row times a column, plus the column's bias. -/
def entry (x w : Fin 1024 → EReal) (b : EReal) : EReal := (∑ d : Fin 1024, x d * Ideal.logistic (x d) * w d) + b

/-- The stored block, from the loads. -/
theorem pay (X : FVec Ideal S8x1024 .f32) (W : FVec Ideal S1024x1536 .f32) (B : FVec Ideal S1x1536 .f32) (r : Fin 8) (j : Fin 1536) :
    k0_pay1 (F := Ideal) X W B (ix2 r j) = entry (fun d => X (ix2 r d)) (fun d => W (ix2 d j)) (B (ix2 0 j)) := by
  unfold k0_pay1 entry
  pointwise []

section
variable {d0 d1 : ℕ} {e : EltTy}

theorem emb_id (inb : ∀ k, (![0, 0] : Fin 2 → ℕ) k + (![d0, d1] : Fin 2 → ℕ) k ≤ (⟨2, ![d0, d1]⟩ : Shape).size k) (r : Fin d0) (j : Fin d1) :
    (Rect.unit (s := ⟨2, ![d0, d1]⟩) ![0, 0] ![d0, d1] inb).emb (ix2 r j) = ix2 r j := by
  funext k
  apply Fin.ext
  match k with
  | ⟨0, _⟩ => show 0 + 1 * r.val = r.val; omega
  | ⟨1, _⟩ => show 0 + 1 * j.val = j.val; omega

/-- A store of a whole buffer leaves its value. -/
theorem hit (inb : ∀ k, (![0, 0] : Fin 2 → ℕ) k + (![d0, d1] : Fin 2 → ℕ) k ≤ (⟨2, ![d0, d1]⟩ : Shape).size k)
    (w : (⟨2, ![d0, d1]⟩ : Shape).Idx → Elt Ideal e) (L : List (View.Piece (Elt Ideal) ⟨2, ![d0, d1]⟩ e)) (r : Fin d0) (j : Fin d1) :
    View.canon (⟨Rect.unit (s := ⟨2, ![d0, d1]⟩) ![0, 0] ![d0, d1] inb, w⟩ :: L) (ix2 r j) = w (ix2 r j) := by
  have h := View.canon_cons_emb (Rect.unit (s := ⟨2, ![d0, d1]⟩) ![0, 0] ![d0, d1] inb) w L (ix2 r j)
  rwa [emb_id] at h

/-- A load of a whole buffer reads its contents. -/
theorem lw (inb : ∀ k, (![0, 0] : Fin 2 → ℕ) k + (![d0, d1] : Fin 2 → ℕ) k ≤ (⟨2, ![d0, d1]⟩ : Shape).size k)
    (X : (⟨2, ![d0, d1]⟩ : Shape).Idx → Elt Ideal e) (r : Fin d0) (j : Fin d1) :
    View.ld X (Rect.unit (s := ⟨2, ![d0, d1]⟩) ![0, 0] ![d0, d1] inb) (ix2 r j) = X (ix2 r j) := congrArg X (emb_id inb r j)

end

theorem entry_eq {x x' w w' : Fin 1024 → EReal} {b b' : EReal} (hx : ∀ d, x d = x' d) (hw : ∀ d, w d = w' d) (hb : b = b') :
    entry x w b = entry x' w' b' := by
  rw [funext hx, funext hw, hb]

theorem out (x0 : FVec Ideal S8x1024 .f32) (x1 : FVec Ideal S1024x1536 .f32) (x2 : FVec Ideal S1x1536 .f32) (r : Fin 8) (j : Fin 1536) :
    (out0_3 (F := Ideal) x0 x1 x2 : FVec Ideal S8x1536 .f32) (ix2 r j) = entry (fun d => x0 (ix2 r d)) (fun d => x1 (ix2 d j)) (x2 (ix2 0 j)) := by
  unfold out0_3
  refine (hit _ _ _ r j).trans ?_
  refine (pay _ _ _ r j).trans ?_
  exact entry_eq (fun d => lw (e := .f32) inb_S8x1024_S8x1024_0_0 x0 r d) (fun d => lw (e := .f32) inb_S1024x1536_S1024x1536_0_0 x1 d j)
    (lw (d0 := 1) (d1 := 1536) (e := .f32) inb_S1x1536_S1x1536_0_0 x2 0 j)

variable (m : (ℓ : Loc nD τ sig) → Buf (Elt Ideal) ℓ) (c : Dev nD) (t : Fin grid0.N)

/-- The rows: the context's vector, the latents' vectors, and zeros. -/
def cond (a0 : FVec Ideal S2x1024 .f32) (a1 : FVec Ideal S1024 .f32) : FVec Ideal S8x1024 .f32 :=
  concatenate S8x1024 0 [⟨S1x1024, broadcastInDim S1x1024 ![1] bcast_S1024_S1x1024_1 a1⟩, ⟨S2x1024, a0⟩,
    ⟨S5x1024, broadcastInDim S5x1024 ![] bcast_S_S5x1024 (constant (F := Ideal) S_ .f32 0x00000000#32)⟩] concatenates_S1x1024_S2x1024_S5x1024_S8x1024_d0

theorem a2 : (V m c main_v2 : FVec Ideal S8x1024 .f32)
    = cond (m ((c : Thread nD τ).loc main_arg0)) (m ((c : Thread nD τ).loc main_arg1)) := by
  unfold V
  simp only [hostOps0, cast_eq]
  after_results_simp
  rfl

theorem a3 (d : Fin 1024) (j : Fin 6144) : (V m c main_v3 : FVec Ideal S1024x6144 .f32) (ix2 d j)
    = (m ((c : Thread nD τ).loc main_arg2) : FVec Ideal S1x1024x6144 .f32) (ix3 0 d j) := by
  unfold V
  simp only [hostOps0, cast_eq]
  after_results_simp
  pointwise []

theorem a5 (j : Fin 6144) : (V m c main_v5 : FVec Ideal S1x6144 .f32) (ix2 0 j)
    = (m ((c : Thread nD τ).loc main_arg3) : FVec Ideal S1x6144 .f32) (ix2 0 j) := by
  unfold V
  simp only [hostOps0, cast_eq]
  after_results_simp
  pointwise []

/-- Where an index of a point's block lies in the array. -/
theorem embv {w : Pipeline.Window sig grid0} {t : Fin grid0.N} (o : Fin w.shape.rank → ℕ)
    (h : ∀ a, (w.rect t).off a = o a ∧ (w.rect t).stride a = 1)
    {x : (w.rect t).shape.Idx} {y : w.shape.Idx} (hy : ∀ a, o a + (x a).val = (y a).val) : (w.rect t).emb x = y := by
  funext a
  apply Fin.ext
  rw [Rect.emb_apply, (h a).1, (h a).2, one_mul, hy]

/-- The array's column of a point's block's column. -/
def col (j : Fin 1536) : Fin 6144 := ⟨1536 * t.val + j.val, by
  have := t.isLt
  have h : grid0.N = 4 := by decide +kernel
  omega⟩

theorem b0 (r : Fin 8) (d : Fin 1024) : (iblk m c 0 t : FVec Ideal S8x1024 .f32) (ix2 r d)
    = cond (m ((c : Thread nD τ).loc main_arg0)) (m ((c : Thread nD τ).loc main_arg1)) (ix2 r d) := by
  refine Eq.trans ?_ (congrFun (a2 m c) (ix2 r d))
  refine congrArg (V m c main_v2 : FVec Ideal S8x1024 .f32) (embv (w := win0_0) ![0, 0]
    ((by decide +kernel : ∀ t : Fin grid0.N, ∀ a, (win0_0.rect t).off a = ![0, 0] a ∧ (win0_0.rect t).stride a = 1) t) fun a => ?_)
  match a with
  | ⟨0, _⟩ => show 0 + r.val = r.val; omega
  | ⟨1, _⟩ => show 0 + d.val = d.val; omega

theorem b1 (d : Fin 1024) (j : Fin 1536) : (iblk m c 1 t : FVec Ideal S1024x1536 .f32) (ix2 d j)
    = (m ((c : Thread nD τ).loc main_arg2) : FVec Ideal S1x1024x6144 .f32) (ix3 0 d (col t j)) := by
  refine Eq.trans ?_ (a3 m c d (col t j))
  refine congrArg (V m c main_v3 : FVec Ideal S1024x6144 .f32) (embv (w := win0_1) ![0, 1536 * t.val]
    ((by decide +kernel : ∀ t : Fin grid0.N, ∀ a, (win0_1.rect t).off a = ![0, 1536 * t.val] a ∧ (win0_1.rect t).stride a = 1) t) fun a => ?_)
  match a with
  | ⟨0, _⟩ => show 0 + d.val = d.val; omega
  | ⟨1, _⟩ => rfl

theorem b2 (j : Fin 1536) : (iblk m c 2 t : FVec Ideal S1x1536 .f32) (ix2 0 j)
    = (m ((c : Thread nD τ).loc main_arg3) : FVec Ideal S1x6144 .f32) (ix2 0 (col t j)) := by
  refine Eq.trans ?_ (a5 m c (col t j))
  refine congrArg (V m c main_v5 : FVec Ideal S1x6144 .f32) (embv (w := win0_2) ![0, 1536 * t.val]
    ((by decide +kernel : ∀ t : Fin grid0.N, ∀ a, (win0_2.rect t).off a = ![0, 1536 * t.val] a ∧ (win0_2.rect t).stride a = 1) t) fun a => ?_)
  match a with
  | ⟨0, _⟩ => rfl
  | ⟨1, _⟩ => rfl

/-- A modulation vector. -/
def md (a0 : FVec Ideal S2x1024 .f32) (a1 : FVec Ideal S1024 .f32) (a2 : FVec Ideal S1x1024x6144 .f32) (a3 : FVec Ideal S1x6144 .f32)
    (r : Fin 8) (j : Fin 6144) : EReal :=
  entry (fun d => cond a0 a1 (ix2 r d)) (fun d => a2 (ix3 0 d j)) (a3 (ix2 0 j))

/-- The grid point of a column, and the column inside the point's block. -/
def pt (j : Fin 6144) : Fin cfg0.N := ⟨j.val / 1536, by
  have h : cfg0.N = 4 := by decide +kernel
  omega⟩
def loc (j : Fin 6144) : Fin 1536 := ⟨j.val % 1536, by omega⟩

theorem col_pt (j : Fin 6144) : col (pt j) (loc j) = j := Fin.ext (show 1536 * (j.val / 1536) + j.val % 1536 = j.val by omega)

theorem f6 (r : Fin 8) (j : Fin 6144) :
    ((dats m 0 c).arrAt 3 cfg0.N : FVec Ideal S8x6144 .f32) (ix2 r j)
      = md (m ((c : Thread nD τ).loc main_arg0)) (m ((c : Thread nD τ).loc main_arg1)) (m ((c : Thread nD τ).loc main_arg2))
          (m ((c : Thread nD τ).loc main_arg3)) r j := by
  have ee : (win0_3.rect (pt j)).emb (ix2 (n0 := 8) (n1 := 1536) r (loc j)) = ix2 r j :=
    embv ![0, 1536 * (pt j).val] ((by decide +kernel : ∀ t : Fin grid0.N, ∀ a, (win0_3.rect t).off a = ![0, 1536 * t.val] a ∧ (win0_3.rect t).stride a = 1) _) fun a => by
      match a with
      | ⟨0, _⟩ => show 0 + r.val = r.val; omega
      | ⟨1, _⟩ => exact congrArg Fin.val (col_pt j)
  have hb := congrFun (blocks3 m c (pt j) (flush0_3 _)) (ix2 (n0 := 8) (n1 := 1536) r (loc j))
  rw [flushed3] at hb
  rw [← ee]
  refine (show _ = _ from hb).trans ?_
  refine (out _ _ _ r (loc j)).trans ?_
  refine (entry_eq (b0 m c (pt j) r) (fun d => b1 m c (pt j) d (loc j)) (b2 m c (pt j) (loc j))).trans ?_
  rw [col_pt]
  rfl

end Cert.ABody

end
-- ==== Proof.Claims3.lean ====
module

public import proofs.«01_k».proof.Defs
public import proofs.«01_k».proof.Proof.ABody
public import proofs.«01_k».proof.Proof.Gen.Kernel3.Frame
public import proofs.«01_k».proof.Proof.Gen.Reference3Ideal.Run
public import Idealize.ShloMosaic.Lib.Quiescent

/-
The claims of the modulation vectors: the frames, and that kernel and reference leave the same array.
-/

@[expose] public section

set_option maxRecDepth 16384

noncomputable section

namespace Cert.Proof.Claims3

open Idealize.ShloMosaic Idealize.ShloMosaic.TcCoe Idealize.SL.Sem

theorem frame_p : Cert.quiescent_Kernel3 := fun m ρ _ => Cert.Kernel3.Gen.frame m ρ
theorem frame_pi : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem preserves : Cert.preserves_Kernel3_Kernel3Ideal := trivial

section
open Cert.Reference3Ideal Cert.Reference3Ideal.Gen

/-- The reference's result, of its rows, its weight and its bias. -/
def refC (C : FVec Ideal S8x1024 .f32) (a2 : FVec Ideal S1x1024x6144 .f32) (a3 : FVec Ideal S1x6144 .f32) : FVec Ideal S8x6144 .f32 :=
  addf (Host.dotGeneral dot_S8x1024_S1024x6144_S8x6144_1_0_0_1_n_n none
    (mulf C (Host.divf (broadcastInDim S8x1024 ![] bcast_S_S8x1024 (constant S_ .f32 0x3F800000#32))
      (addf (broadcastInDim S8x1024 ![] bcast_S_S8x1024 (constant S_ .f32 0x3F800000#32)) (Host.exp (Host.negf C)))))
    (shapeCast _ a2 shapeCasts_S1x1024x6144_S1024x6144))
    (broadcastInDim S8x6144 ![0, 1] bcast_S1x6144_S8x6144_0_1 (broadcastInDim S1x6144 ![1] bcast_S6144_S1x6144_1
      (shapeCast _ a3 shapeCasts_S1x6144_S6144)))

theorem refC_apply (C : FVec Ideal S8x1024 .f32) (a2 : FVec Ideal S1x1024x6144 .f32) (a3 : FVec Ideal S1x6144 .f32) (r : Fin 8) (j : Fin 6144) :
    refC C a2 a3 (ix2 r j) = ABody.entry (fun d => C (ix2 r d)) (fun d => a2 (ix3 0 d j)) (a3 (ix2 0 j)) := by
  unfold ABody.entry Ideal.logistic
  pointwise [refC]

end

theorem algebraic : Cert.algebraic_Kernel3Ideal_Reference3Ideal := by
  intro m g m' g' hpre hargs
  refine ⟨fun c => (Cert.Kernel3Ideal.Gen.dats m 0 c).arrAt 3 Cert.Kernel3Ideal.cfg0.N, Cert.Kernel3Ideal.Value.run_blocks (F := Ideal) m g, ?_⟩
  refine (θ_run Cert.Reference3Ideal.defs _ _).mono (fun r h c => ?_) (Cert.Reference3Ideal.Value.run (F := Ideal) m' g')
  obtain ⟨r0, rargs⟩ := h c
  refine ⟨r0.trans ?_, rargs⟩
  obtain ⟨h0, h1, h2, h3⟩ := hargs c
  refine (show _ = refC (ABody.cond (m' ((c.tc : Thread _ _).loc Cert.Reference3Ideal.main_arg0)) (m' ((c.tc : Thread _ _).loc Cert.Reference3Ideal.main_arg1)))
    (m' ((c.tc : Thread _ _).loc Cert.Reference3Ideal.main_arg2)) (m' ((c.tc : Thread _ _).loc Cert.Reference3Ideal.main_arg3)) from rfl).trans ?_
  rw [h0, h1, h2, h3]
  funext j
  rw [eq_ix2 j]
  exact (refC_apply ..).trans (ABody.f6 m c _ _).symm

end Cert.Proof.Claims3

end
-- ==== Proof.IWin.lean ====
module

public import proofs.«01_k».proof.Proof.KWin
public import proofs.«01_k».proof.Proof.Gen.Kernel4Ideal.Frame.Runs

/-
The sample group's projections: the arguments as the layer's functions read them, the host's tables and weights, and the
input blocks of every grid point.
-/

@[expose] public section

set_option maxRecDepth 16384

noncomputable section

namespace Cert.IWin

open Cert.Kernel4Ideal Cert.Kernel4Ideal.Gen Idealize.ShloMosaic Idealize.ShloMosaic.TcCoe Idealize.SL.Sem
open Cert.Spec Cert.Block

/-- One sample's arguments: its 1024 rows as four stretches of 256, its own row of the modulation. What the call does not
read is zero. -/
def smp (s : Fin 2) (a0 : FVec Ideal S2x1024x1024 .f32) (a1 : FVec Ideal S8x6144 .f32) (a4 : FVec Ideal S1x1024x5664 .f32)
    (a5 : FVec Ideal S1x768 .f32) (a6 : FVec Ideal S1x768x768 .f32) (a7 : FVec Ideal S1x256 .f32)
    (a8 : FVec Ideal S1x256x1024 .f32) (a9 : FVec Ideal S2x2x512 .f32) : Spec.Inp where
  x b t d := a0 (ix3 s ⟨(256 * b.val + t.val) % 1024, by omega⟩ d)
  md j := a1 (ix2 ⟨1 + s.val, by omega⟩ j)
  win d j := a4 (ix3 0 d j)
  qn i := a5 (ix2 0 i)
  wuq i j := a6 (ix3 0 i j)
  kvn i := a7 (ix2 0 i)
  wukv i j := a8 (ix3 0 i j)
  wo _ _ := 0
  gam a b j := a9 (ix3 a b j)
  hgn _ := 0
  who _ _ := 0
  wout _ _ := 0
  lng _ := 0
  lnb _ := 0
  wr _ _ := 0

/-- A row's rotary tables on a head's 128 lanes, the 32 rotated ones from lane `o`: cosines, and sines signed for the swap. -/
def tabC (o : ℕ) (f : Fin 16 → EReal) (l : Fin 128) : EReal :=
  if hl : o ≤ l.val ∧ l.val < o + 32 then f ⟨(l.val - o) / 2, by omega⟩ else 1
def tabS (o : ℕ) (f : Fin 16 → EReal) (l : Fin 128) : EReal :=
  if hl : o ≤ l.val ∧ l.val < o + 32 then
    if (l.val - o) % 2 = 0 then - f ⟨(l.val - o) / 2, by omega⟩ else f ⟨(l.val - o) / 2, by omega⟩ else 0

/-- The input blocks of a grid point: sample `s`, block `g` of 512 rows. -/
structure BlockIs (I : Inp) (C S : Fin 512 → Fin 16 → EReal) (s : Fin 2) (g : Fin 16)
    (x0 : FVec Ideal S512x1024 .f32) (x1 : FVec Ideal S8x6144 .f32) (x2 : FVec Ideal S2x2x512 .f32)
    (x3 : FVec Ideal S5664x1024 .bf16) (x4 : FVec Ideal S1x768 .f32) (x5 : FVec Ideal S768x1024 .bf16)
    (x6 : FVec Ideal S1x256 .f32) (x7 : FVec Ideal S256x1024 .bf16) (x8 : FVec Ideal S256x512 .bf16)
    (x9 x10 x11 x12 : FVec Ideal S512x128 .f32) : Prop where
  h0 : ∀ r d, x0 (ix2 r d) = I.x (seq g r) (tm r) d
  h1 : ∀ (i : Fin 8) j, i.val = 1 + s.val → x1 (ix2 i j) = I.md j
  h2 : ∀ a c j, x2 (ix3 a c j) = I.gam a c j
  h3 : ∀ j d, x3 (ix2 j d) = I.win d j
  h4 : ∀ j, x4 (ix2 0 j) = I.qn j
  h5 : ∀ i (l : Fin 1024), x5 (ix2 i l) = if hl : l.val % 128 < 96 then I.wuq i ⟨96 * (l / 128) + l % 128, by omega⟩ else 0
  h6 : ∀ j, x6 (ix2 0 j) = I.kvn j
  h7 : ∀ i (l : Fin 1024), x7 (ix2 i l) = if l.val % 128 < 64 then I.wukv i l else 0
  h8 : ∀ i (l : Fin 512), x8 (ix2 i l) = I.wukv i ⟨128 * (l / 64) + 64 + l % 64, by omega⟩
  h9 : ∀ r l, x9 (ix2 r l) = tabC 64 (C r) l
  h10 : ∀ r l, x10 (ix2 r l) = tabS 64 (S r) l
  h11 : ∀ r l, x11 (ix2 r l) = tabC 0 (C r) l
  h12 : ∀ r l, x12 (ix2 r l) = tabS 0 (S r) l

theorem one32 : (Ideal.ofBits .f32 0x3F800000#32 : EReal) = 1 := Ideal.ofBits_one_f32

variable (m : (ℓ : Loc nD τ sig) → Buf (Elt Ideal) ℓ) (c : Dev nD)

/-- The launch's arguments. -/
def inp (s : Fin 2) : Spec.Inp :=
  smp s (m ((c : Thread nD τ).loc main_arg0)) (m ((c : Thread nD τ).loc main_arg1)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))
def cosv (t : Fin 1024) (p : Fin 16) : EReal := (m ((c : Thread nD τ).loc main_arg2) : FVec Ideal S1024x16 .f32) (ix2 t p)
def sinv (t : Fin 1024) (p : Fin 16) : EReal := (m ((c : Thread nD τ).loc main_arg3) : FVec Ideal S1024x16 .f32) (ix2 t p)

/-! ## What the host operations leave in the kernel's operands -/

theorem a36 (s : Fin 2) (r : Fin 2048) (t : Fin 1024) (hr : r.val = 1024 * s.val + t.val) (d : Fin 1024) : (V m c main_v36 : FVec Ideal S2048x1024 .f32) (ix2 r d) = (m ((c : Thread nD τ).loc main_arg0) : FVec Ideal S2x1024x1024 .f32) (ix3 s t d) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  exact congrArg (m (c, Proc.tc.devRef main_arg0)) (congrArg₂ (fun i j => ix3 i j d) (Fin.ext (by dsimp only <;> omega)) (Fin.ext (by dsimp only <;> omega)))

theorem a13 (j : Fin 5664) (d : Fin 1024) : (V m c main_v13 : FVec Ideal S5664x1024 .bf16) (ix2 j d) = (m ((c : Thread nD τ).loc main_arg4) : FVec Ideal S1x1024x5664 .f32) (ix3 0 d j) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []

theorem a23 (j : Fin 768) : (V m c main_v23 : FVec Ideal S1x768 .f32) (ix2 0 j) = (m ((c : Thread nD τ).loc main_arg5) : FVec Ideal S1x768 .f32) (ix2 0 j) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []

theorem a24 (i : Fin 768) (l : Fin 1024) : (V m c main_v24 : FVec Ideal S768x1024 .bf16) (ix2 i l) = if hl : l.val % 128 < 96 then (m ((c : Thread nD τ).loc main_arg6) : FVec Ideal S1x768x768 .f32) (ix3 0 i ⟨96 * (l / 128) + l % 128, by omega⟩) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val % 128 < 96
  · rw [dif_pos h, dif_pos ⟨by omega, h⟩]
    exact congrArg (m (c, Proc.tc.devRef main_arg6)) (congrArg (ix3 0 i) (Fin.ext (by dsimp only <;> omega)))
  · have h2 : ¬(l.val / 128 < 8 ∧ l.val % 128 < 96) := fun hh => h hh.2
    rw [dif_neg h2, dif_neg h]; exact KWin.sz

theorem a25 (j : Fin 256) : (V m c main_v25 : FVec Ideal S1x256 .f32) (ix2 0 j) = (m ((c : Thread nD τ).loc main_arg7) : FVec Ideal S1x256 .f32) (ix2 0 j) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []

theorem a26 (i : Fin 256) (l : Fin 1024) : (V m c main_v26 : FVec Ideal S256x1024 .bf16) (ix2 i l) = if l.val % 128 < 64 then (m ((c : Thread nD τ).loc main_arg8) : FVec Ideal S1x256x1024 .f32) (ix3 0 i l) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val % 128 < 64
  · rw [if_pos h, dif_pos ⟨by omega, h⟩]
  · rw [if_neg h, dif_neg fun hh => h hh.2]; exact KWin.sz

theorem a27 (i : Fin 256) (l : Fin 512) : (V m c main_v27 : FVec Ideal S256x512 .bf16) (ix2 i l) = (m ((c : Thread nD τ).loc main_arg8) : FVec Ideal S1x256x1024 .f32) (ix3 0 i ⟨128 * (l / 64) + 64 + l % 64, by omega⟩) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  exact congrArg (m (c, Proc.tc.devRef main_arg8)) (congrArg (ix3 0 i) (Fin.ext (by dsimp only <;> omega)))

theorem a46 (t : Fin 1024) (l : Fin 128) : (V m c main_v46 : FVec Ideal S1024x128 .f32) (ix2 t l) = tabC 64 (cosv m c t) l := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  unfold tabC cosv
  by_cases h : 64 ≤ l.val ∧ l.val < 64 + 32
  · have h' : 64 ≤ l.val ∧ l.val - 64 < 32 := by omega
    refine (dif_pos h').trans (Eq.trans ?_ (dif_pos h).symm)
    rfl
  · have h' : ¬ (64 ≤ l.val ∧ l.val - 64 < 32) := by omega
    refine (dif_neg h').trans (Eq.trans ?_ (dif_neg h).symm)
    exact one32

theorem a47 (t : Fin 1024) (l : Fin 128) : (V m c main_v47 : FVec Ideal S1024x128 .f32) (ix2 t l) = tabS 64 (sinv m c t) l := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  after_results_simp
  pointwise []
  unfold tabS sinv
  by_cases h : 64 ≤ l.val ∧ l.val < 64 + 32
  · have h' : 64 ≤ l.val ∧ l.val - 64 < 32 := by omega
    refine (dif_pos h').trans (Eq.trans ?_ (dif_pos h).symm)
    by_cases h1 : (l.val - 64) % 2 = 0
    · have h2 : (l.val - 64) % 2 < 1 := by omega
      refine (dif_pos h2).trans (Eq.trans ?_ (if_pos h1).symm)
      rfl
    · have h2 : ¬ (l.val - 64) % 2 < 1 := by omega
      refine (dif_neg h2).trans (Eq.trans ?_ (if_neg h1).symm)
      rfl
  · have h' : ¬ (64 ≤ l.val ∧ l.val - 64 < 32) := by omega
    refine (dif_neg h').trans (Eq.trans ?_ (dif_neg h).symm)
    exact KWin.sz

theorem a44 (t : Fin 1024) (l : Fin 128) : (V m c main_v44 : FVec Ideal S1024x128 .f32) (ix2 t l) = tabC 0 (cosv m c t) l := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  unfold tabC cosv
  by_cases h : 0 ≤ l.val ∧ l.val < 0 + 32
  · have h' : l.val < 32 := by omega
    refine (dif_pos h').trans (Eq.trans ?_ (dif_pos h).symm)
    rfl
  · have h' : ¬ (l.val < 32) := by omega
    refine (dif_neg h').trans (Eq.trans ?_ (dif_neg h).symm)
    exact one32

theorem a45 (t : Fin 1024) (l : Fin 128) : (V m c main_v45 : FVec Ideal S1024x128 .f32) (ix2 t l) = tabS 0 (sinv m c t) l := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  after_results_simp
  pointwise []
  unfold tabS sinv
  by_cases h : 0 ≤ l.val ∧ l.val < 0 + 32
  · have h' : l.val < 32 := by omega
    refine (dif_pos h').trans (Eq.trans ?_ (dif_pos h).symm)
    by_cases h1 : (l.val - 0) % 2 = 0
    · have h2 : l.val % 2 < 1 := by omega
      refine (dif_pos h2).trans (Eq.trans ?_ (if_pos h1).symm)
      rfl
    · have h2 : ¬ l.val % 2 < 1 := by omega
      refine (dif_neg h2).trans (Eq.trans ?_ (if_neg h1).symm)
      rfl
  · have h' : ¬ (l.val < 32) := by omega
    refine (dif_neg h').trans (Eq.trans ?_ (dif_neg h).symm)
    exact KWin.sz

end Cert.IWin

end
-- ==== Proof.IBody.lean ====
module

public import proofs.«01_k».proof.Proof.KBuf
public import proofs.«01_k».proof.Proof.KProj
public import proofs.«01_k».proof.Proof.ABody
public import proofs.«01_k».proof.Proof.IWin
public import proofs.«01_k».proof.Proof.Gen.Kernel4Ideal.Value

/-
The sample group's projections: what the body of a grid point stores, entry by entry.
-/

@[expose] public section

set_option maxRecDepth 16384

noncomputable section

namespace Cert.IBody

open Cert.Kernel4Ideal Cert.Kernel4Ideal.Gen Idealize.ShloMosaic Idealize.ShloMosaic.TcCoe Idealize.SL.Sem
open Cert.Spec
open Cert.Block (seq tm ra)
open Cert.IWin (tabC tabS BlockIs)
open Cert.KProj (qpad kpad vfull)

/-- The rotation of 16 pairs of neighbours. -/
def rot (x : Fin 32 → EReal) (C S : Fin 16 → EReal) (e : Fin 32) : EReal :=
  if h : e.val % 2 = 0 then x e * C ⟨e / 2, by omega⟩ - x ⟨e + 1, by omega⟩ * S ⟨e / 2, by omega⟩
  else x ⟨e - 1, by omega⟩ * S ⟨e / 2, by omega⟩ + x e * C ⟨e / 2, by omega⟩

/-- The rotation as a lane computes it: itself by the cosine, plus its neighbour by the signed sine. -/
theorem rot_eq (x : Fin 32 → EReal) (C S : Fin 16 → EReal) (e : Fin 32) (X Y : EReal)
    (hX : X = x e) (h0 : ∀ h : e.val % 2 = 0, Y = x ⟨e + 1, by omega⟩) (h1 : e.val % 2 ≠ 0 → Y = x ⟨e - 1, by omega⟩) :
    X * C ⟨e / 2, by omega⟩ + Y * (if e.val % 2 = 0 then - S ⟨e / 2, by omega⟩ else S ⟨e / 2, by omega⟩) = rot x C S e := by
  unfold rot
  by_cases h : e.val % 2 = 0
  · rw [if_pos h, dif_pos h, hX, h0 h, mul_neg, sub_eq_add_neg]
  · rw [if_neg h, dif_neg h, hX, h1 h, add_comm]

/-- A row's query, key and shared key part on the padded lanes. -/
def qout (I : Inp) (C S : Fin 16 → EReal) (b : Fin 32) (t : Fin 256) (l : Fin 1024) : EReal :=
  if l.val % 128 < 64 then q I b t ⟨96 * (l / 128) + (l % 128) % 64, by omega⟩
  else if h : l.val % 128 < 96 then
    rot (fun e => q I b t ⟨96 * (l / 128) + 64 + e, by omega⟩) C S ⟨l % 128 - 64, by omega⟩
  else 0
def pout (I : Inp) (C S : Fin 16 → EReal) (b : Fin 32) (t : Fin 256) (l : Fin 128) : EReal :=
  if h : l.val < 32 then rot (kpe I b t) C S ⟨l, h⟩ else 0
def kout (I : Inp) (C S : Fin 16 → EReal) (b : Fin 32) (t : Fin 256) (l : Fin 1024) : EReal :=
  (if l.val % 128 < 64 then kv I b t l else 0) + pout I C S b t ⟨(l % 128 + 64) % 128, by omega⟩
/-- The recurrence's seven arrays side by side. -/
def hout (I : Inp) (b : Fin 32) (t : Fin 256) (l : Fin 3584) : EReal :=
  if h : l.val < 512 then sq I b t ⟨l, h⟩
  else if h : l.val < 1024 then lf I 0 b t ⟨l - 512, by omega⟩
  else if h : l.val < 1536 then hk I 0 b t ⟨l - 1024, by omega⟩
  else if h : l.val < 2048 then lf I 1 b t ⟨l - 1536, by omega⟩
  else if h : l.val < 2560 then hk I 1 b t ⟨l - 2048, by omega⟩
  else if h : l.val < 3072 then hv I b t ⟨l - 2560, by omega⟩
  else proj I b t ⟨3104 + (l - 3072), by omega⟩

theorem qpad_in (I : Inp) (b : Fin 32) (t : Fin 256) (l : Fin 1024) (j : Fin 768) (hl : l.val % 128 < 96) (hj : j.val = 96 * (l.val / 128) + l.val % 128) :
    qpad I b t l = q I b t j := by
  unfold qpad
  exact (dif_pos hl).trans (congrArg _ (Fin.ext hj.symm))

theorem qpad_out (I : Inp) (b : Fin 32) (t : Fin 256) (l : Fin 1024) (hl : ¬ l.val % 128 < 96) : qpad I b t l = 0 := by
  unfold qpad
  exact dif_neg hl

/-- The query lanes turned. -/
theorem qrot (I : Inp) (C S : Fin 16 → EReal) (b : Fin 32) (t : Fin 256) (l : Fin 1024) :
    qpad I b t l * tabC 64 C ⟨l % 128, by omega⟩ + (if l.val % 2 = 0 then qpad I b t ⟨(l + 1) % 1024, by omega⟩ else qpad I b t ⟨(l + 1023) % 1024, by omega⟩) * tabS 64 S ⟨l % 128, by omega⟩
      = qout I C S b t l := by
  unfold qout tabC tabS
  by_cases h1 : l.val % 128 < 64
  · have n : ¬ (64 ≤ l.val % 128 ∧ l.val % 128 < 64 + 32) := by omega
    refine (congrArg₂ (fun u v => qpad I b t l * u + (if l.val % 2 = 0 then qpad I b t ⟨(l + 1) % 1024, by omega⟩ else qpad I b t ⟨(l + 1023) % 1024, by omega⟩) * v) (dif_neg n) (dif_neg n)).trans ?_
    rw [if_pos h1, mul_one, mul_zero, add_zero]
    exact qpad_in I b t l _ (by omega) (by dsimp only; omega)
  · rw [if_neg h1]
    by_cases h2 : l.val % 128 < 96
    · have p : 64 ≤ l.val % 128 ∧ l.val % 128 < 64 + 32 := by omega
      refine (congrArg₂ (fun u v => qpad I b t l * u + (if l.val % 2 = 0 then qpad I b t ⟨(l + 1) % 1024, by omega⟩ else qpad I b t ⟨(l + 1023) % 1024, by omega⟩) * v) (dif_pos p) (dif_pos p)).trans ?_
      refine Eq.trans ?_ (dif_pos h2).symm
      refine rot_eq (fun e => q I b t ⟨96 * (l / 128) + 64 + e, by omega⟩) C S ⟨l % 128 - 64, by omega⟩ _ _ ?_ (fun h => ?_) (fun h => ?_)
      · exact qpad_in I b t l _ (by omega) (by dsimp only; omega)
      · dsimp only at h
        rw [if_pos (show l.val % 2 = 0 by omega)]
        exact qpad_in I b t _ _ (by dsimp only; omega) (by dsimp only; omega)
      · dsimp only at h
        rw [if_neg (show ¬ l.val % 2 = 0 by omega)]
        exact qpad_in I b t _ _ (by dsimp only; omega) (by dsimp only; omega)
    · have n : ¬ (64 ≤ l.val % 128 ∧ l.val % 128 < 64 + 32) := by omega
      refine (congrArg₂ (fun u v => qpad I b t l * u + (if l.val % 2 = 0 then qpad I b t ⟨(l + 1) % 1024, by omega⟩ else qpad I b t ⟨(l + 1023) % 1024, by omega⟩) * v) (dif_neg n) (dif_neg n)).trans ?_
      refine Eq.trans ?_ (dif_neg h2).symm
      rw [mul_one, mul_zero, add_zero]
      exact qpad_out I b t l h2

theorem kpad_in (I : Inp) (b : Fin 32) (t : Fin 256) (l : Fin 128) (j : Fin 32) (hj : j.val = l.val) : kpad I b t l = kpe I b t j := by
  unfold kpad
  exact (dif_pos (hj ▸ j.isLt)).trans (congrArg _ (Fin.ext hj.symm))

/-- The shared key part's lanes turned. -/
theorem prot (I : Inp) (C S : Fin 16 → EReal) (b : Fin 32) (t : Fin 256) (l : Fin 128) :
    kpad I b t l * tabC 0 C l + (if l.val % 2 = 0 then kpad I b t ⟨(l + 1) % 128, by omega⟩ else kpad I b t ⟨(l + 127) % 128, by omega⟩) * tabS 0 S l
      = pout I C S b t l := by
  unfold pout tabC tabS
  by_cases h2 : l.val < 32
  · have p : 0 ≤ l.val ∧ l.val < 0 + 32 := by omega
    refine (congrArg₂ (fun u v => kpad I b t l * u + (if l.val % 2 = 0 then kpad I b t ⟨(l + 1) % 128, by omega⟩ else kpad I b t ⟨(l + 127) % 128, by omega⟩) * v) (dif_pos p) (dif_pos p)).trans ?_
    refine Eq.trans ?_ (dif_pos h2).symm
    refine rot_eq (kpe I b t) C S ⟨l, h2⟩ _ _ ?_ (fun h => ?_) (fun h => ?_)
    · exact kpad_in I b t l _ rfl
    · dsimp only at h
      rw [if_pos h]
      exact kpad_in I b t _ _ (by dsimp only; omega)
    · dsimp only at h
      rw [if_neg h]
      exact kpad_in I b t _ _ (by dsimp only; omega)
  · have n : ¬ (0 ≤ l.val ∧ l.val < 0 + 32) := by omega
    refine (congrArg₂ (fun u v => kpad I b t l * u + (if l.val % 2 = 0 then kpad I b t ⟨(l + 1) % 128, by omega⟩ else kpad I b t ⟨(l + 127) % 128, by omega⟩) * v) (dif_neg n) (dif_neg n)).trans ?_
    refine Eq.trans ?_ (dif_neg h2).symm
    rw [mul_one, mul_zero, add_zero]
    unfold kpad
    exact dif_neg h2

/-- The choice by a lane's parity, as the body computes it from the lane's number. -/
theorem par (l : ℕ) (hl : l < 1024) (a b : EReal) : (Scalar.select
          (IntOp.cmpi CmpIPredicate.eq
            (Scalar.select
              (IntOp.andi
                (IntOp.xori
                  (IntOp.cmpi CmpIPredicate.slt
                    (IntOp.remsi ArithUnit.vector (BitVec.ofNat 32 l)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 l)
                    (Scalar.select (Scalar.cmpi CmpIPredicate.eq 2#32 0#32) 1#32 2#32))
                  0#32))
              (IntOp.addi
                (IntOp.remsi ArithUnit.vector (BitVec.ofNat 32 l)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 l)
                (Scalar.select (Scalar.cmpi CmpIPredicate.eq 2#32 0#32) 1#32 2#32)))
            0#32)
          a b) = if l % 2 = 0 then a else b := by
  have h := (by decide +kernel : ∀ l : Fin 1024,           (IntOp.cmpi CmpIPredicate.eq
            (Scalar.select
              (IntOp.andi
                (IntOp.xori
                  (IntOp.cmpi CmpIPredicate.slt
                    (IntOp.remsi ArithUnit.vector (BitVec.ofNat 32 l.val)
                      (Scalar.select (Scalar.cmpi CmpIPredicate.eq 2#32 0#32) 1#32 2#32))
                    0#32)
                  (Scalar.cmpi CmpIPredicate.slt (Scalar.select (Scalar.cmpi CmpIPredicate.eq 2#32 0#32) 1#32 2#32)
                    0#32))
                (IntOp.cmpi CmpIPredicate.ne
                  (IntOp.remsi ArithUnit.vector (BitVec.ofNat 32 l.val)
                    (Scalar.select (Scalar.cmpi CmpIPredicate.eq 2#32 0#32) 1#32 2#32))
                  0#32))
              (IntOp.addi
                (IntOp.remsi ArithUnit.vector (BitVec.ofNat 32 l.val)
                  (Scalar.select (Scalar.cmpi CmpIPredicate.eq 2#32 0#32) 1#32 2#32))
                (Scalar.select (Scalar.cmpi CmpIPredicate.eq 2#32 0#32) 1#32 2#32))
              (IntOp.remsi ArithUnit.vector (BitVec.ofNat 32 l.val)
                (Scalar.select (Scalar.cmpi CmpIPredicate.eq 2#32 0#32) 1#32 2#32)))
            0#32) = if l.val % 2 = 0 then 1#1 else 0#1) ⟨l, hl⟩
  dsimp only at h
  rw [h]
  by_cases h2 : l % 2 = 0
  · rw [if_pos h2, if_pos h2]
    rfl
  · rw [if_neg h2, if_neg h2]
    rfl

theorem pay5 (T : FVec Ideal S512x128 .f32) (r : Fin 512) (l : Fin 1024) : k0_pay5 (F := Ideal) T (ix2 r l) = T (ix2 r ⟨l % 128, by omega⟩) := by
  pointwise [k0_pay5]
  repeat' split
  all_goals exact congrArg _ (congrArg (ix2 r) (Fin.ext (by dsimp only; omega)))

theorem pay6 (X Y : FVec Ideal S512x1024 .f32) (T : FVec Ideal S512x128 .f32) (r : Fin 512) (l : Fin 1024) :
    k0_pay6 (F := Ideal) X Y T (ix2 r l)
      = X (ix2 r l) * Y (ix2 r l) + (if l.val % 2 = 0 then X (ix2 r ⟨(l + 1) % 1024, by omega⟩) else X (ix2 r ⟨(l + 1023) % 1024, by omega⟩)) * T (ix2 r ⟨l % 128, by omega⟩) := by
  pointwise [k0_pay6]
  rw [par l.val l.isLt]
  refine congrArg₂ (fun u v => X (ix2 r l) * Y (ix2 r l) + u * v) ?_ ?_
  · by_cases h2 : l.val % 2 = 0
    · rw [if_pos h2, if_pos h2]
      exact congrArg X (congrArg (ix2 r) (Fin.ext (by dsimp only; omega)))
    · rw [if_neg h2, if_neg h2]
      exact congrArg X (congrArg (ix2 r) (Fin.ext (by dsimp only; omega)))
  · repeat' split
    all_goals exact congrArg _ (congrArg (ix2 r) (Fin.ext (by dsimp only; omega)))

theorem pay14 (A : FVec Ideal S512x1024 .bf16) (B : FVec Ideal S32x1024 .bf16) (r : Fin 512) (l : Fin 128) :
    k0_pay14 (F := Ideal) A B (ix2 r l)
      = if l.val % 2 = 0 then k0_pay11 A B (ix2 r ⟨(l + 1) % 128, by omega⟩) else k0_pay11 A B (ix2 r ⟨(l + 127) % 128, by omega⟩) := by
  pointwise [k0_pay14]
  rw [par l.val (by omega)]
  by_cases h2 : l.val % 2 = 0
  · rw [if_pos h2, if_pos h2]
    exact congrArg _ (congrArg (ix2 r) (Fin.ext (by dsimp only; omega)))
  · rw [if_neg h2, if_neg h2]
    exact congrArg _ (congrArg (ix2 r) (Fin.ext (by dsimp only; omega)))

theorem pay4 {I : Inp} {g : Fin 16} {X : FVec Ideal S1x6144 .f32} {Y : FVec Ideal S512x1024 .f32} {W : FVec Ideal S768x1024 .bf16}
    {N : FVec Ideal S1x768 .f32} {U : FVec Ideal S768x1024 .bf16}
    (hA : ∀ r d, k0_pay3 (F := Ideal) X Y (ix2 r d) = h I (seq g r) (tm r) d) (hW : ∀ (i : Fin 768) d, W (ix2 i d) = I.win d ⟨i, by omega⟩)
    (hN : ∀ i, N (ix2 0 i) = I.qn i)
    (hU : ∀ i (l : Fin 1024), U (ix2 i l) = if hl : l.val % 128 < 96 then I.wuq i ⟨96 * (l / 128) + l % 128, by omega⟩ else 0)
    (r : Fin 512) (l : Fin 1024) : k0_pay4 (F := Ideal) X Y W N U (ix2 r l) = qpad I (seq g r) (tm r) l := by
  pointwise [k0_pay4]
  simp only [hA, hW, hN, hU]
  unfold qpad q
  split
  · rfl
  · simp only [mul_zero, Finset.sum_const_zero]

theorem pay11 {I : Inp} {g : Fin 16} {A : FVec Ideal S512x1024 .bf16} {B : FVec Ideal S32x1024 .bf16}
    (hA : ∀ r d, A (ix2 r d) = h I (seq g r) (tm r) d) (hB : ∀ (i : Fin 32) d, B (ix2 i d) = I.win d ⟨1024 + i, by omega⟩)
    (r : Fin 512) (l : Fin 128) : k0_pay11 (F := Ideal) A B (ix2 r l) = kpad I (seq g r) (tm r) l := by
  pointwise [k0_pay11]
  simp only [hA, hB]
  rfl

section
variable {I : Inp} {g : Fin 16} {A : FVec Ideal S512x1024 .bf16} (hA : ∀ r d, A (ix2 r d) = h I (seq g r) (tm r) d)
include hA
theorem pay7 {B : FVec Ideal S256x1024 .bf16} (hB : ∀ (i : Fin 256) d, B (ix2 i d) = I.win d ⟨768 + i, by omega⟩)
    (r : Fin 512) (l : Fin 256) : k0_pay7 (F := Ideal) A B (ix2 r l) = ckr I (seq g r) (tm r) l := by
  pointwise [k0_pay7]
  simp only [hA, hB]
  rfl

theorem pay10 {B : FVec Ideal S256x1024 .bf16} {N : FVec Ideal S1x256 .f32} (hB : ∀ (i : Fin 256) d, B (ix2 i d) = I.win d ⟨768 + i, by omega⟩)
    (hN : ∀ i, N (ix2 0 i) = I.kvn i) (r : Fin 512) (l : Fin 256) :
    k0_pay10 (F := Ideal) (k0_pay7 A B) (k0_pay8 N) (k0_pay9 A B) kernelRun0_A.sl.cst_31 (ix2 r l) = ckv I (seq g r) (tm r) l := by
  pointwise [k0_pay10, k0_pay8, k0_pay9, kernelRun0_A.sl.cst_31]
  simp only [pay7 hA hB, hN]
  rfl

theorem pay15 {B : FVec Ideal S32x1024 .bf16} {C S : Fin 512 → Fin 16 → EReal} {T U : FVec Ideal S512x128 .f32} (hB : ∀ (i : Fin 32) d, B (ix2 i d) = I.win d ⟨1024 + i, by omega⟩)
    (hT : ∀ r l, T (ix2 r l) = tabC 0 (C r) l) (hU : ∀ r l, U (ix2 r l) = tabS 0 (S r) l) (r : Fin 512) (l : Fin 128) :
    k0_pay15 (F := Ideal) (k0_pay12 U) (k0_pay13 A B T) (k0_pay14 A B) (ix2 r l) = pout I (C r) (S r) (seq g r) (tm r) l := by
  pointwise [k0_pay15, k0_pay12, k0_pay13]
  rw [pay14, pay11 hA hB, pay11 hA hB, pay11 hA hB, hT, hU]
  exact prot I (C r) (S r) (seq g r) (tm r) l

theorem pay19 {B : FVec Ideal S2560x1024 .bf16} (hB : ∀ (i : Fin 2560) d, B (ix2 i d) = I.win d ⟨1056 + i, by omega⟩) (r : Fin 512) (j : Fin 2560) :
    k0_pay19 (F := Ideal) A B (ix2 r j) = proj I (seq g r) (tm r) ⟨1056 + j, by omega⟩ := by
  pointwise [k0_pay19]
  simp only [hA, hB]
  rfl

theorem pay20 {B : FVec Ideal S2560x1024 .bf16} (hB : ∀ (i : Fin 2560) d, B (ix2 i d) = I.win d ⟨1056 + i, by omega⟩) (r : Fin 512) (j : Fin 512) :
    k0_pay20 (F := Ideal) A B (ix2 r j) = sq I (seq g r) (tm r) j := by
  pointwise [k0_pay20]
  rw [pay19 hA hB]
  first | rfl | (unfold sq; exact congrArg _ (Fin.ext (by dsimp only; omega)))
end

section
variable {I : Inp} {g : Fin 16} {K : FVec Ideal S512x256 .f32} (hK : ∀ r d, K (ix2 r d) = ckv I (seq g r) (tm r) d)
include hK
theorem pay18 {B : FVec Ideal S256x512 .bf16} (hB : ∀ i (l : Fin 512), B (ix2 i l) = I.wukv i ⟨128 * (l / 64) + 64 + l % 64, by omega⟩) (r : Fin 512) (l : Fin 512) :
    k0_pay18 (F := Ideal) K B (ix2 r l) = vfull I (seq g r) (tm r) l := by
  pointwise [k0_pay18, k0_pay16]
  simp only [hK, hB]
  rfl

set_option maxHeartbeats 2000000 in
theorem pay17 {B : FVec Ideal S256x1024 .bf16} {C S : Fin 512 → Fin 16 → EReal} {X Y Z : FVec Ideal S512x128 .f32}
    (hB : ∀ i (l : Fin 1024), B (ix2 i l) = if l.val % 128 < 64 then I.wukv i l else 0)
    (hP : ∀ r l, k0_pay15 (F := Ideal) X Y Z (ix2 r l) = pout I (C r) (S r) (seq g r) (tm r) l) (r : Fin 512) (l : Fin 1024) :
    k0_pay17 (F := Ideal) K X Y Z B (ix2 r l) = kout I (C r) (S r) (seq g r) (tm r) l := by
  unfold k0_pay17
  generalize k0_pay15 (F := Ideal) X Y Z = W at hP ⊢
  pointwise [k0_pay16]
  unfold kout
  refine congrArg₂ (· + ·) ?_ ?_
  · simp only [hK, hB]
    unfold kv
    split
    · rfl
    · simp only [mul_zero, Finset.sum_const_zero]
  · repeat' split
    all_goals exact (hP _ _).trans (congrArg _ (Fin.ext (by dsimp only; omega)))
end

section
variable {I : Inp} {g : Fin 16} {P : FVec Ideal S512x2560 .f32} (hP : ∀ r (j : Fin 2560), P (ix2 r j) = proj I (seq g r) (tm r) ⟨1056 + j, by omega⟩)
include hP
theorem pay1 (r j : Fin 512) : k0_pay1 (F := Ideal) P (ix2 r j) = hv I (seq g r) (tm r) j := by
  pointwise [k0_pay1]
  rw [hP]
  first | rfl | exact congrArg _ (Fin.ext (by dsimp only; omega))

theorem pay2 (r j : Fin 512) : k0_pay2 (F := Ideal) P (ix2 r j) = proj I (seq g r) (tm r) ⟨3104 + j, by omega⟩ := by
  pointwise [k0_pay2]
  rw [hP]
  first | rfl | exact congrArg _ (Fin.ext (by dsimp only; omega))

section
variable {U V : FVec Ideal S1x1x512 .f32} (hU : ∀ j, U (ix3 0 0 j) = I.gam 0 0 j) (hV : ∀ j, V (ix3 0 0 j) = I.gam 0 1 j)
include hU hV
theorem pay26 (r j : Fin 512) : k0_pay26 (F := Ideal) P (k0_pay24 U V) (k0_pay25 U V) (ix2 r j) = ff I 0 (seq g r) (tm r) j := by
  pointwise [k0_pay26, k0_pay25, k0_pay24, k0_pay23, k0_pay22, k0_pay21]
  simp only [hP, hU, hV]
  have e : (⟨1056 + (512 + j.val), by omega⟩ : Fin 5664) = ⟨1568 + 512 * (0 : Fin 2).val + j, by omega⟩ :=
    Fin.ext (by show 1056 + (512 + j.val) = 1568 + 512 * 0 + j.val; omega)
  rw [e]
  rfl
theorem pay27 (r j : Fin 512) : k0_pay27 (F := Ideal) P (k0_pay24 U V) (k0_pay25 U V) (ix2 r j) = lf I 0 (seq g r) (tm r) j := by
  pointwise [k0_pay27]
  rw [pay26 hP hU hV]
  rfl
theorem pay28 (r j : Fin 512) : k0_pay28 (F := Ideal) P (k0_pay24 U V) (k0_pay25 U V) (ix2 r j) = hk I 0 (seq g r) (tm r) j := by
  pointwise [k0_pay28]
  rw [pay26 hP hU hV]
  rfl
end
variable {U V : FVec Ideal S1x1x512 .f32} (hU : ∀ j, U (ix3 0 0 j) = I.gam 1 0 j) (hV : ∀ j, V (ix3 0 0 j) = I.gam 1 1 j)
include hU hV
theorem pay29 (r j : Fin 512) : k0_pay29 (F := Ideal) P U V (ix2 r j) = ff I 1 (seq g r) (tm r) j := by
  pointwise [k0_pay29]
  simp only [hP, hU, hV]
  have e : (⟨1056 + (1024 + j.val), by omega⟩ : Fin 5664) = ⟨1568 + 512 * (1 : Fin 2).val + j, by omega⟩ :=
    Fin.ext (by show 1056 + (1024 + j.val) = 1568 + 512 * 1 + j.val; omega)
  rw [e]
  rfl
theorem pay30 (r j : Fin 512) : k0_pay30 (F := Ideal) P U V (ix2 r j) = lf I 1 (seq g r) (tm r) j := by
  pointwise [k0_pay30]
  rw [pay29 hP hU hV]
  rfl
theorem pay31 (r j : Fin 512) : k0_pay31 (F := Ideal) P U V (ix2 r j) = hk I 1 (seq g r) (tm r) j := by
  pointwise [k0_pay31]
  rw [pay29 hP hU hV]
  rfl
end

section
variable (c : Dev nD) (i : grid0.Coords) (arg2 : Memref sig .tc .vmem S512x1024 .f32) (harg2 : arg2.IsWhole) (arg3 : Memref sig .tc .vmem S8x6144 .f32) (harg3 : arg3.IsWhole) (arg4 : Memref sig .tc .vmem S2x2x512 .f32) (harg4 : arg4.IsWhole) (arg5 : Memref sig .tc .vmem S5664x1024 .bf16) (harg5 : arg5.IsWhole) (arg6 : Memref sig .tc .vmem S1x768 .f32) (harg6 : arg6.IsWhole) (arg7 : Memref sig .tc .vmem S768x1024 .bf16) (harg7 : arg7.IsWhole) (arg8 : Memref sig .tc .vmem S1x256 .f32) (harg8 : arg8.IsWhole) (arg9 : Memref sig .tc .vmem S256x1024 .bf16) (harg9 : arg9.IsWhole) (arg10 : Memref sig .tc .vmem S256x512 .bf16) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (arg14 : Memref sig .tc .vmem S512x128 .f32) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S512x512 .bf16) (harg17 : arg17.IsWhole) (arg18 : Memref sig .tc .vmem S512x256 .f32) (harg18 : arg18.IsWhole) (arg19 : Memref sig .tc .vmem S512x128 .f32) (harg19 : arg19.IsWhole) (arg20 : Memref sig .tc .vmem S512x3584 .f32) (harg20 : arg20.IsWhole)
variable {I : Inp} {C S : Fin 512 → Fin 16 → EReal} {s : Fin 2} {g : Fin 16}
variable {x0 : Vec Ideal S512x1024 .f32} {x1 : Vec Ideal S8x6144 .f32} {x2 : Vec Ideal S2x2x512 .f32} {x3 : Vec Ideal S5664x1024 .bf16} {x4 : Vec Ideal S1x768 .f32} {x5 : Vec Ideal S768x1024 .bf16} {x6 : Vec Ideal S1x256 .f32} {x7 : Vec Ideal S256x1024 .bf16} {x8 : Vec Ideal S256x512 .bf16} {x9 x10 x11 x12 : Vec Ideal S512x128 .f32}
variable (H : BlockIs I C S s g x0 x1 x2 x3 x4 x5 x6 x7 x8 x9 x10 x11 x12) (hi : (i 0).val = s.val)
theorem off (i : grid0.Coords) : k0_off1 i 0 = 1 + (i 0).val := (by decide +kernel : ∀ i : grid0.Coords, k0_off1 i 0 = 1 + (i 0).val) i

include H hi

/-- The modulated input, and the latent parts. -/
theorem r0 (r d) : (kernelRun0_A.sl.r c i arg2 harg2 arg3 harg3 x0 x1) (ix2 r d) = h I (seq g r) (tm r) d := by
  unfold kernelRun0_A.sl.r k0_pay3
  simp only [ra]
  pointwise []
  have e := off i
  rw [H.h0, H.h1 _ _ (by dsimp only; omega), H.h1 _ _ (by dsimp only; omega)]
  unfold h
  refine congrArg₂ (fun u v => I.x (seq g r) (tm r) d * (1 + I.md u) + I.md v) (Fin.ext ?_) (Fin.ext ?_)
  · show 0 + (1024 + d.val) = 1024 + d.val
    omega
  · show 0 + d.val = d.val
    omega

/-- The queries, turned. -/
theorem out13 (r l) : (out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x1024 .bf16) (ix2 r l) = qout I (C r) (S r) (seq g r) (tm r) l := by
  unfold out0_A_13
  rw [View.read_writes_junk_eq_canon]
  unfold kernelRun0_A
  dsimp only
  refine (ABody.hit _ _ _ r l).trans ?_
  refine (pay6 _ _ _ r l).trans ?_
  unfold kernelRun0_A.sl.r_2
  rw [pay5]
  have e : ∀ r l, (kernelRun0_A.sl.r_1 c i arg2 harg2 arg3 harg3 arg5 harg5 arg6 harg6 arg7 harg7 x0 x1 x3 x4 x5) (ix2 r l) = qpad I (seq g r) (tm r) l := pay4 (r0 c i arg2 harg2 arg3 harg3 H hi) (fun i d => by
    simp only [ra]
    pointwise []
    exact H.h3 _ _) (fun i => by
    simp only [ra]
    pointwise []
    exact H.h4 _) (fun i l => by
    simp only [ra]
    pointwise []
    exact H.h5 _ _)
  refine Eq.trans ?_ (qrot I (C r) (S r) (seq g r) (tm r) l)
  refine congrArg₂ (· + ·) (congrArg₂ (· * ·) (e r l) ?_) (congrArg₂ (· * ·) ?_ ?_)
  · simp only [ra]
    pointwise []
    exact H.h9 _ _
  · by_cases h2 : l.val % 2 = 0
    · exact (if_pos h2).trans ((e r _).trans (if_pos h2).symm)
    · exact (if_neg h2).trans ((e r _).trans (if_neg h2).symm)
  · simp only [ra]
    pointwise []
    exact H.h10 _ _

/-- The latent part. -/
theorem out16 (r l) : (out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x256 .f32) (ix2 r l) = ckv I (seq g r) (tm r) l := by
  unfold out0_A_16
  rw [View.read_writes_junk_eq_canon]
  unfold kernelRun0_A
  dsimp only
  refine (ABody.hit _ _ _ r l).trans ?_
  exact (pay10 (r0 c i arg2 harg2 arg3 harg3 H hi) (fun i d => by
    simp only [ra]
    pointwise []
    exact H.h3 _ _) (fun i => by
    simp only [ra]
    pointwise []
    exact H.h6 _)) r l

/-- The values. -/
theorem out15 (r l) : (out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x512 .bf16) (ix2 r l) = vfull I (seq g r) (tm r) l := by
  unfold out0_A_15
  rw [View.read_writes_junk_eq_canon]
  unfold kernelRun0_A
  dsimp only
  refine (ABody.hit _ _ _ r l).trans ?_
  refine pay18 (pay10 (r0 c i arg2 harg2 arg3 harg3 H hi) (fun i d => by
    simp only [ra]
    pointwise []
    exact H.h3 _ _) (fun i => by
    simp only [ra]
    pointwise []
    exact H.h6 _)) (fun i l => ?_) r l
  simp only [ra]
  pointwise []
  exact H.h8 _ _

/-- The shared key part, turned. -/
theorem out17 (r l) : (out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x128 .f32) (ix2 r l) = pout I (C r) (S r) (seq g r) (tm r) l := by
  unfold out0_A_17
  rw [View.read_writes_junk_eq_canon]
  unfold kernelRun0_A
  dsimp only
  refine (ABody.hit _ _ _ r l).trans ?_
  exact (pay15 (C := C) (S := S) (r0 c i arg2 harg2 arg3 harg3 H hi) (fun i d => by
    simp only [ra]
    pointwise []
    exact H.h3 _ _) (fun r l => by
    simp only [ra]
    pointwise []
    exact H.h11 _ _) (fun r l => by
    simp only [ra]
    pointwise []
    exact H.h12 _ _)) r l

/-- The keys. -/
theorem out14 (r l) : (out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x1024 .bf16) (ix2 r l) = kout I (C r) (S r) (seq g r) (tm r) l := by
  unfold out0_A_14
  rw [View.read_writes_junk_eq_canon]
  unfold kernelRun0_A
  dsimp only
  refine (ABody.hit _ _ _ r l).trans ?_
  refine pay17 (C := C) (S := S) (pay10 (r0 c i arg2 harg2 arg3 harg3 H hi) (fun i d => by
    simp only [ra]
    pointwise []
    exact H.h3 _ _) (fun i => by
    simp only [ra]
    pointwise []
    exact H.h6 _)) (fun i l => ?_) (pay15 (C := C) (S := S) (r0 c i arg2 harg2 arg3 harg3 H hi) (fun i d => by
    simp only [ra]
    pointwise []
    exact H.h3 _ _) (fun r l => by
    simp only [ra]
    pointwise []
    exact H.h11 _ _) (fun r l => by
    simp only [ra]
    pointwise []
    exact H.h12 _ _)) r l
  simp only [ra]
  pointwise []
  exact H.h7 _ _

/-- The recurrence's arrays. -/
theorem out18 (r l) : (out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 : FVec Ideal S512x3584 .f32) (ix2 r l) = hout I (seq g r) (tm r) l := by
  unfold out0_A_18
  rw [View.read_writes_junk_eq_canon]
  unfold kernelRun0_A
  dsimp only
  have e : ∀ r (j : Fin 2560), (kernelRun0_A.sl.r_10 c i arg2 harg2 arg3 harg3 arg5 harg5 x0 x1 x3) (ix2 r j) = proj I (seq g r) (tm r) ⟨1056 + j, by omega⟩ := (pay19 (r0 c i arg2 harg2 arg3 harg3 H hi) (fun i d => by
    simp only [ra]
    pointwise []
    exact H.h3 _ _))
  unfold hout
  by_cases h6 : 3072 ≤ l.val
  · refine (KBuf.hit _ _ _ r ⟨l - 3072, by omega⟩ r l (by omega) (by dsimp only; omega)).trans ?_
    refine Eq.trans ?_ (Eq.symm (Eq.trans (dif_neg (by omega)) (Eq.trans (dif_neg (by omega)) (Eq.trans (dif_neg (by omega)) (Eq.trans (dif_neg (by omega)) (Eq.trans (dif_neg (by omega)) (dif_neg (by omega))))))))
    exact pay2 e r _
  refine (KBuf.miss _ _ _ r l (by omega)).trans ?_
  by_cases h5 : 2560 ≤ l.val
  · refine (KBuf.hit _ _ _ r ⟨l - 2560, by omega⟩ r l (by omega) (by dsimp only; omega)).trans ?_
    refine Eq.trans ?_ (Eq.symm (Eq.trans (dif_neg (by omega)) (Eq.trans (dif_neg (by omega)) (Eq.trans (dif_neg (by omega)) (Eq.trans (dif_neg (by omega)) (Eq.trans (dif_neg (by omega)) (dif_pos (by omega))))))))
    exact pay1 e r _
  refine (KBuf.miss _ _ _ r l (by omega)).trans ?_
  by_cases h4 : 2048 ≤ l.val
  · refine (KBuf.hit _ _ _ r ⟨l - 2048, by omega⟩ r l (by omega) (by dsimp only; omega)).trans ?_
    refine Eq.trans ?_ (Eq.symm (Eq.trans (dif_neg (by omega)) (Eq.trans (dif_neg (by omega)) (Eq.trans (dif_neg (by omega)) (Eq.trans (dif_neg (by omega)) (dif_pos (by omega)))))))
    exact pay31 e (fun j => by
      simp only [ra]
      pointwise []
      exact H.h2 _ _ _) (fun j => by
      simp only [ra]
      pointwise []
      exact H.h2 _ _ _) r _
  refine (KBuf.miss _ _ _ r l (by omega)).trans ?_
  by_cases h3 : 1536 ≤ l.val
  · refine (KBuf.hit _ _ _ r ⟨l - 1536, by omega⟩ r l (by omega) (by dsimp only; omega)).trans ?_
    refine Eq.trans ?_ (Eq.symm (Eq.trans (dif_neg (by omega)) (Eq.trans (dif_neg (by omega)) (Eq.trans (dif_neg (by omega)) (dif_pos (by omega))))))
    exact pay30 e (fun j => by
      simp only [ra]
      pointwise []
      exact H.h2 _ _ _) (fun j => by
      simp only [ra]
      pointwise []
      exact H.h2 _ _ _) r _
  refine (KBuf.miss _ _ _ r l (by omega)).trans ?_
  by_cases h2 : 1024 ≤ l.val
  · refine (KBuf.hit _ _ _ r ⟨l - 1024, by omega⟩ r l (by omega) (by dsimp only; omega)).trans ?_
    refine Eq.trans ?_ (Eq.symm (Eq.trans (dif_neg (by omega)) (Eq.trans (dif_neg (by omega)) (dif_pos (by omega)))))
    exact pay28 e (fun j => by
      simp only [ra]
      pointwise []
      exact H.h2 _ _ _) (fun j => by
      simp only [ra]
      pointwise []
      exact H.h2 _ _ _) r _
  refine (KBuf.miss _ _ _ r l (by omega)).trans ?_
  by_cases h1 : 512 ≤ l.val
  · refine (KBuf.hit _ _ _ r ⟨l - 512, by omega⟩ r l (by omega) (by dsimp only; omega)).trans ?_
    refine Eq.trans ?_ (Eq.symm (Eq.trans (dif_neg (by omega)) (dif_pos (by omega))))
    exact pay27 e (fun j => by
      simp only [ra]
      pointwise []
      exact H.h2 _ _ _) (fun j => by
      simp only [ra]
      pointwise []
      exact H.h2 _ _ _) r _
  refine (KBuf.miss _ _ _ r l (by omega)).trans ?_
  refine (KBuf.hit _ _ _ r ⟨l, by omega⟩ r l (by omega) (by dsimp only; omega)).trans ?_
  refine Eq.trans ?_ (Eq.symm (dif_pos (by omega)))
  exact pay20 (r0 c i arg2 harg2 arg3 harg3 H hi) (fun i d => by
    simp only [ra]
    pointwise []
    exact H.h3 _ _) r _

end
end Cert.IBody

end
-- ==== Proof.IFin.lean ====
module

public import proofs.«01_k».proof.Proof.IBody

/-
The sample group's input projections: the kernel's final arrays. Grid point `t` holds rows `512 * t` onward of
the 2048: block `t % 2` of sample `t / 2`.
-/

@[expose] public section

set_option maxRecDepth 16384

noncomputable section

namespace Cert.IFin

open Cert.Kernel4Ideal Cert.Kernel4Ideal.Gen Cert.Kernel4Ideal.Value Idealize.ShloMosaic Idealize.ShloMosaic.TcCoe Idealize.SL.Sem
open Cert.Spec
open Cert.Block (seq tm)
open Cert.IWin
open Cert.IBody (qout kout pout hout)
open Cert.KProj (vfull)

/-- Where a window's rectangle sends an index, and a read through a window that is the whole array. -/
theorem embv {w : Pipeline.Window sig grid0} {t : Fin grid0.N} (o : Fin w.shape.rank → ℕ)
    (h : ∀ a, (w.rect t).off a = o a ∧ (w.rect t).stride a = 1)
    {x : (w.rect t).shape.Idx} {y : w.shape.Idx} (hy : ∀ a, o a + (x a).val = (y a).val) : (w.rect t).emb x = y := by
  funext a
  apply Fin.ext
  rw [Rect.emb_apply, (h a).1, (h a).2, one_mul, hy]

theorem rd {w : Pipeline.Window sig grid0} {t : Fin grid0.N} (h : ∀ a, (w.rect t).off a = 0 ∧ (w.rect t).stride a = 1) {α : Type} (X : w.shape.Idx → α)
    {x : (w.rect t).shape.Idx} {y : w.shape.Idx} (hy : ∀ a, (x a).val = (y a).val) : X ((w.rect t).emb x) = X y := by
  congr 1
  funext a
  apply Fin.ext
  rw [Rect.emb_apply, (h a).1, (h a).2, hy, zero_add, one_mul]

variable (m : (ℓ : Loc nD τ sig) → Buf (Elt Ideal) ℓ) (c : Dev nD) (t : Fin grid0.N)

theorem four : t.val < 4 := (by decide +kernel : ∀ t : Fin grid0.N, t.val < 4) t
/-- A grid point's sample, block and rows. -/
def sm : Fin 2 := ⟨t.val / 2, by have := four t; omega⟩
def bl : Fin 16 := ⟨t.val % 2, by omega⟩
def row (r : Fin 512) : Fin 1024 := ⟨512 * (t.val % 2) + r, by omega⟩
theorem crd : (grid0.coords t 0).val = (sm t).val := (by decide +kernel : ∀ t : Fin grid0.N, (grid0.coords t 0).val = t.val / 2) t

theorem w0 (r : Fin 512) (d : Fin 1024) : (iblk m c 0 t : FVec Ideal S512x1024 .f32) (ix2 r d) = (inp m c (sm t)).x (seq (bl t) r) (tm r) d := by
  show (V m c main_v36 : FVec Ideal S2048x1024 .f32) ((win0_0.rect t).emb (ix2 r d)) = _
  have h4 := four t
  have e : (win0_0.rect t).emb (ix2 r d) = ix2 (n0 := 2048) (n1 := 1024) ⟨512 * t.val + r.val, by omega⟩ d :=
    embv ![512 * t.val, 0] ((by decide +kernel : ∀ t : Fin grid0.N, ∀ a, (win0_0.rect t).off a = ![512 * t.val, 0] a ∧ (win0_0.rect t).stride a = 1) t) fun a => by
      match a with
      | ⟨0, _⟩ => rfl
      | ⟨1, _⟩ => show 0 + d.val = d.val; omega
  rw [e]
  refine (a36 m c (sm t) _ (row t r) (by show 512 * t.val + r.val = 1024 * (t.val / 2) + (512 * (t.val % 2) + r.val); omega) d).trans ?_
  refine congrArg (fun u => (m ((c : Thread nD τ).loc main_arg0) : FVec Ideal S2x1024x1024 .f32) (ix3 (sm t) u d)) (Fin.ext ?_)
  show 512 * (t.val % 2) + r.val = (256 * (2 * (t.val % 2) + r.val / 256) + r.val % 256) % 1024
  omega

theorem w9 (r : Fin 512) (l : Fin 128) : (iblk m c 9 t : FVec Ideal S512x128 .f32) (ix2 r l) = tabC 64 (cosv m c (row t r)) l := by
  show (V m c main_v46 : FVec Ideal S1024x128 .f32) ((win0_9.rect t).emb (ix2 r l)) = _
  have e : (win0_9.rect t).emb (ix2 r l) = ix2 (n0 := 1024) (n1 := 128) (row t r) l :=
    embv ![512 * (t.val % 2), 0] ((by decide +kernel : ∀ t : Fin grid0.N, ∀ a, (win0_9.rect t).off a = ![512 * (t.val % 2), 0] a ∧ (win0_9.rect t).stride a = 1) t) fun a => by
      match a with
      | ⟨0, _⟩ => rfl
      | ⟨1, _⟩ => show 0 + l.val = l.val; omega
  rw [e]
  exact a46 m c (row t r) l

theorem w10 (r : Fin 512) (l : Fin 128) : (iblk m c 10 t : FVec Ideal S512x128 .f32) (ix2 r l) = tabS 64 (sinv m c (row t r)) l := by
  show (V m c main_v47 : FVec Ideal S1024x128 .f32) ((win0_10.rect t).emb (ix2 r l)) = _
  have e : (win0_10.rect t).emb (ix2 r l) = ix2 (n0 := 1024) (n1 := 128) (row t r) l :=
    embv ![512 * (t.val % 2), 0] ((by decide +kernel : ∀ t : Fin grid0.N, ∀ a, (win0_10.rect t).off a = ![512 * (t.val % 2), 0] a ∧ (win0_10.rect t).stride a = 1) t) fun a => by
      match a with
      | ⟨0, _⟩ => rfl
      | ⟨1, _⟩ => show 0 + l.val = l.val; omega
  rw [e]
  exact a47 m c (row t r) l

theorem w11 (r : Fin 512) (l : Fin 128) : (iblk m c 11 t : FVec Ideal S512x128 .f32) (ix2 r l) = tabC 0 (cosv m c (row t r)) l := by
  show (V m c main_v44 : FVec Ideal S1024x128 .f32) ((win0_11.rect t).emb (ix2 r l)) = _
  have e : (win0_11.rect t).emb (ix2 r l) = ix2 (n0 := 1024) (n1 := 128) (row t r) l :=
    embv ![512 * (t.val % 2), 0] ((by decide +kernel : ∀ t : Fin grid0.N, ∀ a, (win0_11.rect t).off a = ![512 * (t.val % 2), 0] a ∧ (win0_11.rect t).stride a = 1) t) fun a => by
      match a with
      | ⟨0, _⟩ => rfl
      | ⟨1, _⟩ => show 0 + l.val = l.val; omega
  rw [e]
  exact a44 m c (row t r) l

theorem w12 (r : Fin 512) (l : Fin 128) : (iblk m c 12 t : FVec Ideal S512x128 .f32) (ix2 r l) = tabS 0 (sinv m c (row t r)) l := by
  show (V m c main_v45 : FVec Ideal S1024x128 .f32) ((win0_12.rect t).emb (ix2 r l)) = _
  have e : (win0_12.rect t).emb (ix2 r l) = ix2 (n0 := 1024) (n1 := 128) (row t r) l :=
    embv ![512 * (t.val % 2), 0] ((by decide +kernel : ∀ t : Fin grid0.N, ∀ a, (win0_12.rect t).off a = ![512 * (t.val % 2), 0] a ∧ (win0_12.rect t).stride a = 1) t) fun a => by
      match a with
      | ⟨0, _⟩ => rfl
      | ⟨1, _⟩ => show 0 + l.val = l.val; omega
  rw [e]
  exact a45 m c (row t r) l

set_option maxHeartbeats 2000000 in
theorem blockIs : BlockIs (inp m c (sm t)) (fun r => cosv m c (row t r)) (fun r => sinv m c (row t r)) (sm t) (bl t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) where
  h0 := w0 m c t
  h1 i j hi := (rd (w := win0_1) ((by decide +kernel : ∀ t : Fin grid0.N, ∀ a, (win0_1.rect t).off a = 0 ∧ (win0_1.rect t).stride a = 1) t) (V m c main_arg1) (y := (ix2 i j)) fun _ => rfl).trans ((congrFun (V_main_arg1 m c) _).trans (congrArg (fun u => (m ((c : Thread nD τ).loc main_arg1) : FVec Ideal S8x6144 .f32) (ix2 u j)) (Fin.ext hi)))
  h2 a b j := (rd (w := win0_2) ((by decide +kernel : ∀ t : Fin grid0.N, ∀ a, (win0_2.rect t).off a = 0 ∧ (win0_2.rect t).stride a = 1) t) (V m c main_arg9) (y := (ix3 a b j)) fun _ => rfl).trans (congrFun (V_main_arg9 m c) _)
  h3 j d := (rd (w := win0_3) ((by decide +kernel : ∀ t : Fin grid0.N, ∀ a, (win0_3.rect t).off a = 0 ∧ (win0_3.rect t).stride a = 1) t) (V m c main_v13) (y := (ix2 j d)) fun _ => rfl).trans (a13 m c j d)
  h4 j := (rd (w := win0_4) ((by decide +kernel : ∀ t : Fin grid0.N, ∀ a, (win0_4.rect t).off a = 0 ∧ (win0_4.rect t).stride a = 1) t) (V m c main_v23) (y := (ix2 0 j)) fun _ => rfl).trans (a23 m c j)
  h5 i l := (rd (w := win0_5) ((by decide +kernel : ∀ t : Fin grid0.N, ∀ a, (win0_5.rect t).off a = 0 ∧ (win0_5.rect t).stride a = 1) t) (V m c main_v24) (y := (ix2 i l)) fun _ => rfl).trans (a24 m c i l)
  h6 j := (rd (w := win0_6) ((by decide +kernel : ∀ t : Fin grid0.N, ∀ a, (win0_6.rect t).off a = 0 ∧ (win0_6.rect t).stride a = 1) t) (V m c main_v25) (y := (ix2 0 j)) fun _ => rfl).trans (a25 m c j)
  h7 i l := (rd (w := win0_7) ((by decide +kernel : ∀ t : Fin grid0.N, ∀ a, (win0_7.rect t).off a = 0 ∧ (win0_7.rect t).stride a = 1) t) (V m c main_v26) (y := (ix2 i l)) fun _ => rfl).trans (a26 m c i l)
  h8 i l := (rd (w := win0_8) ((by decide +kernel : ∀ t : Fin grid0.N, ∀ a, (win0_8.rect t).off a = 0 ∧ (win0_8.rect t).stride a = 1) t) (V m c main_v27) (y := (ix2 i l)) fun _ => rfl).trans (a27 m c i l)
  h9 := w9 m c t
  h10 := w10 m c t
  h11 := w11 m c t
  h12 := w12 m c t

/-- The grid point and the block's row that hold a row of a sample; the row in the layout of 32 sequences of 256. -/
def pt (s : Fin 2) (t : Fin 1024) : Fin grid0.N := ⟨2 * s.val + t.val / 512, by show _ < 4; omega⟩
def loc (t : Fin 1024) : Fin 512 := ⟨t.val % 512, by omega⟩
def sb (t : Fin 1024) : Fin 32 := ⟨t.val / 256, by omega⟩
def st (t : Fin 1024) : Fin 256 := ⟨t.val % 256, by omega⟩
theorem sm_pt (s : Fin 2) (t : Fin 1024) : sm (pt s t) = s := Fin.ext (by show (2 * s.val + t.val / 512) / 2 = s.val; omega)
theorem row_pt (s : Fin 2) (t : Fin 1024) : row (pt s t) (loc t) = t := Fin.ext (by show 512 * ((2 * s.val + t.val / 512) % 2) + t.val % 512 = t.val; omega)
theorem seq_pt (s : Fin 2) (t : Fin 1024) : seq (bl (pt s t)) (loc t) = sb t := Fin.ext (by show 2 * ((2 * s.val + t.val / 512) % 2) + t.val % 512 / 256 = t.val / 256; omega)
theorem tm_pt (t : Fin 1024) : tm (loc t) = st t := Fin.ext (by show t.val % 512 % 256 = t.val % 256; omega)
def nrow (s : Fin 2) (t : Fin 1024) : Fin 2048 := ⟨1024 * s.val + t.val, by omega⟩

theorem f13 (s : Fin 2) (t : Fin 1024) (l : Fin 1024) :
    ((dats m 0 c).arrAt 13 cfg0.N : FVec Ideal S2048x1024 .bf16) (ix2 (nrow s t) l) = qout (inp m c s) (cosv m c t) (sinv m c t) (sb t) (st t) l := by
  have ee : (win0_13.rect (pt s t)).emb (ix2 (n0 := 512) (n1 := 1024) (loc t) l) = ix2 (nrow s t) l :=
    embv ![512 * (pt s t).val, 0] ((by decide +kernel : ∀ t : Fin grid0.N, ∀ a, (win0_13.rect t).off a = ![512 * t.val, 0] a ∧ (win0_13.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks13 m c (pt s t) (flush0_13 _)) (ix2 (n0 := 512) (n1 := 1024) (loc t) l)
  rw [flushed13_A] at hb
  rw [← ee]
  refine (show _ = _ from hb).trans ?_
  refine (IBody.out13 _ _ _ _ _ _ _ _ _ _ _ _ _ _ _ _ _ _ _ _ _ _ _ _ _ _ _ _ _ _ _ _ _ _ _ _ _ _ _ _ (blockIs m c (pt s t)) (crd (pt s t)) (loc t) l).trans ?_
  show qout (inp m c (sm (pt s t))) (cosv m c (row (pt s t) (loc t))) (sinv m c (row (pt s t) (loc t))) (seq (bl (pt s t)) (loc t)) (tm (loc t)) l = _
  rw [sm_pt, row_pt, seq_pt, tm_pt]

theorem f14 (s : Fin 2) (t : Fin 1024) (l : Fin 1024) :
    ((dats m 0 c).arrAt 14 cfg0.N : FVec Ideal S2048x1024 .bf16) (ix2 (nrow s t) l) = kout (inp m c s) (cosv m c t) (sinv m c t) (sb t) (st t) l := by
  have ee : (win0_14.rect (pt s t)).emb (ix2 (n0 := 512) (n1 := 1024) (loc t) l) = ix2 (nrow s t) l :=
    embv ![512 * (pt s t).val, 0] ((by decide +kernel : ∀ t : Fin grid0.N, ∀ a, (win0_14.rect t).off a = ![512 * t.val, 0] a ∧ (win0_14.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks14 m c (pt s t) (flush0_14 _)) (ix2 (n0 := 512) (n1 := 1024) (loc t) l)
  rw [flushed14_A] at hb
  rw [← ee]
  refine (show _ = _ from hb).trans ?_
  refine (IBody.out14 _ _ _ _ _ _ _ _ _ _ _ _ _ _ _ _ _ _ _ _ _ _ _ _ _ _ _ _ _ _ _ _ _ _ _ _ _ _ _ _ (blockIs m c (pt s t)) (crd (pt s t)) (loc t) l).trans ?_
  show kout (inp m c (sm (pt s t))) (cosv m c (row (pt s t) (loc t))) (sinv m c (row (pt s t) (loc t))) (seq (bl (pt s t)) (loc t)) (tm (loc t)) l = _
  rw [sm_pt, row_pt, seq_pt, tm_pt]

theorem f15 (s : Fin 2) (t : Fin 1024) (l : Fin 512) :
    ((dats m 0 c).arrAt 15 cfg0.N : FVec Ideal S2048x512 .bf16) (ix2 (nrow s t) l) = vfull (inp m c s) (sb t) (st t) l := by
  have ee : (win0_15.rect (pt s t)).emb (ix2 (n0 := 512) (n1 := 512) (loc t) l) = ix2 (nrow s t) l :=
    embv ![512 * (pt s t).val, 0] ((by decide +kernel : ∀ t : Fin grid0.N, ∀ a, (win0_15.rect t).off a = ![512 * t.val, 0] a ∧ (win0_15.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks15 m c (pt s t) (flush0_15 _)) (ix2 (n0 := 512) (n1 := 512) (loc t) l)
  rw [flushed15_A] at hb
  rw [← ee]
  refine (show _ = _ from hb).trans ?_
  refine (IBody.out15 _ _ _ _ _ _ _ _ _ _ _ _ _ _ _ _ _ _ _ _ _ _ _ _ _ _ _ _ _ _ _ _ _ _ _ _ _ _ _ _ (blockIs m c (pt s t)) (crd (pt s t)) (loc t) l).trans ?_
  show vfull (inp m c (sm (pt s t))) (seq (bl (pt s t)) (loc t)) (tm (loc t)) l = _
  rw [sm_pt, seq_pt, tm_pt]

theorem f16 (s : Fin 2) (t : Fin 1024) (l : Fin 256) :
    ((dats m 0 c).arrAt 16 cfg0.N : FVec Ideal S2048x256 .f32) (ix2 (nrow s t) l) = ckv (inp m c s) (sb t) (st t) l := by
  have ee : (win0_16.rect (pt s t)).emb (ix2 (n0 := 512) (n1 := 256) (loc t) l) = ix2 (nrow s t) l :=
    embv ![512 * (pt s t).val, 0] ((by decide +kernel : ∀ t : Fin grid0.N, ∀ a, (win0_16.rect t).off a = ![512 * t.val, 0] a ∧ (win0_16.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks16 m c (pt s t) (flush0_16 _)) (ix2 (n0 := 512) (n1 := 256) (loc t) l)
  rw [flushed16_A] at hb
  rw [← ee]
  refine (show _ = _ from hb).trans ?_
  refine (IBody.out16 _ _ _ _ _ _ _ _ _ _ _ _ _ _ _ _ _ _ _ _ _ _ _ _ _ _ _ _ _ _ _ _ _ _ _ _ _ _ _ _ (blockIs m c (pt s t)) (crd (pt s t)) (loc t) l).trans ?_
  show ckv (inp m c (sm (pt s t))) (seq (bl (pt s t)) (loc t)) (tm (loc t)) l = _
  rw [sm_pt, seq_pt, tm_pt]

theorem f17 (s : Fin 2) (t : Fin 1024) (l : Fin 128) :
    ((dats m 0 c).arrAt 17 cfg0.N : FVec Ideal S2048x128 .f32) (ix2 (nrow s t) l) = pout (inp m c s) (cosv m c t) (sinv m c t) (sb t) (st t) l := by
  have ee : (win0_17.rect (pt s t)).emb (ix2 (n0 := 512) (n1 := 128) (loc t) l) = ix2 (nrow s t) l :=
    embv ![512 * (pt s t).val, 0] ((by decide +kernel : ∀ t : Fin grid0.N, ∀ a, (win0_17.rect t).off a = ![512 * t.val, 0] a ∧ (win0_17.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks17 m c (pt s t) (flush0_17 _)) (ix2 (n0 := 512) (n1 := 128) (loc t) l)
  rw [flushed17_A] at hb
  rw [← ee]
  refine (show _ = _ from hb).trans ?_
  refine (IBody.out17 _ _ _ _ _ _ _ _ _ _ _ _ _ _ _ _ _ _ _ _ _ _ _ _ _ _ _ _ _ _ _ _ _ _ _ _ _ _ _ _ (blockIs m c (pt s t)) (crd (pt s t)) (loc t) l).trans ?_
  show pout (inp m c (sm (pt s t))) (cosv m c (row (pt s t) (loc t))) (sinv m c (row (pt s t) (loc t))) (seq (bl (pt s t)) (loc t)) (tm (loc t)) l = _
  rw [sm_pt, row_pt, seq_pt, tm_pt]

theorem f18 (s : Fin 2) (t : Fin 1024) (l : Fin 3584) :
    ((dats m 0 c).arrAt 18 cfg0.N : FVec Ideal S2048x3584 .f32) (ix2 (nrow s t) l) = hout (inp m c s) (sb t) (st t) l := by
  have ee : (win0_18.rect (pt s t)).emb (ix2 (n0 := 512) (n1 := 3584) (loc t) l) = ix2 (nrow s t) l :=
    embv ![512 * (pt s t).val, 0] ((by decide +kernel : ∀ t : Fin grid0.N, ∀ a, (win0_18.rect t).off a = ![512 * t.val, 0] a ∧ (win0_18.rect t).stride a = 1) _) fun a => by
      match a with
      | ⟨0, _⟩ => show 512 * (2 * s.val + t.val / 512) + t.val % 512 = 1024 * s.val + t.val; omega
      | ⟨1, _⟩ => show 0 + l.val = l.val; omega
  have hb := congrFun (blocks18 m c (pt s t) (flush0_18 _)) (ix2 (n0 := 512) (n1 := 3584) (loc t) l)
  rw [flushed18_A] at hb
  rw [← ee]
  refine (show _ = _ from hb).trans ?_
  refine (IBody.out18 _ _ _ _ _ _ _ _ _ _ _ _ _ _ _ _ _ _ _ _ _ _ _ _ _ _ _ _ _ _ _ _ _ _ _ _ _ _ _ _ (blockIs m c (pt s t)) (crd (pt s t)) (loc t) l).trans ?_
  show hout (inp m c (sm (pt s t))) (seq (bl (pt s t)) (loc t)) (tm (loc t)) l = _
  rw [sm_pt, seq_pt, tm_pt]

end Cert.IFin

end
-- ==== Proof.RIn.lean ====
module

public import proofs.«01_k».proof.Proof.IFin
public import proofs.«01_k».proof.Proof.RHgrn
public import proofs.«01_k».proof.Proof.Gen.Reference4Ideal.Run

/-
The sample group's input projections: the reference's results, entry by entry.
-/

@[expose] public section

set_option maxRecDepth 16384

noncomputable section

namespace Cert.RIn

open Cert.Reference4Ideal Cert.Reference4Ideal.Gen Cert.Reference4Ideal.Value Idealize.ShloMosaic Idealize.ShloMosaic.TcCoe Idealize.SL.Sem
open Cert.Spec
open Cert.IFin (sb st)
open Cert.IBody (rot qout kout pout hout)
open Cert.KProj (vfull)

/-! ## The results as functions of their operands -/

def qpeV (X1 X2 : FVec Ideal S2x1024x8x16 .f32) (C S : FVec Ideal S1x1024x1x16 .f32) : FVec Ideal S2x1024x8x32 .f32 :=
  (shapeCast _ (concatenate S2x1024x8x16x2 4 [⟨S2x1024x8x16x1, (broadcastInDim S2x1024x8x16x1 ![0, 1, 2, 3] bcast_S2x1024x8x16_S2x1024x8x16x1_0_1_2_3 (subf (mulf X1 (broadcastInDim S2x1024x8x16 ![0, 1, 2, 3] bcast_S1x1024x1x16_S2x1024x8x16_0_1_2_3 C)) (mulf X2 (broadcastInDim S2x1024x8x16 ![0, 1, 2, 3] bcast_S1x1024x1x16_S2x1024x8x16_0_1_2_3 S))))⟩, ⟨S2x1024x8x16x1, (broadcastInDim S2x1024x8x16x1 ![0, 1, 2, 3] bcast_S2x1024x8x16_S2x1024x8x16x1_0_1_2_3 (addf (mulf X1 (broadcastInDim S2x1024x8x16 ![0, 1, 2, 3] bcast_S1x1024x1x16_S2x1024x8x16_0_1_2_3 S)) (mulf X2 (broadcastInDim S2x1024x8x16 ![0, 1, 2, 3] bcast_S1x1024x1x16_S2x1024x8x16_0_1_2_3 C))))⟩] concatenates_S2x1024x8x16x1_S2x1024x8x16x1_S2x1024x8x16x2_d4) shapeCasts_S2x1024x8x16x2_S2x1024x8x32)
def kpeV (X1 X2 : FVec Ideal S2x1024x1x16 .f32) (C S : FVec Ideal S1x1024x1x16 .f32) : FVec Ideal S2x1024x1x32 .f32 :=
  shapeCast _ (concatenate S2x1024x1x16x2 4 [⟨S2x1024x1x16x1, (broadcastInDim S2x1024x1x16x1 ![0, 1, 2, 3] bcast_S2x1024x1x16_S2x1024x1x16x1_0_1_2_3 (subf (mulf X1 (broadcastInDim S2x1024x1x16 ![0, 1, 2, 3] bcast_S1x1024x1x16_S2x1024x1x16_0_1_2_3 C)) (mulf X2 (broadcastInDim S2x1024x1x16 ![0, 1, 2, 3] bcast_S1x1024x1x16_S2x1024x1x16_0_1_2_3 S))))⟩, ⟨S2x1024x1x16x1, (broadcastInDim S2x1024x1x16x1 ![0, 1, 2, 3] bcast_S2x1024x1x16_S2x1024x1x16x1_0_1_2_3 (addf (mulf X1 (broadcastInDim S2x1024x1x16 ![0, 1, 2, 3] bcast_S1x1024x1x16_S2x1024x1x16_0_1_2_3 S)) (mulf X2 (broadcastInDim S2x1024x1x16 ![0, 1, 2, 3] bcast_S1x1024x1x16_S2x1024x1x16_0_1_2_3 C))))⟩] concatenates_S2x1024x1x16x1_S2x1024x1x16x1_S2x1024x1x16x2_d4) shapeCasts_S2x1024x1x16x2_S2x1024x1x32
def qV (A : FVec Ideal S2x1024x8x96 .f32) (P Z : FVec Ideal S2x1024x8x32 .f32) : FVec Ideal S2048x1024 .bf16 :=
  truncf .bf16 (shapeCast _ ((concatenate S2x1024x8x128 3 [⟨S2x1024x8x64, ((extractStridedSlice S2x1024x8x64 ![0, 0, 0, 0] A slices_S2x1024x8x96_S2x1024x8x64_0_0_0_0) : (⟨S2x1024x8x64, .f32⟩ : BufTy).Contents (Elt Ideal))⟩, ⟨S2x1024x8x32, (P : (⟨S2x1024x8x32, .f32⟩ : BufTy).Contents (Elt Ideal))⟩, ⟨S2x1024x8x32, (Z : (⟨S2x1024x8x32, .f32⟩ : BufTy).Contents (Elt Ideal))⟩] concatenates_S2x1024x8x64_S2x1024x8x32_S2x1024x8x32_S2x1024x8x128_d3 : (⟨S2x1024x8x128, .f32⟩ : BufTy).Contents (Elt Ideal))) shapeCasts_S2x1024x8x128_S2048x1024) bitsLt_bf16_f32
def kV (A : FVec Ideal S2x1024x8x128 .f32) (P : FVec Ideal S2x1024x1x32 .f32) (Z : FVec Ideal S2x1024x8x32 .f32) : FVec Ideal S2048x1024 .bf16 :=
  truncf .bf16 (shapeCast _ ((concatenate S2x1024x8x128 3 [⟨S2x1024x8x64, ((extractStridedSlice S2x1024x8x64 ![0, 0, 0, 0] A slices_S2x1024x8x128_S2x1024x8x64_0_0_0_0) : (⟨S2x1024x8x64, .f32⟩ : BufTy).Contents (Elt Ideal))⟩, ⟨S2x1024x8x32, ((broadcastInDim S2x1024x8x32 ![0, 1, 2, 3] bcast_S2x1024x1x32_S2x1024x8x32_0_1_2_3 P) : (⟨S2x1024x8x32, .f32⟩ : BufTy).Contents (Elt Ideal))⟩, ⟨S2x1024x8x32, (Z : (⟨S2x1024x8x32, .f32⟩ : BufTy).Contents (Elt Ideal))⟩] concatenates_S2x1024x8x64_S2x1024x8x32_S2x1024x8x32_S2x1024x8x128_d3 : (⟨S2x1024x8x128, .f32⟩ : BufTy).Contents (Elt Ideal))) shapeCasts_S2x1024x8x128_S2048x1024) bitsLt_bf16_f32
def vV (A : FVec Ideal S2x1024x8x128 .f32) : FVec Ideal S2048x512 .bf16 :=
  truncf .bf16 (shapeCast _ (extractStridedSlice S2x1024x8x64 ![0, 0, 0, 64] A slices_S2x1024x8x128_S2x1024x8x64_0_0_0_64) shapeCasts_S2x1024x8x64_S2048x512) bitsLt_bf16_f32
def cV (A : FVec Ideal S2x1024x256 .f32) : FVec Ideal S2048x256 .f32 :=
  shapeCast _ A shapeCasts_S2x1024x256_S2048x256
def pV (P : FVec Ideal S2x1024x1x32 .f32) : FVec Ideal S2048x128 .f32 :=
  pad S2048x128 ![0, 0] ![0, 96] ![0, 0] (shapeCast _ P shapeCasts_S2x1024x1x32_S2048x32) (sitofp .f32 (constantI S_ 32 0#32)) pads_S2048x32_S2048x128_000_0960 h_S_
def sqV (A : FVec Ideal S2x1024x512 .f32) : FVec Ideal S2048x512 .f32 :=
  (shapeCast _ (mulf A (Host.divf (broadcastInDim S2x1024x512 ![] bcast_S_S2x1024x512 (constant S_ .f32 0x3F800000#32)) (addf (broadcastInDim S2x1024x512 ![] bcast_S_S2x1024x512 (constant S_ .f32 0x3F800000#32)) (Host.exp (Host.negf A))))) shapeCasts_S2x1024x512_S2048x512)
def lfV (A : FVec Ideal S2x1024x4x128 .f32) : FVec Ideal S2048x512 .f32 :=
  (shapeCast _ (Host.log A) shapeCasts_S2x1024x4x128_S2048x512)
def hkV (A : FVec Ideal S2x1024x4x128 .f32) : FVec Ideal S2048x512 .f32 :=
  (shapeCast _ (subf (broadcastInDim S2x1024x4x128 ![] bcast_S_S2x1024x4x128 (constant S_ .f32 0x3F800000#32)) A) shapeCasts_S2x1024x4x128_S2048x512)
def hiV (A : FVec Ideal S2x1024x5664 .f32) : FVec Ideal S2048x512 .f32 :=
  (shapeCast _ (extractStridedSlice S2x1024x512 ![0, 0, 2592] A slices_S2x1024x5664_S2x1024x512_0_0_2592) shapeCasts_S2x1024x512_S2048x512)
def hgV (A : FVec Ideal S2x1024x5664 .f32) : FVec Ideal S2048x512 .f32 :=
  (shapeCast _ (extractStridedSlice S2x1024x512 ![0, 0, 3104] A slices_S2x1024x5664_S2x1024x512_0_0_3104) shapeCasts_S2x1024x512_S2048x512)
def hV (u0 u1 u2 u3 u4 u5 u6 : FVec Ideal S2048x512 .f32) : FVec Ideal S2048x3584 .f32 :=
  (concatenate S2048x3584 1 [⟨S2048x512, (u0 : (⟨S2048x512, .f32⟩ : BufTy).Contents (Elt Ideal))⟩, ⟨S2048x512, (u1 : (⟨S2048x512, .f32⟩ : BufTy).Contents (Elt Ideal))⟩, ⟨S2048x512, (u2 : (⟨S2048x512, .f32⟩ : BufTy).Contents (Elt Ideal))⟩, ⟨S2048x512, (u3 : (⟨S2048x512, .f32⟩ : BufTy).Contents (Elt Ideal))⟩, ⟨S2048x512, (u4 : (⟨S2048x512, .f32⟩ : BufTy).Contents (Elt Ideal))⟩, ⟨S2048x512, (u5 : (⟨S2048x512, .f32⟩ : BufTy).Contents (Elt Ideal))⟩, ⟨S2048x512, (u6 : (⟨S2048x512, .f32⟩ : BufTy).Contents (Elt Ideal))⟩] concatenates_S2048x512_S2048x512_S2048x512_S2048x512_S2048x512_S2048x512_S2048x512_S2048x3584_d1 : (⟨S2048x3584, .f32⟩ : BufTy).Contents (Elt Ideal))

/-- A row of the 2048: its sample and its row there. -/
def sN (n : Fin 2048) : Fin 2 := ⟨n / 1024, by omega⟩
def tN (n : Fin 2048) : Fin 1024 := ⟨n % 1024, by omega⟩

theorem qpeV_apply (X1 X2 : FVec Ideal S2x1024x8x16 .f32) (C S : FVec Ideal S1x1024x1x16 .f32) (s : Fin 2) (t : Fin 1024) (hd : Fin 8) (e : Fin 32) :
    qpeV X1 X2 C S (ix4 s t hd e) = if e.val % 2 = 0 then X1 (ix4 s t hd ⟨e / 2, by omega⟩) * C (ix4 0 t 0 ⟨e / 2, by omega⟩) - X2 (ix4 s t hd ⟨e / 2, by omega⟩) * S (ix4 0 t 0 ⟨e / 2, by omega⟩)
      else X1 (ix4 s t hd ⟨e / 2, by omega⟩) * S (ix4 0 t 0 ⟨e / 2, by omega⟩) + X2 (ix4 s t hd ⟨e / 2, by omega⟩) * C (ix4 0 t 0 ⟨e / 2, by omega⟩) := by
  pointwise [qpeV]
  by_cases h : e.val % 2 = 0
  · refine Eq.trans ?_ (if_pos h).symm
    exact dif_pos (show e.val % 2 < 1 by omega)
  · refine Eq.trans ?_ (if_neg h).symm
    exact dif_neg (show ¬ e.val % 2 < 1 by omega)

theorem kpeV_apply (X1 X2 : FVec Ideal S2x1024x1x16 .f32) (C S : FVec Ideal S1x1024x1x16 .f32) (s : Fin 2) (t : Fin 1024) (e : Fin 32) :
    kpeV X1 X2 C S (ix4 s t 0 e) = if e.val % 2 = 0 then X1 (ix4 s t 0 ⟨e / 2, by omega⟩) * C (ix4 0 t 0 ⟨e / 2, by omega⟩) - X2 (ix4 s t 0 ⟨e / 2, by omega⟩) * S (ix4 0 t 0 ⟨e / 2, by omega⟩)
      else X1 (ix4 s t 0 ⟨e / 2, by omega⟩) * S (ix4 0 t 0 ⟨e / 2, by omega⟩) + X2 (ix4 s t 0 ⟨e / 2, by omega⟩) * C (ix4 0 t 0 ⟨e / 2, by omega⟩) := by
  pointwise [kpeV]
  by_cases h : e.val % 2 = 0
  · refine Eq.trans ?_ (if_pos h).symm
    exact dif_pos (show e.val % 2 < 1 by omega)
  · refine Eq.trans ?_ (if_neg h).symm
    exact dif_neg (show ¬ e.val % 2 < 1 by omega)

theorem qV_apply (A : FVec Ideal S2x1024x8x96 .f32) (P Z : FVec Ideal S2x1024x8x32 .f32) (n : Fin 2048) (l : Fin 1024) :
    qV A P Z (ix2 n l) = if h : l.val % 128 < 64 then A (ix4 (sN n) (tN n) ⟨l / 128, by omega⟩ ⟨l % 128, by omega⟩)
      else if h2 : l.val % 128 < 96 then P (ix4 (sN n) (tN n) ⟨l / 128, by omega⟩ ⟨l % 128 - 64, by omega⟩) else Z (ix4 (sN n) (tN n) ⟨l / 128, by omega⟩ ⟨l % 128 - 96, by omega⟩) := by
  pointwise [qV]
  refine dite_congr rfl (fun _ => rfl) fun h => ?_
  by_cases h2 : l.val % 128 < 96
  · refine (dif_pos (by omega)).trans (Eq.trans ?_ (dif_pos h2).symm)
    rfl
  · refine (dif_neg (by omega)).trans (Eq.trans ?_ (dif_neg h2).symm)
    exact congrArg (fun u => Z (ix4 _ _ _ u)) (Fin.ext (by dsimp only; omega))

theorem kV_apply (A : FVec Ideal S2x1024x8x128 .f32) (P : FVec Ideal S2x1024x1x32 .f32) (Z : FVec Ideal S2x1024x8x32 .f32) (n : Fin 2048) (l : Fin 1024) :
    kV A P Z (ix2 n l) = if h : l.val % 128 < 64 then A (ix4 (sN n) (tN n) ⟨l / 128, by omega⟩ ⟨l % 128, by omega⟩)
      else if h2 : l.val % 128 < 96 then P (ix4 (sN n) (tN n) 0 ⟨l % 128 - 64, by omega⟩) else Z (ix4 (sN n) (tN n) ⟨l / 128, by omega⟩ ⟨l % 128 - 96, by omega⟩) := by
  pointwise [kV]
  refine dite_congr rfl (fun _ => rfl) fun h => ?_
  by_cases h2 : l.val % 128 < 96
  · refine (dif_pos (by omega)).trans (Eq.trans ?_ (dif_pos h2).symm)
    rfl
  · refine (dif_neg (by omega)).trans (Eq.trans ?_ (dif_neg h2).symm)
    exact congrArg (fun u => Z (ix4 _ _ _ u)) (Fin.ext (by dsimp only; omega))

theorem vV_apply (A : FVec Ideal S2x1024x8x128 .f32) (n : Fin 2048) (l : Fin 512) :
    vV A (ix2 n l) = A (ix4 (sN n) (tN n) ⟨l / 64, by omega⟩ ⟨64 + l % 64, by omega⟩) := by
  pointwise [vV]
  rfl
theorem cV_apply (A : FVec Ideal S2x1024x256 .f32) (n : Fin 2048) (l : Fin 256) : cV A (ix2 n l) = A (ix3 (sN n) (tN n) l) := by
  pointwise [cV]
  rfl
theorem pV_apply (P : FVec Ideal S2x1024x1x32 .f32) (n : Fin 2048) (l : Fin 128) :
    pV P (ix2 n l) = if h : l.val < 32 then P (ix4 (sN n) (tN n) 0 ⟨l, h⟩) else (0 : EReal) := by
  pointwise [pV]
  refine dite_congr rfl (fun _ => rfl) fun _ => ?_
  first | rfl | exact KWin.sz

theorem sqV_apply (A : FVec Ideal S2x1024x512 .f32) (n : Fin 2048) (j : Fin 512) :
    sqV A (ix2 n j) = A (ix3 (sN n) (tN n) j) * Ideal.logistic (A (ix3 (sN n) (tN n) j)) := by
  unfold Ideal.logistic
  pointwise [sqV]
  rfl
theorem lfV_apply (A : FVec Ideal S2x1024x4x128 .f32) (n : Fin 2048) (j : Fin 512) :
    lfV A (ix2 n j) = Ideal.log (A (ix4 (sN n) (tN n) ⟨j / 128, by omega⟩ ⟨j % 128, by omega⟩)) := by
  pointwise [lfV]
  rfl
theorem hkV_apply (A : FVec Ideal S2x1024x4x128 .f32) (n : Fin 2048) (j : Fin 512) :
    hkV A (ix2 n j) = (1 : EReal) - A (ix4 (sN n) (tN n) ⟨j / 128, by omega⟩ ⟨j % 128, by omega⟩) := by
  pointwise [hkV]
  rfl
theorem hiV_apply (A : FVec Ideal S2x1024x5664 .f32) (n : Fin 2048) (j : Fin 512) : hiV A (ix2 n j) = A (ix3 (sN n) (tN n) ⟨2592 + j, by omega⟩) := by
  pointwise [hiV]
  rfl
theorem hgV_apply (A : FVec Ideal S2x1024x5664 .f32) (n : Fin 2048) (j : Fin 512) : hgV A (ix2 n j) = A (ix3 (sN n) (tN n) ⟨3104 + j, by omega⟩) := by
  pointwise [hgV]
  rfl
theorem hV_apply (u0 u1 u2 u3 u4 u5 u6 : FVec Ideal S2048x512 .f32) (n : Fin 2048) (l : Fin 3584) : hV u0 u1 u2 u3 u4 u5 u6 (ix2 n l)
    = if h : l.val < 512 then u0 (ix2 n ⟨l, h⟩) else if h : l.val < 1024 then u1 (ix2 n ⟨l - 512, by omega⟩)
      else if h : l.val < 1536 then u2 (ix2 n ⟨l - 1024, by omega⟩) else if h : l.val < 2048 then u3 (ix2 n ⟨l - 1536, by omega⟩)
      else if h : l.val < 2560 then u4 (ix2 n ⟨l - 2048, by omega⟩) else if h : l.val < 3072 then u5 (ix2 n ⟨l - 2560, by omega⟩)
      else u6 (ix2 n ⟨l - 3072, by omega⟩) := by
  pointwise [hV]
  repeat' split
  all_goals first
    | rfl
    | exact congrArg _ (congrArg (ix2 n) (Fin.ext (by dsimp only; omega)))
    | (exfalso; omega)

/-! ## The operands -/

variable (V0 : Valuation τ sig (Elt Ideal))

/-- The reference's arguments, read at their coordinates. -/
def inp (s : Fin 2) : Spec.Inp :=
  IWin.smp s (V0 (Proc.devRef .tc main_arg0)) (V0 (Proc.devRef .tc main_arg1)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9))
def cosv (t : Fin 1024) (p : Fin 16) : EReal := (V0 (Proc.devRef .tc main_arg2) : FVec Ideal S1024x16 .f32) (ix2 t p)
def sinv (t : Fin 1024) (p : Fin 16) : EReal := (V0 (Proc.devRef .tc main_arg3) : FVec Ideal S1024x16 .f32) (ix2 t p)

theorem xs (s : Fin 2) (t d : Fin 1024) : (inp V0 s).x (sb t) (st t) d = (V0 (Proc.devRef .tc main_arg0) : FVec Ideal S2x1024x1024 .f32) (ix3 s t d) :=
  congrArg (fun u => (V0 (Proc.devRef .tc main_arg0) : FVec Ideal S2x1024x1024 .f32) (ix3 s u d)) (Fin.ext (by
    show (256 * (t.val / 256) + t.val % 256) % 1024 = t.val
    omega))

theorem t25 (s : Fin 2) (t : Fin 1024) (j : Fin 5664) : (res_main_v25 V0 : FVec Ideal S2x1024x5664 .f32) (ix3 s t j) = proj (inp V0 s) (sb t) (st t) j := by
  pointwise [res_main_v25]
  unfold proj h
  simp only [xs]
  rfl

theorem t51 (s : Fin 2) (t : Fin 1024) (hd : Fin 8) (e : Fin 96) : (res_main_v51 V0 : FVec Ideal S2x1024x8x96 .f32) (ix4 s t hd e) = q (inp V0 s) (sb t) (st t) ⟨96 * hd + e, by omega⟩ := by
  pointwise [res_main_v51, res_main_v26]
  simp only [t25]
  unfold q
  exact Finset.sum_congr (M := EReal) rfl fun i _ => congrArg (_ * ·) (congrArg ((inp V0 s).wuq i) (Fin.ext (by dsimp only <;> omega)))

theorem t88 (s : Fin 2) (t : Fin 1024) (j : Fin 256) : (res_main_v88 V0 : FVec Ideal S2x1024x256 .f32) (ix3 s t j) = ckv (inp V0 s) (sb t) (st t) j := by
  pointwise [res_main_v88, res_main_v27]
  simp only [t25]
  rfl

theorem t91 (s : Fin 2) (t : Fin 1024) (hd : Fin 8) (e : Fin 128) : (res_main_v91 V0 : FVec Ideal S2x1024x8x128 .f32) (ix4 s t hd e) = kv (inp V0 s) (sb t) (st t) ⟨128 * hd + e, by omega⟩ := by
  pointwise [res_main_v91]
  simp only [t88]
  unfold kv
  exact Finset.sum_congr (M := EReal) rfl fun i _ => congrArg (_ * ·) (congrArg ((inp V0 s).wukv i) (Fin.ext (by dsimp only <;> omega)))

theorem t56 (s : Fin 2) (t : Fin 1024) (hd : Fin 8) (p : Fin 16) : (res_main_v56 V0 : FVec Ideal S2x1024x8x16 .f32) (ix4 s t hd p) = q (inp V0 s) (sb t) (st t) ⟨96 * hd + 64 + 2 * p, by omega⟩ := by
  pointwise [res_main_v56, res_main_v54]
  rw [t51]
  exact congrArg _ (Fin.ext (by dsimp only; omega))
theorem t58 (s : Fin 2) (t : Fin 1024) (hd : Fin 8) (p : Fin 16) : (res_main_v58 V0 : FVec Ideal S2x1024x8x16 .f32) (ix4 s t hd p) = q (inp V0 s) (sb t) (st t) ⟨96 * hd + 64 + (2 * p + 1), by omega⟩ := by
  pointwise [res_main_v58, res_main_v54]
  rw [t51]
  exact congrArg _ (Fin.ext (by dsimp only; omega))
theorem t97 (s : Fin 2) (t : Fin 1024) (p : Fin 16) : (res_main_v97 V0 : FVec Ideal S2x1024x1x16 .f32) (ix4 s t 0 p) = kpe (inp V0 s) (sb t) (st t) ⟨2 * p, by omega⟩ := by
  pointwise [res_main_v97, res_main_v95]
  rw [t25]
  exact congrArg _ (Fin.ext (by dsimp only; omega))
theorem t99 (s : Fin 2) (t : Fin 1024) (p : Fin 16) : (res_main_v99 V0 : FVec Ideal S2x1024x1x16 .f32) (ix4 s t 0 p) = kpe (inp V0 s) (sb t) (st t) ⟨2 * p + 1, by omega⟩ := by
  pointwise [res_main_v99, res_main_v95]
  rw [t25]
  exact congrArg _ (Fin.ext (by dsimp only; omega))
theorem t59 (t : Fin 1024) (p : Fin 16) : (res_main_v59 V0 : FVec Ideal S1x1024x1x16 .f32) (ix4 0 t 0 p) = cosv V0 t p := by
  unfold cosv
  pointwise [res_main_v59]
theorem t60 (t : Fin 1024) (p : Fin 16) : (res_main_v60 V0 : FVec Ideal S1x1024x1x16 .f32) (ix4 0 t 0 p) = sinv V0 t p := by
  unfold sinv
  pointwise [res_main_v60]
theorem t100 (t : Fin 1024) (p : Fin 16) : (res_main_v100 V0 : FVec Ideal S1x1024x1x16 .f32) (ix4 0 t 0 p) = cosv V0 t p := by
  unfold cosv
  pointwise [res_main_v100]
theorem t101 (t : Fin 1024) (p : Fin 16) : (res_main_v101 V0 : FVec Ideal S1x1024x1x16 .f32) (ix4 0 t 0 p) = sinv V0 t p := by
  unfold sinv
  pointwise [res_main_v101]

theorem rot_of (x : Fin 32 → EReal) (C S : Fin 16 → EReal) (e : Fin 32) (a b : EReal) (ha : a = x ⟨2 * (e / 2), by omega⟩) (hb : b = x ⟨2 * (e / 2) + 1, by omega⟩) :
    (if e.val % 2 = 0 then a * C ⟨e / 2, by omega⟩ - b * S ⟨e / 2, by omega⟩ else a * S ⟨e / 2, by omega⟩ + b * C ⟨e / 2, by omega⟩) = rot x C S e := by
  unfold rot
  by_cases h : e.val % 2 = 0
  · rw [if_pos h, dif_pos h, ha, hb]
    exact congrArg₂ (fun u v => x u * C _ - x v * S _) (Fin.ext (by dsimp only; omega)) (Fin.ext (by dsimp only; omega))
  · rw [if_neg h, dif_neg h, ha, hb]
    exact congrArg₂ (fun u v => x u * S _ + x v * C _) (Fin.ext (by dsimp only; omega)) (Fin.ext (by dsimp only; omega))

theorem t74 (s : Fin 2) (t : Fin 1024) (hd : Fin 8) (e : Fin 32) : qpeV (res_main_v56 V0) (res_main_v58 V0) (res_main_v59 V0) (res_main_v60 V0) (ix4 s t hd e)
    = rot (fun e => q (inp V0 s) (sb t) (st t) ⟨96 * hd + 64 + e, by omega⟩) (cosv V0 t) (sinv V0 t) e := by
  refine (qpeV_apply _ _ _ _ s t hd e).trans ?_
  rw [t59, t60]
  exact rot_of _ _ _ e _ _ (t56 V0 s t hd _) (t58 V0 s t hd _)

theorem t115 (s : Fin 2) (t : Fin 1024) (e : Fin 32) : (res_main_v115 V0 : FVec Ideal S2x1024x1x32 .f32) (ix4 s t 0 e)
    = rot (kpe (inp V0 s) (sb t) (st t)) (cosv V0 t) (sinv V0 t) e := by
  refine (congrFun (show (res_main_v115 V0 : FVec Ideal S2x1024x1x32 .f32) = kpeV (res_main_v97 V0) (res_main_v99 V0) (res_main_v100 V0) (res_main_v101 V0) from rfl) _).trans ?_
  refine (kpeV_apply _ _ _ _ s t e).trans ?_
  rw [t100, t101]
  exact rot_of _ _ _ e _ _ (t97 V0 s t _) (t99 V0 s t _)

theorem t156 (s : Fin 2) (t : Fin 1024) (hd : Fin 8) (e : Fin 32) : (res_main_v156 V0 : FVec Ideal S2x1024x8x32 .f32) (ix4 s t hd e) = (0 : EReal) := by
  pointwise [res_main_v156]

theorem t10 (s : Fin 2) (a u : Fin 2) (j : Fin 512) : (res_main_v10 V0 : FVec Ideal S2x2x512 .f32) (ix3 a u j)
    = Ideal.exp ((inp V0 s).gam a u j - max ((inp V0 s).gam a 0 j) ((inp V0 s).gam a 1 j)) := by
  refine (congrFun (show (res_main_v10 V0 : FVec Ideal S2x2x512 .f32) = RHgrn.gexpV (V0 (Proc.devRef .tc main_arg9)) (Host.reduce (FloatOps.maximumf (F := Ideal) (φ := .f32)) (V0 (Proc.devRef .tc main_arg9)) (constant S_ .f32 0xFF800000#32) reducesTo_S2x2x512_S2x512_d1 h_S_) from rfl) _).trans ?_
  refine (RHgrn.gexpV_apply _ _ a u j).trans ?_
  rw [show Host.reduce (FloatOps.maximumf (F := Ideal) (φ := .f32)) (V0 (Proc.devRef .tc main_arg9)) (constant S_ .f32 0xFF800000#32) reducesTo_S2x2x512_S2x512_d1 h_S_ (ix2 a j) = _ from RHgrn.hmax2 (V0 (Proc.devRef .tc main_arg9)) a j, RSoft.ninf, max_eq_right bot_le]
  rfl
theorem t17 (s : Fin 2) (a : Fin 2) (j : Fin 512) : (res_main_v17 V0 : FVec Ideal S2x512 .f32) (ix2 a j) = lb (inp V0 s) a j := by
  refine (congrFun (show (res_main_v17 V0 : FVec Ideal S2x512 .f32) = RHgrn.firstV (RHgrn.winV (RHgrn.quotV (res_main_v10 V0))) from rfl) _).trans ?_
  refine (RHgrn.firstV_apply _ a j).trans ?_
  rw [RHgrn.winV_apply, RHgrn.quotV_apply, Fin.sum_univ_two]
  have e := t10 V0 s
  refine congrArg₂ Ideal.div (e a 0 j) (congrArg₂ (· + ·) (e a 0 j) (e a 1 j))

theorem t132 (s : Fin 2) (t : Fin 1024) (hd : Fin 4) (e : Fin 128) : (res_main_v132 V0 : FVec Ideal S2x1024x4x128 .f32) (ix4 s t hd e) = ff (inp V0 s) 0 (sb t) (st t) ⟨128 * hd + e, by omega⟩ := by
  pointwise [res_main_v132, res_main_v117]
  simp only [t17 V0 s, t25]
  unfold ff Ideal.logistic
  exact congrArg₂ (fun u v => lb (inp V0 s) 0 u + (1 - lb (inp V0 s) 0 u) * Ideal.div 1 (1 + Ideal.exp (-proj (inp V0 s) (sb t) (st t) v)))
    (Fin.ext (by dsimp only; omega)) (Fin.ext (by show 1568 + (hd.val * 128 + e.val) = 1568 + 512 * 0 + (128 * hd.val + e.val); omega))
theorem t152 (s : Fin 2) (t : Fin 1024) (hd : Fin 4) (e : Fin 128) : (res_main_v152 V0 : FVec Ideal S2x1024x4x128 .f32) (ix4 s t hd e) = ff (inp V0 s) 1 (sb t) (st t) ⟨128 * hd + e, by omega⟩ := by
  pointwise [res_main_v152, res_main_v137]
  simp only [t17 V0 s, t25]
  unfold ff Ideal.logistic
  exact congrArg₂ (fun u v => lb (inp V0 s) 1 u + (1 - lb (inp V0 s) 1 u) * Ideal.div 1 (1 + Ideal.exp (-proj (inp V0 s) (sb t) (st t) v)))
    (Fin.ext (by dsimp only; omega)) (Fin.ext (by show 2080 + (hd.val * 128 + e.val) = 1568 + 512 * 1 + (128 * hd.val + e.val); omega))

/-! ## The results -/

theorem eq (n : Fin 2048) (l : Fin 1024) : qV (res_main_v51 V0) (qpeV (res_main_v56 V0) (res_main_v58 V0) (res_main_v59 V0) (res_main_v60 V0)) (res_main_v156 V0) (ix2 n l)
    = qout (inp V0 (sN n)) (cosv V0 (tN n)) (sinv V0 (tN n)) (sb (tN n)) (st (tN n)) l := by
  refine (qV_apply _ _ _ n l).trans ?_
  unfold qout
  by_cases h : l.val % 128 < 64
  · refine (dif_pos h).trans (Eq.trans ?_ (if_pos h).symm)
    refine (t51 ..).trans (congrArg _ (Fin.ext ?_))
    dsimp only
    omega
  · refine (dif_neg h).trans (Eq.trans ?_ (if_neg h).symm)
    by_cases h2 : l.val % 128 < 96
    · refine (dif_pos h2).trans (Eq.trans ?_ (dif_pos h2).symm)
      exact t74 ..
    · refine (dif_neg h2).trans (Eq.trans ?_ (dif_neg h2).symm)
      exact t156 ..

theorem ek (n : Fin 2048) (l : Fin 1024) : kV (res_main_v91 V0) (res_main_v115 V0) (res_main_v156 V0) (ix2 n l)
    = kout (inp V0 (sN n)) (cosv V0 (tN n)) (sinv V0 (tN n)) (sb (tN n)) (st (tN n)) l := by
  refine (kV_apply _ _ _ n l).trans ?_
  unfold kout pout
  by_cases h : l.val % 128 < 64
  · refine (dif_pos h).trans (Eq.trans ?_ (congrArg₂ (· + ·) (if_pos h).symm (dif_neg (by dsimp only; omega)).symm))
    refine Eq.trans ?_ (add_zero _).symm
    refine (t91 ..).trans (congrArg _ (Fin.ext ?_))
    dsimp only
    omega
  · refine (dif_neg h).trans ?_
    by_cases h2 : l.val % 128 < 96
    · refine Eq.trans ?_ (congrArg₂ (· + ·) (if_neg h).symm (dif_pos (show (l.val % 128 + 64) % 128 < 32 by omega)).symm)
      refine Eq.trans ?_ (zero_add _).symm
      refine (dif_pos h2).trans ((t115 ..).trans (congrArg _ (Fin.ext ?_)))
      dsimp only
      omega
    · refine Eq.trans ?_ (congrArg₂ (· + ·) (if_neg h).symm (dif_neg (show ¬ (l.val % 128 + 64) % 128 < 32 by omega)).symm)
      refine Eq.trans ?_ (zero_add _).symm
      exact (dif_neg h2).trans (t156 ..)

theorem ev (n : Fin 2048) (l : Fin 512) : vV (res_main_v91 V0) (ix2 n l) = vfull (inp V0 (sN n)) (sb (tN n)) (st (tN n)) l := by
  refine (vV_apply _ n l).trans ((t91 ..).trans (congrArg _ (Fin.ext ?_)))
  dsimp only
  omega

theorem ec (n : Fin 2048) (l : Fin 256) : cV (res_main_v88 V0) (ix2 n l) = ckv (inp V0 (sN n)) (sb (tN n)) (st (tN n)) l :=
  (cV_apply _ n l).trans (t88 ..)

theorem ep (n : Fin 2048) (l : Fin 128) : pV (res_main_v115 V0) (ix2 n l) = pout (inp V0 (sN n)) (cosv V0 (tN n)) (sinv V0 (tN n)) (sb (tN n)) (st (tN n)) l := by
  refine (pV_apply _ n l).trans ?_
  unfold pout
  exact dite_congr rfl (fun h => t115 ..) fun _ => rfl

theorem eh (n : Fin 2048) (l : Fin 3584) :
    hV (sqV (res_main_v29 V0)) (lfV (res_main_v132 V0)) (hkV (res_main_v132 V0)) (lfV (res_main_v152 V0)) (hkV (res_main_v152 V0)) (hiV (res_main_v25 V0)) (hgV (res_main_v25 V0)) (ix2 n l)
      = hout (inp V0 (sN n)) (sb (tN n)) (st (tN n)) l := by
  refine (hV_apply _ _ _ _ _ _ _ n l).trans ?_
  unfold hout
  have d : ∀ j : Fin 512, (⟨128 * (j.val / 128) + j.val % 128, by omega⟩ : Fin 512) = j := fun j => Fin.ext (by dsimp only; omega)
  have e1 : ∀ j : Fin 512, (res_main_v132 V0 : FVec Ideal S2x1024x4x128 .f32) (ix4 (sN n) (tN n) ⟨j / 128, by omega⟩ ⟨j % 128, by omega⟩) = ff (inp V0 (sN n)) 0 (sb (tN n)) (st (tN n)) j := fun j =>
    (t132 ..).trans (congrArg _ (d j))
  have e2 : ∀ j : Fin 512, (res_main_v152 V0 : FVec Ideal S2x1024x4x128 .f32) (ix4 (sN n) (tN n) ⟨j / 128, by omega⟩ ⟨j % 128, by omega⟩) = ff (inp V0 (sN n)) 1 (sb (tN n)) (st (tN n)) j := fun j =>
    (t152 ..).trans (congrArg _ (d j))
  have e0 : ∀ j : Fin 512, (res_main_v29 V0 : FVec Ideal S2x1024x512 .f32) (ix3 (sN n) (tN n) j) = proj (inp V0 (sN n)) (sb (tN n)) (st (tN n)) ⟨1056 + j, by omega⟩ := fun j => by
    pointwise [res_main_v29]
    exact t25 ..
  refine dite_congr rfl (fun h => (sqV_apply _ n _).trans ?_) fun _ => ?_
  · rw [e0]
    rfl
  refine dite_congr rfl (fun h => (lfV_apply _ n _).trans ?_) fun _ => ?_
  · exact congrArg Ideal.log (e1 _)
  refine dite_congr rfl (fun h => (hkV_apply _ n _).trans ?_) fun _ => ?_
  · exact congrArg ((1 : EReal) - ·) (e1 _)
  refine dite_congr rfl (fun h => (lfV_apply _ n _).trans ?_) fun _ => ?_
  · exact congrArg Ideal.log (e2 _)
  refine dite_congr rfl (fun h => (hkV_apply _ n _).trans ?_) fun _ => ?_
  · exact congrArg ((1 : EReal) - ·) (e2 _)
  refine dite_congr rfl (fun h => (hiV_apply _ n _).trans ?_) fun _ => ?_
  · exact t25 ..
  · exact (hgV_apply _ n _).trans (t25 ..)

end Cert.RIn

end
-- ==== Proof.Claims4.lean ====
module

public import proofs.«01_k».proof.Defs
public import proofs.«01_k».proof.Proof.RIn
public import proofs.«01_k».proof.Proof.Gen.Kernel4.Frame
public import Idealize.ShloMosaic.Lib.Quiescent

/-
The claims of the sample group's input projections: the frames, and that kernel and reference leave the same arrays.
-/

@[expose] public section

set_option maxRecDepth 16384

noncomputable section

namespace Cert.Proof.Claims4

open Idealize.ShloMosaic Idealize.ShloMosaic.TcCoe Idealize.SL.Sem

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

theorem preserves : Cert.preserves_Kernel4_Kernel4Ideal := trivial

section
open Cert.Reference4Ideal Cert.Reference4Ideal.Gen Cert.Reference4Ideal.Value RIn

theorem row (n : Fin 2048) : IFin.nrow (sN n) (tN n) = n := Fin.ext (by
  show 1024 * (n.val / 1024) + n.val % 1024 = n.val
  omega)

variable (m : (ℓ : Loc Cert.Kernel4Ideal.nD Cert.Kernel4Ideal.τ Cert.Kernel4Ideal.sig) → Buf (Elt Ideal) ℓ) (c : Dev Cert.Kernel4Ideal.nD)
variable (V0 : Valuation Cert.Reference4Ideal.τ Cert.Reference4Ideal.sig (Elt Ideal))
  (hV : ∀ s, RIn.inp V0 s = IWin.inp m c s) (hC : RIn.cosv V0 = IWin.cosv m c) (hS : RIn.sinv V0 = IWin.sinv m c)
include hV hC hS

theorem s0 : qV (res_main_v51 V0) (qpeV (res_main_v56 V0) (res_main_v58 V0) (res_main_v59 V0) (res_main_v60 V0)) (res_main_v156 V0) = (Cert.Kernel4Ideal.Gen.dats m 0 c).arrAt 13 Cert.Kernel4Ideal.cfg0.N := by
  funext j
  rw [eq_ix2 j]
  refine (RIn.eq V0 _ _).trans ?_
  rw [hV, hC, hS]
  refine (IFin.f13 m c _ _ _).symm.trans ?_
  exact congrArg (fun u : Fin 2048 => ((Cert.Kernel4Ideal.Gen.dats m 0 c).arrAt 13 Cert.Kernel4Ideal.cfg0.N : FVec Ideal S2048x1024 .bf16) (ix2 u (j 1))) (row (j 0))

theorem s1 : kV (res_main_v91 V0) (res_main_v115 V0) (res_main_v156 V0) = (Cert.Kernel4Ideal.Gen.dats m 0 c).arrAt 14 Cert.Kernel4Ideal.cfg0.N := by
  funext j
  rw [eq_ix2 j]
  refine (RIn.ek V0 _ _).trans ?_
  rw [hV, hC, hS]
  refine (IFin.f14 m c _ _ _).symm.trans ?_
  exact congrArg (fun u : Fin 2048 => ((Cert.Kernel4Ideal.Gen.dats m 0 c).arrAt 14 Cert.Kernel4Ideal.cfg0.N : FVec Ideal S2048x1024 .bf16) (ix2 u (j 1))) (row (j 0))

theorem s2 : vV (res_main_v91 V0) = (Cert.Kernel4Ideal.Gen.dats m 0 c).arrAt 15 Cert.Kernel4Ideal.cfg0.N := by
  funext j
  rw [eq_ix2 j]
  refine (RIn.ev V0 _ _).trans ?_
  rw [hV]
  refine (IFin.f15 m c _ _ _).symm.trans ?_
  exact congrArg (fun u : Fin 2048 => ((Cert.Kernel4Ideal.Gen.dats m 0 c).arrAt 15 Cert.Kernel4Ideal.cfg0.N : FVec Ideal S2048x512 .bf16) (ix2 u (j 1))) (row (j 0))

theorem s3 : cV (res_main_v88 V0) = (Cert.Kernel4Ideal.Gen.dats m 0 c).arrAt 16 Cert.Kernel4Ideal.cfg0.N := by
  funext j
  rw [eq_ix2 j]
  refine (RIn.ec V0 _ _).trans ?_
  rw [hV]
  refine (IFin.f16 m c _ _ _).symm.trans ?_
  exact congrArg (fun u : Fin 2048 => ((Cert.Kernel4Ideal.Gen.dats m 0 c).arrAt 16 Cert.Kernel4Ideal.cfg0.N : FVec Ideal S2048x256 .f32) (ix2 u (j 1))) (row (j 0))

theorem s4 : pV (res_main_v115 V0) = (Cert.Kernel4Ideal.Gen.dats m 0 c).arrAt 17 Cert.Kernel4Ideal.cfg0.N := by
  funext j
  rw [eq_ix2 j]
  refine (RIn.ep V0 _ _).trans ?_
  rw [hV, hC, hS]
  refine (IFin.f17 m c _ _ _).symm.trans ?_
  exact congrArg (fun u : Fin 2048 => ((Cert.Kernel4Ideal.Gen.dats m 0 c).arrAt 17 Cert.Kernel4Ideal.cfg0.N : FVec Ideal S2048x128 .f32) (ix2 u (j 1))) (row (j 0))

theorem s5 : RIn.hV (sqV (res_main_v29 V0)) (lfV (res_main_v132 V0)) (hkV (res_main_v132 V0)) (lfV (res_main_v152 V0)) (hkV (res_main_v152 V0)) (hiV (res_main_v25 V0)) (hgV (res_main_v25 V0)) = (Cert.Kernel4Ideal.Gen.dats m 0 c).arrAt 18 Cert.Kernel4Ideal.cfg0.N := by
  funext j
  rw [eq_ix2 j]
  refine (RIn.eh V0 _ _).trans ?_
  rw [hV]
  refine (IFin.f18 m c _ _ _).symm.trans ?_
  exact congrArg (fun u : Fin 2048 => ((Cert.Kernel4Ideal.Gen.dats m 0 c).arrAt 18 Cert.Kernel4Ideal.cfg0.N : FVec Ideal S2048x3584 .f32) (ix2 u (j 1))) (row (j 0))

end

theorem algebraic : Cert.algebraic_Kernel4Ideal_Reference4Ideal := by
  intro m g m' g' hpre hargs
  have hV : ∀ c s, RIn.inp (StableHlo.launchContents m' c) s = IWin.inp m c s := fun c s => by
    obtain ⟨h0, h1, h2, h3, h4, h5, h6, h7, h8, h9⟩ := hargs c
    refine Eq.trans (b := IWin.smp s (m' ((c.tc : Thread _ _).loc Cert.Reference4Ideal.main_arg0)) (m' ((c.tc : Thread _ _).loc Cert.Reference4Ideal.main_arg1)) (m' ((c.tc : Thread _ _).loc Cert.Reference4Ideal.main_arg4)) (m' ((c.tc : Thread _ _).loc Cert.Reference4Ideal.main_arg5)) (m' ((c.tc : Thread _ _).loc Cert.Reference4Ideal.main_arg6)) (m' ((c.tc : Thread _ _).loc Cert.Reference4Ideal.main_arg7)) (m' ((c.tc : Thread _ _).loc Cert.Reference4Ideal.main_arg8)) (m' ((c.tc : Thread _ _).loc Cert.Reference4Ideal.main_arg9))) rfl ?_
    rw [h0, h1, h4, h5, h6, h7, h8, h9]
    rfl
  have hC : ∀ c, RIn.cosv (StableHlo.launchContents m' c) = IWin.cosv m c := fun c => by
    obtain ⟨h0, h1, h2, h3, h4, h5, h6, h7, h8, h9⟩ := hargs c
    funext t p
    exact congrFun h2 (ix2 (n0 := 1024) (n1 := 16) t p)
  have hS : ∀ c, RIn.sinv (StableHlo.launchContents m' c) = IWin.sinv m c := fun c => by
    obtain ⟨h0, h1, h2, h3, h4, h5, h6, h7, h8, h9⟩ := hargs c
    funext t p
    exact congrFun h3 (ix2 (n0 := 1024) (n1 := 16) t p)
  refine ⟨fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 16 Cert.Kernel4Ideal.cfg0.N, fun c => (Cert.Kernel4Ideal.Gen.dats m 0 c).arrAt 17 Cert.Kernel4Ideal.cfg0.N, fun c => (Cert.Kernel4Ideal.Gen.dats m 0 c).arrAt 18 Cert.Kernel4Ideal.cfg0.N,
    Cert.Kernel4Ideal.Value.run_blocks (F := Ideal) m g, ?_⟩
  refine (θ_run Cert.Reference4Ideal.defs _ _).mono (fun r h c => ?_) (Cert.Reference4Ideal.Value.run (F := Ideal) m' g')
  obtain ⟨r0, r1, r2, r3, r4, r5, rargs⟩ := h c
  exact ⟨r0.trans (s0 m c _ (hV c) (hC c) (hS c)), r1.trans (s1 m c _ (hV c) (hC c) (hS c)), r2.trans (s2 m c _ (hV c) (hC c) (hS c)), r3.trans (s3 m c _ (hV c) (hC c) (hS c)), r4.trans (s4 m c _ (hV c) (hC c) (hS c)), r5.trans (s5 m c _ (hV c) (hC c) (hS c)), rargs⟩

end Cert.Proof.Claims4

end
-- ==== Proof.CBody.lean ====
module

public import proofs.«01_k».proof.Proof.KWin
public import proofs.«01_k».proof.Proof.ABody
public import proofs.«01_k».proof.Proof.Gen.Kernel5Ideal.Value

/-
The up-projection of the cached context: the host's operands, the block of every grid point, and the output arrays when
the grid has run, entry by entry.
-/

@[expose] public section

set_option maxRecDepth 16384

noncomputable section

namespace Cert.CBody

open Cert.Kernel5Ideal Cert.Kernel5Ideal.Gen Cert.Kernel5Ideal.Value Idealize.ShloMosaic Idealize.ShloMosaic.TcCoe Idealize.SL.Sem
open Cert.ABody (hit lw)

/-- A lane of a cached row's keys: of every head 64 projected lanes, the 32 shared ones, and zeros. -/
def kc (x : Fin 256 → EReal) (p : Fin 32 → EReal) (w : Fin 256 → Fin 1024 → EReal) (l : Fin 1024) : EReal :=
  if l.val % 128 < 64 then ∑ d : Fin 256, x d * w d l
  else if h : l.val % 128 < 96 then p ⟨l.val % 128 - 64, by omega⟩ else 0

/-- A lane of a cached row's values. -/
def vc (x : Fin 256 → EReal) (w : Fin 256 → Fin 1024 → EReal) (l : Fin 512) : EReal :=
  ∑ d : Fin 256, x d * w d ⟨128 * (l.val / 64) + 64 + l.val % 64, by omega⟩

theorem pay3 (X : FVec Ideal S256x256 .f32) (W : FVec Ideal S256x512 .bf16) (r : Fin 256) (l : Fin 512) :
    k0_pay3 (F := Ideal) X W (ix2 r l) = ∑ d : Fin 256, X (ix2 r d) * W (ix2 d l) := by
  unfold k0_pay3 k0_pay1
  pointwise []

set_option maxHeartbeats 2000000 in
theorem pay2 (X : FVec Ideal S256x256 .f32) (W : FVec Ideal S256x1024 .bf16) (P : FVec Ideal S256x128 .f32) (r : Fin 256) (l : Fin 1024) :
    k0_pay2 (F := Ideal) X W P (ix2 r l) = (∑ d : Fin 256, X (ix2 r d) * W (ix2 d l)) + P (ix2 r ⟨(l.val % 128 + 64) % 128, by omega⟩) := by
  unfold k0_pay2 k0_pay1
  pointwise []
  refine congrArg₂ (· + ·) ?_ ?_
  · rfl
  · repeat' split
    all_goals exact congrArg _ (congrArg (ix2 r) (Fin.ext (by dsimp only; omega)))

/-- Sums of products of equal factors. -/
theorem dot {f g f' g' : Fin 256 → EReal} (hf : ∀ d, f d = f' d) (hg : ∀ d, g d = g' d) : ∑ d : Fin 256, f d * g d = ∑ d : Fin 256, f' d * g' d := by
  rw [funext hf, funext hg]

theorem dot0 {f g : Fin 256 → EReal} (hg : ∀ d, g d = 0) : ∑ d : Fin 256, f d * g d = 0 := by
  rw [funext hg]
  simp only [mul_zero, Finset.sum_const_zero]

theorem add2 {a b a' b' : EReal} (h : a = a') (h' : b = b') : a + b = a' + b' := congrArg₂ (· + ·) h h'

variable (m : (ℓ : Loc nD τ sig) → Buf (Elt Ideal) ℓ) (c : Dev nD)

theorem a40 (s : Fin 2) (r : Fin 1024) (t : Fin 512) (hr : r.val = 512 * s.val + t.val) (d : Fin 256) : (V m c main_v40 : FVec Ideal S1024x256 .f32) (ix2 r d)
    = (m ((c : Thread nD τ).loc main_arg0) : FVec Ideal S2x1x512x256 .f32) (ix4 s 0 t d) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  exact congrArg (m (c, Proc.tc.devRef main_arg0)) (congrArg₂ (fun i j => ix4 i 0 j d) (Fin.ext (by dsimp only <;> omega)) (Fin.ext (by dsimp only <;> omega)))

theorem a38 (s : Fin 2) (r : Fin 1024) (t : Fin 512) (hr : r.val = 512 * s.val + t.val) (l : Fin 128) : (V m c main_v38 : FVec Ideal S1024x128 .f32) (ix2 r l)
    = if h : l.val < 32 then (m ((c : Thread nD τ).loc main_arg1) : FVec Ideal S2x1x512x32 .f32) (ix4 s 0 t ⟨l.val, h⟩) else (0 : EReal) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val < 32
  · refine (dif_pos h).trans (Eq.trans ?_ (dif_pos h).symm)
    exact congrArg (m (c, Proc.tc.devRef main_arg1)) (congrArg₂ (fun i j => ix4 i 0 j ⟨l.val, h⟩) (Fin.ext (by dsimp only <;> omega)) (Fin.ext (by dsimp only <;> omega)))
  · refine (dif_neg h).trans (Eq.trans ?_ (dif_neg h).symm)
    exact KWin.sz

theorem a26 (i : Fin 256) (l : Fin 1024) : (V m c main_v26 : FVec Ideal S256x1024 .bf16) (ix2 i l) = if l.val % 128 < 64 then (m ((c : Thread nD τ).loc main_arg2) : FVec Ideal S1x256x1024 .f32) (ix3 0 i l) else (0 : EReal) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  by_cases h : l.val % 128 < 64
  · rw [if_pos h, dif_pos ⟨by omega, h⟩]
  · rw [if_neg h, dif_neg fun hh => h hh.2]; exact KWin.sz

theorem a27 (i : Fin 256) (l : Fin 512) : (V m c main_v27 : FVec Ideal S256x512 .bf16) (ix2 i l) = (m ((c : Thread nD τ).loc main_arg2) : FVec Ideal S1x256x1024 .f32) (ix3 0 i ⟨128 * (l / 64) + 64 + l % 64, by omega⟩) := by
  unfold V
  simp only [hostOps0, hostOps0_1, hostOps0_2, hostOps0_3, hostOps0_4, hostOps0_5, hostOps0_6, List.flatten_cons, List.flatten_nil, List.append_nil, List.cons_append, List.nil_append, StableHlo.TRef.binary, StableHlo.TRef.nullary, StableHlo.TRef.unary, StableHlo.TRef.toBuf, StableHlo.TRef.ofBuf, cast_eq]
  after_results_simp
  pointwise []
  exact congrArg (m (c, Proc.tc.devRef main_arg2)) (congrArg (ix3 0 i) (Fin.ext (by dsimp only <;> omega)))

theorem out4 (x0 : FVec Ideal S256x256 .f32) (x1 : FVec Ideal S256x128 .f32) (x2 : FVec Ideal S256x1024 .bf16) (x3 : FVec Ideal S256x512 .bf16) (r : Fin 256) (l : Fin 1024) :
    (out0_4 (F := Ideal) x0 x1 x2 x3 : FVec Ideal S256x1024 .bf16) (ix2 r l)
      = (∑ d : Fin 256, x0 (ix2 r d) * x2 (ix2 d l)) + x1 (ix2 r ⟨(l.val % 128 + 64) % 128, by omega⟩) := by
  unfold out0_4
  refine (hit _ _ _ r l).trans ?_
  refine (pay2 _ _ _ r l).trans ?_
  exact add2 (dot (fun d => lw (e := .f32) inb_S256x256_S256x256_0_0 x0 r d) (fun d => lw (e := .bf16) inb_S256x1024_S256x1024_0_0 x2 d l))
    (lw (e := .f32) inb_S256x128_S256x128_0_0 x1 r _)

theorem out5 (x0 : FVec Ideal S256x256 .f32) (x1 : FVec Ideal S256x128 .f32) (x2 : FVec Ideal S256x1024 .bf16) (x3 : FVec Ideal S256x512 .bf16) (r : Fin 256) (l : Fin 512) :
    (out0_5 (F := Ideal) x0 x1 x2 x3 : FVec Ideal S256x512 .bf16) (ix2 r l) = ∑ d : Fin 256, x0 (ix2 r d) * x3 (ix2 d l) := by
  unfold out0_5
  refine (hit _ _ _ r l).trans ?_
  refine (pay3 _ _ r l).trans ?_
  exact dot (fun d => lw (e := .f32) inb_S256x256_S256x256_0_0 x0 r d) (fun d => lw (e := .bf16) inb_S256x512_S256x512_0_0 x3 d l)

/-- Where a window's rectangle sends an index, and a read through a window that is the whole array. -/
theorem embv {w : Pipeline.Window sig grid0} {t : Fin grid0.N} (o : Fin w.shape.rank → ℕ)
    (h : ∀ a, (w.rect t).off a = o a ∧ (w.rect t).stride a = 1)
    {x : (w.rect t).shape.Idx} {y : w.shape.Idx} (hy : ∀ a, o a + (x a).val = (y a).val) : (w.rect t).emb x = y := by
  funext a
  apply Fin.ext
  rw [Rect.emb_apply, (h a).1, (h a).2, one_mul, hy]

theorem rd {w : Pipeline.Window sig grid0} {t : Fin grid0.N} (h : ∀ a, (w.rect t).off a = 0 ∧ (w.rect t).stride a = 1) {α : Type} (X : w.shape.Idx → α)
    {x : (w.rect t).shape.Idx} {y : w.shape.Idx} (hy : ∀ a, (x a).val = (y a).val) : X ((w.rect t).emb x) = X y := by
  congr 1
  funext a
  apply Fin.ext
  rw [Rect.emb_apply, (h a).1, (h a).2, hy, zero_add, one_mul]

/-- The grid point and the block's row that hold a row of the 1024. -/
theorem four (t : Fin grid0.N) : t.val < 4 := (by decide +kernel : ∀ t : Fin grid0.N, t.val < 4) t
def pt (r : Fin 1024) : Fin grid0.N := ⟨r.val / 256, by show _ < 4; omega⟩
def loc (r : Fin 1024) : Fin 256 := ⟨r.val % 256, by omega⟩

theorem w0 (r : Fin 1024) (d : Fin 256) : (iblk m c 0 (pt r) : FVec Ideal S256x256 .f32) (ix2 (loc r) d) = (V m c main_v40 : FVec Ideal S1024x256 .f32) (ix2 r d) := by
  show (V m c main_v40 : FVec Ideal S1024x256 .f32) ((win0_0.rect (pt r)).emb (ix2 (n0 := 256) (n1 := 256) (loc r) d)) = _
  refine congrArg (V m c main_v40 : FVec Ideal S1024x256 .f32) (embv ![256 * (pt r).val, 0] ((by decide +kernel : ∀ t : Fin grid0.N, ∀ a, (win0_0.rect t).off a = ![256 * t.val, 0] a ∧ (win0_0.rect t).stride a = 1) _) fun a => ?_)
  match a with
  | ⟨0, _⟩ => show 256 * (r.val / 256) + r.val % 256 = r.val; omega
  | ⟨1, _⟩ => show 0 + d.val = d.val; omega

theorem w1 (r : Fin 1024) (l : Fin 128) : (iblk m c 1 (pt r) : FVec Ideal S256x128 .f32) (ix2 (loc r) l) = (V m c main_v38 : FVec Ideal S1024x128 .f32) (ix2 r l) := by
  show (V m c main_v38 : FVec Ideal S1024x128 .f32) ((win0_1.rect (pt r)).emb (ix2 (n0 := 256) (n1 := 128) (loc r) l)) = _
  refine congrArg (V m c main_v38 : FVec Ideal S1024x128 .f32) (embv ![256 * (pt r).val, 0] ((by decide +kernel : ∀ t : Fin grid0.N, ∀ a, (win0_1.rect t).off a = ![256 * t.val, 0] a ∧ (win0_1.rect t).stride a = 1) _) fun a => ?_)
  match a with
  | ⟨0, _⟩ => show 256 * (r.val / 256) + r.val % 256 = r.val; omega
  | ⟨1, _⟩ => show 0 + l.val = l.val; omega

theorem w2 (t : Fin grid0.N) (i : Fin 256) (l : Fin 1024) : (iblk m c 2 t : FVec Ideal S256x1024 .bf16) (ix2 i l) = (V m c main_v26 : FVec Ideal S256x1024 .bf16) (ix2 i l) :=
  rd (w := win0_2) ((by decide +kernel : ∀ t : Fin grid0.N, ∀ a, (win0_2.rect t).off a = 0 ∧ (win0_2.rect t).stride a = 1) t) (V m c main_v26) (y := (ix2 i l)) fun _ => rfl

theorem w3 (t : Fin grid0.N) (i : Fin 256) (l : Fin 512) : (iblk m c 3 t : FVec Ideal S256x512 .bf16) (ix2 i l) = (V m c main_v27 : FVec Ideal S256x512 .bf16) (ix2 i l) :=
  rd (w := win0_3) ((by decide +kernel : ∀ t : Fin grid0.N, ∀ a, (win0_3.rect t).off a = 0 ∧ (win0_3.rect t).stride a = 1) t) (V m c main_v27) (y := (ix2 i l)) fun _ => rfl

/-- The arrays, of the arguments. -/
def kA (a0 : FVec Ideal S2x1x512x256 .f32) (a1 : FVec Ideal S2x1x512x32 .f32) (a2 : FVec Ideal S1x256x1024 .f32) (r l : Fin 1024) : EReal :=
  kc (fun d => a0 (ix4 ⟨r.val / 512, by omega⟩ 0 ⟨r.val % 512, by omega⟩ d)) (fun j => a1 (ix4 ⟨r.val / 512, by omega⟩ 0 ⟨r.val % 512, by omega⟩ j)) (fun d j => a2 (ix3 0 d j)) l
def vA (a0 : FVec Ideal S2x1x512x256 .f32) (a2 : FVec Ideal S1x256x1024 .f32) (r : Fin 1024) (l : Fin 512) : EReal :=
  vc (fun d => a0 (ix4 ⟨r.val / 512, by omega⟩ 0 ⟨r.val % 512, by omega⟩ d)) (fun d j => a2 (ix3 0 d j)) l

theorem f4 (r l : Fin 1024) : ((dats m 0 c).arrAt 4 cfg0.N : FVec Ideal S1024x1024 .bf16) (ix2 r l)
    = kA (m ((c : Thread nD τ).loc main_arg0)) (m ((c : Thread nD τ).loc main_arg1)) (m ((c : Thread nD τ).loc main_arg2)) r l := by
  have ee : (win0_4.rect (pt r)).emb (ix2 (n0 := 256) (n1 := 1024) (loc r) l) = ix2 r l :=
    embv ![256 * (pt r).val, 0] ((by decide +kernel : ∀ t : Fin grid0.N, ∀ a, (win0_4.rect t).off a = ![256 * t.val, 0] a ∧ (win0_4.rect t).stride a = 1) _) fun a => by
      match a with
      | ⟨0, _⟩ => show 256 * (r.val / 256) + r.val % 256 = r.val; omega
      | ⟨1, _⟩ => show 0 + l.val = l.val; omega
  have hb := congrFun (blocks4 m c (pt r) (flush0_4 _)) (ix2 (n0 := 256) (n1 := 1024) (loc r) l)
  rw [flushed4] at hb
  rw [← ee]
  refine (show _ = _ from hb).trans ?_
  refine (out4 _ _ _ _ (loc r) l).trans ?_
  have hs : r.val = 512 * (⟨r.val / 512, by omega⟩ : Fin 2).val + (⟨r.val % 512, by omega⟩ : Fin 512).val := by dsimp only; omega
  refine (add2 (dot (fun d => (w0 m c r d).trans (a40 m c _ r _ hs d)) (fun d => (w2 m c (pt r) d l).trans (a26 m c d l)))
    ((w1 m c r _).trans (a38 m c _ r _ hs _))).trans ?_
  unfold kA kc
  by_cases h : l.val % 128 < 64
  · have h2 : ¬ (l.val % 128 + 64) % 128 < 32 := by omega
    rw [if_pos h]
    refine (add2 (dot (fun d => rfl) (fun d => if_pos h)) (dif_neg h2)).trans ?_
    exact add_zero _
  · rw [if_neg h]
    refine (add2 (dot0 (fun d => if_neg h)) rfl).trans ?_
    refine (zero_add _).trans ?_
    by_cases h1 : l.val % 128 < 96
    · have h2 : (l.val % 128 + 64) % 128 < 32 := by omega
      refine (dif_pos h2).trans (Eq.trans ?_ (dif_pos h1).symm)
      exact congrArg (fun u => (m ((c : Thread nD τ).loc main_arg1) : FVec Ideal S2x1x512x32 .f32) (ix4 _ 0 _ u)) (Fin.ext (by dsimp only; omega))
    · have h2 : ¬ (l.val % 128 + 64) % 128 < 32 := by omega
      refine (dif_neg h2).trans (Eq.trans ?_ (dif_neg h1).symm)
      rfl

theorem f5 (r : Fin 1024) (l : Fin 512) : ((dats m 0 c).arrAt 5 cfg0.N : FVec Ideal S1024x512 .bf16) (ix2 r l)
    = vA (m ((c : Thread nD τ).loc main_arg0)) (m ((c : Thread nD τ).loc main_arg2)) r l := by
  have ee : (win0_5.rect (pt r)).emb (ix2 (n0 := 256) (n1 := 512) (loc r) l) = ix2 r l :=
    embv ![256 * (pt r).val, 0] ((by decide +kernel : ∀ t : Fin grid0.N, ∀ a, (win0_5.rect t).off a = ![256 * t.val, 0] a ∧ (win0_5.rect t).stride a = 1) _) fun a => by
      match a with
      | ⟨0, _⟩ => show 256 * (r.val / 256) + r.val % 256 = r.val; omega
      | ⟨1, _⟩ => show 0 + l.val = l.val; omega
  have hb := congrFun (blocks5 m c (pt r) (flush0_5 _)) (ix2 (n0 := 256) (n1 := 512) (loc r) l)
  rw [flushed5] at hb
  rw [← ee]
  refine (show _ = _ from hb).trans ?_
  refine (out5 _ _ _ _ (loc r) l).trans ?_
  have hs : r.val = 512 * (⟨r.val / 512, by omega⟩ : Fin 2).val + (⟨r.val % 512, by omega⟩ : Fin 512).val := by dsimp only; omega
  exact dot (fun d => (w0 m c r d).trans (a40 m c _ r _ hs d)) (fun d => (w3 m c (pt r) d l).trans (a27 m c d l))

end Cert.CBody

end
-- ==== Proof.Claims5.lean ====
module

public import proofs.«01_k».proof.Defs
public import proofs.«01_k».proof.Proof.CBody
public import proofs.«01_k».proof.Proof.Gen.Kernel5.Frame
public import proofs.«01_k».proof.Proof.Gen.Reference5Ideal.Run
public import Idealize.ShloMosaic.Lib.Quiescent

/-
The claims of the cached context's up-projection: the frames, and that kernel and reference leave the same arrays.
-/

@[expose] public section

set_option maxRecDepth 16384

noncomputable section

namespace Cert.Proof.Claims5

open Idealize.ShloMosaic Idealize.ShloMosaic.TcCoe Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2,
      Idealize.ShloMosaic.sem_eq_zero_of_no_sems (by decide) r.2⟩)
    (Cert.Reference5Ideal.Value.run (F := Ideal) m ρ)

theorem preserves : Cert.preserves_Kernel5_Kernel5Ideal := trivial

section
open Cert.Reference5Ideal Cert.Reference5Ideal.Gen

/-- The reference's projection, and its two results. -/
def kvV (a0 : FVec Ideal S2x1x512x256 .f32) (a2 : FVec Ideal S1x256x1024 .f32) : FVec Ideal S2x512x8x128 .f32 :=
  shapeCast _ (Host.dotGeneral dot_S2x512x256_S256x1024_S2x512x1024_2_0_01_1_n_n none (shapeCast _ a0 shapeCasts_S2x1x512x256_S2x512x256)
    (shapeCast _ a2 shapeCasts_S1x256x1024_S256x1024)) shapeCasts_S2x512x1024_S2x512x8x128

def kV (a0 : FVec Ideal S2x1x512x256 .f32) (a1 : FVec Ideal S2x1x512x32 .f32) (a2 : FVec Ideal S1x256x1024 .f32) : FVec Ideal S1024x1024 .bf16 :=
  truncf .bf16 (shapeCast _ (concatenate S2x512x8x128 3 [⟨S2x512x8x64, extractStridedSlice S2x512x8x64 ![0, 0, 0, 0] (kvV a0 a2) slices_S2x512x8x128_S2x512x8x64_0_0_0_0⟩,
    ⟨S2x512x8x32, broadcastInDim S2x512x8x32 ![0, 1, 2, 3] bcast_S2x512x1x32_S2x512x8x32_0_1_2_3 (broadcastInDim S2x512x1x32 ![0, 1, 3] bcast_S2x512x32_S2x512x1x32_0_1_3 (shapeCast _ a1 shapeCasts_S2x1x512x32_S2x512x32))⟩,
    ⟨S2x512x8x32, broadcastInDim S2x512x8x32 ![] bcast_S_S2x512x8x32 (constant (F := Ideal) S_ .f32 0x00000000#32)⟩] concatenates_S2x512x8x64_S2x512x8x32_S2x512x8x32_S2x512x8x128_d3)
    shapeCasts_S2x512x8x128_S1024x1024) bitsLt_bf16_f32

def vV (a0 : FVec Ideal S2x1x512x256 .f32) (a2 : FVec Ideal S1x256x1024 .f32) : FVec Ideal S1024x512 .bf16 :=
  truncf .bf16 (shapeCast _ (extractStridedSlice S2x512x8x64 ![0, 0, 0, 64] (kvV a0 a2) slices_S2x512x8x128_S2x512x8x64_0_0_0_64)
    shapeCasts_S2x512x8x64_S1024x512) bitsLt_bf16_f32

theorem kvV_apply (a0 : FVec Ideal S2x1x512x256 .f32) (a2 : FVec Ideal S1x256x1024 .f32) (s : Fin 2) (t : Fin 512) (h : Fin 8) (e : Fin 128) :
    kvV a0 a2 (ix4 s t h e) = ∑ d : Fin 256, a0 (ix4 s 0 t d) * a2 (ix3 0 d ⟨128 * h.val + e.val, by omega⟩) := by
  pointwise [kvV]
  exact Finset.sum_congr rfl fun d _ => congrArg (fun u => a0 (ix4 s 0 t d) * a2 (ix3 0 d u)) (Fin.ext (by dsimp only; omega))

theorem vV_apply (a0 : FVec Ideal S2x1x512x256 .f32) (a2 : FVec Ideal S1x256x1024 .f32) (r : Fin 1024) (l : Fin 512) :
    vV a0 a2 (ix2 r l) = CBody.vA a0 a2 r l := by
  pointwise [vV]
  refine (kvV_apply ..).trans ?_
  exact Finset.sum_congr rfl fun d _ => congrArg (fun u => a0 (ix4 _ 0 _ d) * a2 (ix3 0 d u)) (Fin.ext (by dsimp only; omega))

theorem kV_apply (a0 : FVec Ideal S2x1x512x256 .f32) (a1 : FVec Ideal S2x1x512x32 .f32) (a2 : FVec Ideal S1x256x1024 .f32) (r l : Fin 1024) :
    kV a0 a1 a2 (ix2 r l) = CBody.kA a0 a1 a2 r l := by
  pointwise [kV]
  unfold CBody.kA CBody.kc
  by_cases h : l.val % 128 < 64
  · refine (dif_pos h).trans (Eq.trans ?_ (if_pos h).symm)
    refine (kvV_apply ..).trans ?_
    exact Finset.sum_congr rfl fun d _ => congrArg (fun u => a0 (ix4 _ 0 _ d) * a2 (ix3 0 d u)) (Fin.ext (by dsimp only; omega))
  · refine (dif_neg h).trans (Eq.trans ?_ (if_neg h).symm)
    by_cases h1 : l.val % 128 < 96
    · have h2 : l.val % 128 - 64 < 32 := by omega
      refine (dif_pos h2).trans (Eq.trans ?_ (dif_pos h1).symm)
      rfl
    · have h2 : ¬ l.val % 128 - 64 < 32 := by omega
      refine (dif_neg h2).trans (Eq.trans ?_ (dif_neg h1).symm)
      rfl

end

theorem algebraic : Cert.algebraic_Kernel5Ideal_Reference5Ideal := by
  intro m g m' g' hpre hargs
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, Cert.Kernel5Ideal.Value.run_blocks (F := Ideal) m g, ?_⟩
  refine (θ_run Cert.Reference5Ideal.defs _ _).mono (fun r h c => ?_) (Cert.Reference5Ideal.Value.run (F := Ideal) m' g')
  obtain ⟨r0, r1, rargs⟩ := h c
  obtain ⟨h0, h1, h2⟩ := hargs c
  refine ⟨r0.trans ?_, r1.trans ?_, rargs⟩
  · refine (show _ = kV (m' ((c.tc : Thread _ _).loc Cert.Reference5Ideal.main_arg0)) (m' ((c.tc : Thread _ _).loc Cert.Reference5Ideal.main_arg1))
      (m' ((c.tc : Thread _ _).loc Cert.Reference5Ideal.main_arg2)) from rfl).trans ?_
    rw [h0, h1, h2]
    funext j
    rw [eq_ix2 j]
    exact (kV_apply ..).trans (CBody.f4 m c _ _).symm
  · refine (show _ = vV (m' ((c.tc : Thread _ _).loc Cert.Reference5Ideal.main_arg0)) (m' ((c.tc : Thread _ _).loc Cert.Reference5Ideal.main_arg2)) from rfl).trans ?_
    rw [h0, h2]
    funext j
    rw [eq_ix2 j]
    exact (vV_apply ..).trans (CBody.f5 m c _ _).symm

end Cert.Proof.Claims5

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Pre_finite_gate
public import proofs.«01_k».proof.Proof.Claims
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Claims2
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Claims3
public import proofs.«01_k».proof.Proof.Claims4
public import proofs.«01_k».proof.Proof.Claims5
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.Gen.facts, Cert.Pre_finite_gate.Gen.facts,
    Claims.frame_p, Claims.frame_pi, Claims.frame_pi_finite, Claims.frame_ri, Claims.frame_ri_finite,
    Claims2.frame_p, Claims2.frame_pi, Claims2.frame_pi_finite, Claims2.frame_ri, Claims2.frame_ri_finite,
    Claims3.frame_p, Claims3.frame_pi, Claims3.frame_ri,
    Claims4.frame_p, Claims4.frame_pi, Claims4.frame_ri,
    Claims5.frame_p, Claims5.frame_pi, Claims5.frame_ri,
    Claims.preserves, Claims.algebraic, Claims2.preserves, Claims2.algebraic, Claims3.preserves, Claims3.algebraic, Claims4.preserves, Claims4.algebraic,
    Claims5.preserves, Claims5.algebraic⟩

end Cert.Proof

end
